-- ==== Defs.lean ====
def Pre_AttnPrompt (m : (ℓ : Loc Cert.AttnPrompt.nD Cert.AttnPrompt.τ Cert.AttnPrompt.sig) → Buf (Elt Bits) ℓ) : Prop :=
  True

def Pre_AttnPromptIdeal (m : (ℓ : Loc Cert.AttnPromptIdeal.nD Cert.AttnPromptIdeal.τ Cert.AttnPromptIdeal.sig) → Buf (Elt Ideal) ℓ) : Prop :=
  True

def Pre_AttnPromptIdeal_finite_attn [hPre_finite_attn : Cert.Pre_finite_attn.Facts] (m : (ℓ : Loc Cert.AttnPromptIdeal.nD Cert.AttnPromptIdeal.τ Cert.AttnPromptIdeal.sig) → Buf (Elt Ideal) ℓ) : Prop :=
  ∀ c : Dev Cert.AttnPromptIdeal.nD,
    (Cert.Pre_finite_attn.fn (F := Ideal) (m ((c.tc : Thread Cert.AttnPromptIdeal.nD Cert.AttnPromptIdeal.τ).loc Cert.AttnPromptIdeal.main_arg0)) (m ((c.tc : Thread Cert.AttnPromptIdeal.nD Cert.AttnPromptIdeal.τ).loc Cert.AttnPromptIdeal.main_arg1)) (m ((c.tc : Thread Cert.AttnPromptIdeal.nD Cert.AttnPromptIdeal.τ).loc Cert.AttnPromptIdeal.main_arg2)) (m ((c.tc : Thread Cert.AttnPromptIdeal.nD Cert.AttnPromptIdeal.τ).loc Cert.AttnPromptIdeal.main_arg3)) (m ((c.tc : Thread Cert.AttnPromptIdeal.nD Cert.AttnPromptIdeal.τ).loc Cert.AttnPromptIdeal.main_arg4)) (m ((c.tc : Thread Cert.AttnPromptIdeal.nD Cert.AttnPromptIdeal.τ).loc Cert.AttnPromptIdeal.main_arg5))).1 = (fun _ => 1#1)
    ∧ (Cert.Pre_finite_attn.fn (F := Ideal) (m ((c.tc : Thread Cert.AttnPromptIdeal.nD Cert.AttnPromptIdeal.τ).loc Cert.AttnPromptIdeal.main_arg0)) (m ((c.tc : Thread Cert.AttnPromptIdeal.nD Cert.AttnPromptIdeal.τ).loc Cert.AttnPromptIdeal.main_arg1)) (m ((c.tc : Thread Cert.AttnPromptIdeal.nD Cert.AttnPromptIdeal.τ).loc Cert.AttnPromptIdeal.main_arg2)) (m ((c.tc : Thread Cert.AttnPromptIdeal.nD Cert.AttnPromptIdeal.τ).loc Cert.AttnPromptIdeal.main_arg3)) (m ((c.tc : Thread Cert.AttnPromptIdeal.nD Cert.AttnPromptIdeal.τ).loc Cert.AttnPromptIdeal.main_arg4)) (m ((c.tc : Thread Cert.AttnPromptIdeal.nD Cert.AttnPromptIdeal.τ).loc Cert.AttnPromptIdeal.main_arg5))).2.1 = (fun _ => 1#1)
    ∧ (Cert.Pre_finite_attn.fn (F := Ideal) (m ((c.tc : Thread Cert.AttnPromptIdeal.nD Cert.AttnPromptIdeal.τ).loc Cert.AttnPromptIdeal.main_arg0)) (m ((c.tc : Thread Cert.AttnPromptIdeal.nD Cert.AttnPromptIdeal.τ).loc Cert.AttnPromptIdeal.main_arg1)) (m ((c.tc : Thread Cert.AttnPromptIdeal.nD Cert.AttnPromptIdeal.τ).loc Cert.AttnPromptIdeal.main_arg2)) (m ((c.tc : Thread Cert.AttnPromptIdeal.nD Cert.AttnPromptIdeal.τ).loc Cert.AttnPromptIdeal.main_arg3)) (m ((c.tc : Thread Cert.AttnPromptIdeal.nD Cert.AttnPromptIdeal.τ).loc Cert.AttnPromptIdeal.main_arg4)) (m ((c.tc : Thread Cert.AttnPromptIdeal.nD Cert.AttnPromptIdeal.τ).loc Cert.AttnPromptIdeal.main_arg5))).2.2.1 = (fun _ => 1#1)
    ∧ (Cert.Pre_finite_attn.fn (F := Ideal) (m ((c.tc : Thread Cert.AttnPromptIdeal.nD Cert.AttnPromptIdeal.τ).loc Cert.AttnPromptIdeal.main_arg0)) (m ((c.tc : Thread Cert.AttnPromptIdeal.nD Cert.AttnPromptIdeal.τ).loc Cert.AttnPromptIdeal.main_arg1)) (m ((c.tc : Thread Cert.AttnPromptIdeal.nD Cert.AttnPromptIdeal.τ).loc Cert.AttnPromptIdeal.main_arg2)) (m ((c.tc : Thread Cert.AttnPromptIdeal.nD Cert.AttnPromptIdeal.τ).loc Cert.AttnPromptIdeal.main_arg3)) (m ((c.tc : Thread Cert.AttnPromptIdeal.nD Cert.AttnPromptIdeal.τ).loc Cert.AttnPromptIdeal.main_arg4)) (m ((c.tc : Thread Cert.AttnPromptIdeal.nD Cert.AttnPromptIdeal.τ).loc Cert.AttnPromptIdeal.main_arg5))).2.2.2.1 = (fun _ => 1#1)
    ∧ (Cert.Pre_finite_attn.fn (F := Ideal) (m ((c.tc : Thread Cert.AttnPromptIdeal.nD Cert.AttnPromptIdeal.τ).loc Cert.AttnPromptIdeal.main_arg0)) (m ((c.tc : Thread Cert.AttnPromptIdeal.nD Cert.AttnPromptIdeal.τ).loc Cert.AttnPromptIdeal.main_arg1)) (m ((c.tc : Thread Cert.AttnPromptIdeal.nD Cert.AttnPromptIdeal.τ).loc Cert.AttnPromptIdeal.main_arg2)) (m ((c.tc : Thread Cert.AttnPromptIdeal.nD Cert.AttnPromptIdeal.τ).loc Cert.AttnPromptIdeal.main_arg3)) (m ((c.tc : Thread Cert.AttnPromptIdeal.nD Cert.AttnPromptIdeal.τ).loc Cert.AttnPromptIdeal.main_arg4)) (m ((c.tc : Thread Cert.AttnPromptIdeal.nD Cert.AttnPromptIdeal.τ).loc Cert.AttnPromptIdeal.main_arg5))).2.2.2.2 = (fun _ => 1#1)

def Pre_AttnPromptRefIdeal (m : (ℓ : Loc Cert.AttnPromptRefIdeal.nD Cert.AttnPromptRefIdeal.τ Cert.AttnPromptRefIdeal.sig) → Buf (Elt Ideal) ℓ) : Prop :=
  True

def Pre_AttnPromptRefIdeal_finite_attn [hPre_finite_attn : Cert.Pre_finite_attn.Facts] (m : (ℓ : Loc Cert.AttnPromptRefIdeal.nD Cert.AttnPromptRefIdeal.τ Cert.AttnPromptRefIdeal.sig) → Buf (Elt Ideal) ℓ) : Prop :=
  ∀ c : Dev Cert.AttnPromptRefIdeal.nD,
    (Cert.Pre_finite_attn.fn (F := Ideal) (m ((c.tc : Thread Cert.AttnPromptRefIdeal.nD Cert.AttnPromptRefIdeal.τ).loc Cert.AttnPromptRefIdeal.main_arg0)) (m ((c.tc : Thread Cert.AttnPromptRefIdeal.nD Cert.AttnPromptRefIdeal.τ).loc Cert.AttnPromptRefIdeal.main_arg1)) (m ((c.tc : Thread Cert.AttnPromptRefIdeal.nD Cert.AttnPromptRefIdeal.τ).loc Cert.AttnPromptRefIdeal.main_arg2)) (m ((c.tc : Thread Cert.AttnPromptRefIdeal.nD Cert.AttnPromptRefIdeal.τ).loc Cert.AttnPromptRefIdeal.main_arg3)) (m ((c.tc : Thread Cert.AttnPromptRefIdeal.nD Cert.AttnPromptRefIdeal.τ).loc Cert.AttnPromptRefIdeal.main_arg4)) (m ((c.tc : Thread Cert.AttnPromptRefIdeal.nD Cert.AttnPromptRefIdeal.τ).loc Cert.AttnPromptRefIdeal.main_arg5))).1 = (fun _ => 1#1)
    ∧ (Cert.Pre_finite_attn.fn (F := Ideal) (m ((c.tc : Thread Cert.AttnPromptRefIdeal.nD Cert.AttnPromptRefIdeal.τ).loc Cert.AttnPromptRefIdeal.main_arg0)) (m ((c.tc : Thread Cert.AttnPromptRefIdeal.nD Cert.AttnPromptRefIdeal.τ).loc Cert.AttnPromptRefIdeal.main_arg1)) (m ((c.tc : Thread Cert.AttnPromptRefIdeal.nD Cert.AttnPromptRefIdeal.τ).loc Cert.AttnPromptRefIdeal.main_arg2)) (m ((c.tc : Thread Cert.AttnPromptRefIdeal.nD Cert.AttnPromptRefIdeal.τ).loc Cert.AttnPromptRefIdeal.main_arg3)) (m ((c.tc : Thread Cert.AttnPromptRefIdeal.nD Cert.AttnPromptRefIdeal.τ).loc Cert.AttnPromptRefIdeal.main_arg4)) (m ((c.tc : Thread Cert.AttnPromptRefIdeal.nD Cert.AttnPromptRefIdeal.τ).loc Cert.AttnPromptRefIdeal.main_arg5))).2.1 = (fun _ => 1#1)
    ∧ (Cert.Pre_finite_attn.fn (F := Ideal) (m ((c.tc : Thread Cert.AttnPromptRefIdeal.nD Cert.AttnPromptRefIdeal.τ).loc Cert.AttnPromptRefIdeal.main_arg0)) (m ((c.tc : Thread Cert.AttnPromptRefIdeal.nD Cert.AttnPromptRefIdeal.τ).loc Cert.AttnPromptRefIdeal.main_arg1)) (m ((c.tc : Thread Cert.AttnPromptRefIdeal.nD Cert.AttnPromptRefIdeal.τ).loc Cert.AttnPromptRefIdeal.main_arg2)) (m ((c.tc : Thread Cert.AttnPromptRefIdeal.nD Cert.AttnPromptRefIdeal.τ).loc Cert.AttnPromptRefIdeal.main_arg3)) (m ((c.tc : Thread Cert.AttnPromptRefIdeal.nD Cert.AttnPromptRefIdeal.τ).loc Cert.AttnPromptRefIdeal.main_arg4)) (m ((c.tc : Thread Cert.AttnPromptRefIdeal.nD Cert.AttnPromptRefIdeal.τ).loc Cert.AttnPromptRefIdeal.main_arg5))).2.2.1 = (fun _ => 1#1)
    ∧ (Cert.Pre_finite_attn.fn (F := Ideal) (m ((c.tc : Thread Cert.AttnPromptRefIdeal.nD Cert.AttnPromptRefIdeal.τ).loc Cert.AttnPromptRefIdeal.main_arg0)) (m ((c.tc : Thread Cert.AttnPromptRefIdeal.nD Cert.AttnPromptRefIdeal.τ).loc Cert.AttnPromptRefIdeal.main_arg1)) (m ((c.tc : Thread Cert.AttnPromptRefIdeal.nD Cert.AttnPromptRefIdeal.τ).loc Cert.AttnPromptRefIdeal.main_arg2)) (m ((c.tc : Thread Cert.AttnPromptRefIdeal.nD Cert.AttnPromptRefIdeal.τ).loc Cert.AttnPromptRefIdeal.main_arg3)) (m ((c.tc : Thread Cert.AttnPromptRefIdeal.nD Cert.AttnPromptRefIdeal.τ).loc Cert.AttnPromptRefIdeal.main_arg4)) (m ((c.tc : Thread Cert.AttnPromptRefIdeal.nD Cert.AttnPromptRefIdeal.τ).loc Cert.AttnPromptRefIdeal.main_arg5))).2.2.2.1 = (fun _ => 1#1)
    ∧ (Cert.Pre_finite_attn.fn (F := Ideal) (m ((c.tc : Thread Cert.AttnPromptRefIdeal.nD Cert.AttnPromptRefIdeal.τ).loc Cert.AttnPromptRefIdeal.main_arg0)) (m ((c.tc : Thread Cert.AttnPromptRefIdeal.nD Cert.AttnPromptRefIdeal.τ).loc Cert.AttnPromptRefIdeal.main_arg1)) (m ((c.tc : Thread Cert.AttnPromptRefIdeal.nD Cert.AttnPromptRefIdeal.τ).loc Cert.AttnPromptRefIdeal.main_arg2)) (m ((c.tc : Thread Cert.AttnPromptRefIdeal.nD Cert.AttnPromptRefIdeal.τ).loc Cert.AttnPromptRefIdeal.main_arg3)) (m ((c.tc : Thread Cert.AttnPromptRefIdeal.nD Cert.AttnPromptRefIdeal.τ).loc Cert.AttnPromptRefIdeal.main_arg4)) (m ((c.tc : Thread Cert.AttnPromptRefIdeal.nD Cert.AttnPromptRefIdeal.τ).loc Cert.AttnPromptRefIdeal.main_arg5))).2.2.2.2 = (fun _ => 1#1)

def Pre_AttnSample (m : (ℓ : Loc Cert.AttnSample.nD Cert.AttnSample.τ Cert.AttnSample.sig) → Buf (Elt Bits) ℓ) : Prop :=
  True

def Pre_AttnSampleIdeal (m : (ℓ : Loc Cert.AttnSampleIdeal.nD Cert.AttnSampleIdeal.τ Cert.AttnSampleIdeal.sig) → Buf (Elt Ideal) ℓ) : Prop :=
  True

def Pre_AttnSampleIdeal_finite_attn [hPre_finite_attn : Cert.Pre_finite_attn.Facts] (m : (ℓ : Loc Cert.AttnSampleIdeal.nD Cert.AttnSampleIdeal.τ Cert.AttnSampleIdeal.sig) → Buf (Elt Ideal) ℓ) : Prop :=
  ∀ c : Dev Cert.AttnSampleIdeal.nD,
    (Cert.Pre_finite_attn.fn (F := Ideal) (m ((c.tc : Thread Cert.AttnSampleIdeal.nD Cert.AttnSampleIdeal.τ).loc Cert.AttnSampleIdeal.main_arg0)) (m ((c.tc : Thread Cert.AttnSampleIdeal.nD Cert.AttnSampleIdeal.τ).loc Cert.AttnSampleIdeal.main_arg1)) (m ((c.tc : Thread Cert.AttnSampleIdeal.nD Cert.AttnSampleIdeal.τ).loc Cert.AttnSampleIdeal.main_arg2)) (m ((c.tc : Thread Cert.AttnSampleIdeal.nD Cert.AttnSampleIdeal.τ).loc Cert.AttnSampleIdeal.main_arg3)) (m ((c.tc : Thread Cert.AttnSampleIdeal.nD Cert.AttnSampleIdeal.τ).loc Cert.AttnSampleIdeal.main_arg4)) (m ((c.tc : Thread Cert.AttnSampleIdeal.nD Cert.AttnSampleIdeal.τ).loc Cert.AttnSampleIdeal.main_arg5))).1 = (fun _ => 1#1)
    ∧ (Cert.Pre_finite_attn.fn (F := Ideal) (m ((c.tc : Thread Cert.AttnSampleIdeal.nD Cert.AttnSampleIdeal.τ).loc Cert.AttnSampleIdeal.main_arg0)) (m ((c.tc : Thread Cert.AttnSampleIdeal.nD Cert.AttnSampleIdeal.τ).loc Cert.AttnSampleIdeal.main_arg1)) (m ((c.tc : Thread Cert.AttnSampleIdeal.nD Cert.AttnSampleIdeal.τ).loc Cert.AttnSampleIdeal.main_arg2)) (m ((c.tc : Thread Cert.AttnSampleIdeal.nD Cert.AttnSampleIdeal.τ).loc Cert.AttnSampleIdeal.main_arg3)) (m ((c.tc : Thread Cert.AttnSampleIdeal.nD Cert.AttnSampleIdeal.τ).loc Cert.AttnSampleIdeal.main_arg4)) (m ((c.tc : Thread Cert.AttnSampleIdeal.nD Cert.AttnSampleIdeal.τ).loc Cert.AttnSampleIdeal.main_arg5))).2.1 = (fun _ => 1#1)
    ∧ (Cert.Pre_finite_attn.fn (F := Ideal) (m ((c.tc : Thread Cert.AttnSampleIdeal.nD Cert.AttnSampleIdeal.τ).loc Cert.AttnSampleIdeal.main_arg0)) (m ((c.tc : Thread Cert.AttnSampleIdeal.nD Cert.AttnSampleIdeal.τ).loc Cert.AttnSampleIdeal.main_arg1)) (m ((c.tc : Thread Cert.AttnSampleIdeal.nD Cert.AttnSampleIdeal.τ).loc Cert.AttnSampleIdeal.main_arg2)) (m ((c.tc : Thread Cert.AttnSampleIdeal.nD Cert.AttnSampleIdeal.τ).loc Cert.AttnSampleIdeal.main_arg3)) (m ((c.tc : Thread Cert.AttnSampleIdeal.nD Cert.AttnSampleIdeal.τ).loc Cert.AttnSampleIdeal.main_arg4)) (m ((c.tc : Thread Cert.AttnSampleIdeal.nD Cert.AttnSampleIdeal.τ).loc Cert.AttnSampleIdeal.main_arg5))).2.2.1 = (fun _ => 1#1)
    ∧ (Cert.Pre_finite_attn.fn (F := Ideal) (m ((c.tc : Thread Cert.AttnSampleIdeal.nD Cert.AttnSampleIdeal.τ).loc Cert.AttnSampleIdeal.main_arg0)) (m ((c.tc : Thread Cert.AttnSampleIdeal.nD Cert.AttnSampleIdeal.τ).loc Cert.AttnSampleIdeal.main_arg1)) (m ((c.tc : Thread Cert.AttnSampleIdeal.nD Cert.AttnSampleIdeal.τ).loc Cert.AttnSampleIdeal.main_arg2)) (m ((c.tc : Thread Cert.AttnSampleIdeal.nD Cert.AttnSampleIdeal.τ).loc Cert.AttnSampleIdeal.main_arg3)) (m ((c.tc : Thread Cert.AttnSampleIdeal.nD Cert.AttnSampleIdeal.τ).loc Cert.AttnSampleIdeal.main_arg4)) (m ((c.tc : Thread Cert.AttnSampleIdeal.nD Cert.AttnSampleIdeal.τ).loc Cert.AttnSampleIdeal.main_arg5))).2.2.2.1 = (fun _ => 1#1)
    ∧ (Cert.Pre_finite_attn.fn (F := Ideal) (m ((c.tc : Thread Cert.AttnSampleIdeal.nD Cert.AttnSampleIdeal.τ).loc Cert.AttnSampleIdeal.main_arg0)) (m ((c.tc : Thread Cert.AttnSampleIdeal.nD Cert.AttnSampleIdeal.τ).loc Cert.AttnSampleIdeal.main_arg1)) (m ((c.tc : Thread Cert.AttnSampleIdeal.nD Cert.AttnSampleIdeal.τ).loc Cert.AttnSampleIdeal.main_arg2)) (m ((c.tc : Thread Cert.AttnSampleIdeal.nD Cert.AttnSampleIdeal.τ).loc Cert.AttnSampleIdeal.main_arg3)) (m ((c.tc : Thread Cert.AttnSampleIdeal.nD Cert.AttnSampleIdeal.τ).loc Cert.AttnSampleIdeal.main_arg4)) (m ((c.tc : Thread Cert.AttnSampleIdeal.nD Cert.AttnSampleIdeal.τ).loc Cert.AttnSampleIdeal.main_arg5))).2.2.2.2 = (fun _ => 1#1)

def Pre_AttnSampleRefIdeal (m : (ℓ : Loc Cert.AttnSampleRefIdeal.nD Cert.AttnSampleRefIdeal.τ Cert.AttnSampleRefIdeal.sig) → Buf (Elt Ideal) ℓ) : Prop :=
  True

def Pre_AttnSampleRefIdeal_finite_attn [hPre_finite_attn : Cert.Pre_finite_attn.Facts] (m : (ℓ : Loc Cert.AttnSampleRefIdeal.nD Cert.AttnSampleRefIdeal.τ Cert.AttnSampleRefIdeal.sig) → Buf (Elt Ideal) ℓ) : Prop :=
  ∀ c : Dev Cert.AttnSampleRefIdeal.nD,
    (Cert.Pre_finite_attn.fn (F := Ideal) (m ((c.tc : Thread Cert.AttnSampleRefIdeal.nD Cert.AttnSampleRefIdeal.τ).loc Cert.AttnSampleRefIdeal.main_arg0)) (m ((c.tc : Thread Cert.AttnSampleRefIdeal.nD Cert.AttnSampleRefIdeal.τ).loc Cert.AttnSampleRefIdeal.main_arg1)) (m ((c.tc : Thread Cert.AttnSampleRefIdeal.nD Cert.AttnSampleRefIdeal.τ).loc Cert.AttnSampleRefIdeal.main_arg2)) (m ((c.tc : Thread Cert.AttnSampleRefIdeal.nD Cert.AttnSampleRefIdeal.τ).loc Cert.AttnSampleRefIdeal.main_arg3)) (m ((c.tc : Thread Cert.AttnSampleRefIdeal.nD Cert.AttnSampleRefIdeal.τ).loc Cert.AttnSampleRefIdeal.main_arg4)) (m ((c.tc : Thread Cert.AttnSampleRefIdeal.nD Cert.AttnSampleRefIdeal.τ).loc Cert.AttnSampleRefIdeal.main_arg5))).1 = (fun _ => 1#1)
    ∧ (Cert.Pre_finite_attn.fn (F := Ideal) (m ((c.tc : Thread Cert.AttnSampleRefIdeal.nD Cert.AttnSampleRefIdeal.τ).loc Cert.AttnSampleRefIdeal.main_arg0)) (m ((c.tc : Thread Cert.AttnSampleRefIdeal.nD Cert.AttnSampleRefIdeal.τ).loc Cert.AttnSampleRefIdeal.main_arg1)) (m ((c.tc : Thread Cert.AttnSampleRefIdeal.nD Cert.AttnSampleRefIdeal.τ).loc Cert.AttnSampleRefIdeal.main_arg2)) (m ((c.tc : Thread Cert.AttnSampleRefIdeal.nD Cert.AttnSampleRefIdeal.τ).loc Cert.AttnSampleRefIdeal.main_arg3)) (m ((c.tc : Thread Cert.AttnSampleRefIdeal.nD Cert.AttnSampleRefIdeal.τ).loc Cert.AttnSampleRefIdeal.main_arg4)) (m ((c.tc : Thread Cert.AttnSampleRefIdeal.nD Cert.AttnSampleRefIdeal.τ).loc Cert.AttnSampleRefIdeal.main_arg5))).2.1 = (fun _ => 1#1)
    ∧ (Cert.Pre_finite_attn.fn (F := Ideal) (m ((c.tc : Thread Cert.AttnSampleRefIdeal.nD Cert.AttnSampleRefIdeal.τ).loc Cert.AttnSampleRefIdeal.main_arg0)) (m ((c.tc : Thread Cert.AttnSampleRefIdeal.nD Cert.AttnSampleRefIdeal.τ).loc Cert.AttnSampleRefIdeal.main_arg1)) (m ((c.tc : Thread Cert.AttnSampleRefIdeal.nD Cert.AttnSampleRefIdeal.τ).loc Cert.AttnSampleRefIdeal.main_arg2)) (m ((c.tc : Thread Cert.AttnSampleRefIdeal.nD Cert.AttnSampleRefIdeal.τ).loc Cert.AttnSampleRefIdeal.main_arg3)) (m ((c.tc : Thread Cert.AttnSampleRefIdeal.nD Cert.AttnSampleRefIdeal.τ).loc Cert.AttnSampleRefIdeal.main_arg4)) (m ((c.tc : Thread Cert.AttnSampleRefIdeal.nD Cert.AttnSampleRefIdeal.τ).loc Cert.AttnSampleRefIdeal.main_arg5))).2.2.1 = (fun _ => 1#1)
    ∧ (Cert.Pre_finite_attn.fn (F := Ideal) (m ((c.tc : Thread Cert.AttnSampleRefIdeal.nD Cert.AttnSampleRefIdeal.τ).loc Cert.AttnSampleRefIdeal.main_arg0)) (m ((c.tc : Thread Cert.AttnSampleRefIdeal.nD Cert.AttnSampleRefIdeal.τ).loc Cert.AttnSampleRefIdeal.main_arg1)) (m ((c.tc : Thread Cert.AttnSampleRefIdeal.nD Cert.AttnSampleRefIdeal.τ).loc Cert.AttnSampleRefIdeal.main_arg2)) (m ((c.tc : Thread Cert.AttnSampleRefIdeal.nD Cert.AttnSampleRefIdeal.τ).loc Cert.AttnSampleRefIdeal.main_arg3)) (m ((c.tc : Thread Cert.AttnSampleRefIdeal.nD Cert.AttnSampleRefIdeal.τ).loc Cert.AttnSampleRefIdeal.main_arg4)) (m ((c.tc : Thread Cert.AttnSampleRefIdeal.nD Cert.AttnSampleRefIdeal.τ).loc Cert.AttnSampleRefIdeal.main_arg5))).2.2.2.1 = (fun _ => 1#1)
    ∧ (Cert.Pre_finite_attn.fn (F := Ideal) (m ((c.tc : Thread Cert.AttnSampleRefIdeal.nD Cert.AttnSampleRefIdeal.τ).loc Cert.AttnSampleRefIdeal.main_arg0)) (m ((c.tc : Thread Cert.AttnSampleRefIdeal.nD Cert.AttnSampleRefIdeal.τ).loc Cert.AttnSampleRefIdeal.main_arg1)) (m ((c.tc : Thread Cert.AttnSampleRefIdeal.nD Cert.AttnSampleRefIdeal.τ).loc Cert.AttnSampleRefIdeal.main_arg2)) (m ((c.tc : Thread Cert.AttnSampleRefIdeal.nD Cert.AttnSampleRefIdeal.τ).loc Cert.AttnSampleRefIdeal.main_arg3)) (m ((c.tc : Thread Cert.AttnSampleRefIdeal.nD Cert.AttnSampleRefIdeal.τ).loc Cert.AttnSampleRefIdeal.main_arg4)) (m ((c.tc : Thread Cert.AttnSampleRefIdeal.nD Cert.AttnSampleRefIdeal.τ).loc Cert.AttnSampleRefIdeal.main_arg5))).2.2.2.2 = (fun _ => 1#1)

def Pre_ProjRet (m : (ℓ : Loc Cert.ProjRet.nD Cert.ProjRet.τ Cert.ProjRet.sig) → Buf (Elt Bits) ℓ) : Prop :=
  True

def Pre_ProjRetIdeal (m : (ℓ : Loc Cert.ProjRetIdeal.nD Cert.ProjRetIdeal.τ Cert.ProjRetIdeal.sig) → Buf (Elt Ideal) ℓ) : Prop :=
  True

def Pre_ProjRetRefIdeal (m : (ℓ : Loc Cert.ProjRetRefIdeal.nD Cert.ProjRetRefIdeal.τ Cert.ProjRetRefIdeal.sig) → Buf (Elt Ideal) ℓ) : Prop :=
  True

def Pre_ProjDiff (m : (ℓ : Loc Cert.ProjDiff.nD Cert.ProjDiff.τ Cert.ProjDiff.sig) → Buf (Elt Bits) ℓ) : Prop :=
  True

def Pre_ProjDiffIdeal (m : (ℓ : Loc Cert.ProjDiffIdeal.nD Cert.ProjDiffIdeal.τ Cert.ProjDiffIdeal.sig) → Buf (Elt Ideal) ℓ) : Prop :=
  True

def Pre_ProjDiffRefIdeal (m : (ℓ : Loc Cert.ProjDiffRefIdeal.nD Cert.ProjDiffRefIdeal.τ Cert.ProjDiffRefIdeal.sig) → Buf (Elt Ideal) ℓ) : Prop :=
  True

def Pre_RetOut (m : (ℓ : Loc Cert.RetOut.nD Cert.RetOut.τ Cert.RetOut.sig) → Buf (Elt Bits) ℓ) : Prop :=
  True

def Pre_RetOutIdeal (m : (ℓ : Loc Cert.RetOutIdeal.nD Cert.RetOutIdeal.τ Cert.RetOutIdeal.sig) → Buf (Elt Ideal) ℓ) : Prop :=
  True

def Pre_RetOutRefIdeal (m : (ℓ : Loc Cert.RetOutRefIdeal.nD Cert.RetOutRefIdeal.τ Cert.RetOutRefIdeal.sig) → Buf (Elt Ideal) ℓ) : Prop :=
  True

def Pre_DiffOut (m : (ℓ : Loc Cert.DiffOut.nD Cert.DiffOut.τ Cert.DiffOut.sig) → Buf (Elt Bits) ℓ) : Prop :=
  True

def Pre_DiffOutIdeal (m : (ℓ : Loc Cert.DiffOutIdeal.nD Cert.DiffOutIdeal.τ Cert.DiffOutIdeal.sig) → Buf (Elt Ideal) ℓ) : Prop :=
  True

def Pre_DiffOutRefIdeal (m : (ℓ : Loc Cert.DiffOutRefIdeal.nD Cert.DiffOutRefIdeal.τ Cert.DiffOutRefIdeal.sig) → Buf (Elt Ideal) ℓ) : Prop :=
  True

def Pre_ExpertFfn [hPre_tables_in_range : Cert.Pre_tables_in_range.Facts] (m : (ℓ : Loc Cert.ExpertFfn.nD Cert.ExpertFfn.τ Cert.ExpertFfn.sig) → Buf (Elt Bits) ℓ) : Prop :=
  ∀ c : Dev Cert.ExpertFfn.nD,
    (Cert.Pre_tables_in_range.fn (F := Bits) (m ((c.tc : Thread Cert.ExpertFfn.nD Cert.ExpertFfn.τ).loc Cert.ExpertFfn.main_arg0)) (m ((c.tc : Thread Cert.ExpertFfn.nD Cert.ExpertFfn.τ).loc Cert.ExpertFfn.main_arg1)) (m ((c.tc : Thread Cert.ExpertFfn.nD Cert.ExpertFfn.τ).loc Cert.ExpertFfn.main_arg2)) (m ((c.tc : Thread Cert.ExpertFfn.nD Cert.ExpertFfn.τ).loc Cert.ExpertFfn.main_arg3)) (m ((c.tc : Thread Cert.ExpertFfn.nD Cert.ExpertFfn.τ).loc Cert.ExpertFfn.main_arg4))).1 = (fun _ => 1#1)
    ∧ (Cert.Pre_tables_in_range.fn (F := Bits) (m ((c.tc : Thread Cert.ExpertFfn.nD Cert.ExpertFfn.τ).loc Cert.ExpertFfn.main_arg0)) (m ((c.tc : Thread Cert.ExpertFfn.nD Cert.ExpertFfn.τ).loc Cert.ExpertFfn.main_arg1)) (m ((c.tc : Thread Cert.ExpertFfn.nD Cert.ExpertFfn.τ).loc Cert.ExpertFfn.main_arg2)) (m ((c.tc : Thread Cert.ExpertFfn.nD Cert.ExpertFfn.τ).loc Cert.ExpertFfn.main_arg3)) (m ((c.tc : Thread Cert.ExpertFfn.nD Cert.ExpertFfn.τ).loc Cert.ExpertFfn.main_arg4))).2 = (fun _ => 1#1)

def Pre_ExpertFfnIdeal [hPre_tables_in_range : Cert.Pre_tables_in_range.Facts] (m : (ℓ : Loc Cert.ExpertFfnIdeal.nD Cert.ExpertFfnIdeal.τ Cert.ExpertFfnIdeal.sig) → Buf (Elt Ideal) ℓ) : Prop :=
  ∀ c : Dev Cert.ExpertFfnIdeal.nD,
    (Cert.Pre_tables_in_range.fn (F := Ideal) (m ((c.tc : Thread Cert.ExpertFfnIdeal.nD Cert.ExpertFfnIdeal.τ).loc Cert.ExpertFfnIdeal.main_arg0)) (m ((c.tc : Thread Cert.ExpertFfnIdeal.nD Cert.ExpertFfnIdeal.τ).loc Cert.ExpertFfnIdeal.main_arg1)) (m ((c.tc : Thread Cert.ExpertFfnIdeal.nD Cert.ExpertFfnIdeal.τ).loc Cert.ExpertFfnIdeal.main_arg2)) (m ((c.tc : Thread Cert.ExpertFfnIdeal.nD Cert.ExpertFfnIdeal.τ).loc Cert.ExpertFfnIdeal.main_arg3)) (m ((c.tc : Thread Cert.ExpertFfnIdeal.nD Cert.ExpertFfnIdeal.τ).loc Cert.ExpertFfnIdeal.main_arg4))).1 = (fun _ => 1#1)
    ∧ (Cert.Pre_tables_in_range.fn (F := Ideal) (m ((c.tc : Thread Cert.ExpertFfnIdeal.nD Cert.ExpertFfnIdeal.τ).loc Cert.ExpertFfnIdeal.main_arg0)) (m ((c.tc : Thread Cert.ExpertFfnIdeal.nD Cert.ExpertFfnIdeal.τ).loc Cert.ExpertFfnIdeal.main_arg1)) (m ((c.tc : Thread Cert.ExpertFfnIdeal.nD Cert.ExpertFfnIdeal.τ).loc Cert.ExpertFfnIdeal.main_arg2)) (m ((c.tc : Thread Cert.ExpertFfnIdeal.nD Cert.ExpertFfnIdeal.τ).loc Cert.ExpertFfnIdeal.main_arg3)) (m ((c.tc : Thread Cert.ExpertFfnIdeal.nD Cert.ExpertFfnIdeal.τ).loc Cert.ExpertFfnIdeal.main_arg4))).2 = (fun _ => 1#1)

def Pre_ExpertFfnRefIdeal (m : (ℓ : Loc Cert.ExpertFfnRefIdeal.nD Cert.ExpertFfnRefIdeal.τ Cert.ExpertFfnRefIdeal.sig) → Buf (Elt Ideal) ℓ) : Prop :=
  True

def Pre_ExpertFfnRefIdeal_tables_in_range [hPre_tables_in_range : Cert.Pre_tables_in_range.Facts] (m : (ℓ : Loc Cert.ExpertFfnRefIdeal.nD Cert.ExpertFfnRefIdeal.τ Cert.ExpertFfnRefIdeal.sig) → Buf (Elt Ideal) ℓ) : Prop :=
  ∀ c : Dev Cert.ExpertFfnRefIdeal.nD,
    (Cert.Pre_tables_in_range.fn (F := Ideal) (m ((c.tc : Thread Cert.ExpertFfnRefIdeal.nD Cert.ExpertFfnRefIdeal.τ).loc Cert.ExpertFfnRefIdeal.main_arg0)) (m ((c.tc : Thread Cert.ExpertFfnRefIdeal.nD Cert.ExpertFfnRefIdeal.τ).loc Cert.ExpertFfnRefIdeal.main_arg1)) (m ((c.tc : Thread Cert.ExpertFfnRefIdeal.nD Cert.ExpertFfnRefIdeal.τ).loc Cert.ExpertFfnRefIdeal.main_arg2)) (m ((c.tc : Thread Cert.ExpertFfnRefIdeal.nD Cert.ExpertFfnRefIdeal.τ).loc Cert.ExpertFfnRefIdeal.main_arg3)) (m ((c.tc : Thread Cert.ExpertFfnRefIdeal.nD Cert.ExpertFfnRefIdeal.τ).loc Cert.ExpertFfnRefIdeal.main_arg4))).1 = (fun _ => 1#1)
    ∧ (Cert.Pre_tables_in_range.fn (F := Ideal) (m ((c.tc : Thread Cert.ExpertFfnRefIdeal.nD Cert.ExpertFfnRefIdeal.τ).loc Cert.ExpertFfnRefIdeal.main_arg0)) (m ((c.tc : Thread Cert.ExpertFfnRefIdeal.nD Cert.ExpertFfnRefIdeal.τ).loc Cert.ExpertFfnRefIdeal.main_arg1)) (m ((c.tc : Thread Cert.ExpertFfnRefIdeal.nD Cert.ExpertFfnRefIdeal.τ).loc Cert.ExpertFfnRefIdeal.main_arg2)) (m ((c.tc : Thread Cert.ExpertFfnRefIdeal.nD Cert.ExpertFfnRefIdeal.τ).loc Cert.ExpertFfnRefIdeal.main_arg3)) (m ((c.tc : Thread Cert.ExpertFfnRefIdeal.nD Cert.ExpertFfnRefIdeal.τ).loc Cert.ExpertFfnRefIdeal.main_arg4))).2 = (fun _ => 1#1)

def Pre_SharedFfn (m : (ℓ : Loc Cert.SharedFfn.nD Cert.SharedFfn.τ Cert.SharedFfn.sig) → Buf (Elt Bits) ℓ) : Prop :=
  True

def Pre_SharedFfnIdeal (m : (ℓ : Loc Cert.SharedFfnIdeal.nD Cert.SharedFfnIdeal.τ Cert.SharedFfnIdeal.sig) → Buf (Elt Ideal) ℓ) : Prop :=
  True

def Pre_SharedFfnRefIdeal (m : (ℓ : Loc Cert.SharedFfnRefIdeal.nD Cert.SharedFfnRefIdeal.τ Cert.SharedFfnRefIdeal.sig) → Buf (Elt Ideal) ℓ) : Prop :=
  True

def Pre_RetFwd (m : (ℓ : Loc Cert.RetFwd.nD Cert.RetFwd.τ Cert.RetFwd.sig) → Buf (Elt Bits) ℓ) : Prop :=
  True

def Pre_RetFwdIdeal (m : (ℓ : Loc Cert.RetFwdIdeal.nD Cert.RetFwdIdeal.τ Cert.RetFwdIdeal.sig) → Buf (Elt Ideal) ℓ) : Prop :=
  True

def Pre_RetFwdIdeal_finite_ret [hPre_finite_ret : Cert.Pre_finite_ret.Facts] (m : (ℓ : Loc Cert.RetFwdIdeal.nD Cert.RetFwdIdeal.τ Cert.RetFwdIdeal.sig) → Buf (Elt Ideal) ℓ) : Prop :=
  ∀ c : Dev Cert.RetFwdIdeal.nD,
    (Cert.Pre_finite_ret.fn (F := Ideal) (m ((c.tc : Thread Cert.RetFwdIdeal.nD Cert.RetFwdIdeal.τ).loc Cert.RetFwdIdeal.main_arg0)) (m ((c.tc : Thread Cert.RetFwdIdeal.nD Cert.RetFwdIdeal.τ).loc Cert.RetFwdIdeal.main_arg1))).1 = (fun _ => 1#1)
    ∧ (Cert.Pre_finite_ret.fn (F := Ideal) (m ((c.tc : Thread Cert.RetFwdIdeal.nD Cert.RetFwdIdeal.τ).loc Cert.RetFwdIdeal.main_arg0)) (m ((c.tc : Thread Cert.RetFwdIdeal.nD Cert.RetFwdIdeal.τ).loc Cert.RetFwdIdeal.main_arg1))).2 = (fun _ => 1#1)

def Pre_RetFwdRefIdeal (m : (ℓ : Loc Cert.RetFwdRefIdeal.nD Cert.RetFwdRefIdeal.τ Cert.RetFwdRefIdeal.sig) → Buf (Elt Ideal) ℓ) : Prop :=
  True

def Pre_RetFwdRefIdeal_finite_ret [hPre_finite_ret : Cert.Pre_finite_ret.Facts] (m : (ℓ : Loc Cert.RetFwdRefIdeal.nD Cert.RetFwdRefIdeal.τ Cert.RetFwdRefIdeal.sig) → Buf (Elt Ideal) ℓ) : Prop :=
  ∀ c : Dev Cert.RetFwdRefIdeal.nD,
    (Cert.Pre_finite_ret.fn (F := Ideal) (m ((c.tc : Thread Cert.RetFwdRefIdeal.nD Cert.RetFwdRefIdeal.τ).loc Cert.RetFwdRefIdeal.main_arg0)) (m ((c.tc : Thread Cert.RetFwdRefIdeal.nD Cert.RetFwdRefIdeal.τ).loc Cert.RetFwdRefIdeal.main_arg1))).1 = (fun _ => 1#1)
    ∧ (Cert.Pre_finite_ret.fn (F := Ideal) (m ((c.tc : Thread Cert.RetFwdRefIdeal.nD Cert.RetFwdRefIdeal.τ).loc Cert.RetFwdRefIdeal.main_arg0)) (m ((c.tc : Thread Cert.RetFwdRefIdeal.nD Cert.RetFwdRefIdeal.τ).loc Cert.RetFwdRefIdeal.main_arg1))).2 = (fun _ => 1#1)

def Pre_RetBwd (m : (ℓ : Loc Cert.RetBwd.nD Cert.RetBwd.τ Cert.RetBwd.sig) → Buf (Elt Bits) ℓ) : Prop :=
  True

def Pre_RetBwdIdeal (m : (ℓ : Loc Cert.RetBwdIdeal.nD Cert.RetBwdIdeal.τ Cert.RetBwdIdeal.sig) → Buf (Elt Ideal) ℓ) : Prop :=
  True

def Pre_RetBwdIdeal_finite_ret_bwd [hPre_finite_ret_bwd : Cert.Pre_finite_ret_bwd.Facts] (m : (ℓ : Loc Cert.RetBwdIdeal.nD Cert.RetBwdIdeal.τ Cert.RetBwdIdeal.sig) → Buf (Elt Ideal) ℓ) : Prop :=
  ∀ c : Dev Cert.RetBwdIdeal.nD,
    (Cert.Pre_finite_ret_bwd.fn (F := Ideal) (m ((c.tc : Thread Cert.RetBwdIdeal.nD Cert.RetBwdIdeal.τ).loc Cert.RetBwdIdeal.main_arg0)) (m ((c.tc : Thread Cert.RetBwdIdeal.nD Cert.RetBwdIdeal.τ).loc Cert.RetBwdIdeal.main_arg1)) (m ((c.tc : Thread Cert.RetBwdIdeal.nD Cert.RetBwdIdeal.τ).loc Cert.RetBwdIdeal.main_arg2))).1 = (fun _ => 1#1)
    ∧ (Cert.Pre_finite_ret_bwd.fn (F := Ideal) (m ((c.tc : Thread Cert.RetBwdIdeal.nD Cert.RetBwdIdeal.τ).loc Cert.RetBwdIdeal.main_arg0)) (m ((c.tc : Thread Cert.RetBwdIdeal.nD Cert.RetBwdIdeal.τ).loc Cert.RetBwdIdeal.main_arg1)) (m ((c.tc : Thread Cert.RetBwdIdeal.nD Cert.RetBwdIdeal.τ).loc Cert.RetBwdIdeal.main_arg2))).2 = (fun _ => 1#1)

def Pre_RetBwdRefIdeal (m : (ℓ : Loc Cert.RetBwdRefIdeal.nD Cert.RetBwdRefIdeal.τ Cert.RetBwdRefIdeal.sig) → Buf (Elt Ideal) ℓ) : Prop :=
  True

def Pre_RetBwdRefIdeal_finite_ret_bwd [hPre_finite_ret_bwd : Cert.Pre_finite_ret_bwd.Facts] (m : (ℓ : Loc Cert.RetBwdRefIdeal.nD Cert.RetBwdRefIdeal.τ Cert.RetBwdRefIdeal.sig) → Buf (Elt Ideal) ℓ) : Prop :=
  ∀ c : Dev Cert.RetBwdRefIdeal.nD,
    (Cert.Pre_finite_ret_bwd.fn (F := Ideal) (m ((c.tc : Thread Cert.RetBwdRefIdeal.nD Cert.RetBwdRefIdeal.τ).loc Cert.RetBwdRefIdeal.main_arg0)) (m ((c.tc : Thread Cert.RetBwdRefIdeal.nD Cert.RetBwdRefIdeal.τ).loc Cert.RetBwdRefIdeal.main_arg1)) (m ((c.tc : Thread Cert.RetBwdRefIdeal.nD Cert.RetBwdRefIdeal.τ).loc Cert.RetBwdRefIdeal.main_arg2))).1 = (fun _ => 1#1)
    ∧ (Cert.Pre_finite_ret_bwd.fn (F := Ideal) (m ((c.tc : Thread Cert.RetBwdRefIdeal.nD Cert.RetBwdRefIdeal.τ).loc Cert.RetBwdRefIdeal.main_arg0)) (m ((c.tc : Thread Cert.RetBwdRefIdeal.nD Cert.RetBwdRefIdeal.τ).loc Cert.RetBwdRefIdeal.main_arg1)) (m ((c.tc : Thread Cert.RetBwdRefIdeal.nD Cert.RetBwdRefIdeal.τ).loc Cert.RetBwdRefIdeal.main_arg2))).2 = (fun _ => 1#1)

def quiescent_AttnPrompt [hAttnPrompt : Cert.AttnPrompt.Facts] : Prop :=
  ∀ (m : (ℓ : Loc Cert.AttnPrompt.nD Cert.AttnPrompt.τ Cert.AttnPrompt.sig) → Buf (Elt Bits) ℓ) (g : Dev Cert.AttnPrompt.nD → PrngReg), Pre_AttnPrompt m →
    θ_run (Cert.AttnPrompt.defs (F := Bits)) (onTc (τ := Cert.AttnPrompt.τ) (Cert.AttnPrompt.main (F := Bits))) ⟨m, fun _ => 0, g⟩ (fun r => (∀ c : Dev Cert.AttnPrompt.nD,
      r.2.mem ((c.tc : Thread Cert.AttnPrompt.nD Cert.AttnPrompt.τ).loc Cert.AttnPrompt.main_arg0) = m ((c.tc : Thread Cert.AttnPrompt.nD Cert.AttnPrompt.τ).loc Cert.AttnPrompt.main_arg0)
      ∧ r.2.mem ((c.tc : Thread Cert.AttnPrompt.nD Cert.AttnPrompt.τ).loc Cert.AttnPrompt.main_arg1) = m ((c.tc : Thread Cert.AttnPrompt.nD Cert.AttnPrompt.τ).loc Cert.AttnPrompt.main_arg1)
      ∧ r.2.mem ((c.tc : Thread Cert.AttnPrompt.nD Cert.AttnPrompt.τ).loc Cert.AttnPrompt.main_arg2) = m ((c.tc : Thread Cert.AttnPrompt.nD Cert.AttnPrompt.τ).loc Cert.AttnPrompt.main_arg2)
      ∧ r.2.mem ((c.tc : Thread Cert.AttnPrompt.nD Cert.AttnPrompt.τ).loc Cert.AttnPrompt.main_arg3) = m ((c.tc : Thread Cert.AttnPrompt.nD Cert.AttnPrompt.τ).loc Cert.AttnPrompt.main_arg3)
      ∧ r.2.mem ((c.tc : Thread Cert.AttnPrompt.nD Cert.AttnPrompt.τ).loc Cert.AttnPrompt.main_arg4) = m ((c.tc : Thread Cert.AttnPrompt.nD Cert.AttnPrompt.τ).loc Cert.AttnPrompt.main_arg4)
      ∧ r.2.mem ((c.tc : Thread Cert.AttnPrompt.nD Cert.AttnPrompt.τ).loc Cert.AttnPrompt.main_arg5) = m ((c.tc : Thread Cert.AttnPrompt.nD Cert.AttnPrompt.τ).loc Cert.AttnPrompt.main_arg5))
      ∧ r.2.sem = fun _ => 0)

def quiescent_AttnPromptIdeal [hAttnPromptIdeal : Cert.AttnPromptIdeal.Facts] : Prop :=
  ∀ (m : (ℓ : Loc Cert.AttnPromptIdeal.nD Cert.AttnPromptIdeal.τ Cert.AttnPromptIdeal.sig) → Buf (Elt Ideal) ℓ) (g : Dev Cert.AttnPromptIdeal.nD → PrngReg), Pre_AttnPromptIdeal m →
    θ_run (Cert.AttnPromptIdeal.defs (F := Ideal)) (onTc (τ := Cert.AttnPromptIdeal.τ) (Cert.AttnPromptIdeal.main (F := Ideal))) ⟨m, fun _ => 0, g⟩ (fun r => (∀ c : Dev Cert.AttnPromptIdeal.nD,
      r.2.mem ((c.tc : Thread Cert.AttnPromptIdeal.nD Cert.AttnPromptIdeal.τ).loc Cert.AttnPromptIdeal.main_arg0) = m ((c.tc : Thread Cert.AttnPromptIdeal.nD Cert.AttnPromptIdeal.τ).loc Cert.AttnPromptIdeal.main_arg0)
      ∧ r.2.mem ((c.tc : Thread Cert.AttnPromptIdeal.nD Cert.AttnPromptIdeal.τ).loc Cert.AttnPromptIdeal.main_arg1) = m ((c.tc : Thread Cert.AttnPromptIdeal.nD Cert.AttnPromptIdeal.τ).loc Cert.AttnPromptIdeal.main_arg1)
      ∧ r.2.mem ((c.tc : Thread Cert.AttnPromptIdeal.nD Cert.AttnPromptIdeal.τ).loc Cert.AttnPromptIdeal.main_arg2) = m ((c.tc : Thread Cert.AttnPromptIdeal.nD Cert.AttnPromptIdeal.τ).loc Cert.AttnPromptIdeal.main_arg2)
      ∧ r.2.mem ((c.tc : Thread Cert.AttnPromptIdeal.nD Cert.AttnPromptIdeal.τ).loc Cert.AttnPromptIdeal.main_arg3) = m ((c.tc : Thread Cert.AttnPromptIdeal.nD Cert.AttnPromptIdeal.τ).loc Cert.AttnPromptIdeal.main_arg3)
      ∧ r.2.mem ((c.tc : Thread Cert.AttnPromptIdeal.nD Cert.AttnPromptIdeal.τ).loc Cert.AttnPromptIdeal.main_arg4) = m ((c.tc : Thread Cert.AttnPromptIdeal.nD Cert.AttnPromptIdeal.τ).loc Cert.AttnPromptIdeal.main_arg4)
      ∧ r.2.mem ((c.tc : Thread Cert.AttnPromptIdeal.nD Cert.AttnPromptIdeal.τ).loc Cert.AttnPromptIdeal.main_arg5) = m ((c.tc : Thread Cert.AttnPromptIdeal.nD Cert.AttnPromptIdeal.τ).loc Cert.AttnPromptIdeal.main_arg5))
      ∧ r.2.sem = fun _ => 0)

def quiescent_AttnPromptIdeal_pre_finite_attn [hAttnPromptIdeal : Cert.AttnPromptIdeal.Facts] [hPre_finite_attn : Cert.Pre_finite_attn.Facts] : Prop :=
  ∀ (m : (ℓ : Loc Cert.AttnPromptIdeal.nD Cert.AttnPromptIdeal.τ Cert.AttnPromptIdeal.sig) → Buf (Elt Ideal) ℓ) (g : Dev Cert.AttnPromptIdeal.nD → PrngReg), Pre_AttnPromptIdeal_finite_attn m →
    θ_run (Cert.AttnPromptIdeal.defs (F := Ideal)) (onTc (τ := Cert.AttnPromptIdeal.τ) (Cert.AttnPromptIdeal.main (F := Ideal))) ⟨m, fun _ => 0, g⟩ (fun r => (∀ c : Dev Cert.AttnPromptIdeal.nD,
      r.2.mem ((c.tc : Thread Cert.AttnPromptIdeal.nD Cert.AttnPromptIdeal.τ).loc Cert.AttnPromptIdeal.main_arg0) = m ((c.tc : Thread Cert.AttnPromptIdeal.nD Cert.AttnPromptIdeal.τ).loc Cert.AttnPromptIdeal.main_arg0)
      ∧ r.2.mem ((c.tc : Thread Cert.AttnPromptIdeal.nD Cert.AttnPromptIdeal.τ).loc Cert.AttnPromptIdeal.main_arg1) = m ((c.tc : Thread Cert.AttnPromptIdeal.nD Cert.AttnPromptIdeal.τ).loc Cert.AttnPromptIdeal.main_arg1)
      ∧ r.2.mem ((c.tc : Thread Cert.AttnPromptIdeal.nD Cert.AttnPromptIdeal.τ).loc Cert.AttnPromptIdeal.main_arg2) = m ((c.tc : Thread Cert.AttnPromptIdeal.nD Cert.AttnPromptIdeal.τ).loc Cert.AttnPromptIdeal.main_arg2)
      ∧ r.2.mem ((c.tc : Thread Cert.AttnPromptIdeal.nD Cert.AttnPromptIdeal.τ).loc Cert.AttnPromptIdeal.main_arg3) = m ((c.tc : Thread Cert.AttnPromptIdeal.nD Cert.AttnPromptIdeal.τ).loc Cert.AttnPromptIdeal.main_arg3)
      ∧ r.2.mem ((c.tc : Thread Cert.AttnPromptIdeal.nD Cert.AttnPromptIdeal.τ).loc Cert.AttnPromptIdeal.main_arg4) = m ((c.tc : Thread Cert.AttnPromptIdeal.nD Cert.AttnPromptIdeal.τ).loc Cert.AttnPromptIdeal.main_arg4)
      ∧ r.2.mem ((c.tc : Thread Cert.AttnPromptIdeal.nD Cert.AttnPromptIdeal.τ).loc Cert.AttnPromptIdeal.main_arg5) = m ((c.tc : Thread Cert.AttnPromptIdeal.nD Cert.AttnPromptIdeal.τ).loc Cert.AttnPromptIdeal.main_arg5))
      ∧ r.2.sem = fun _ => 0)

def quiescent_AttnPromptRefIdeal [hAttnPromptRefIdeal : Cert.AttnPromptRefIdeal.Facts] : Prop :=
  ∀ (m : (ℓ : Loc Cert.AttnPromptRefIdeal.nD Cert.AttnPromptRefIdeal.τ Cert.AttnPromptRefIdeal.sig) → Buf (Elt Ideal) ℓ) (g : Dev Cert.AttnPromptRefIdeal.nD → PrngReg), Pre_AttnPromptRefIdeal m →
    θ_run (Cert.AttnPromptRefIdeal.defs (F := Ideal)) (onTc (τ := Cert.AttnPromptRefIdeal.τ) (Cert.AttnPromptRefIdeal.main (F := Ideal))) ⟨m, fun _ => 0, g⟩ (fun r => (∀ c : Dev Cert.AttnPromptRefIdeal.nD,
      r.2.mem ((c.tc : Thread Cert.AttnPromptRefIdeal.nD Cert.AttnPromptRefIdeal.τ).loc Cert.AttnPromptRefIdeal.main_arg0) = m ((c.tc : Thread Cert.AttnPromptRefIdeal.nD Cert.AttnPromptRefIdeal.τ).loc Cert.AttnPromptRefIdeal.main_arg0)
      ∧ r.2.mem ((c.tc : Thread Cert.AttnPromptRefIdeal.nD Cert.AttnPromptRefIdeal.τ).loc Cert.AttnPromptRefIdeal.main_arg1) = m ((c.tc : Thread Cert.AttnPromptRefIdeal.nD Cert.AttnPromptRefIdeal.τ).loc Cert.AttnPromptRefIdeal.main_arg1)
      ∧ r.2.mem ((c.tc : Thread Cert.AttnPromptRefIdeal.nD Cert.AttnPromptRefIdeal.τ).loc Cert.AttnPromptRefIdeal.main_arg2) = m ((c.tc : Thread Cert.AttnPromptRefIdeal.nD Cert.AttnPromptRefIdeal.τ).loc Cert.AttnPromptRefIdeal.main_arg2)
      ∧ r.2.mem ((c.tc : Thread Cert.AttnPromptRefIdeal.nD Cert.AttnPromptRefIdeal.τ).loc Cert.AttnPromptRefIdeal.main_arg3) = m ((c.tc : Thread Cert.AttnPromptRefIdeal.nD Cert.AttnPromptRefIdeal.τ).loc Cert.AttnPromptRefIdeal.main_arg3)
      ∧ r.2.mem ((c.tc : Thread Cert.AttnPromptRefIdeal.nD Cert.AttnPromptRefIdeal.τ).loc Cert.AttnPromptRefIdeal.main_arg4) = m ((c.tc : Thread Cert.AttnPromptRefIdeal.nD Cert.AttnPromptRefIdeal.τ).loc Cert.AttnPromptRefIdeal.main_arg4)
      ∧ r.2.mem ((c.tc : Thread Cert.AttnPromptRefIdeal.nD Cert.AttnPromptRefIdeal.τ).loc Cert.AttnPromptRefIdeal.main_arg5) = m ((c.tc : Thread Cert.AttnPromptRefIdeal.nD Cert.AttnPromptRefIdeal.τ).loc Cert.AttnPromptRefIdeal.main_arg5))
      ∧ r.2.sem = fun _ => 0)

def quiescent_AttnPromptRefIdeal_pre_finite_attn [hAttnPromptRefIdeal : Cert.AttnPromptRefIdeal.Facts] [hPre_finite_attn : Cert.Pre_finite_attn.Facts] : Prop :=
  ∀ (m : (ℓ : Loc Cert.AttnPromptRefIdeal.nD Cert.AttnPromptRefIdeal.τ Cert.AttnPromptRefIdeal.sig) → Buf (Elt Ideal) ℓ) (g : Dev Cert.AttnPromptRefIdeal.nD → PrngReg), Pre_AttnPromptRefIdeal_finite_attn m →
    θ_run (Cert.AttnPromptRefIdeal.defs (F := Ideal)) (onTc (τ := Cert.AttnPromptRefIdeal.τ) (Cert.AttnPromptRefIdeal.main (F := Ideal))) ⟨m, fun _ => 0, g⟩ (fun r => (∀ c : Dev Cert.AttnPromptRefIdeal.nD,
      r.2.mem ((c.tc : Thread Cert.AttnPromptRefIdeal.nD Cert.AttnPromptRefIdeal.τ).loc Cert.AttnPromptRefIdeal.main_arg0) = m ((c.tc : Thread Cert.AttnPromptRefIdeal.nD Cert.AttnPromptRefIdeal.τ).loc Cert.AttnPromptRefIdeal.main_arg0)
      ∧ r.2.mem ((c.tc : Thread Cert.AttnPromptRefIdeal.nD Cert.AttnPromptRefIdeal.τ).loc Cert.AttnPromptRefIdeal.main_arg1) = m ((c.tc : Thread Cert.AttnPromptRefIdeal.nD Cert.AttnPromptRefIdeal.τ).loc Cert.AttnPromptRefIdeal.main_arg1)
      ∧ r.2.mem ((c.tc : Thread Cert.AttnPromptRefIdeal.nD Cert.AttnPromptRefIdeal.τ).loc Cert.AttnPromptRefIdeal.main_arg2) = m ((c.tc : Thread Cert.AttnPromptRefIdeal.nD Cert.AttnPromptRefIdeal.τ).loc Cert.AttnPromptRefIdeal.main_arg2)
      ∧ r.2.mem ((c.tc : Thread Cert.AttnPromptRefIdeal.nD Cert.AttnPromptRefIdeal.τ).loc Cert.AttnPromptRefIdeal.main_arg3) = m ((c.tc : Thread Cert.AttnPromptRefIdeal.nD Cert.AttnPromptRefIdeal.τ).loc Cert.AttnPromptRefIdeal.main_arg3)
      ∧ r.2.mem ((c.tc : Thread Cert.AttnPromptRefIdeal.nD Cert.AttnPromptRefIdeal.τ).loc Cert.AttnPromptRefIdeal.main_arg4) = m ((c.tc : Thread Cert.AttnPromptRefIdeal.nD Cert.AttnPromptRefIdeal.τ).loc Cert.AttnPromptRefIdeal.main_arg4)
      ∧ r.2.mem ((c.tc : Thread Cert.AttnPromptRefIdeal.nD Cert.AttnPromptRefIdeal.τ).loc Cert.AttnPromptRefIdeal.main_arg5) = m ((c.tc : Thread Cert.AttnPromptRefIdeal.nD Cert.AttnPromptRefIdeal.τ).loc Cert.AttnPromptRefIdeal.main_arg5))
      ∧ r.2.sem = fun _ => 0)

def quiescent_AttnSample [hAttnSample : Cert.AttnSample.Facts] : Prop :=
  ∀ (m : (ℓ : Loc Cert.AttnSample.nD Cert.AttnSample.τ Cert.AttnSample.sig) → Buf (Elt Bits) ℓ) (g : Dev Cert.AttnSample.nD → PrngReg), Pre_AttnSample m →
    θ_run (Cert.AttnSample.defs (F := Bits)) (onTc (τ := Cert.AttnSample.τ) (Cert.AttnSample.main (F := Bits))) ⟨m, fun _ => 0, g⟩ (fun r => (∀ c : Dev Cert.AttnSample.nD,
      r.2.mem ((c.tc : Thread Cert.AttnSample.nD Cert.AttnSample.τ).loc Cert.AttnSample.main_arg0) = m ((c.tc : Thread Cert.AttnSample.nD Cert.AttnSample.τ).loc Cert.AttnSample.main_arg0)
      ∧ r.2.mem ((c.tc : Thread Cert.AttnSample.nD Cert.AttnSample.τ).loc Cert.AttnSample.main_arg1) = m ((c.tc : Thread Cert.AttnSample.nD Cert.AttnSample.τ).loc Cert.AttnSample.main_arg1)
      ∧ r.2.mem ((c.tc : Thread Cert.AttnSample.nD Cert.AttnSample.τ).loc Cert.AttnSample.main_arg2) = m ((c.tc : Thread Cert.AttnSample.nD Cert.AttnSample.τ).loc Cert.AttnSample.main_arg2)
      ∧ r.2.mem ((c.tc : Thread Cert.AttnSample.nD Cert.AttnSample.τ).loc Cert.AttnSample.main_arg3) = m ((c.tc : Thread Cert.AttnSample.nD Cert.AttnSample.τ).loc Cert.AttnSample.main_arg3)
      ∧ r.2.mem ((c.tc : Thread Cert.AttnSample.nD Cert.AttnSample.τ).loc Cert.AttnSample.main_arg4) = m ((c.tc : Thread Cert.AttnSample.nD Cert.AttnSample.τ).loc Cert.AttnSample.main_arg4)
      ∧ r.2.mem ((c.tc : Thread Cert.AttnSample.nD Cert.AttnSample.τ).loc Cert.AttnSample.main_arg5) = m ((c.tc : Thread Cert.AttnSample.nD Cert.AttnSample.τ).loc Cert.AttnSample.main_arg5))
      ∧ r.2.sem = fun _ => 0)

def quiescent_AttnSampleIdeal [hAttnSampleIdeal : Cert.AttnSampleIdeal.Facts] : Prop :=
  ∀ (m : (ℓ : Loc Cert.AttnSampleIdeal.nD Cert.AttnSampleIdeal.τ Cert.AttnSampleIdeal.sig) → Buf (Elt Ideal) ℓ) (g : Dev Cert.AttnSampleIdeal.nD → PrngReg), Pre_AttnSampleIdeal m →
    θ_run (Cert.AttnSampleIdeal.defs (F := Ideal)) (onTc (τ := Cert.AttnSampleIdeal.τ) (Cert.AttnSampleIdeal.main (F := Ideal))) ⟨m, fun _ => 0, g⟩ (fun r => (∀ c : Dev Cert.AttnSampleIdeal.nD,
      r.2.mem ((c.tc : Thread Cert.AttnSampleIdeal.nD Cert.AttnSampleIdeal.τ).loc Cert.AttnSampleIdeal.main_arg0) = m ((c.tc : Thread Cert.AttnSampleIdeal.nD Cert.AttnSampleIdeal.τ).loc Cert.AttnSampleIdeal.main_arg0)
      ∧ r.2.mem ((c.tc : Thread Cert.AttnSampleIdeal.nD Cert.AttnSampleIdeal.τ).loc Cert.AttnSampleIdeal.main_arg1) = m ((c.tc : Thread Cert.AttnSampleIdeal.nD Cert.AttnSampleIdeal.τ).loc Cert.AttnSampleIdeal.main_arg1)
      ∧ r.2.mem ((c.tc : Thread Cert.AttnSampleIdeal.nD Cert.AttnSampleIdeal.τ).loc Cert.AttnSampleIdeal.main_arg2) = m ((c.tc : Thread Cert.AttnSampleIdeal.nD Cert.AttnSampleIdeal.τ).loc Cert.AttnSampleIdeal.main_arg2)
      ∧ r.2.mem ((c.tc : Thread Cert.AttnSampleIdeal.nD Cert.AttnSampleIdeal.τ).loc Cert.AttnSampleIdeal.main_arg3) = m ((c.tc : Thread Cert.AttnSampleIdeal.nD Cert.AttnSampleIdeal.τ).loc Cert.AttnSampleIdeal.main_arg3)
      ∧ r.2.mem ((c.tc : Thread Cert.AttnSampleIdeal.nD Cert.AttnSampleIdeal.τ).loc Cert.AttnSampleIdeal.main_arg4) = m ((c.tc : Thread Cert.AttnSampleIdeal.nD Cert.AttnSampleIdeal.τ).loc Cert.AttnSampleIdeal.main_arg4)
      ∧ r.2.mem ((c.tc : Thread Cert.AttnSampleIdeal.nD Cert.AttnSampleIdeal.τ).loc Cert.AttnSampleIdeal.main_arg5) = m ((c.tc : Thread Cert.AttnSampleIdeal.nD Cert.AttnSampleIdeal.τ).loc Cert.AttnSampleIdeal.main_arg5))
      ∧ r.2.sem = fun _ => 0)

def quiescent_AttnSampleIdeal_pre_finite_attn [hAttnSampleIdeal : Cert.AttnSampleIdeal.Facts] [hPre_finite_attn : Cert.Pre_finite_attn.Facts] : Prop :=
  ∀ (m : (ℓ : Loc Cert.AttnSampleIdeal.nD Cert.AttnSampleIdeal.τ Cert.AttnSampleIdeal.sig) → Buf (Elt Ideal) ℓ) (g : Dev Cert.AttnSampleIdeal.nD → PrngReg), Pre_AttnSampleIdeal_finite_attn m →
    θ_run (Cert.AttnSampleIdeal.defs (F := Ideal)) (onTc (τ := Cert.AttnSampleIdeal.τ) (Cert.AttnSampleIdeal.main (F := Ideal))) ⟨m, fun _ => 0, g⟩ (fun r => (∀ c : Dev Cert.AttnSampleIdeal.nD,
      r.2.mem ((c.tc : Thread Cert.AttnSampleIdeal.nD Cert.AttnSampleIdeal.τ).loc Cert.AttnSampleIdeal.main_arg0) = m ((c.tc : Thread Cert.AttnSampleIdeal.nD Cert.AttnSampleIdeal.τ).loc Cert.AttnSampleIdeal.main_arg0)
      ∧ r.2.mem ((c.tc : Thread Cert.AttnSampleIdeal.nD Cert.AttnSampleIdeal.τ).loc Cert.AttnSampleIdeal.main_arg1) = m ((c.tc : Thread Cert.AttnSampleIdeal.nD Cert.AttnSampleIdeal.τ).loc Cert.AttnSampleIdeal.main_arg1)
      ∧ r.2.mem ((c.tc : Thread Cert.AttnSampleIdeal.nD Cert.AttnSampleIdeal.τ).loc Cert.AttnSampleIdeal.main_arg2) = m ((c.tc : Thread Cert.AttnSampleIdeal.nD Cert.AttnSampleIdeal.τ).loc Cert.AttnSampleIdeal.main_arg2)
      ∧ r.2.mem ((c.tc : Thread Cert.AttnSampleIdeal.nD Cert.AttnSampleIdeal.τ).loc Cert.AttnSampleIdeal.main_arg3) = m ((c.tc : Thread Cert.AttnSampleIdeal.nD Cert.AttnSampleIdeal.τ).loc Cert.AttnSampleIdeal.main_arg3)
      ∧ r.2.mem ((c.tc : Thread Cert.AttnSampleIdeal.nD Cert.AttnSampleIdeal.τ).loc Cert.AttnSampleIdeal.main_arg4) = m ((c.tc : Thread Cert.AttnSampleIdeal.nD Cert.AttnSampleIdeal.τ).loc Cert.AttnSampleIdeal.main_arg4)
      ∧ r.2.mem ((c.tc : Thread Cert.AttnSampleIdeal.nD Cert.AttnSampleIdeal.τ).loc Cert.AttnSampleIdeal.main_arg5) = m ((c.tc : Thread Cert.AttnSampleIdeal.nD Cert.AttnSampleIdeal.τ).loc Cert.AttnSampleIdeal.main_arg5))
      ∧ r.2.sem = fun _ => 0)

def quiescent_AttnSampleRefIdeal [hAttnSampleRefIdeal : Cert.AttnSampleRefIdeal.Facts] : Prop :=
  ∀ (m : (ℓ : Loc Cert.AttnSampleRefIdeal.nD Cert.AttnSampleRefIdeal.τ Cert.AttnSampleRefIdeal.sig) → Buf (Elt Ideal) ℓ) (g : Dev Cert.AttnSampleRefIdeal.nD → PrngReg), Pre_AttnSampleRefIdeal m →
    θ_run (Cert.AttnSampleRefIdeal.defs (F := Ideal)) (onTc (τ := Cert.AttnSampleRefIdeal.τ) (Cert.AttnSampleRefIdeal.main (F := Ideal))) ⟨m, fun _ => 0, g⟩ (fun r => (∀ c : Dev Cert.AttnSampleRefIdeal.nD,
      r.2.mem ((c.tc : Thread Cert.AttnSampleRefIdeal.nD Cert.AttnSampleRefIdeal.τ).loc Cert.AttnSampleRefIdeal.main_arg0) = m ((c.tc : Thread Cert.AttnSampleRefIdeal.nD Cert.AttnSampleRefIdeal.τ).loc Cert.AttnSampleRefIdeal.main_arg0)
      ∧ r.2.mem ((c.tc : Thread Cert.AttnSampleRefIdeal.nD Cert.AttnSampleRefIdeal.τ).loc Cert.AttnSampleRefIdeal.main_arg1) = m ((c.tc : Thread Cert.AttnSampleRefIdeal.nD Cert.AttnSampleRefIdeal.τ).loc Cert.AttnSampleRefIdeal.main_arg1)
      ∧ r.2.mem ((c.tc : Thread Cert.AttnSampleRefIdeal.nD Cert.AttnSampleRefIdeal.τ).loc Cert.AttnSampleRefIdeal.main_arg2) = m ((c.tc : Thread Cert.AttnSampleRefIdeal.nD Cert.AttnSampleRefIdeal.τ).loc Cert.AttnSampleRefIdeal.main_arg2)
      ∧ r.2.mem ((c.tc : Thread Cert.AttnSampleRefIdeal.nD Cert.AttnSampleRefIdeal.τ).loc Cert.AttnSampleRefIdeal.main_arg3) = m ((c.tc : Thread Cert.AttnSampleRefIdeal.nD Cert.AttnSampleRefIdeal.τ).loc Cert.AttnSampleRefIdeal.main_arg3)
      ∧ r.2.mem ((c.tc : Thread Cert.AttnSampleRefIdeal.nD Cert.AttnSampleRefIdeal.τ).loc Cert.AttnSampleRefIdeal.main_arg4) = m ((c.tc : Thread Cert.AttnSampleRefIdeal.nD Cert.AttnSampleRefIdeal.τ).loc Cert.AttnSampleRefIdeal.main_arg4)
      ∧ r.2.mem ((c.tc : Thread Cert.AttnSampleRefIdeal.nD Cert.AttnSampleRefIdeal.τ).loc Cert.AttnSampleRefIdeal.main_arg5) = m ((c.tc : Thread Cert.AttnSampleRefIdeal.nD Cert.AttnSampleRefIdeal.τ).loc Cert.AttnSampleRefIdeal.main_arg5))
      ∧ r.2.sem = fun _ => 0)

def quiescent_AttnSampleRefIdeal_pre_finite_attn [hAttnSampleRefIdeal : Cert.AttnSampleRefIdeal.Facts] [hPre_finite_attn : Cert.Pre_finite_attn.Facts] : Prop :=
  ∀ (m : (ℓ : Loc Cert.AttnSampleRefIdeal.nD Cert.AttnSampleRefIdeal.τ Cert.AttnSampleRefIdeal.sig) → Buf (Elt Ideal) ℓ) (g : Dev Cert.AttnSampleRefIdeal.nD → PrngReg), Pre_AttnSampleRefIdeal_finite_attn m →
    θ_run (Cert.AttnSampleRefIdeal.defs (F := Ideal)) (onTc (τ := Cert.AttnSampleRefIdeal.τ) (Cert.AttnSampleRefIdeal.main (F := Ideal))) ⟨m, fun _ => 0, g⟩ (fun r => (∀ c : Dev Cert.AttnSampleRefIdeal.nD,
      r.2.mem ((c.tc : Thread Cert.AttnSampleRefIdeal.nD Cert.AttnSampleRefIdeal.τ).loc Cert.AttnSampleRefIdeal.main_arg0) = m ((c.tc : Thread Cert.AttnSampleRefIdeal.nD Cert.AttnSampleRefIdeal.τ).loc Cert.AttnSampleRefIdeal.main_arg0)
      ∧ r.2.mem ((c.tc : Thread Cert.AttnSampleRefIdeal.nD Cert.AttnSampleRefIdeal.τ).loc Cert.AttnSampleRefIdeal.main_arg1) = m ((c.tc : Thread Cert.AttnSampleRefIdeal.nD Cert.AttnSampleRefIdeal.τ).loc Cert.AttnSampleRefIdeal.main_arg1)
      ∧ r.2.mem ((c.tc : Thread Cert.AttnSampleRefIdeal.nD Cert.AttnSampleRefIdeal.τ).loc Cert.AttnSampleRefIdeal.main_arg2) = m ((c.tc : Thread Cert.AttnSampleRefIdeal.nD Cert.AttnSampleRefIdeal.τ).loc Cert.AttnSampleRefIdeal.main_arg2)
      ∧ r.2.mem ((c.tc : Thread Cert.AttnSampleRefIdeal.nD Cert.AttnSampleRefIdeal.τ).loc Cert.AttnSampleRefIdeal.main_arg3) = m ((c.tc : Thread Cert.AttnSampleRefIdeal.nD Cert.AttnSampleRefIdeal.τ).loc Cert.AttnSampleRefIdeal.main_arg3)
      ∧ r.2.mem ((c.tc : Thread Cert.AttnSampleRefIdeal.nD Cert.AttnSampleRefIdeal.τ).loc Cert.AttnSampleRefIdeal.main_arg4) = m ((c.tc : Thread Cert.AttnSampleRefIdeal.nD Cert.AttnSampleRefIdeal.τ).loc Cert.AttnSampleRefIdeal.main_arg4)
      ∧ r.2.mem ((c.tc : Thread Cert.AttnSampleRefIdeal.nD Cert.AttnSampleRefIdeal.τ).loc Cert.AttnSampleRefIdeal.main_arg5) = m ((c.tc : Thread Cert.AttnSampleRefIdeal.nD Cert.AttnSampleRefIdeal.τ).loc Cert.AttnSampleRefIdeal.main_arg5))
      ∧ r.2.sem = fun _ => 0)

def quiescent_ProjRet [hProjRet : Cert.ProjRet.Facts] : Prop :=
  ∀ (m : (ℓ : Loc Cert.ProjRet.nD Cert.ProjRet.τ Cert.ProjRet.sig) → Buf (Elt Bits) ℓ) (g : Dev Cert.ProjRet.nD → PrngReg), Pre_ProjRet m →
    θ_run (Cert.ProjRet.defs (F := Bits)) (onTc (τ := Cert.ProjRet.τ) (Cert.ProjRet.main (F := Bits))) ⟨m, fun _ => 0, g⟩ (fun r => (∀ c : Dev Cert.ProjRet.nD,
      r.2.mem ((c.tc : Thread Cert.ProjRet.nD Cert.ProjRet.τ).loc Cert.ProjRet.main_arg0) = m ((c.tc : Thread Cert.ProjRet.nD Cert.ProjRet.τ).loc Cert.ProjRet.main_arg0)
      ∧ r.2.mem ((c.tc : Thread Cert.ProjRet.nD Cert.ProjRet.τ).loc Cert.ProjRet.main_arg1) = m ((c.tc : Thread Cert.ProjRet.nD Cert.ProjRet.τ).loc Cert.ProjRet.main_arg1)
      ∧ r.2.mem ((c.tc : Thread Cert.ProjRet.nD Cert.ProjRet.τ).loc Cert.ProjRet.main_arg2) = m ((c.tc : Thread Cert.ProjRet.nD Cert.ProjRet.τ).loc Cert.ProjRet.main_arg2))
      ∧ r.2.sem = fun _ => 0)

def quiescent_ProjRetIdeal [hProjRetIdeal : Cert.ProjRetIdeal.Facts] : Prop :=
  ∀ (m : (ℓ : Loc Cert.ProjRetIdeal.nD Cert.ProjRetIdeal.τ Cert.ProjRetIdeal.sig) → Buf (Elt Ideal) ℓ) (g : Dev Cert.ProjRetIdeal.nD → PrngReg), Pre_ProjRetIdeal m →
    θ_run (Cert.ProjRetIdeal.defs (F := Ideal)) (onTc (τ := Cert.ProjRetIdeal.τ) (Cert.ProjRetIdeal.main (F := Ideal))) ⟨m, fun _ => 0, g⟩ (fun r => (∀ c : Dev Cert.ProjRetIdeal.nD,
      r.2.mem ((c.tc : Thread Cert.ProjRetIdeal.nD Cert.ProjRetIdeal.τ).loc Cert.ProjRetIdeal.main_arg0) = m ((c.tc : Thread Cert.ProjRetIdeal.nD Cert.ProjRetIdeal.τ).loc Cert.ProjRetIdeal.main_arg0)
      ∧ r.2.mem ((c.tc : Thread Cert.ProjRetIdeal.nD Cert.ProjRetIdeal.τ).loc Cert.ProjRetIdeal.main_arg1) = m ((c.tc : Thread Cert.ProjRetIdeal.nD Cert.ProjRetIdeal.τ).loc Cert.ProjRetIdeal.main_arg1)
      ∧ r.2.mem ((c.tc : Thread Cert.ProjRetIdeal.nD Cert.ProjRetIdeal.τ).loc Cert.ProjRetIdeal.main_arg2) = m ((c.tc : Thread Cert.ProjRetIdeal.nD Cert.ProjRetIdeal.τ).loc Cert.ProjRetIdeal.main_arg2))
      ∧ r.2.sem = fun _ => 0)

def quiescent_ProjRetRefIdeal [hProjRetRefIdeal : Cert.ProjRetRefIdeal.Facts] : Prop :=
  ∀ (m : (ℓ : Loc Cert.ProjRetRefIdeal.nD Cert.ProjRetRefIdeal.τ Cert.ProjRetRefIdeal.sig) → Buf (Elt Ideal) ℓ) (g : Dev Cert.ProjRetRefIdeal.nD → PrngReg), Pre_ProjRetRefIdeal m →
    θ_run (Cert.ProjRetRefIdeal.defs (F := Ideal)) (onTc (τ := Cert.ProjRetRefIdeal.τ) (Cert.ProjRetRefIdeal.main (F := Ideal))) ⟨m, fun _ => 0, g⟩ (fun r => (∀ c : Dev Cert.ProjRetRefIdeal.nD,
      r.2.mem ((c.tc : Thread Cert.ProjRetRefIdeal.nD Cert.ProjRetRefIdeal.τ).loc Cert.ProjRetRefIdeal.main_arg0) = m ((c.tc : Thread Cert.ProjRetRefIdeal.nD Cert.ProjRetRefIdeal.τ).loc Cert.ProjRetRefIdeal.main_arg0)
      ∧ r.2.mem ((c.tc : Thread Cert.ProjRetRefIdeal.nD Cert.ProjRetRefIdeal.τ).loc Cert.ProjRetRefIdeal.main_arg1) = m ((c.tc : Thread Cert.ProjRetRefIdeal.nD Cert.ProjRetRefIdeal.τ).loc Cert.ProjRetRefIdeal.main_arg1)
      ∧ r.2.mem ((c.tc : Thread Cert.ProjRetRefIdeal.nD Cert.ProjRetRefIdeal.τ).loc Cert.ProjRetRefIdeal.main_arg2) = m ((c.tc : Thread Cert.ProjRetRefIdeal.nD Cert.ProjRetRefIdeal.τ).loc Cert.ProjRetRefIdeal.main_arg2))
      ∧ r.2.sem = fun _ => 0)

def quiescent_ProjDiff [hProjDiff : Cert.ProjDiff.Facts] : Prop :=
  ∀ (m : (ℓ : Loc Cert.ProjDiff.nD Cert.ProjDiff.τ Cert.ProjDiff.sig) → Buf (Elt Bits) ℓ) (g : Dev Cert.ProjDiff.nD → PrngReg), Pre_ProjDiff m →
    θ_run (Cert.ProjDiff.defs (F := Bits)) (onTc (τ := Cert.ProjDiff.τ) (Cert.ProjDiff.main (F := Bits))) ⟨m, fun _ => 0, g⟩ (fun r => (∀ c : Dev Cert.ProjDiff.nD,
      r.2.mem ((c.tc : Thread Cert.ProjDiff.nD Cert.ProjDiff.τ).loc Cert.ProjDiff.main_arg0) = m ((c.tc : Thread Cert.ProjDiff.nD Cert.ProjDiff.τ).loc Cert.ProjDiff.main_arg0)
      ∧ r.2.mem ((c.tc : Thread Cert.ProjDiff.nD Cert.ProjDiff.τ).loc Cert.ProjDiff.main_arg1) = m ((c.tc : Thread Cert.ProjDiff.nD Cert.ProjDiff.τ).loc Cert.ProjDiff.main_arg1))
      ∧ r.2.sem = fun _ => 0)

def quiescent_ProjDiffIdeal [hProjDiffIdeal : Cert.ProjDiffIdeal.Facts] : Prop :=
  ∀ (m : (ℓ : Loc Cert.ProjDiffIdeal.nD Cert.ProjDiffIdeal.τ Cert.ProjDiffIdeal.sig) → Buf (Elt Ideal) ℓ) (g : Dev Cert.ProjDiffIdeal.nD → PrngReg), Pre_ProjDiffIdeal m →
    θ_run (Cert.ProjDiffIdeal.defs (F := Ideal)) (onTc (τ := Cert.ProjDiffIdeal.τ) (Cert.ProjDiffIdeal.main (F := Ideal))) ⟨m, fun _ => 0, g⟩ (fun r => (∀ c : Dev Cert.ProjDiffIdeal.nD,
      r.2.mem ((c.tc : Thread Cert.ProjDiffIdeal.nD Cert.ProjDiffIdeal.τ).loc Cert.ProjDiffIdeal.main_arg0) = m ((c.tc : Thread Cert.ProjDiffIdeal.nD Cert.ProjDiffIdeal.τ).loc Cert.ProjDiffIdeal.main_arg0)
      ∧ r.2.mem ((c.tc : Thread Cert.ProjDiffIdeal.nD Cert.ProjDiffIdeal.τ).loc Cert.ProjDiffIdeal.main_arg1) = m ((c.tc : Thread Cert.ProjDiffIdeal.nD Cert.ProjDiffIdeal.τ).loc Cert.ProjDiffIdeal.main_arg1))
      ∧ r.2.sem = fun _ => 0)

def quiescent_ProjDiffRefIdeal [hProjDiffRefIdeal : Cert.ProjDiffRefIdeal.Facts] : Prop :=
  ∀ (m : (ℓ : Loc Cert.ProjDiffRefIdeal.nD Cert.ProjDiffRefIdeal.τ Cert.ProjDiffRefIdeal.sig) → Buf (Elt Ideal) ℓ) (g : Dev Cert.ProjDiffRefIdeal.nD → PrngReg), Pre_ProjDiffRefIdeal m →
    θ_run (Cert.ProjDiffRefIdeal.defs (F := Ideal)) (onTc (τ := Cert.ProjDiffRefIdeal.τ) (Cert.ProjDiffRefIdeal.main (F := Ideal))) ⟨m, fun _ => 0, g⟩ (fun r => (∀ c : Dev Cert.ProjDiffRefIdeal.nD,
      r.2.mem ((c.tc : Thread Cert.ProjDiffRefIdeal.nD Cert.ProjDiffRefIdeal.τ).loc Cert.ProjDiffRefIdeal.main_arg0) = m ((c.tc : Thread Cert.ProjDiffRefIdeal.nD Cert.ProjDiffRefIdeal.τ).loc Cert.ProjDiffRefIdeal.main_arg0)
      ∧ r.2.mem ((c.tc : Thread Cert.ProjDiffRefIdeal.nD Cert.ProjDiffRefIdeal.τ).loc Cert.ProjDiffRefIdeal.main_arg1) = m ((c.tc : Thread Cert.ProjDiffRefIdeal.nD Cert.ProjDiffRefIdeal.τ).loc Cert.ProjDiffRefIdeal.main_arg1))
      ∧ r.2.sem = fun _ => 0)

def quiescent_RetOut [hRetOut : Cert.RetOut.Facts] : Prop :=
  ∀ (m : (ℓ : Loc Cert.RetOut.nD Cert.RetOut.τ Cert.RetOut.sig) → Buf (Elt Bits) ℓ) (g : Dev Cert.RetOut.nD → PrngReg), Pre_RetOut m →
    θ_run (Cert.RetOut.defs (F := Bits)) (onTc (τ := Cert.RetOut.τ) (Cert.RetOut.main (F := Bits))) ⟨m, fun _ => 0, g⟩ (fun r => (∀ c : Dev Cert.RetOut.nD,
      r.2.mem ((c.tc : Thread Cert.RetOut.nD Cert.RetOut.τ).loc Cert.RetOut.main_arg0) = m ((c.tc : Thread Cert.RetOut.nD Cert.RetOut.τ).loc Cert.RetOut.main_arg0)
      ∧ r.2.mem ((c.tc : Thread Cert.RetOut.nD Cert.RetOut.τ).loc Cert.RetOut.main_arg1) = m ((c.tc : Thread Cert.RetOut.nD Cert.RetOut.τ).loc Cert.RetOut.main_arg1))
      ∧ r.2.sem = fun _ => 0)

def quiescent_RetOutIdeal [hRetOutIdeal : Cert.RetOutIdeal.Facts] : Prop :=
  ∀ (m : (ℓ : Loc Cert.RetOutIdeal.nD Cert.RetOutIdeal.τ Cert.RetOutIdeal.sig) → Buf (Elt Ideal) ℓ) (g : Dev Cert.RetOutIdeal.nD → PrngReg), Pre_RetOutIdeal m →
    θ_run (Cert.RetOutIdeal.defs (F := Ideal)) (onTc (τ := Cert.RetOutIdeal.τ) (Cert.RetOutIdeal.main (F := Ideal))) ⟨m, fun _ => 0, g⟩ (fun r => (∀ c : Dev Cert.RetOutIdeal.nD,
      r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
      ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1))
      ∧ r.2.sem = fun _ => 0)

def quiescent_RetOutRefIdeal [hRetOutRefIdeal : Cert.RetOutRefIdeal.Facts] : Prop :=
  ∀ (m : (ℓ : Loc Cert.RetOutRefIdeal.nD Cert.RetOutRefIdeal.τ Cert.RetOutRefIdeal.sig) → Buf (Elt Ideal) ℓ) (g : Dev Cert.RetOutRefIdeal.nD → PrngReg), Pre_RetOutRefIdeal m →
    θ_run (Cert.RetOutRefIdeal.defs (F := Ideal)) (onTc (τ := Cert.RetOutRefIdeal.τ) (Cert.RetOutRefIdeal.main (F := Ideal))) ⟨m, fun _ => 0, g⟩ (fun r => (∀ c : Dev Cert.RetOutRefIdeal.nD,
      r.2.mem ((c.tc : Thread Cert.RetOutRefIdeal.nD Cert.RetOutRefIdeal.τ).loc Cert.RetOutRefIdeal.main_arg0) = m ((c.tc : Thread Cert.RetOutRefIdeal.nD Cert.RetOutRefIdeal.τ).loc Cert.RetOutRefIdeal.main_arg0)
      ∧ r.2.mem ((c.tc : Thread Cert.RetOutRefIdeal.nD Cert.RetOutRefIdeal.τ).loc Cert.RetOutRefIdeal.main_arg1) = m ((c.tc : Thread Cert.RetOutRefIdeal.nD Cert.RetOutRefIdeal.τ).loc Cert.RetOutRefIdeal.main_arg1))
      ∧ r.2.sem = fun _ => 0)

def quiescent_DiffOut [hDiffOut : Cert.DiffOut.Facts] : Prop :=
  ∀ (m : (ℓ : Loc Cert.DiffOut.nD Cert.DiffOut.τ Cert.DiffOut.sig) → Buf (Elt Bits) ℓ) (g : Dev Cert.DiffOut.nD → PrngReg), Pre_DiffOut m →
    θ_run (Cert.DiffOut.defs (F := Bits)) (onTc (τ := Cert.DiffOut.τ) (Cert.DiffOut.main (F := Bits))) ⟨m, fun _ => 0, g⟩ (fun r => (∀ c : Dev Cert.DiffOut.nD,
      r.2.mem ((c.tc : Thread Cert.DiffOut.nD Cert.DiffOut.τ).loc Cert.DiffOut.main_arg0) = m ((c.tc : Thread Cert.DiffOut.nD Cert.DiffOut.τ).loc Cert.DiffOut.main_arg0)
      ∧ r.2.mem ((c.tc : Thread Cert.DiffOut.nD Cert.DiffOut.τ).loc Cert.DiffOut.main_arg1) = m ((c.tc : Thread Cert.DiffOut.nD Cert.DiffOut.τ).loc Cert.DiffOut.main_arg1))
      ∧ r.2.sem = fun _ => 0)

def quiescent_DiffOutIdeal [hDiffOutIdeal : Cert.DiffOutIdeal.Facts] : Prop :=
  ∀ (m : (ℓ : Loc Cert.DiffOutIdeal.nD Cert.DiffOutIdeal.τ Cert.DiffOutIdeal.sig) → Buf (Elt Ideal) ℓ) (g : Dev Cert.DiffOutIdeal.nD → PrngReg), Pre_DiffOutIdeal m →
    θ_run (Cert.DiffOutIdeal.defs (F := Ideal)) (onTc (τ := Cert.DiffOutIdeal.τ) (Cert.DiffOutIdeal.main (F := Ideal))) ⟨m, fun _ => 0, g⟩ (fun r => (∀ c : Dev Cert.DiffOutIdeal.nD,
      r.2.mem ((c.tc : Thread Cert.DiffOutIdeal.nD Cert.DiffOutIdeal.τ).loc Cert.DiffOutIdeal.main_arg0) = m ((c.tc : Thread Cert.DiffOutIdeal.nD Cert.DiffOutIdeal.τ).loc Cert.DiffOutIdeal.main_arg0)
      ∧ r.2.mem ((c.tc : Thread Cert.DiffOutIdeal.nD Cert.DiffOutIdeal.τ).loc Cert.DiffOutIdeal.main_arg1) = m ((c.tc : Thread Cert.DiffOutIdeal.nD Cert.DiffOutIdeal.τ).loc Cert.DiffOutIdeal.main_arg1))
      ∧ r.2.sem = fun _ => 0)

def quiescent_DiffOutRefIdeal [hDiffOutRefIdeal : Cert.DiffOutRefIdeal.Facts] : Prop :=
  ∀ (m : (ℓ : Loc Cert.DiffOutRefIdeal.nD Cert.DiffOutRefIdeal.τ Cert.DiffOutRefIdeal.sig) → Buf (Elt Ideal) ℓ) (g : Dev Cert.DiffOutRefIdeal.nD → PrngReg), Pre_DiffOutRefIdeal m →
    θ_run (Cert.DiffOutRefIdeal.defs (F := Ideal)) (onTc (τ := Cert.DiffOutRefIdeal.τ) (Cert.DiffOutRefIdeal.main (F := Ideal))) ⟨m, fun _ => 0, g⟩ (fun r => (∀ c : Dev Cert.DiffOutRefIdeal.nD,
      r.2.mem ((c.tc : Thread Cert.DiffOutRefIdeal.nD Cert.DiffOutRefIdeal.τ).loc Cert.DiffOutRefIdeal.main_arg0) = m ((c.tc : Thread Cert.DiffOutRefIdeal.nD Cert.DiffOutRefIdeal.τ).loc Cert.DiffOutRefIdeal.main_arg0)
      ∧ r.2.mem ((c.tc : Thread Cert.DiffOutRefIdeal.nD Cert.DiffOutRefIdeal.τ).loc Cert.DiffOutRefIdeal.main_arg1) = m ((c.tc : Thread Cert.DiffOutRefIdeal.nD Cert.DiffOutRefIdeal.τ).loc Cert.DiffOutRefIdeal.main_arg1))
      ∧ r.2.sem = fun _ => 0)

def quiescent_ExpertFfn [hExpertFfn : Cert.ExpertFfn.Facts] [hPre_tables_in_range : Cert.Pre_tables_in_range.Facts] : Prop :=
  ∀ (m : (ℓ : Loc Cert.ExpertFfn.nD Cert.ExpertFfn.τ Cert.ExpertFfn.sig) → Buf (Elt Bits) ℓ) (g : Dev Cert.ExpertFfn.nD → PrngReg), Pre_ExpertFfn m →
    θ_run (Cert.ExpertFfn.defs (F := Bits)) (onTc (τ := Cert.ExpertFfn.τ) (Cert.ExpertFfn.main (F := Bits))) ⟨m, fun _ => 0, g⟩ (fun r => (∀ c : Dev Cert.ExpertFfn.nD,
      r.2.mem ((c.tc : Thread Cert.ExpertFfn.nD Cert.ExpertFfn.τ).loc Cert.ExpertFfn.main_arg0) = m ((c.tc : Thread Cert.ExpertFfn.nD Cert.ExpertFfn.τ).loc Cert.ExpertFfn.main_arg0)
      ∧ r.2.mem ((c.tc : Thread Cert.ExpertFfn.nD Cert.ExpertFfn.τ).loc Cert.ExpertFfn.main_arg1) = m ((c.tc : Thread Cert.ExpertFfn.nD Cert.ExpertFfn.τ).loc Cert.ExpertFfn.main_arg1)
      ∧ r.2.mem ((c.tc : Thread Cert.ExpertFfn.nD Cert.ExpertFfn.τ).loc Cert.ExpertFfn.main_arg2) = m ((c.tc : Thread Cert.ExpertFfn.nD Cert.ExpertFfn.τ).loc Cert.ExpertFfn.main_arg2)
      ∧ r.2.mem ((c.tc : Thread Cert.ExpertFfn.nD Cert.ExpertFfn.τ).loc Cert.ExpertFfn.main_arg3) = m ((c.tc : Thread Cert.ExpertFfn.nD Cert.ExpertFfn.τ).loc Cert.ExpertFfn.main_arg3)
      ∧ r.2.mem ((c.tc : Thread Cert.ExpertFfn.nD Cert.ExpertFfn.τ).loc Cert.ExpertFfn.main_arg4) = m ((c.tc : Thread Cert.ExpertFfn.nD Cert.ExpertFfn.τ).loc Cert.ExpertFfn.main_arg4))
      ∧ r.2.sem = fun _ => 0)

def quiescent_ExpertFfnIdeal [hExpertFfnIdeal : Cert.ExpertFfnIdeal.Facts] [hPre_tables_in_range : Cert.Pre_tables_in_range.Facts] : Prop :=
  ∀ (m : (ℓ : Loc Cert.ExpertFfnIdeal.nD Cert.ExpertFfnIdeal.τ Cert.ExpertFfnIdeal.sig) → Buf (Elt Ideal) ℓ) (g : Dev Cert.ExpertFfnIdeal.nD → PrngReg), Pre_ExpertFfnIdeal m →
    θ_run (Cert.ExpertFfnIdeal.defs (F := Ideal)) (onTc (τ := Cert.ExpertFfnIdeal.τ) (Cert.ExpertFfnIdeal.main (F := Ideal))) ⟨m, fun _ => 0, g⟩ (fun r => (∀ c : Dev Cert.ExpertFfnIdeal.nD,
      r.2.mem ((c.tc : Thread Cert.ExpertFfnIdeal.nD Cert.ExpertFfnIdeal.τ).loc Cert.ExpertFfnIdeal.main_arg0) = m ((c.tc : Thread Cert.ExpertFfnIdeal.nD Cert.ExpertFfnIdeal.τ).loc Cert.ExpertFfnIdeal.main_arg0)
      ∧ r.2.mem ((c.tc : Thread Cert.ExpertFfnIdeal.nD Cert.ExpertFfnIdeal.τ).loc Cert.ExpertFfnIdeal.main_arg1) = m ((c.tc : Thread Cert.ExpertFfnIdeal.nD Cert.ExpertFfnIdeal.τ).loc Cert.ExpertFfnIdeal.main_arg1)
      ∧ r.2.mem ((c.tc : Thread Cert.ExpertFfnIdeal.nD Cert.ExpertFfnIdeal.τ).loc Cert.ExpertFfnIdeal.main_arg2) = m ((c.tc : Thread Cert.ExpertFfnIdeal.nD Cert.ExpertFfnIdeal.τ).loc Cert.ExpertFfnIdeal.main_arg2)
      ∧ r.2.mem ((c.tc : Thread Cert.ExpertFfnIdeal.nD Cert.ExpertFfnIdeal.τ).loc Cert.ExpertFfnIdeal.main_arg3) = m ((c.tc : Thread Cert.ExpertFfnIdeal.nD Cert.ExpertFfnIdeal.τ).loc Cert.ExpertFfnIdeal.main_arg3)
      ∧ r.2.mem ((c.tc : Thread Cert.ExpertFfnIdeal.nD Cert.ExpertFfnIdeal.τ).loc Cert.ExpertFfnIdeal.main_arg4) = m ((c.tc : Thread Cert.ExpertFfnIdeal.nD Cert.ExpertFfnIdeal.τ).loc Cert.ExpertFfnIdeal.main_arg4))
      ∧ r.2.sem = fun _ => 0)

def quiescent_ExpertFfnRefIdeal [hExpertFfnRefIdeal : Cert.ExpertFfnRefIdeal.Facts] : Prop :=
  ∀ (m : (ℓ : Loc Cert.ExpertFfnRefIdeal.nD Cert.ExpertFfnRefIdeal.τ Cert.ExpertFfnRefIdeal.sig) → Buf (Elt Ideal) ℓ) (g : Dev Cert.ExpertFfnRefIdeal.nD → PrngReg), Pre_ExpertFfnRefIdeal m →
    θ_run (Cert.ExpertFfnRefIdeal.defs (F := Ideal)) (onTc (τ := Cert.ExpertFfnRefIdeal.τ) (Cert.ExpertFfnRefIdeal.main (F := Ideal))) ⟨m, fun _ => 0, g⟩ (fun r => (∀ c : Dev Cert.ExpertFfnRefIdeal.nD,
      r.2.mem ((c.tc : Thread Cert.ExpertFfnRefIdeal.nD Cert.ExpertFfnRefIdeal.τ).loc Cert.ExpertFfnRefIdeal.main_arg0) = m ((c.tc : Thread Cert.ExpertFfnRefIdeal.nD Cert.ExpertFfnRefIdeal.τ).loc Cert.ExpertFfnRefIdeal.main_arg0)
      ∧ r.2.mem ((c.tc : Thread Cert.ExpertFfnRefIdeal.nD Cert.ExpertFfnRefIdeal.τ).loc Cert.ExpertFfnRefIdeal.main_arg1) = m ((c.tc : Thread Cert.ExpertFfnRefIdeal.nD Cert.ExpertFfnRefIdeal.τ).loc Cert.ExpertFfnRefIdeal.main_arg1)
      ∧ r.2.mem ((c.tc : Thread Cert.ExpertFfnRefIdeal.nD Cert.ExpertFfnRefIdeal.τ).loc Cert.ExpertFfnRefIdeal.main_arg2) = m ((c.tc : Thread Cert.ExpertFfnRefIdeal.nD Cert.ExpertFfnRefIdeal.τ).loc Cert.ExpertFfnRefIdeal.main_arg2)
      ∧ r.2.mem ((c.tc : Thread Cert.ExpertFfnRefIdeal.nD Cert.ExpertFfnRefIdeal.τ).loc Cert.ExpertFfnRefIdeal.main_arg3) = m ((c.tc : Thread Cert.ExpertFfnRefIdeal.nD Cert.ExpertFfnRefIdeal.τ).loc Cert.ExpertFfnRefIdeal.main_arg3)
      ∧ r.2.mem ((c.tc : Thread Cert.ExpertFfnRefIdeal.nD Cert.ExpertFfnRefIdeal.τ).loc Cert.ExpertFfnRefIdeal.main_arg4) = m ((c.tc : Thread Cert.ExpertFfnRefIdeal.nD Cert.ExpertFfnRefIdeal.τ).loc Cert.ExpertFfnRefIdeal.main_arg4))
      ∧ r.2.sem = fun _ => 0)

def quiescent_ExpertFfnRefIdeal_pre_tables_in_range [hExpertFfnRefIdeal : Cert.ExpertFfnRefIdeal.Facts] [hPre_tables_in_range : Cert.Pre_tables_in_range.Facts] : Prop :=
  ∀ (m : (ℓ : Loc Cert.ExpertFfnRefIdeal.nD Cert.ExpertFfnRefIdeal.τ Cert.ExpertFfnRefIdeal.sig) → Buf (Elt Ideal) ℓ) (g : Dev Cert.ExpertFfnRefIdeal.nD → PrngReg), Pre_ExpertFfnRefIdeal_tables_in_range m →
    θ_run (Cert.ExpertFfnRefIdeal.defs (F := Ideal)) (onTc (τ := Cert.ExpertFfnRefIdeal.τ) (Cert.ExpertFfnRefIdeal.main (F := Ideal))) ⟨m, fun _ => 0, g⟩ (fun r => (∀ c : Dev Cert.ExpertFfnRefIdeal.nD,
      r.2.mem ((c.tc : Thread Cert.ExpertFfnRefIdeal.nD Cert.ExpertFfnRefIdeal.τ).loc Cert.ExpertFfnRefIdeal.main_arg0) = m ((c.tc : Thread Cert.ExpertFfnRefIdeal.nD Cert.ExpertFfnRefIdeal.τ).loc Cert.ExpertFfnRefIdeal.main_arg0)
      ∧ r.2.mem ((c.tc : Thread Cert.ExpertFfnRefIdeal.nD Cert.ExpertFfnRefIdeal.τ).loc Cert.ExpertFfnRefIdeal.main_arg1) = m ((c.tc : Thread Cert.ExpertFfnRefIdeal.nD Cert.ExpertFfnRefIdeal.τ).loc Cert.ExpertFfnRefIdeal.main_arg1)
      ∧ r.2.mem ((c.tc : Thread Cert.ExpertFfnRefIdeal.nD Cert.ExpertFfnRefIdeal.τ).loc Cert.ExpertFfnRefIdeal.main_arg2) = m ((c.tc : Thread Cert.ExpertFfnRefIdeal.nD Cert.ExpertFfnRefIdeal.τ).loc Cert.ExpertFfnRefIdeal.main_arg2)
      ∧ r.2.mem ((c.tc : Thread Cert.ExpertFfnRefIdeal.nD Cert.ExpertFfnRefIdeal.τ).loc Cert.ExpertFfnRefIdeal.main_arg3) = m ((c.tc : Thread Cert.ExpertFfnRefIdeal.nD Cert.ExpertFfnRefIdeal.τ).loc Cert.ExpertFfnRefIdeal.main_arg3)
      ∧ r.2.mem ((c.tc : Thread Cert.ExpertFfnRefIdeal.nD Cert.ExpertFfnRefIdeal.τ).loc Cert.ExpertFfnRefIdeal.main_arg4) = m ((c.tc : Thread Cert.ExpertFfnRefIdeal.nD Cert.ExpertFfnRefIdeal.τ).loc Cert.ExpertFfnRefIdeal.main_arg4))
      ∧ r.2.sem = fun _ => 0)

def quiescent_SharedFfn [hSharedFfn : Cert.SharedFfn.Facts] : Prop :=
  ∀ (m : (ℓ : Loc Cert.SharedFfn.nD Cert.SharedFfn.τ Cert.SharedFfn.sig) → Buf (Elt Bits) ℓ) (g : Dev Cert.SharedFfn.nD → PrngReg), Pre_SharedFfn m →
    θ_run (Cert.SharedFfn.defs (F := Bits)) (onTc (τ := Cert.SharedFfn.τ) (Cert.SharedFfn.main (F := Bits))) ⟨m, fun _ => 0, g⟩ (fun r => (∀ c : Dev Cert.SharedFfn.nD,
      r.2.mem ((c.tc : Thread Cert.SharedFfn.nD Cert.SharedFfn.τ).loc Cert.SharedFfn.main_arg0) = m ((c.tc : Thread Cert.SharedFfn.nD Cert.SharedFfn.τ).loc Cert.SharedFfn.main_arg0)
      ∧ r.2.mem ((c.tc : Thread Cert.SharedFfn.nD Cert.SharedFfn.τ).loc Cert.SharedFfn.main_arg1) = m ((c.tc : Thread Cert.SharedFfn.nD Cert.SharedFfn.τ).loc Cert.SharedFfn.main_arg1)
      ∧ r.2.mem ((c.tc : Thread Cert.SharedFfn.nD Cert.SharedFfn.τ).loc Cert.SharedFfn.main_arg2) = m ((c.tc : Thread Cert.SharedFfn.nD Cert.SharedFfn.τ).loc Cert.SharedFfn.main_arg2))
      ∧ r.2.sem = fun _ => 0)

def quiescent_SharedFfnIdeal [hSharedFfnIdeal : Cert.SharedFfnIdeal.Facts] : Prop :=
  ∀ (m : (ℓ : Loc Cert.SharedFfnIdeal.nD Cert.SharedFfnIdeal.τ Cert.SharedFfnIdeal.sig) → Buf (Elt Ideal) ℓ) (g : Dev Cert.SharedFfnIdeal.nD → PrngReg), Pre_SharedFfnIdeal m →
    θ_run (Cert.SharedFfnIdeal.defs (F := Ideal)) (onTc (τ := Cert.SharedFfnIdeal.τ) (Cert.SharedFfnIdeal.main (F := Ideal))) ⟨m, fun _ => 0, g⟩ (fun r => (∀ c : Dev Cert.SharedFfnIdeal.nD,
      r.2.mem ((c.tc : Thread Cert.SharedFfnIdeal.nD Cert.SharedFfnIdeal.τ).loc Cert.SharedFfnIdeal.main_arg0) = m ((c.tc : Thread Cert.SharedFfnIdeal.nD Cert.SharedFfnIdeal.τ).loc Cert.SharedFfnIdeal.main_arg0)
      ∧ r.2.mem ((c.tc : Thread Cert.SharedFfnIdeal.nD Cert.SharedFfnIdeal.τ).loc Cert.SharedFfnIdeal.main_arg1) = m ((c.tc : Thread Cert.SharedFfnIdeal.nD Cert.SharedFfnIdeal.τ).loc Cert.SharedFfnIdeal.main_arg1)
      ∧ r.2.mem ((c.tc : Thread Cert.SharedFfnIdeal.nD Cert.SharedFfnIdeal.τ).loc Cert.SharedFfnIdeal.main_arg2) = m ((c.tc : Thread Cert.SharedFfnIdeal.nD Cert.SharedFfnIdeal.τ).loc Cert.SharedFfnIdeal.main_arg2))
      ∧ r.2.sem = fun _ => 0)

def quiescent_SharedFfnRefIdeal [hSharedFfnRefIdeal : Cert.SharedFfnRefIdeal.Facts] : Prop :=
  ∀ (m : (ℓ : Loc Cert.SharedFfnRefIdeal.nD Cert.SharedFfnRefIdeal.τ Cert.SharedFfnRefIdeal.sig) → Buf (Elt Ideal) ℓ) (g : Dev Cert.SharedFfnRefIdeal.nD → PrngReg), Pre_SharedFfnRefIdeal m →
    θ_run (Cert.SharedFfnRefIdeal.defs (F := Ideal)) (onTc (τ := Cert.SharedFfnRefIdeal.τ) (Cert.SharedFfnRefIdeal.main (F := Ideal))) ⟨m, fun _ => 0, g⟩ (fun r => (∀ c : Dev Cert.SharedFfnRefIdeal.nD,
      r.2.mem ((c.tc : Thread Cert.SharedFfnRefIdeal.nD Cert.SharedFfnRefIdeal.τ).loc Cert.SharedFfnRefIdeal.main_arg0) = m ((c.tc : Thread Cert.SharedFfnRefIdeal.nD Cert.SharedFfnRefIdeal.τ).loc Cert.SharedFfnRefIdeal.main_arg0)
      ∧ r.2.mem ((c.tc : Thread Cert.SharedFfnRefIdeal.nD Cert.SharedFfnRefIdeal.τ).loc Cert.SharedFfnRefIdeal.main_arg1) = m ((c.tc : Thread Cert.SharedFfnRefIdeal.nD Cert.SharedFfnRefIdeal.τ).loc Cert.SharedFfnRefIdeal.main_arg1)
      ∧ r.2.mem ((c.tc : Thread Cert.SharedFfnRefIdeal.nD Cert.SharedFfnRefIdeal.τ).loc Cert.SharedFfnRefIdeal.main_arg2) = m ((c.tc : Thread Cert.SharedFfnRefIdeal.nD Cert.SharedFfnRefIdeal.τ).loc Cert.SharedFfnRefIdeal.main_arg2))
      ∧ r.2.sem = fun _ => 0)

def quiescent_RetFwd [hRetFwd : Cert.RetFwd.Facts] : Prop :=
  ∀ (m : (ℓ : Loc Cert.RetFwd.nD Cert.RetFwd.τ Cert.RetFwd.sig) → Buf (Elt Bits) ℓ) (g : Dev Cert.RetFwd.nD → PrngReg), Pre_RetFwd m →
    θ_run (Cert.RetFwd.defs (F := Bits)) (onTc (τ := Cert.RetFwd.τ) (Cert.RetFwd.main (F := Bits))) ⟨m, fun _ => 0, g⟩ (fun r => (∀ c : Dev Cert.RetFwd.nD,
      r.2.mem ((c.tc : Thread Cert.RetFwd.nD Cert.RetFwd.τ).loc Cert.RetFwd.main_arg0) = m ((c.tc : Thread Cert.RetFwd.nD Cert.RetFwd.τ).loc Cert.RetFwd.main_arg0)
      ∧ r.2.mem ((c.tc : Thread Cert.RetFwd.nD Cert.RetFwd.τ).loc Cert.RetFwd.main_arg1) = m ((c.tc : Thread Cert.RetFwd.nD Cert.RetFwd.τ).loc Cert.RetFwd.main_arg1))
      ∧ r.2.sem = fun _ => 0)

def quiescent_RetFwdIdeal [hRetFwdIdeal : Cert.RetFwdIdeal.Facts] : Prop :=
  ∀ (m : (ℓ : Loc Cert.RetFwdIdeal.nD Cert.RetFwdIdeal.τ Cert.RetFwdIdeal.sig) → Buf (Elt Ideal) ℓ) (g : Dev Cert.RetFwdIdeal.nD → PrngReg), Pre_RetFwdIdeal m →
    θ_run (Cert.RetFwdIdeal.defs (F := Ideal)) (onTc (τ := Cert.RetFwdIdeal.τ) (Cert.RetFwdIdeal.main (F := Ideal))) ⟨m, fun _ => 0, g⟩ (fun r => (∀ c : Dev Cert.RetFwdIdeal.nD,
      r.2.mem ((c.tc : Thread Cert.RetFwdIdeal.nD Cert.RetFwdIdeal.τ).loc Cert.RetFwdIdeal.main_arg0) = m ((c.tc : Thread Cert.RetFwdIdeal.nD Cert.RetFwdIdeal.τ).loc Cert.RetFwdIdeal.main_arg0)
      ∧ r.2.mem ((c.tc : Thread Cert.RetFwdIdeal.nD Cert.RetFwdIdeal.τ).loc Cert.RetFwdIdeal.main_arg1) = m ((c.tc : Thread Cert.RetFwdIdeal.nD Cert.RetFwdIdeal.τ).loc Cert.RetFwdIdeal.main_arg1))
      ∧ r.2.sem = fun _ => 0)

def quiescent_RetFwdIdeal_pre_finite_ret [hRetFwdIdeal : Cert.RetFwdIdeal.Facts] [hPre_finite_ret : Cert.Pre_finite_ret.Facts] : Prop :=
  ∀ (m : (ℓ : Loc Cert.RetFwdIdeal.nD Cert.RetFwdIdeal.τ Cert.RetFwdIdeal.sig) → Buf (Elt Ideal) ℓ) (g : Dev Cert.RetFwdIdeal.nD → PrngReg), Pre_RetFwdIdeal_finite_ret m →
    θ_run (Cert.RetFwdIdeal.defs (F := Ideal)) (onTc (τ := Cert.RetFwdIdeal.τ) (Cert.RetFwdIdeal.main (F := Ideal))) ⟨m, fun _ => 0, g⟩ (fun r => (∀ c : Dev Cert.RetFwdIdeal.nD,
      r.2.mem ((c.tc : Thread Cert.RetFwdIdeal.nD Cert.RetFwdIdeal.τ).loc Cert.RetFwdIdeal.main_arg0) = m ((c.tc : Thread Cert.RetFwdIdeal.nD Cert.RetFwdIdeal.τ).loc Cert.RetFwdIdeal.main_arg0)
      ∧ r.2.mem ((c.tc : Thread Cert.RetFwdIdeal.nD Cert.RetFwdIdeal.τ).loc Cert.RetFwdIdeal.main_arg1) = m ((c.tc : Thread Cert.RetFwdIdeal.nD Cert.RetFwdIdeal.τ).loc Cert.RetFwdIdeal.main_arg1))
      ∧ r.2.sem = fun _ => 0)

def quiescent_RetFwdRefIdeal [hRetFwdRefIdeal : Cert.RetFwdRefIdeal.Facts] : Prop :=
  ∀ (m : (ℓ : Loc Cert.RetFwdRefIdeal.nD Cert.RetFwdRefIdeal.τ Cert.RetFwdRefIdeal.sig) → Buf (Elt Ideal) ℓ) (g : Dev Cert.RetFwdRefIdeal.nD → PrngReg), Pre_RetFwdRefIdeal m →
    θ_run (Cert.RetFwdRefIdeal.defs (F := Ideal)) (onTc (τ := Cert.RetFwdRefIdeal.τ) (Cert.RetFwdRefIdeal.main (F := Ideal))) ⟨m, fun _ => 0, g⟩ (fun r => (∀ c : Dev Cert.RetFwdRefIdeal.nD,
      r.2.mem ((c.tc : Thread Cert.RetFwdRefIdeal.nD Cert.RetFwdRefIdeal.τ).loc Cert.RetFwdRefIdeal.main_arg0) = m ((c.tc : Thread Cert.RetFwdRefIdeal.nD Cert.RetFwdRefIdeal.τ).loc Cert.RetFwdRefIdeal.main_arg0)
      ∧ r.2.mem ((c.tc : Thread Cert.RetFwdRefIdeal.nD Cert.RetFwdRefIdeal.τ).loc Cert.RetFwdRefIdeal.main_arg1) = m ((c.tc : Thread Cert.RetFwdRefIdeal.nD Cert.RetFwdRefIdeal.τ).loc Cert.RetFwdRefIdeal.main_arg1))
      ∧ r.2.sem = fun _ => 0)

def quiescent_RetFwdRefIdeal_pre_finite_ret [hRetFwdRefIdeal : Cert.RetFwdRefIdeal.Facts] [hPre_finite_ret : Cert.Pre_finite_ret.Facts] : Prop :=
  ∀ (m : (ℓ : Loc Cert.RetFwdRefIdeal.nD Cert.RetFwdRefIdeal.τ Cert.RetFwdRefIdeal.sig) → Buf (Elt Ideal) ℓ) (g : Dev Cert.RetFwdRefIdeal.nD → PrngReg), Pre_RetFwdRefIdeal_finite_ret m →
    θ_run (Cert.RetFwdRefIdeal.defs (F := Ideal)) (onTc (τ := Cert.RetFwdRefIdeal.τ) (Cert.RetFwdRefIdeal.main (F := Ideal))) ⟨m, fun _ => 0, g⟩ (fun r => (∀ c : Dev Cert.RetFwdRefIdeal.nD,
      r.2.mem ((c.tc : Thread Cert.RetFwdRefIdeal.nD Cert.RetFwdRefIdeal.τ).loc Cert.RetFwdRefIdeal.main_arg0) = m ((c.tc : Thread Cert.RetFwdRefIdeal.nD Cert.RetFwdRefIdeal.τ).loc Cert.RetFwdRefIdeal.main_arg0)
      ∧ r.2.mem ((c.tc : Thread Cert.RetFwdRefIdeal.nD Cert.RetFwdRefIdeal.τ).loc Cert.RetFwdRefIdeal.main_arg1) = m ((c.tc : Thread Cert.RetFwdRefIdeal.nD Cert.RetFwdRefIdeal.τ).loc Cert.RetFwdRefIdeal.main_arg1))
      ∧ r.2.sem = fun _ => 0)

def quiescent_RetBwd [hRetBwd : Cert.RetBwd.Facts] : Prop :=
  ∀ (m : (ℓ : Loc Cert.RetBwd.nD Cert.RetBwd.τ Cert.RetBwd.sig) → Buf (Elt Bits) ℓ) (g : Dev Cert.RetBwd.nD → PrngReg), Pre_RetBwd m →
    θ_run (Cert.RetBwd.defs (F := Bits)) (onTc (τ := Cert.RetBwd.τ) (Cert.RetBwd.main (F := Bits))) ⟨m, fun _ => 0, g⟩ (fun r => (∀ c : Dev Cert.RetBwd.nD,
      r.2.mem ((c.tc : Thread Cert.RetBwd.nD Cert.RetBwd.τ).loc Cert.RetBwd.main_arg0) = m ((c.tc : Thread Cert.RetBwd.nD Cert.RetBwd.τ).loc Cert.RetBwd.main_arg0)
      ∧ r.2.mem ((c.tc : Thread Cert.RetBwd.nD Cert.RetBwd.τ).loc Cert.RetBwd.main_arg1) = m ((c.tc : Thread Cert.RetBwd.nD Cert.RetBwd.τ).loc Cert.RetBwd.main_arg1)
      ∧ r.2.mem ((c.tc : Thread Cert.RetBwd.nD Cert.RetBwd.τ).loc Cert.RetBwd.main_arg2) = m ((c.tc : Thread Cert.RetBwd.nD Cert.RetBwd.τ).loc Cert.RetBwd.main_arg2))
      ∧ r.2.sem = fun _ => 0)

def quiescent_RetBwdIdeal [hRetBwdIdeal : Cert.RetBwdIdeal.Facts] : Prop :=
  ∀ (m : (ℓ : Loc Cert.RetBwdIdeal.nD Cert.RetBwdIdeal.τ Cert.RetBwdIdeal.sig) → Buf (Elt Ideal) ℓ) (g : Dev Cert.RetBwdIdeal.nD → PrngReg), Pre_RetBwdIdeal m →
    θ_run (Cert.RetBwdIdeal.defs (F := Ideal)) (onTc (τ := Cert.RetBwdIdeal.τ) (Cert.RetBwdIdeal.main (F := Ideal))) ⟨m, fun _ => 0, g⟩ (fun r => (∀ c : Dev Cert.RetBwdIdeal.nD,
      r.2.mem ((c.tc : Thread Cert.RetBwdIdeal.nD Cert.RetBwdIdeal.τ).loc Cert.RetBwdIdeal.main_arg0) = m ((c.tc : Thread Cert.RetBwdIdeal.nD Cert.RetBwdIdeal.τ).loc Cert.RetBwdIdeal.main_arg0)
      ∧ r.2.mem ((c.tc : Thread Cert.RetBwdIdeal.nD Cert.RetBwdIdeal.τ).loc Cert.RetBwdIdeal.main_arg1) = m ((c.tc : Thread Cert.RetBwdIdeal.nD Cert.RetBwdIdeal.τ).loc Cert.RetBwdIdeal.main_arg1)
      ∧ r.2.mem ((c.tc : Thread Cert.RetBwdIdeal.nD Cert.RetBwdIdeal.τ).loc Cert.RetBwdIdeal.main_arg2) = m ((c.tc : Thread Cert.RetBwdIdeal.nD Cert.RetBwdIdeal.τ).loc Cert.RetBwdIdeal.main_arg2))
      ∧ r.2.sem = fun _ => 0)

def quiescent_RetBwdIdeal_pre_finite_ret_bwd [hRetBwdIdeal : Cert.RetBwdIdeal.Facts] [hPre_finite_ret_bwd : Cert.Pre_finite_ret_bwd.Facts] : Prop :=
  ∀ (m : (ℓ : Loc Cert.RetBwdIdeal.nD Cert.RetBwdIdeal.τ Cert.RetBwdIdeal.sig) → Buf (Elt Ideal) ℓ) (g : Dev Cert.RetBwdIdeal.nD → PrngReg), Pre_RetBwdIdeal_finite_ret_bwd m →
    θ_run (Cert.RetBwdIdeal.defs (F := Ideal)) (onTc (τ := Cert.RetBwdIdeal.τ) (Cert.RetBwdIdeal.main (F := Ideal))) ⟨m, fun _ => 0, g⟩ (fun r => (∀ c : Dev Cert.RetBwdIdeal.nD,
      r.2.mem ((c.tc : Thread Cert.RetBwdIdeal.nD Cert.RetBwdIdeal.τ).loc Cert.RetBwdIdeal.main_arg0) = m ((c.tc : Thread Cert.RetBwdIdeal.nD Cert.RetBwdIdeal.τ).loc Cert.RetBwdIdeal.main_arg0)
      ∧ r.2.mem ((c.tc : Thread Cert.RetBwdIdeal.nD Cert.RetBwdIdeal.τ).loc Cert.RetBwdIdeal.main_arg1) = m ((c.tc : Thread Cert.RetBwdIdeal.nD Cert.RetBwdIdeal.τ).loc Cert.RetBwdIdeal.main_arg1)
      ∧ r.2.mem ((c.tc : Thread Cert.RetBwdIdeal.nD Cert.RetBwdIdeal.τ).loc Cert.RetBwdIdeal.main_arg2) = m ((c.tc : Thread Cert.RetBwdIdeal.nD Cert.RetBwdIdeal.τ).loc Cert.RetBwdIdeal.main_arg2))
      ∧ r.2.sem = fun _ => 0)

def quiescent_RetBwdRefIdeal [hRetBwdRefIdeal : Cert.RetBwdRefIdeal.Facts] : Prop :=
  ∀ (m : (ℓ : Loc Cert.RetBwdRefIdeal.nD Cert.RetBwdRefIdeal.τ Cert.RetBwdRefIdeal.sig) → Buf (Elt Ideal) ℓ) (g : Dev Cert.RetBwdRefIdeal.nD → PrngReg), Pre_RetBwdRefIdeal m →
    θ_run (Cert.RetBwdRefIdeal.defs (F := Ideal)) (onTc (τ := Cert.RetBwdRefIdeal.τ) (Cert.RetBwdRefIdeal.main (F := Ideal))) ⟨m, fun _ => 0, g⟩ (fun r => (∀ c : Dev Cert.RetBwdRefIdeal.nD,
      r.2.mem ((c.tc : Thread Cert.RetBwdRefIdeal.nD Cert.RetBwdRefIdeal.τ).loc Cert.RetBwdRefIdeal.main_arg0) = m ((c.tc : Thread Cert.RetBwdRefIdeal.nD Cert.RetBwdRefIdeal.τ).loc Cert.RetBwdRefIdeal.main_arg0)
      ∧ r.2.mem ((c.tc : Thread Cert.RetBwdRefIdeal.nD Cert.RetBwdRefIdeal.τ).loc Cert.RetBwdRefIdeal.main_arg1) = m ((c.tc : Thread Cert.RetBwdRefIdeal.nD Cert.RetBwdRefIdeal.τ).loc Cert.RetBwdRefIdeal.main_arg1)
      ∧ r.2.mem ((c.tc : Thread Cert.RetBwdRefIdeal.nD Cert.RetBwdRefIdeal.τ).loc Cert.RetBwdRefIdeal.main_arg2) = m ((c.tc : Thread Cert.RetBwdRefIdeal.nD Cert.RetBwdRefIdeal.τ).loc Cert.RetBwdRefIdeal.main_arg2))
      ∧ r.2.sem = fun _ => 0)

def quiescent_RetBwdRefIdeal_pre_finite_ret_bwd [hRetBwdRefIdeal : Cert.RetBwdRefIdeal.Facts] [hPre_finite_ret_bwd : Cert.Pre_finite_ret_bwd.Facts] : Prop :=
  ∀ (m : (ℓ : Loc Cert.RetBwdRefIdeal.nD Cert.RetBwdRefIdeal.τ Cert.RetBwdRefIdeal.sig) → Buf (Elt Ideal) ℓ) (g : Dev Cert.RetBwdRefIdeal.nD → PrngReg), Pre_RetBwdRefIdeal_finite_ret_bwd m →
    θ_run (Cert.RetBwdRefIdeal.defs (F := Ideal)) (onTc (τ := Cert.RetBwdRefIdeal.τ) (Cert.RetBwdRefIdeal.main (F := Ideal))) ⟨m, fun _ => 0, g⟩ (fun r => (∀ c : Dev Cert.RetBwdRefIdeal.nD,
      r.2.mem ((c.tc : Thread Cert.RetBwdRefIdeal.nD Cert.RetBwdRefIdeal.τ).loc Cert.RetBwdRefIdeal.main_arg0) = m ((c.tc : Thread Cert.RetBwdRefIdeal.nD Cert.RetBwdRefIdeal.τ).loc Cert.RetBwdRefIdeal.main_arg0)
      ∧ r.2.mem ((c.tc : Thread Cert.RetBwdRefIdeal.nD Cert.RetBwdRefIdeal.τ).loc Cert.RetBwdRefIdeal.main_arg1) = m ((c.tc : Thread Cert.RetBwdRefIdeal.nD Cert.RetBwdRefIdeal.τ).loc Cert.RetBwdRefIdeal.main_arg1)
      ∧ r.2.mem ((c.tc : Thread Cert.RetBwdRefIdeal.nD Cert.RetBwdRefIdeal.τ).loc Cert.RetBwdRefIdeal.main_arg2) = m ((c.tc : Thread Cert.RetBwdRefIdeal.nD Cert.RetBwdRefIdeal.τ).loc Cert.RetBwdRefIdeal.main_arg2))
      ∧ r.2.sem = fun _ => 0)

def preserves_AttnPrompt_AttnPromptIdeal : Prop :=
  True

def algebraic_AttnPromptIdeal_AttnPromptRefIdeal_pre_finite_attn [hAttnPromptIdeal : Cert.AttnPromptIdeal.Facts] [hAttnPromptRefIdeal : Cert.AttnPromptRefIdeal.Facts] [hPre_finite_attn : Cert.Pre_finite_attn.Facts] : Prop :=
  ∀ (m : (ℓ : Loc Cert.AttnPromptIdeal.nD Cert.AttnPromptIdeal.τ Cert.AttnPromptIdeal.sig) → Buf (Elt Ideal) ℓ) (g : Dev Cert.AttnPromptIdeal.nD → PrngReg)
    (m' : (ℓ : Loc Cert.AttnPromptRefIdeal.nD Cert.AttnPromptRefIdeal.τ Cert.AttnPromptRefIdeal.sig) → Buf (Elt Ideal) ℓ) (g' : Dev Cert.AttnPromptRefIdeal.nD → PrngReg), Pre_AttnPromptIdeal_finite_attn m →
    (∀ c : Dev Cert.AttnPromptIdeal.nD,
      m' ((c.tc : Thread Cert.AttnPromptRefIdeal.nD Cert.AttnPromptRefIdeal.τ).loc Cert.AttnPromptRefIdeal.main_arg0) = m ((c.tc : Thread Cert.AttnPromptIdeal.nD Cert.AttnPromptIdeal.τ).loc Cert.AttnPromptIdeal.main_arg0)
      ∧ m' ((c.tc : Thread Cert.AttnPromptRefIdeal.nD Cert.AttnPromptRefIdeal.τ).loc Cert.AttnPromptRefIdeal.main_arg1) = m ((c.tc : Thread Cert.AttnPromptIdeal.nD Cert.AttnPromptIdeal.τ).loc Cert.AttnPromptIdeal.main_arg1)
      ∧ m' ((c.tc : Thread Cert.AttnPromptRefIdeal.nD Cert.AttnPromptRefIdeal.τ).loc Cert.AttnPromptRefIdeal.main_arg2) = m ((c.tc : Thread Cert.AttnPromptIdeal.nD Cert.AttnPromptIdeal.τ).loc Cert.AttnPromptIdeal.main_arg2)
      ∧ m' ((c.tc : Thread Cert.AttnPromptRefIdeal.nD Cert.AttnPromptRefIdeal.τ).loc Cert.AttnPromptRefIdeal.main_arg3) = m ((c.tc : Thread Cert.AttnPromptIdeal.nD Cert.AttnPromptIdeal.τ).loc Cert.AttnPromptIdeal.main_arg3)
      ∧ m' ((c.tc : Thread Cert.AttnPromptRefIdeal.nD Cert.AttnPromptRefIdeal.τ).loc Cert.AttnPromptRefIdeal.main_arg4) = m ((c.tc : Thread Cert.AttnPromptIdeal.nD Cert.AttnPromptIdeal.τ).loc Cert.AttnPromptIdeal.main_arg4)
      ∧ m' ((c.tc : Thread Cert.AttnPromptRefIdeal.nD Cert.AttnPromptRefIdeal.τ).loc Cert.AttnPromptRefIdeal.main_arg5) = m ((c.tc : Thread Cert.AttnPromptIdeal.nD Cert.AttnPromptIdeal.τ).loc Cert.AttnPromptIdeal.main_arg5)) →
    ∃ (v0 : (c : Dev Cert.AttnPromptIdeal.nD) → Buf (Elt Ideal) ((c.tc : Thread Cert.AttnPromptIdeal.nD Cert.AttnPromptIdeal.τ).loc Cert.AttnPromptIdeal.main_v15)),
      θ_run (Cert.AttnPromptIdeal.defs (F := Ideal)) (onTc (τ := Cert.AttnPromptIdeal.τ) (Cert.AttnPromptIdeal.main (F := Ideal))) ⟨m, fun _ => 0, g⟩ (fun r => ∀ c : Dev Cert.AttnPromptIdeal.nD,
          r.2.mem ((c.tc : Thread Cert.AttnPromptIdeal.nD Cert.AttnPromptIdeal.τ).loc Cert.AttnPromptIdeal.main_v15) = v0 c
          ∧ r.2.mem ((c.tc : Thread Cert.AttnPromptIdeal.nD Cert.AttnPromptIdeal.τ).loc Cert.AttnPromptIdeal.main_arg0) = m ((c.tc : Thread Cert.AttnPromptIdeal.nD Cert.AttnPromptIdeal.τ).loc Cert.AttnPromptIdeal.main_arg0)
          ∧ r.2.mem ((c.tc : Thread Cert.AttnPromptIdeal.nD Cert.AttnPromptIdeal.τ).loc Cert.AttnPromptIdeal.main_arg1) = m ((c.tc : Thread Cert.AttnPromptIdeal.nD Cert.AttnPromptIdeal.τ).loc Cert.AttnPromptIdeal.main_arg1)
          ∧ r.2.mem ((c.tc : Thread Cert.AttnPromptIdeal.nD Cert.AttnPromptIdeal.τ).loc Cert.AttnPromptIdeal.main_arg2) = m ((c.tc : Thread Cert.AttnPromptIdeal.nD Cert.AttnPromptIdeal.τ).loc Cert.AttnPromptIdeal.main_arg2)
          ∧ r.2.mem ((c.tc : Thread Cert.AttnPromptIdeal.nD Cert.AttnPromptIdeal.τ).loc Cert.AttnPromptIdeal.main_arg3) = m ((c.tc : Thread Cert.AttnPromptIdeal.nD Cert.AttnPromptIdeal.τ).loc Cert.AttnPromptIdeal.main_arg3)
          ∧ r.2.mem ((c.tc : Thread Cert.AttnPromptIdeal.nD Cert.AttnPromptIdeal.τ).loc Cert.AttnPromptIdeal.main_arg4) = m ((c.tc : Thread Cert.AttnPromptIdeal.nD Cert.AttnPromptIdeal.τ).loc Cert.AttnPromptIdeal.main_arg4)
          ∧ r.2.mem ((c.tc : Thread Cert.AttnPromptIdeal.nD Cert.AttnPromptIdeal.τ).loc Cert.AttnPromptIdeal.main_arg5) = m ((c.tc : Thread Cert.AttnPromptIdeal.nD Cert.AttnPromptIdeal.τ).loc Cert.AttnPromptIdeal.main_arg5))
      ∧ θ_run (Cert.AttnPromptRefIdeal.defs (F := Ideal)) (onTc (τ := Cert.AttnPromptRefIdeal.τ) (Cert.AttnPromptRefIdeal.main (F := Ideal))) ⟨m', fun _ => 0, g'⟩ (fun r => ∀ c : Dev Cert.AttnPromptRefIdeal.nD,
          r.2.mem ((c.tc : Thread Cert.AttnPromptRefIdeal.nD Cert.AttnPromptRefIdeal.τ).loc Cert.AttnPromptRefIdeal.main_v59) = v0 c
          ∧ r.2.mem ((c.tc : Thread Cert.AttnPromptRefIdeal.nD Cert.AttnPromptRefIdeal.τ).loc Cert.AttnPromptRefIdeal.main_arg0) = m' ((c.tc : Thread Cert.AttnPromptRefIdeal.nD Cert.AttnPromptRefIdeal.τ).loc Cert.AttnPromptRefIdeal.main_arg0)
          ∧ r.2.mem ((c.tc : Thread Cert.AttnPromptRefIdeal.nD Cert.AttnPromptRefIdeal.τ).loc Cert.AttnPromptRefIdeal.main_arg1) = m' ((c.tc : Thread Cert.AttnPromptRefIdeal.nD Cert.AttnPromptRefIdeal.τ).loc Cert.AttnPromptRefIdeal.main_arg1)
          ∧ r.2.mem ((c.tc : Thread Cert.AttnPromptRefIdeal.nD Cert.AttnPromptRefIdeal.τ).loc Cert.AttnPromptRefIdeal.main_arg2) = m' ((c.tc : Thread Cert.AttnPromptRefIdeal.nD Cert.AttnPromptRefIdeal.τ).loc Cert.AttnPromptRefIdeal.main_arg2)
          ∧ r.2.mem ((c.tc : Thread Cert.AttnPromptRefIdeal.nD Cert.AttnPromptRefIdeal.τ).loc Cert.AttnPromptRefIdeal.main_arg3) = m' ((c.tc : Thread Cert.AttnPromptRefIdeal.nD Cert.AttnPromptRefIdeal.τ).loc Cert.AttnPromptRefIdeal.main_arg3)
          ∧ r.2.mem ((c.tc : Thread Cert.AttnPromptRefIdeal.nD Cert.AttnPromptRefIdeal.τ).loc Cert.AttnPromptRefIdeal.main_arg4) = m' ((c.tc : Thread Cert.AttnPromptRefIdeal.nD Cert.AttnPromptRefIdeal.τ).loc Cert.AttnPromptRefIdeal.main_arg4)
          ∧ r.2.mem ((c.tc : Thread Cert.AttnPromptRefIdeal.nD Cert.AttnPromptRefIdeal.τ).loc Cert.AttnPromptRefIdeal.main_arg5) = m' ((c.tc : Thread Cert.AttnPromptRefIdeal.nD Cert.AttnPromptRefIdeal.τ).loc Cert.AttnPromptRefIdeal.main_arg5))

def preserves_AttnSample_AttnSampleIdeal : Prop :=
  True

def algebraic_AttnSampleIdeal_AttnSampleRefIdeal_pre_finite_attn [hAttnSampleIdeal : Cert.AttnSampleIdeal.Facts] [hAttnSampleRefIdeal : Cert.AttnSampleRefIdeal.Facts] [hPre_finite_attn : Cert.Pre_finite_attn.Facts] : Prop :=
  ∀ (m : (ℓ : Loc Cert.AttnSampleIdeal.nD Cert.AttnSampleIdeal.τ Cert.AttnSampleIdeal.sig) → Buf (Elt Ideal) ℓ) (g : Dev Cert.AttnSampleIdeal.nD → PrngReg)
    (m' : (ℓ : Loc Cert.AttnSampleRefIdeal.nD Cert.AttnSampleRefIdeal.τ Cert.AttnSampleRefIdeal.sig) → Buf (Elt Ideal) ℓ) (g' : Dev Cert.AttnSampleRefIdeal.nD → PrngReg), Pre_AttnSampleIdeal_finite_attn m →
    (∀ c : Dev Cert.AttnSampleIdeal.nD,
      m' ((c.tc : Thread Cert.AttnSampleRefIdeal.nD Cert.AttnSampleRefIdeal.τ).loc Cert.AttnSampleRefIdeal.main_arg0) = m ((c.tc : Thread Cert.AttnSampleIdeal.nD Cert.AttnSampleIdeal.τ).loc Cert.AttnSampleIdeal.main_arg0)
      ∧ m' ((c.tc : Thread Cert.AttnSampleRefIdeal.nD Cert.AttnSampleRefIdeal.τ).loc Cert.AttnSampleRefIdeal.main_arg1) = m ((c.tc : Thread Cert.AttnSampleIdeal.nD Cert.AttnSampleIdeal.τ).loc Cert.AttnSampleIdeal.main_arg1)
      ∧ m' ((c.tc : Thread Cert.AttnSampleRefIdeal.nD Cert.AttnSampleRefIdeal.τ).loc Cert.AttnSampleRefIdeal.main_arg2) = m ((c.tc : Thread Cert.AttnSampleIdeal.nD Cert.AttnSampleIdeal.τ).loc Cert.AttnSampleIdeal.main_arg2)
      ∧ m' ((c.tc : Thread Cert.AttnSampleRefIdeal.nD Cert.AttnSampleRefIdeal.τ).loc Cert.AttnSampleRefIdeal.main_arg3) = m ((c.tc : Thread Cert.AttnSampleIdeal.nD Cert.AttnSampleIdeal.τ).loc Cert.AttnSampleIdeal.main_arg3)
      ∧ m' ((c.tc : Thread Cert.AttnSampleRefIdeal.nD Cert.AttnSampleRefIdeal.τ).loc Cert.AttnSampleRefIdeal.main_arg4) = m ((c.tc : Thread Cert.AttnSampleIdeal.nD Cert.AttnSampleIdeal.τ).loc Cert.AttnSampleIdeal.main_arg4)
      ∧ m' ((c.tc : Thread Cert.AttnSampleRefIdeal.nD Cert.AttnSampleRefIdeal.τ).loc Cert.AttnSampleRefIdeal.main_arg5) = m ((c.tc : Thread Cert.AttnSampleIdeal.nD Cert.AttnSampleIdeal.τ).loc Cert.AttnSampleIdeal.main_arg5)) →
    ∃ (v0 : (c : Dev Cert.AttnSampleIdeal.nD) → Buf (Elt Ideal) ((c.tc : Thread Cert.AttnSampleIdeal.nD Cert.AttnSampleIdeal.τ).loc Cert.AttnSampleIdeal.main_v15)),
      θ_run (Cert.AttnSampleIdeal.defs (F := Ideal)) (onTc (τ := Cert.AttnSampleIdeal.τ) (Cert.AttnSampleIdeal.main (F := Ideal))) ⟨m, fun _ => 0, g⟩ (fun r => ∀ c : Dev Cert.AttnSampleIdeal.nD,
          r.2.mem ((c.tc : Thread Cert.AttnSampleIdeal.nD Cert.AttnSampleIdeal.τ).loc Cert.AttnSampleIdeal.main_v15) = v0 c
          ∧ r.2.mem ((c.tc : Thread Cert.AttnSampleIdeal.nD Cert.AttnSampleIdeal.τ).loc Cert.AttnSampleIdeal.main_arg0) = m ((c.tc : Thread Cert.AttnSampleIdeal.nD Cert.AttnSampleIdeal.τ).loc Cert.AttnSampleIdeal.main_arg0)
          ∧ r.2.mem ((c.tc : Thread Cert.AttnSampleIdeal.nD Cert.AttnSampleIdeal.τ).loc Cert.AttnSampleIdeal.main_arg1) = m ((c.tc : Thread Cert.AttnSampleIdeal.nD Cert.AttnSampleIdeal.τ).loc Cert.AttnSampleIdeal.main_arg1)
          ∧ r.2.mem ((c.tc : Thread Cert.AttnSampleIdeal.nD Cert.AttnSampleIdeal.τ).loc Cert.AttnSampleIdeal.main_arg2) = m ((c.tc : Thread Cert.AttnSampleIdeal.nD Cert.AttnSampleIdeal.τ).loc Cert.AttnSampleIdeal.main_arg2)
          ∧ r.2.mem ((c.tc : Thread Cert.AttnSampleIdeal.nD Cert.AttnSampleIdeal.τ).loc Cert.AttnSampleIdeal.main_arg3) = m ((c.tc : Thread Cert.AttnSampleIdeal.nD Cert.AttnSampleIdeal.τ).loc Cert.AttnSampleIdeal.main_arg3)
          ∧ r.2.mem ((c.tc : Thread Cert.AttnSampleIdeal.nD Cert.AttnSampleIdeal.τ).loc Cert.AttnSampleIdeal.main_arg4) = m ((c.tc : Thread Cert.AttnSampleIdeal.nD Cert.AttnSampleIdeal.τ).loc Cert.AttnSampleIdeal.main_arg4)
          ∧ r.2.mem ((c.tc : Thread Cert.AttnSampleIdeal.nD Cert.AttnSampleIdeal.τ).loc Cert.AttnSampleIdeal.main_arg5) = m ((c.tc : Thread Cert.AttnSampleIdeal.nD Cert.AttnSampleIdeal.τ).loc Cert.AttnSampleIdeal.main_arg5))
      ∧ θ_run (Cert.AttnSampleRefIdeal.defs (F := Ideal)) (onTc (τ := Cert.AttnSampleRefIdeal.τ) (Cert.AttnSampleRefIdeal.main (F := Ideal))) ⟨m', fun _ => 0, g'⟩ (fun r => ∀ c : Dev Cert.AttnSampleRefIdeal.nD,
          r.2.mem ((c.tc : Thread Cert.AttnSampleRefIdeal.nD Cert.AttnSampleRefIdeal.τ).loc Cert.AttnSampleRefIdeal.main_v59) = v0 c
          ∧ r.2.mem ((c.tc : Thread Cert.AttnSampleRefIdeal.nD Cert.AttnSampleRefIdeal.τ).loc Cert.AttnSampleRefIdeal.main_arg0) = m' ((c.tc : Thread Cert.AttnSampleRefIdeal.nD Cert.AttnSampleRefIdeal.τ).loc Cert.AttnSampleRefIdeal.main_arg0)
          ∧ r.2.mem ((c.tc : Thread Cert.AttnSampleRefIdeal.nD Cert.AttnSampleRefIdeal.τ).loc Cert.AttnSampleRefIdeal.main_arg1) = m' ((c.tc : Thread Cert.AttnSampleRefIdeal.nD Cert.AttnSampleRefIdeal.τ).loc Cert.AttnSampleRefIdeal.main_arg1)
          ∧ r.2.mem ((c.tc : Thread Cert.AttnSampleRefIdeal.nD Cert.AttnSampleRefIdeal.τ).loc Cert.AttnSampleRefIdeal.main_arg2) = m' ((c.tc : Thread Cert.AttnSampleRefIdeal.nD Cert.AttnSampleRefIdeal.τ).loc Cert.AttnSampleRefIdeal.main_arg2)
          ∧ r.2.mem ((c.tc : Thread Cert.AttnSampleRefIdeal.nD Cert.AttnSampleRefIdeal.τ).loc Cert.AttnSampleRefIdeal.main_arg3) = m' ((c.tc : Thread Cert.AttnSampleRefIdeal.nD Cert.AttnSampleRefIdeal.τ).loc Cert.AttnSampleRefIdeal.main_arg3)
          ∧ r.2.mem ((c.tc : Thread Cert.AttnSampleRefIdeal.nD Cert.AttnSampleRefIdeal.τ).loc Cert.AttnSampleRefIdeal.main_arg4) = m' ((c.tc : Thread Cert.AttnSampleRefIdeal.nD Cert.AttnSampleRefIdeal.τ).loc Cert.AttnSampleRefIdeal.main_arg4)
          ∧ r.2.mem ((c.tc : Thread Cert.AttnSampleRefIdeal.nD Cert.AttnSampleRefIdeal.τ).loc Cert.AttnSampleRefIdeal.main_arg5) = m' ((c.tc : Thread Cert.AttnSampleRefIdeal.nD Cert.AttnSampleRefIdeal.τ).loc Cert.AttnSampleRefIdeal.main_arg5))

def preserves_ProjRet_ProjRetIdeal : Prop :=
  True

def algebraic_ProjRetIdeal_ProjRetRefIdeal [hProjRetIdeal : Cert.ProjRetIdeal.Facts] [hProjRetRefIdeal : Cert.ProjRetRefIdeal.Facts] : Prop :=
  ∀ (m : (ℓ : Loc Cert.ProjRetIdeal.nD Cert.ProjRetIdeal.τ Cert.ProjRetIdeal.sig) → Buf (Elt Ideal) ℓ) (g : Dev Cert.ProjRetIdeal.nD → PrngReg)
    (m' : (ℓ : Loc Cert.ProjRetRefIdeal.nD Cert.ProjRetRefIdeal.τ Cert.ProjRetRefIdeal.sig) → Buf (Elt Ideal) ℓ) (g' : Dev Cert.ProjRetRefIdeal.nD → PrngReg), Pre_ProjRetIdeal m →
    (∀ c : Dev Cert.ProjRetIdeal.nD,
      m' ((c.tc : Thread Cert.ProjRetRefIdeal.nD Cert.ProjRetRefIdeal.τ).loc Cert.ProjRetRefIdeal.main_arg0) = m ((c.tc : Thread Cert.ProjRetIdeal.nD Cert.ProjRetIdeal.τ).loc Cert.ProjRetIdeal.main_arg0)
      ∧ m' ((c.tc : Thread Cert.ProjRetRefIdeal.nD Cert.ProjRetRefIdeal.τ).loc Cert.ProjRetRefIdeal.main_arg1) = m ((c.tc : Thread Cert.ProjRetIdeal.nD Cert.ProjRetIdeal.τ).loc Cert.ProjRetIdeal.main_arg1)
      ∧ m' ((c.tc : Thread Cert.ProjRetRefIdeal.nD Cert.ProjRetRefIdeal.τ).loc Cert.ProjRetRefIdeal.main_arg2) = m ((c.tc : Thread Cert.ProjRetIdeal.nD Cert.ProjRetIdeal.τ).loc Cert.ProjRetIdeal.main_arg2)) →
    ∃ (v0 : (c : Dev Cert.ProjRetIdeal.nD) → Buf (Elt Ideal) ((c.tc : Thread Cert.ProjRetIdeal.nD Cert.ProjRetIdeal.τ).loc Cert.ProjRetIdeal.main_v20)),
      θ_run (Cert.ProjRetIdeal.defs (F := Ideal)) (onTc (τ := Cert.ProjRetIdeal.τ) (Cert.ProjRetIdeal.main (F := Ideal))) ⟨m, fun _ => 0, g⟩ (fun r => ∀ c : Dev Cert.ProjRetIdeal.nD,
          r.2.mem ((c.tc : Thread Cert.ProjRetIdeal.nD Cert.ProjRetIdeal.τ).loc Cert.ProjRetIdeal.main_v20) = v0 c
          ∧ r.2.mem ((c.tc : Thread Cert.ProjRetIdeal.nD Cert.ProjRetIdeal.τ).loc Cert.ProjRetIdeal.main_arg0) = m ((c.tc : Thread Cert.ProjRetIdeal.nD Cert.ProjRetIdeal.τ).loc Cert.ProjRetIdeal.main_arg0)
          ∧ r.2.mem ((c.tc : Thread Cert.ProjRetIdeal.nD Cert.ProjRetIdeal.τ).loc Cert.ProjRetIdeal.main_arg1) = m ((c.tc : Thread Cert.ProjRetIdeal.nD Cert.ProjRetIdeal.τ).loc Cert.ProjRetIdeal.main_arg1)
          ∧ r.2.mem ((c.tc : Thread Cert.ProjRetIdeal.nD Cert.ProjRetIdeal.τ).loc Cert.ProjRetIdeal.main_arg2) = m ((c.tc : Thread Cert.ProjRetIdeal.nD Cert.ProjRetIdeal.τ).loc Cert.ProjRetIdeal.main_arg2))
      ∧ θ_run (Cert.ProjRetRefIdeal.defs (F := Ideal)) (onTc (τ := Cert.ProjRetRefIdeal.τ) (Cert.ProjRetRefIdeal.main (F := Ideal))) ⟨m', fun _ => 0, g'⟩ (fun r => ∀ c : Dev Cert.ProjRetRefIdeal.nD,
          r.2.mem ((c.tc : Thread Cert.ProjRetRefIdeal.nD Cert.ProjRetRefIdeal.τ).loc Cert.ProjRetRefIdeal.main_v159) = v0 c
          ∧ r.2.mem ((c.tc : Thread Cert.ProjRetRefIdeal.nD Cert.ProjRetRefIdeal.τ).loc Cert.ProjRetRefIdeal.main_arg0) = m' ((c.tc : Thread Cert.ProjRetRefIdeal.nD Cert.ProjRetRefIdeal.τ).loc Cert.ProjRetRefIdeal.main_arg0)
          ∧ r.2.mem ((c.tc : Thread Cert.ProjRetRefIdeal.nD Cert.ProjRetRefIdeal.τ).loc Cert.ProjRetRefIdeal.main_arg1) = m' ((c.tc : Thread Cert.ProjRetRefIdeal.nD Cert.ProjRetRefIdeal.τ).loc Cert.ProjRetRefIdeal.main_arg1)
          ∧ r.2.mem ((c.tc : Thread Cert.ProjRetRefIdeal.nD Cert.ProjRetRefIdeal.τ).loc Cert.ProjRetRefIdeal.main_arg2) = m' ((c.tc : Thread Cert.ProjRetRefIdeal.nD Cert.ProjRetRefIdeal.τ).loc Cert.ProjRetRefIdeal.main_arg2))

def preserves_ProjDiff_ProjDiffIdeal : Prop :=
  True

def algebraic_ProjDiffIdeal_ProjDiffRefIdeal [hProjDiffIdeal : Cert.ProjDiffIdeal.Facts] [hProjDiffRefIdeal : Cert.ProjDiffRefIdeal.Facts] : Prop :=
  ∀ (m : (ℓ : Loc Cert.ProjDiffIdeal.nD Cert.ProjDiffIdeal.τ Cert.ProjDiffIdeal.sig) → Buf (Elt Ideal) ℓ) (g : Dev Cert.ProjDiffIdeal.nD → PrngReg)
    (m' : (ℓ : Loc Cert.ProjDiffRefIdeal.nD Cert.ProjDiffRefIdeal.τ Cert.ProjDiffRefIdeal.sig) → Buf (Elt Ideal) ℓ) (g' : Dev Cert.ProjDiffRefIdeal.nD → PrngReg), Pre_ProjDiffIdeal m →
    (∀ c : Dev Cert.ProjDiffIdeal.nD,
      m' ((c.tc : Thread Cert.ProjDiffRefIdeal.nD Cert.ProjDiffRefIdeal.τ).loc Cert.ProjDiffRefIdeal.main_arg0) = m ((c.tc : Thread Cert.ProjDiffIdeal.nD Cert.ProjDiffIdeal.τ).loc Cert.ProjDiffIdeal.main_arg0)
      ∧ m' ((c.tc : Thread Cert.ProjDiffRefIdeal.nD Cert.ProjDiffRefIdeal.τ).loc Cert.ProjDiffRefIdeal.main_arg1) = m ((c.tc : Thread Cert.ProjDiffIdeal.nD Cert.ProjDiffIdeal.τ).loc Cert.ProjDiffIdeal.main_arg1)) →
    ∃ (v0 : (c : Dev Cert.ProjDiffIdeal.nD) → Buf (Elt Ideal) ((c.tc : Thread Cert.ProjDiffIdeal.nD Cert.ProjDiffIdeal.τ).loc Cert.ProjDiffIdeal.main_v24)),
      θ_run (Cert.ProjDiffIdeal.defs (F := Ideal)) (onTc (τ := Cert.ProjDiffIdeal.τ) (Cert.ProjDiffIdeal.main (F := Ideal))) ⟨m, fun _ => 0, g⟩ (fun r => ∀ c : Dev Cert.ProjDiffIdeal.nD,
          r.2.mem ((c.tc : Thread Cert.ProjDiffIdeal.nD Cert.ProjDiffIdeal.τ).loc Cert.ProjDiffIdeal.main_v24) = v0 c
          ∧ r.2.mem ((c.tc : Thread Cert.ProjDiffIdeal.nD Cert.ProjDiffIdeal.τ).loc Cert.ProjDiffIdeal.main_arg0) = m ((c.tc : Thread Cert.ProjDiffIdeal.nD Cert.ProjDiffIdeal.τ).loc Cert.ProjDiffIdeal.main_arg0)
          ∧ r.2.mem ((c.tc : Thread Cert.ProjDiffIdeal.nD Cert.ProjDiffIdeal.τ).loc Cert.ProjDiffIdeal.main_arg1) = m ((c.tc : Thread Cert.ProjDiffIdeal.nD Cert.ProjDiffIdeal.τ).loc Cert.ProjDiffIdeal.main_arg1))
      ∧ θ_run (Cert.ProjDiffRefIdeal.defs (F := Ideal)) (onTc (τ := Cert.ProjDiffRefIdeal.τ) (Cert.ProjDiffRefIdeal.main (F := Ideal))) ⟨m', fun _ => 0, g'⟩ (fun r => ∀ c : Dev Cert.ProjDiffRefIdeal.nD,
          r.2.mem ((c.tc : Thread Cert.ProjDiffRefIdeal.nD Cert.ProjDiffRefIdeal.τ).loc Cert.ProjDiffRefIdeal.main_v176) = v0 c
          ∧ r.2.mem ((c.tc : Thread Cert.ProjDiffRefIdeal.nD Cert.ProjDiffRefIdeal.τ).loc Cert.ProjDiffRefIdeal.main_arg0) = m' ((c.tc : Thread Cert.ProjDiffRefIdeal.nD Cert.ProjDiffRefIdeal.τ).loc Cert.ProjDiffRefIdeal.main_arg0)
          ∧ r.2.mem ((c.tc : Thread Cert.ProjDiffRefIdeal.nD Cert.ProjDiffRefIdeal.τ).loc Cert.ProjDiffRefIdeal.main_arg1) = m' ((c.tc : Thread Cert.ProjDiffRefIdeal.nD Cert.ProjDiffRefIdeal.τ).loc Cert.ProjDiffRefIdeal.main_arg1))

def preserves_RetOut_RetOutIdeal : Prop :=
  True

def algebraic_RetOutIdeal_RetOutRefIdeal [hRetOutIdeal : Cert.RetOutIdeal.Facts] [hRetOutRefIdeal : Cert.RetOutRefIdeal.Facts] : Prop :=
  ∀ (m : (ℓ : Loc Cert.RetOutIdeal.nD Cert.RetOutIdeal.τ Cert.RetOutIdeal.sig) → Buf (Elt Ideal) ℓ) (g : Dev Cert.RetOutIdeal.nD → PrngReg)
    (m' : (ℓ : Loc Cert.RetOutRefIdeal.nD Cert.RetOutRefIdeal.τ Cert.RetOutRefIdeal.sig) → Buf (Elt Ideal) ℓ) (g' : Dev Cert.RetOutRefIdeal.nD → PrngReg), Pre_RetOutIdeal m →
    (∀ c : Dev Cert.RetOutIdeal.nD,
      m' ((c.tc : Thread Cert.RetOutRefIdeal.nD Cert.RetOutRefIdeal.τ).loc Cert.RetOutRefIdeal.main_arg0) = m ((c.tc : Thread Cert.RetOutIdeal.nD Cert.RetOutIdeal.τ).loc Cert.RetOutIdeal.main_arg0)
      ∧ m' ((c.tc : Thread Cert.RetOutRefIdeal.nD Cert.RetOutRefIdeal.τ).loc Cert.RetOutRefIdeal.main_arg1) = m ((c.tc : Thread Cert.RetOutIdeal.nD Cert.RetOutIdeal.τ).loc Cert.RetOutIdeal.main_arg1)) →
    ∃ (v0 : (c : Dev Cert.RetOutIdeal.nD) → Buf (Elt Ideal) ((c.tc : Thread Cert.RetOutIdeal.nD Cert.RetOutIdeal.τ).loc Cert.RetOutIdeal.main_v2)),
      θ_run (Cert.RetOutIdeal.defs (F := Ideal)) (onTc (τ := Cert.RetOutIdeal.τ) (Cert.RetOutIdeal.main (F := Ideal))) ⟨m, fun _ => 0, g⟩ (fun r => ∀ c : Dev Cert.RetOutIdeal.nD,
          r.2.mem ((c.tc : Thread Cert.RetOutIdeal.nD Cert.RetOutIdeal.τ).loc Cert.RetOutIdeal.main_v2) = v0 c
          ∧ r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
          ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1))
      ∧ θ_run (Cert.RetOutRefIdeal.defs (F := Ideal)) (onTc (τ := Cert.RetOutRefIdeal.τ) (Cert.RetOutRefIdeal.main (F := Ideal))) ⟨m', fun _ => 0, g'⟩ (fun r => ∀ c : Dev Cert.RetOutRefIdeal.nD,
          r.2.mem ((c.tc : Thread Cert.RetOutRefIdeal.nD Cert.RetOutRefIdeal.τ).loc Cert.RetOutRefIdeal.main_v2) = v0 c
          ∧ r.2.mem ((c.tc : Thread Cert.RetOutRefIdeal.nD Cert.RetOutRefIdeal.τ).loc Cert.RetOutRefIdeal.main_arg0) = m' ((c.tc : Thread Cert.RetOutRefIdeal.nD Cert.RetOutRefIdeal.τ).loc Cert.RetOutRefIdeal.main_arg0)
          ∧ r.2.mem ((c.tc : Thread Cert.RetOutRefIdeal.nD Cert.RetOutRefIdeal.τ).loc Cert.RetOutRefIdeal.main_arg1) = m' ((c.tc : Thread Cert.RetOutRefIdeal.nD Cert.RetOutRefIdeal.τ).loc Cert.RetOutRefIdeal.main_arg1))

def preserves_DiffOut_DiffOutIdeal : Prop :=
  True

def algebraic_DiffOutIdeal_DiffOutRefIdeal [hDiffOutIdeal : Cert.DiffOutIdeal.Facts] [hDiffOutRefIdeal : Cert.DiffOutRefIdeal.Facts] : Prop :=
  ∀ (m : (ℓ : Loc Cert.DiffOutIdeal.nD Cert.DiffOutIdeal.τ Cert.DiffOutIdeal.sig) → Buf (Elt Ideal) ℓ) (g : Dev Cert.DiffOutIdeal.nD → PrngReg)
    (m' : (ℓ : Loc Cert.DiffOutRefIdeal.nD Cert.DiffOutRefIdeal.τ Cert.DiffOutRefIdeal.sig) → Buf (Elt Ideal) ℓ) (g' : Dev Cert.DiffOutRefIdeal.nD → PrngReg), Pre_DiffOutIdeal m →
    (∀ c : Dev Cert.DiffOutIdeal.nD,
      m' ((c.tc : Thread Cert.DiffOutRefIdeal.nD Cert.DiffOutRefIdeal.τ).loc Cert.DiffOutRefIdeal.main_arg0) = m ((c.tc : Thread Cert.DiffOutIdeal.nD Cert.DiffOutIdeal.τ).loc Cert.DiffOutIdeal.main_arg0)
      ∧ m' ((c.tc : Thread Cert.DiffOutRefIdeal.nD Cert.DiffOutRefIdeal.τ).loc Cert.DiffOutRefIdeal.main_arg1) = m ((c.tc : Thread Cert.DiffOutIdeal.nD Cert.DiffOutIdeal.τ).loc Cert.DiffOutIdeal.main_arg1)) →
    ∃ (v0 : (c : Dev Cert.DiffOutIdeal.nD) → Buf (Elt Ideal) ((c.tc : Thread Cert.DiffOutIdeal.nD Cert.DiffOutIdeal.τ).loc Cert.DiffOutIdeal.main_v2)),
      θ_run (Cert.DiffOutIdeal.defs (F := Ideal)) (onTc (τ := Cert.DiffOutIdeal.τ) (Cert.DiffOutIdeal.main (F := Ideal))) ⟨m, fun _ => 0, g⟩ (fun r => ∀ c : Dev Cert.DiffOutIdeal.nD,
          r.2.mem ((c.tc : Thread Cert.DiffOutIdeal.nD Cert.DiffOutIdeal.τ).loc Cert.DiffOutIdeal.main_v2) = v0 c
          ∧ r.2.mem ((c.tc : Thread Cert.DiffOutIdeal.nD Cert.DiffOutIdeal.τ).loc Cert.DiffOutIdeal.main_arg0) = m ((c.tc : Thread Cert.DiffOutIdeal.nD Cert.DiffOutIdeal.τ).loc Cert.DiffOutIdeal.main_arg0)
          ∧ r.2.mem ((c.tc : Thread Cert.DiffOutIdeal.nD Cert.DiffOutIdeal.τ).loc Cert.DiffOutIdeal.main_arg1) = m ((c.tc : Thread Cert.DiffOutIdeal.nD Cert.DiffOutIdeal.τ).loc Cert.DiffOutIdeal.main_arg1))
      ∧ θ_run (Cert.DiffOutRefIdeal.defs (F := Ideal)) (onTc (τ := Cert.DiffOutRefIdeal.τ) (Cert.DiffOutRefIdeal.main (F := Ideal))) ⟨m', fun _ => 0, g'⟩ (fun r => ∀ c : Dev Cert.DiffOutRefIdeal.nD,
          r.2.mem ((c.tc : Thread Cert.DiffOutRefIdeal.nD Cert.DiffOutRefIdeal.τ).loc Cert.DiffOutRefIdeal.main_v2) = v0 c
          ∧ r.2.mem ((c.tc : Thread Cert.DiffOutRefIdeal.nD Cert.DiffOutRefIdeal.τ).loc Cert.DiffOutRefIdeal.main_arg0) = m' ((c.tc : Thread Cert.DiffOutRefIdeal.nD Cert.DiffOutRefIdeal.τ).loc Cert.DiffOutRefIdeal.main_arg0)
          ∧ r.2.mem ((c.tc : Thread Cert.DiffOutRefIdeal.nD Cert.DiffOutRefIdeal.τ).loc Cert.DiffOutRefIdeal.main_arg1) = m' ((c.tc : Thread Cert.DiffOutRefIdeal.nD Cert.DiffOutRefIdeal.τ).loc Cert.DiffOutRefIdeal.main_arg1))

def preserves_ExpertFfn_ExpertFfnIdeal : Prop :=
  True

def algebraic_ExpertFfnIdeal_ExpertFfnRefIdeal_on_rows_used [hExpertFfnIdeal : Cert.ExpertFfnIdeal.Facts] [hExpertFfnRefIdeal : Cert.ExpertFfnRefIdeal.Facts] [hPre_tables_in_range : Cert.Pre_tables_in_range.Facts] [hOn_rows_used : Cert.On_rows_used.Facts] : Prop :=
  ∀ (m : (ℓ : Loc Cert.ExpertFfnIdeal.nD Cert.ExpertFfnIdeal.τ Cert.ExpertFfnIdeal.sig) → Buf (Elt Ideal) ℓ) (g : Dev Cert.ExpertFfnIdeal.nD → PrngReg)
    (m' : (ℓ : Loc Cert.ExpertFfnRefIdeal.nD Cert.ExpertFfnRefIdeal.τ Cert.ExpertFfnRefIdeal.sig) → Buf (Elt Ideal) ℓ) (g' : Dev Cert.ExpertFfnRefIdeal.nD → PrngReg), Pre_ExpertFfnIdeal m →
    (∀ c : Dev Cert.ExpertFfnIdeal.nD,
      m' ((c.tc : Thread Cert.ExpertFfnRefIdeal.nD Cert.ExpertFfnRefIdeal.τ).loc Cert.ExpertFfnRefIdeal.main_arg0) = m ((c.tc : Thread Cert.ExpertFfnIdeal.nD Cert.ExpertFfnIdeal.τ).loc Cert.ExpertFfnIdeal.main_arg0)
      ∧ m' ((c.tc : Thread Cert.ExpertFfnRefIdeal.nD Cert.ExpertFfnRefIdeal.τ).loc Cert.ExpertFfnRefIdeal.main_arg1) = m ((c.tc : Thread Cert.ExpertFfnIdeal.nD Cert.ExpertFfnIdeal.τ).loc Cert.ExpertFfnIdeal.main_arg1)
      ∧ m' ((c.tc : Thread Cert.ExpertFfnRefIdeal.nD Cert.ExpertFfnRefIdeal.τ).loc Cert.ExpertFfnRefIdeal.main_arg2) = m ((c.tc : Thread Cert.ExpertFfnIdeal.nD Cert.ExpertFfnIdeal.τ).loc Cert.ExpertFfnIdeal.main_arg2)
      ∧ m' ((c.tc : Thread Cert.ExpertFfnRefIdeal.nD Cert.ExpertFfnRefIdeal.τ).loc Cert.ExpertFfnRefIdeal.main_arg3) = m ((c.tc : Thread Cert.ExpertFfnIdeal.nD Cert.ExpertFfnIdeal.τ).loc Cert.ExpertFfnIdeal.main_arg3)
      ∧ m' ((c.tc : Thread Cert.ExpertFfnRefIdeal.nD Cert.ExpertFfnRefIdeal.τ).loc Cert.ExpertFfnRefIdeal.main_arg4) = m ((c.tc : Thread Cert.ExpertFfnIdeal.nD Cert.ExpertFfnIdeal.τ).loc Cert.ExpertFfnIdeal.main_arg4)) →
    ∃ (v0 : (c : Dev Cert.ExpertFfnIdeal.nD) → Buf (Elt Ideal) ((c.tc : Thread Cert.ExpertFfnIdeal.nD Cert.ExpertFfnIdeal.τ).loc Cert.ExpertFfnIdeal.main_v2)),
      θ_run (Cert.ExpertFfnIdeal.defs (F := Ideal)) (onTc (τ := Cert.ExpertFfnIdeal.τ) (Cert.ExpertFfnIdeal.main (F := Ideal))) ⟨m, fun _ => 0, g⟩ (fun r => ∀ c : Dev Cert.ExpertFfnIdeal.nD,
          (∀ i : (⟨2, ![344064, 2048]⟩ : Shape).Idx, (Cert.On_rows_used.fn (F := Ideal) (m ((c.tc : Thread Cert.ExpertFfnIdeal.nD Cert.ExpertFfnIdeal.τ).loc Cert.ExpertFfnIdeal.main_arg0)) (m ((c.tc : Thread Cert.ExpertFfnIdeal.nD Cert.ExpertFfnIdeal.τ).loc Cert.ExpertFfnIdeal.main_arg1)) (m ((c.tc : Thread Cert.ExpertFfnIdeal.nD Cert.ExpertFfnIdeal.τ).loc Cert.ExpertFfnIdeal.main_arg2)) (m ((c.tc : Thread Cert.ExpertFfnIdeal.nD Cert.ExpertFfnIdeal.τ).loc Cert.ExpertFfnIdeal.main_arg3)) (m ((c.tc : Thread Cert.ExpertFfnIdeal.nD Cert.ExpertFfnIdeal.τ).loc Cert.ExpertFfnIdeal.main_arg4))) i = 1#1 → r.2.mem ((c.tc : Thread Cert.ExpertFfnIdeal.nD Cert.ExpertFfnIdeal.τ).loc Cert.ExpertFfnIdeal.main_v2) i = v0 c i)
          ∧ r.2.mem ((c.tc : Thread Cert.ExpertFfnIdeal.nD Cert.ExpertFfnIdeal.τ).loc Cert.ExpertFfnIdeal.main_arg0) = m ((c.tc : Thread Cert.ExpertFfnIdeal.nD Cert.ExpertFfnIdeal.τ).loc Cert.ExpertFfnIdeal.main_arg0)
          ∧ r.2.mem ((c.tc : Thread Cert.ExpertFfnIdeal.nD Cert.ExpertFfnIdeal.τ).loc Cert.ExpertFfnIdeal.main_arg1) = m ((c.tc : Thread Cert.ExpertFfnIdeal.nD Cert.ExpertFfnIdeal.τ).loc Cert.ExpertFfnIdeal.main_arg1)
          ∧ r.2.mem ((c.tc : Thread Cert.ExpertFfnIdeal.nD Cert.ExpertFfnIdeal.τ).loc Cert.ExpertFfnIdeal.main_arg2) = m ((c.tc : Thread Cert.ExpertFfnIdeal.nD Cert.ExpertFfnIdeal.τ).loc Cert.ExpertFfnIdeal.main_arg2)
          ∧ r.2.mem ((c.tc : Thread Cert.ExpertFfnIdeal.nD Cert.ExpertFfnIdeal.τ).loc Cert.ExpertFfnIdeal.main_arg3) = m ((c.tc : Thread Cert.ExpertFfnIdeal.nD Cert.ExpertFfnIdeal.τ).loc Cert.ExpertFfnIdeal.main_arg3)
          ∧ r.2.mem ((c.tc : Thread Cert.ExpertFfnIdeal.nD Cert.ExpertFfnIdeal.τ).loc Cert.ExpertFfnIdeal.main_arg4) = m ((c.tc : Thread Cert.ExpertFfnIdeal.nD Cert.ExpertFfnIdeal.τ).loc Cert.ExpertFfnIdeal.main_arg4))
      ∧ θ_run (Cert.ExpertFfnRefIdeal.defs (F := Ideal)) (onTc (τ := Cert.ExpertFfnRefIdeal.τ) (Cert.ExpertFfnRefIdeal.main (F := Ideal))) ⟨m', fun _ => 0, g'⟩ (fun r => ∀ c : Dev Cert.ExpertFfnRefIdeal.nD,
          (∀ i : (⟨2, ![344064, 2048]⟩ : Shape).Idx, (Cert.On_rows_used.fn (F := Ideal) (m ((c.tc : Thread Cert.ExpertFfnIdeal.nD Cert.ExpertFfnIdeal.τ).loc Cert.ExpertFfnIdeal.main_arg0)) (m ((c.tc : Thread Cert.ExpertFfnIdeal.nD Cert.ExpertFfnIdeal.τ).loc Cert.ExpertFfnIdeal.main_arg1)) (m ((c.tc : Thread Cert.ExpertFfnIdeal.nD Cert.ExpertFfnIdeal.τ).loc Cert.ExpertFfnIdeal.main_arg2)) (m ((c.tc : Thread Cert.ExpertFfnIdeal.nD Cert.ExpertFfnIdeal.τ).loc Cert.ExpertFfnIdeal.main_arg3)) (m ((c.tc : Thread Cert.ExpertFfnIdeal.nD Cert.ExpertFfnIdeal.τ).loc Cert.ExpertFfnIdeal.main_arg4))) i = 1#1 → r.2.mem ((c.tc : Thread Cert.ExpertFfnRefIdeal.nD Cert.ExpertFfnRefIdeal.τ).loc Cert.ExpertFfnRefIdeal.main_v9) i = v0 c i)
          ∧ r.2.mem ((c.tc : Thread Cert.ExpertFfnRefIdeal.nD Cert.ExpertFfnRefIdeal.τ).loc Cert.ExpertFfnRefIdeal.main_arg0) = m' ((c.tc : Thread Cert.ExpertFfnRefIdeal.nD Cert.ExpertFfnRefIdeal.τ).loc Cert.ExpertFfnRefIdeal.main_arg0)
          ∧ r.2.mem ((c.tc : Thread Cert.ExpertFfnRefIdeal.nD Cert.ExpertFfnRefIdeal.τ).loc Cert.ExpertFfnRefIdeal.main_arg1) = m' ((c.tc : Thread Cert.ExpertFfnRefIdeal.nD Cert.ExpertFfnRefIdeal.τ).loc Cert.ExpertFfnRefIdeal.main_arg1)
          ∧ r.2.mem ((c.tc : Thread Cert.ExpertFfnRefIdeal.nD Cert.ExpertFfnRefIdeal.τ).loc Cert.ExpertFfnRefIdeal.main_arg2) = m' ((c.tc : Thread Cert.ExpertFfnRefIdeal.nD Cert.ExpertFfnRefIdeal.τ).loc Cert.ExpertFfnRefIdeal.main_arg2)
          ∧ r.2.mem ((c.tc : Thread Cert.ExpertFfnRefIdeal.nD Cert.ExpertFfnRefIdeal.τ).loc Cert.ExpertFfnRefIdeal.main_arg3) = m' ((c.tc : Thread Cert.ExpertFfnRefIdeal.nD Cert.ExpertFfnRefIdeal.τ).loc Cert.ExpertFfnRefIdeal.main_arg3)
          ∧ r.2.mem ((c.tc : Thread Cert.ExpertFfnRefIdeal.nD Cert.ExpertFfnRefIdeal.τ).loc Cert.ExpertFfnRefIdeal.main_arg4) = m' ((c.tc : Thread Cert.ExpertFfnRefIdeal.nD Cert.ExpertFfnRefIdeal.τ).loc Cert.ExpertFfnRefIdeal.main_arg4))

def preserves_SharedFfn_SharedFfnIdeal : Prop :=
  True

def algebraic_SharedFfnIdeal_SharedFfnRefIdeal [hSharedFfnIdeal : Cert.SharedFfnIdeal.Facts] [hSharedFfnRefIdeal : Cert.SharedFfnRefIdeal.Facts] : Prop :=
  ∀ (m : (ℓ : Loc Cert.SharedFfnIdeal.nD Cert.SharedFfnIdeal.τ Cert.SharedFfnIdeal.sig) → Buf (Elt Ideal) ℓ) (g : Dev Cert.SharedFfnIdeal.nD → PrngReg)
    (m' : (ℓ : Loc Cert.SharedFfnRefIdeal.nD Cert.SharedFfnRefIdeal.τ Cert.SharedFfnRefIdeal.sig) → Buf (Elt Ideal) ℓ) (g' : Dev Cert.SharedFfnRefIdeal.nD → PrngReg), Pre_SharedFfnIdeal m →
    (∀ c : Dev Cert.SharedFfnIdeal.nD,
      m' ((c.tc : Thread Cert.SharedFfnRefIdeal.nD Cert.SharedFfnRefIdeal.τ).loc Cert.SharedFfnRefIdeal.main_arg0) = m ((c.tc : Thread Cert.SharedFfnIdeal.nD Cert.SharedFfnIdeal.τ).loc Cert.SharedFfnIdeal.main_arg0)
      ∧ m' ((c.tc : Thread Cert.SharedFfnRefIdeal.nD Cert.SharedFfnRefIdeal.τ).loc Cert.SharedFfnRefIdeal.main_arg1) = m ((c.tc : Thread Cert.SharedFfnIdeal.nD Cert.SharedFfnIdeal.τ).loc Cert.SharedFfnIdeal.main_arg1)
      ∧ m' ((c.tc : Thread Cert.SharedFfnRefIdeal.nD Cert.SharedFfnRefIdeal.τ).loc Cert.SharedFfnRefIdeal.main_arg2) = m ((c.tc : Thread Cert.SharedFfnIdeal.nD Cert.SharedFfnIdeal.τ).loc Cert.SharedFfnIdeal.main_arg2)) →
    ∃ (v0 : (c : Dev Cert.SharedFfnIdeal.nD) → Buf (Elt Ideal) ((c.tc : Thread Cert.SharedFfnIdeal.nD Cert.SharedFfnIdeal.τ).loc Cert.SharedFfnIdeal.main_v6)),
      θ_run (Cert.SharedFfnIdeal.defs (F := Ideal)) (onTc (τ := Cert.SharedFfnIdeal.τ) (Cert.SharedFfnIdeal.main (F := Ideal))) ⟨m, fun _ => 0, g⟩ (fun r => ∀ c : Dev Cert.SharedFfnIdeal.nD,
          r.2.mem ((c.tc : Thread Cert.SharedFfnIdeal.nD Cert.SharedFfnIdeal.τ).loc Cert.SharedFfnIdeal.main_v6) = v0 c
          ∧ r.2.mem ((c.tc : Thread Cert.SharedFfnIdeal.nD Cert.SharedFfnIdeal.τ).loc Cert.SharedFfnIdeal.main_arg0) = m ((c.tc : Thread Cert.SharedFfnIdeal.nD Cert.SharedFfnIdeal.τ).loc Cert.SharedFfnIdeal.main_arg0)
          ∧ r.2.mem ((c.tc : Thread Cert.SharedFfnIdeal.nD Cert.SharedFfnIdeal.τ).loc Cert.SharedFfnIdeal.main_arg1) = m ((c.tc : Thread Cert.SharedFfnIdeal.nD Cert.SharedFfnIdeal.τ).loc Cert.SharedFfnIdeal.main_arg1)
          ∧ r.2.mem ((c.tc : Thread Cert.SharedFfnIdeal.nD Cert.SharedFfnIdeal.τ).loc Cert.SharedFfnIdeal.main_arg2) = m ((c.tc : Thread Cert.SharedFfnIdeal.nD Cert.SharedFfnIdeal.τ).loc Cert.SharedFfnIdeal.main_arg2))
      ∧ θ_run (Cert.SharedFfnRefIdeal.defs (F := Ideal)) (onTc (τ := Cert.SharedFfnRefIdeal.τ) (Cert.SharedFfnRefIdeal.main (F := Ideal))) ⟨m', fun _ => 0, g'⟩ (fun r => ∀ c : Dev Cert.SharedFfnRefIdeal.nD,
          r.2.mem ((c.tc : Thread Cert.SharedFfnRefIdeal.nD Cert.SharedFfnRefIdeal.τ).loc Cert.SharedFfnRefIdeal.main_v5) = v0 c
          ∧ r.2.mem ((c.tc : Thread Cert.SharedFfnRefIdeal.nD Cert.SharedFfnRefIdeal.τ).loc Cert.SharedFfnRefIdeal.main_arg0) = m' ((c.tc : Thread Cert.SharedFfnRefIdeal.nD Cert.SharedFfnRefIdeal.τ).loc Cert.SharedFfnRefIdeal.main_arg0)
          ∧ r.2.mem ((c.tc : Thread Cert.SharedFfnRefIdeal.nD Cert.SharedFfnRefIdeal.τ).loc Cert.SharedFfnRefIdeal.main_arg1) = m' ((c.tc : Thread Cert.SharedFfnRefIdeal.nD Cert.SharedFfnRefIdeal.τ).loc Cert.SharedFfnRefIdeal.main_arg1)
          ∧ r.2.mem ((c.tc : Thread Cert.SharedFfnRefIdeal.nD Cert.SharedFfnRefIdeal.τ).loc Cert.SharedFfnRefIdeal.main_arg2) = m' ((c.tc : Thread Cert.SharedFfnRefIdeal.nD Cert.SharedFfnRefIdeal.τ).loc Cert.SharedFfnRefIdeal.main_arg2))

def preserves_RetFwd_RetFwdIdeal : Prop :=
  True

def algebraic_RetFwdIdeal_RetFwdRefIdeal_pre_finite_ret [hRetFwdIdeal : Cert.RetFwdIdeal.Facts] [hRetFwdRefIdeal : Cert.RetFwdRefIdeal.Facts] [hPre_finite_ret : Cert.Pre_finite_ret.Facts] : Prop :=
  ∀ (m : (ℓ : Loc Cert.RetFwdIdeal.nD Cert.RetFwdIdeal.τ Cert.RetFwdIdeal.sig) → Buf (Elt Ideal) ℓ) (g : Dev Cert.RetFwdIdeal.nD → PrngReg)
    (m' : (ℓ : Loc Cert.RetFwdRefIdeal.nD Cert.RetFwdRefIdeal.τ Cert.RetFwdRefIdeal.sig) → Buf (Elt Ideal) ℓ) (g' : Dev Cert.RetFwdRefIdeal.nD → PrngReg), Pre_RetFwdIdeal_finite_ret m →
    (∀ c : Dev Cert.RetFwdIdeal.nD,
      m' ((c.tc : Thread Cert.RetFwdRefIdeal.nD Cert.RetFwdRefIdeal.τ).loc Cert.RetFwdRefIdeal.main_arg0) = m ((c.tc : Thread Cert.RetFwdIdeal.nD Cert.RetFwdIdeal.τ).loc Cert.RetFwdIdeal.main_arg0)
      ∧ m' ((c.tc : Thread Cert.RetFwdRefIdeal.nD Cert.RetFwdRefIdeal.τ).loc Cert.RetFwdRefIdeal.main_arg1) = m ((c.tc : Thread Cert.RetFwdIdeal.nD Cert.RetFwdIdeal.τ).loc Cert.RetFwdIdeal.main_arg1)) →
    ∃ (v0 : (c : Dev Cert.RetFwdIdeal.nD) → Buf (Elt Ideal) ((c.tc : Thread Cert.RetFwdIdeal.nD Cert.RetFwdIdeal.τ).loc Cert.RetFwdIdeal.main_v3)),
      θ_run (Cert.RetFwdIdeal.defs (F := Ideal)) (onTc (τ := Cert.RetFwdIdeal.τ) (Cert.RetFwdIdeal.main (F := Ideal))) ⟨m, fun _ => 0, g⟩ (fun r => ∀ c : Dev Cert.RetFwdIdeal.nD,
          r.2.mem ((c.tc : Thread Cert.RetFwdIdeal.nD Cert.RetFwdIdeal.τ).loc Cert.RetFwdIdeal.main_v3) = v0 c
          ∧ r.2.mem ((c.tc : Thread Cert.RetFwdIdeal.nD Cert.RetFwdIdeal.τ).loc Cert.RetFwdIdeal.main_arg0) = m ((c.tc : Thread Cert.RetFwdIdeal.nD Cert.RetFwdIdeal.τ).loc Cert.RetFwdIdeal.main_arg0)
          ∧ r.2.mem ((c.tc : Thread Cert.RetFwdIdeal.nD Cert.RetFwdIdeal.τ).loc Cert.RetFwdIdeal.main_arg1) = m ((c.tc : Thread Cert.RetFwdIdeal.nD Cert.RetFwdIdeal.τ).loc Cert.RetFwdIdeal.main_arg1))
      ∧ θ_run (Cert.RetFwdRefIdeal.defs (F := Ideal)) (onTc (τ := Cert.RetFwdRefIdeal.τ) (Cert.RetFwdRefIdeal.main (F := Ideal))) ⟨m', fun _ => 0, g'⟩ (fun r => ∀ c : Dev Cert.RetFwdRefIdeal.nD,
          r.2.mem ((c.tc : Thread Cert.RetFwdRefIdeal.nD Cert.RetFwdRefIdeal.τ).loc Cert.RetFwdRefIdeal.main_v66) = v0 c
          ∧ r.2.mem ((c.tc : Thread Cert.RetFwdRefIdeal.nD Cert.RetFwdRefIdeal.τ).loc Cert.RetFwdRefIdeal.main_arg0) = m' ((c.tc : Thread Cert.RetFwdRefIdeal.nD Cert.RetFwdRefIdeal.τ).loc Cert.RetFwdRefIdeal.main_arg0)
          ∧ r.2.mem ((c.tc : Thread Cert.RetFwdRefIdeal.nD Cert.RetFwdRefIdeal.τ).loc Cert.RetFwdRefIdeal.main_arg1) = m' ((c.tc : Thread Cert.RetFwdRefIdeal.nD Cert.RetFwdRefIdeal.τ).loc Cert.RetFwdRefIdeal.main_arg1))

def preserves_RetBwd_RetBwdIdeal : Prop :=
  True

def algebraic_RetBwdIdeal_RetBwdRefIdeal_pre_finite_ret_bwd [hRetBwdIdeal : Cert.RetBwdIdeal.Facts] [hRetBwdRefIdeal : Cert.RetBwdRefIdeal.Facts] [hPre_finite_ret_bwd : Cert.Pre_finite_ret_bwd.Facts] : Prop :=
  ∀ (m : (ℓ : Loc Cert.RetBwdIdeal.nD Cert.RetBwdIdeal.τ Cert.RetBwdIdeal.sig) → Buf (Elt Ideal) ℓ) (g : Dev Cert.RetBwdIdeal.nD → PrngReg)
    (m' : (ℓ : Loc Cert.RetBwdRefIdeal.nD Cert.RetBwdRefIdeal.τ Cert.RetBwdRefIdeal.sig) → Buf (Elt Ideal) ℓ) (g' : Dev Cert.RetBwdRefIdeal.nD → PrngReg), Pre_RetBwdIdeal_finite_ret_bwd m →
    (∀ c : Dev Cert.RetBwdIdeal.nD,
      m' ((c.tc : Thread Cert.RetBwdRefIdeal.nD Cert.RetBwdRefIdeal.τ).loc Cert.RetBwdRefIdeal.main_arg0) = m ((c.tc : Thread Cert.RetBwdIdeal.nD Cert.RetBwdIdeal.τ).loc Cert.RetBwdIdeal.main_arg0)
      ∧ m' ((c.tc : Thread Cert.RetBwdRefIdeal.nD Cert.RetBwdRefIdeal.τ).loc Cert.RetBwdRefIdeal.main_arg1) = m ((c.tc : Thread Cert.RetBwdIdeal.nD Cert.RetBwdIdeal.τ).loc Cert.RetBwdIdeal.main_arg1)
      ∧ m' ((c.tc : Thread Cert.RetBwdRefIdeal.nD Cert.RetBwdRefIdeal.τ).loc Cert.RetBwdRefIdeal.main_arg2) = m ((c.tc : Thread Cert.RetBwdIdeal.nD Cert.RetBwdIdeal.τ).loc Cert.RetBwdIdeal.main_arg2)) →
    ∃ (v0 : (c : Dev Cert.RetBwdIdeal.nD) → Buf (Elt Ideal) ((c.tc : Thread Cert.RetBwdIdeal.nD Cert.RetBwdIdeal.τ).loc Cert.RetBwdIdeal.main_v3)),
      θ_run (Cert.RetBwdIdeal.defs (F := Ideal)) (onTc (τ := Cert.RetBwdIdeal.τ) (Cert.RetBwdIdeal.main (F := Ideal))) ⟨m, fun _ => 0, g⟩ (fun r => ∀ c : Dev Cert.RetBwdIdeal.nD,
          r.2.mem ((c.tc : Thread Cert.RetBwdIdeal.nD Cert.RetBwdIdeal.τ).loc Cert.RetBwdIdeal.main_v3) = v0 c
          ∧ r.2.mem ((c.tc : Thread Cert.RetBwdIdeal.nD Cert.RetBwdIdeal.τ).loc Cert.RetBwdIdeal.main_arg0) = m ((c.tc : Thread Cert.RetBwdIdeal.nD Cert.RetBwdIdeal.τ).loc Cert.RetBwdIdeal.main_arg0)
          ∧ r.2.mem ((c.tc : Thread Cert.RetBwdIdeal.nD Cert.RetBwdIdeal.τ).loc Cert.RetBwdIdeal.main_arg1) = m ((c.tc : Thread Cert.RetBwdIdeal.nD Cert.RetBwdIdeal.τ).loc Cert.RetBwdIdeal.main_arg1)
          ∧ r.2.mem ((c.tc : Thread Cert.RetBwdIdeal.nD Cert.RetBwdIdeal.τ).loc Cert.RetBwdIdeal.main_arg2) = m ((c.tc : Thread Cert.RetBwdIdeal.nD Cert.RetBwdIdeal.τ).loc Cert.RetBwdIdeal.main_arg2))
      ∧ θ_run (Cert.RetBwdRefIdeal.defs (F := Ideal)) (onTc (τ := Cert.RetBwdRefIdeal.τ) (Cert.RetBwdRefIdeal.main (F := Ideal))) ⟨m', fun _ => 0, g'⟩ (fun r => ∀ c : Dev Cert.RetBwdRefIdeal.nD,
          r.2.mem ((c.tc : Thread Cert.RetBwdRefIdeal.nD Cert.RetBwdRefIdeal.τ).loc Cert.RetBwdRefIdeal.main_v126) = v0 c
          ∧ r.2.mem ((c.tc : Thread Cert.RetBwdRefIdeal.nD Cert.RetBwdRefIdeal.τ).loc Cert.RetBwdRefIdeal.main_arg0) = m' ((c.tc : Thread Cert.RetBwdRefIdeal.nD Cert.RetBwdRefIdeal.τ).loc Cert.RetBwdRefIdeal.main_arg0)
          ∧ r.2.mem ((c.tc : Thread Cert.RetBwdRefIdeal.nD Cert.RetBwdRefIdeal.τ).loc Cert.RetBwdRefIdeal.main_arg1) = m' ((c.tc : Thread Cert.RetBwdRefIdeal.nD Cert.RetBwdRefIdeal.τ).loc Cert.RetBwdRefIdeal.main_arg1)
          ∧ r.2.mem ((c.tc : Thread Cert.RetBwdRefIdeal.nD Cert.RetBwdRefIdeal.τ).loc Cert.RetBwdRefIdeal.main_arg2) = m' ((c.tc : Thread Cert.RetBwdRefIdeal.nD Cert.RetBwdRefIdeal.τ).loc Cert.RetBwdRefIdeal.main_arg2))

def Claim : Prop :=
  ∃ (hAttnPrompt : Cert.AttnPrompt.Facts) (hAttnPromptIdeal : Cert.AttnPromptIdeal.Facts) (hAttnPromptRefIdeal : Cert.AttnPromptRefIdeal.Facts) (hAttnSample : Cert.AttnSample.Facts) (hAttnSampleIdeal : Cert.AttnSampleIdeal.Facts) (hAttnSampleRefIdeal : Cert.AttnSampleRefIdeal.Facts) (hProjRet : Cert.ProjRet.Facts) (hProjRetIdeal : Cert.ProjRetIdeal.Facts) (hProjRetRefIdeal : Cert.ProjRetRefIdeal.Facts) (hProjDiff : Cert.ProjDiff.Facts) (hProjDiffIdeal : Cert.ProjDiffIdeal.Facts) (hProjDiffRefIdeal : Cert.ProjDiffRefIdeal.Facts) (hRetOut : Cert.RetOut.Facts) (hRetOutIdeal : Cert.RetOutIdeal.Facts) (hRetOutRefIdeal : Cert.RetOutRefIdeal.Facts) (hDiffOut : Cert.DiffOut.Facts) (hDiffOutIdeal : Cert.DiffOutIdeal.Facts) (hDiffOutRefIdeal : Cert.DiffOutRefIdeal.Facts) (hExpertFfn : Cert.ExpertFfn.Facts) (hExpertFfnIdeal : Cert.ExpertFfnIdeal.Facts) (hExpertFfnRefIdeal : Cert.ExpertFfnRefIdeal.Facts) (hSharedFfn : Cert.SharedFfn.Facts) (hSharedFfnIdeal : Cert.SharedFfnIdeal.Facts) (hSharedFfnRefIdeal : Cert.SharedFfnRefIdeal.Facts) (hRetFwd : Cert.RetFwd.Facts) (hRetFwdIdeal : Cert.RetFwdIdeal.Facts) (hRetFwdRefIdeal : Cert.RetFwdRefIdeal.Facts) (hRetBwd : Cert.RetBwd.Facts) (hRetBwdIdeal : Cert.RetBwdIdeal.Facts) (hRetBwdRefIdeal : Cert.RetBwdRefIdeal.Facts) (hPre_finite_attn : Cert.Pre_finite_attn.Facts) (hPre_tables_in_range : Cert.Pre_tables_in_range.Facts) (hPre_finite_ret : Cert.Pre_finite_ret.Facts) (hPre_finite_ret_bwd : Cert.Pre_finite_ret_bwd.Facts) (hOn_rows_used : Cert.On_rows_used.Facts),
    quiescent_AttnPrompt (hAttnPrompt := hAttnPrompt)
    ∧ quiescent_AttnPromptIdeal (hAttnPromptIdeal := hAttnPromptIdeal)
    ∧ quiescent_AttnPromptIdeal_pre_finite_attn (hAttnPromptIdeal := hAttnPromptIdeal) (hPre_finite_attn := hPre_finite_attn)
    ∧ quiescent_AttnPromptRefIdeal (hAttnPromptRefIdeal := hAttnPromptRefIdeal)
    ∧ quiescent_AttnPromptRefIdeal_pre_finite_attn (hAttnPromptRefIdeal := hAttnPromptRefIdeal) (hPre_finite_attn := hPre_finite_attn)
    ∧ quiescent_AttnSample (hAttnSample := hAttnSample)
    ∧ quiescent_AttnSampleIdeal (hAttnSampleIdeal := hAttnSampleIdeal)
    ∧ quiescent_AttnSampleIdeal_pre_finite_attn (hAttnSampleIdeal := hAttnSampleIdeal) (hPre_finite_attn := hPre_finite_attn)
    ∧ quiescent_AttnSampleRefIdeal (hAttnSampleRefIdeal := hAttnSampleRefIdeal)
    ∧ quiescent_AttnSampleRefIdeal_pre_finite_attn (hAttnSampleRefIdeal := hAttnSampleRefIdeal) (hPre_finite_attn := hPre_finite_attn)
    ∧ quiescent_ProjRet (hProjRet := hProjRet)
    ∧ quiescent_ProjRetIdeal (hProjRetIdeal := hProjRetIdeal)
    ∧ quiescent_ProjRetRefIdeal (hProjRetRefIdeal := hProjRetRefIdeal)
    ∧ quiescent_ProjDiff (hProjDiff := hProjDiff)
    ∧ quiescent_ProjDiffIdeal (hProjDiffIdeal := hProjDiffIdeal)
    ∧ quiescent_ProjDiffRefIdeal (hProjDiffRefIdeal := hProjDiffRefIdeal)
    ∧ quiescent_RetOut (hRetOut := hRetOut)
    ∧ quiescent_RetOutIdeal (hRetOutIdeal := hRetOutIdeal)
    ∧ quiescent_RetOutRefIdeal (hRetOutRefIdeal := hRetOutRefIdeal)
    ∧ quiescent_DiffOut (hDiffOut := hDiffOut)
    ∧ quiescent_DiffOutIdeal (hDiffOutIdeal := hDiffOutIdeal)
    ∧ quiescent_DiffOutRefIdeal (hDiffOutRefIdeal := hDiffOutRefIdeal)
    ∧ quiescent_ExpertFfn (hExpertFfn := hExpertFfn) (hPre_tables_in_range := hPre_tables_in_range)
    ∧ quiescent_ExpertFfnIdeal (hExpertFfnIdeal := hExpertFfnIdeal) (hPre_tables_in_range := hPre_tables_in_range)
    ∧ quiescent_ExpertFfnRefIdeal (hExpertFfnRefIdeal := hExpertFfnRefIdeal)
    ∧ quiescent_ExpertFfnRefIdeal_pre_tables_in_range (hExpertFfnRefIdeal := hExpertFfnRefIdeal) (hPre_tables_in_range := hPre_tables_in_range)
    ∧ quiescent_SharedFfn (hSharedFfn := hSharedFfn)
    ∧ quiescent_SharedFfnIdeal (hSharedFfnIdeal := hSharedFfnIdeal)
    ∧ quiescent_SharedFfnRefIdeal (hSharedFfnRefIdeal := hSharedFfnRefIdeal)
    ∧ quiescent_RetFwd (hRetFwd := hRetFwd)
    ∧ quiescent_RetFwdIdeal (hRetFwdIdeal := hRetFwdIdeal)
    ∧ quiescent_RetFwdIdeal_pre_finite_ret (hRetFwdIdeal := hRetFwdIdeal) (hPre_finite_ret := hPre_finite_ret)
    ∧ quiescent_RetFwdRefIdeal (hRetFwdRefIdeal := hRetFwdRefIdeal)
    ∧ quiescent_RetFwdRefIdeal_pre_finite_ret (hRetFwdRefIdeal := hRetFwdRefIdeal) (hPre_finite_ret := hPre_finite_ret)
    ∧ quiescent_RetBwd (hRetBwd := hRetBwd)
    ∧ quiescent_RetBwdIdeal (hRetBwdIdeal := hRetBwdIdeal)
    ∧ quiescent_RetBwdIdeal_pre_finite_ret_bwd (hRetBwdIdeal := hRetBwdIdeal) (hPre_finite_ret_bwd := hPre_finite_ret_bwd)
    ∧ quiescent_RetBwdRefIdeal (hRetBwdRefIdeal := hRetBwdRefIdeal)
    ∧ quiescent_RetBwdRefIdeal_pre_finite_ret_bwd (hRetBwdRefIdeal := hRetBwdRefIdeal) (hPre_finite_ret_bwd := hPre_finite_ret_bwd)
    ∧ preserves_AttnPrompt_AttnPromptIdeal
    ∧ algebraic_AttnPromptIdeal_AttnPromptRefIdeal_pre_finite_attn (hAttnPromptIdeal := hAttnPromptIdeal) (hAttnPromptRefIdeal := hAttnPromptRefIdeal) (hPre_finite_attn := hPre_finite_attn)
    ∧ preserves_AttnSample_AttnSampleIdeal
    ∧ algebraic_AttnSampleIdeal_AttnSampleRefIdeal_pre_finite_attn (hAttnSampleIdeal := hAttnSampleIdeal) (hAttnSampleRefIdeal := hAttnSampleRefIdeal) (hPre_finite_attn := hPre_finite_attn)
    ∧ preserves_ProjRet_ProjRetIdeal
    ∧ algebraic_ProjRetIdeal_ProjRetRefIdeal (hProjRetIdeal := hProjRetIdeal) (hProjRetRefIdeal := hProjRetRefIdeal)
    ∧ preserves_ProjDiff_ProjDiffIdeal
    ∧ algebraic_ProjDiffIdeal_ProjDiffRefIdeal (hProjDiffIdeal := hProjDiffIdeal) (hProjDiffRefIdeal := hProjDiffRefIdeal)
    ∧ preserves_RetOut_RetOutIdeal
    ∧ algebraic_RetOutIdeal_RetOutRefIdeal (hRetOutIdeal := hRetOutIdeal) (hRetOutRefIdeal := hRetOutRefIdeal)
    ∧ preserves_DiffOut_DiffOutIdeal
    ∧ algebraic_DiffOutIdeal_DiffOutRefIdeal (hDiffOutIdeal := hDiffOutIdeal) (hDiffOutRefIdeal := hDiffOutRefIdeal)
    ∧ preserves_ExpertFfn_ExpertFfnIdeal
    ∧ algebraic_ExpertFfnIdeal_ExpertFfnRefIdeal_on_rows_used (hExpertFfnIdeal := hExpertFfnIdeal) (hExpertFfnRefIdeal := hExpertFfnRefIdeal) (hPre_tables_in_range := hPre_tables_in_range) (hOn_rows_used := hOn_rows_used)
    ∧ preserves_SharedFfn_SharedFfnIdeal
    ∧ algebraic_SharedFfnIdeal_SharedFfnRefIdeal (hSharedFfnIdeal := hSharedFfnIdeal) (hSharedFfnRefIdeal := hSharedFfnRefIdeal)
    ∧ preserves_RetFwd_RetFwdIdeal
    ∧ algebraic_RetFwdIdeal_RetFwdRefIdeal_pre_finite_ret (hRetFwdIdeal := hRetFwdIdeal) (hRetFwdRefIdeal := hRetFwdRefIdeal) (hPre_finite_ret := hPre_finite_ret)
    ∧ preserves_RetBwd_RetBwdIdeal
    ∧ algebraic_RetBwdIdeal_RetBwdRefIdeal_pre_finite_ret_bwd (hRetBwdIdeal := hRetBwdIdeal) (hRetBwdRefIdeal := hRetBwdRefIdeal) (hPre_finite_ret_bwd := hPre_finite_ret_bwd)
-- ==== On_rows_used.lean ====
abbrev S1344 : Shape := ⟨1, ![1344]⟩
abbrev S1 : Shape := ⟨1, ![1]⟩
abbrev S344064x2048 : Shape := ⟨2, ![344064, 2048]⟩
abbrev S64x2048x1024 : Shape := ⟨3, ![64, 2048, 1024]⟩
abbrev S64x512x2048 : Shape := ⟨3, ![64, 512, 2048]⟩
abbrev S_ : Shape := ⟨0, ![]⟩

class Facts : Prop where
  shapeCasts_S1_S_ : S1.ShapeCasts S_
  bcast_S_S344064x2048 : S_.BroadcastsInDim S344064x2048 (![] : Fin 0 → Fin S344064x2048.rank)

variable [Facts]

def fn {F : FTy → Type} [FloatOps F] (main_arg0 : IVec S1344 32) (main_arg1 : IVec S1 32) (main_arg2 : FVec F S344064x2048 .f32) (main_arg3 : FVec F S64x2048x1024 .f32) (main_arg4 : FVec F S64x512x2048 .f32) : IVec S344064x2048 1 :=
  let main_v0 : IVec S344064x2048 32 := iotaInDim S344064x2048 32 0
  let main_v1 : IVec S_ 32 := shapeCast S_ main_arg1 shapeCasts_S1_S_
  let main_c : IVec S_ 32 := constantI S_ 32 256#32
  let main_v2 : IVec S_ 32 := muli main_v1 main_c
  let main_v3 : IVec S344064x2048 32 := broadcastInDim S344064x2048 ![] bcast_S_S344064x2048 main_v2
  let main_v4 : IVec S344064x2048 1 := cmpi .slt main_v0 main_v3
  main_v4
-- ==== Pre_finite_attn.lean ====
abbrev S40960x6144 : Shape := ⟨2, ![40960, 6144]⟩
abbrev S1x128 : Shape := ⟨2, ![1, 128]⟩
abbrev S1x256 : Shape := ⟨2, ![1, 256]⟩
abbrev S_ : Shape := ⟨0, ![]⟩

class Facts : Prop where
  bcast_S_S40960x6144 : S_.BroadcastsInDim S40960x6144 (![] : Fin 0 → Fin S40960x6144.rank)
  bcast_S_S1x128 : S_.BroadcastsInDim S1x128 (![] : Fin 0 → Fin S1x128.rank)

variable [Facts]

def fn_part1 {F : FTy → Type} [FloatOps F] (main_arg3 : FVec F S1x128 .f32) (main_arg4 : FVec F S1x128 .f32) (main_v4 : IVec S40960x6144 1) (main_v9 : IVec S1x128 1) (main_v14 : IVec S1x128 1) (main_v16 : IVec S1x128 1) : IVec S40960x6144 1 × IVec S1x128 1 × IVec S1x128 1 × IVec S1x128 1 × IVec S1x128 1 :=
  let main_cst_6 : FVec F S_ .f32 := constant S_ .f32 0x7F800000#32
  let main_v17 : FVec F S1x128 .f32 := broadcastInDim S1x128 ![] bcast_S_S1x128 main_cst_6
  let main_v18 : IVec S1x128 1 := cmpf .olt main_arg3 main_v17
  let main_v19 : IVec S1x128 1 := andi main_v16 main_v18
  let main_cst_7 : FVec F S_ .f32 := constant S_ .f32 0xFF800000#32
  let main_v20 : FVec F S1x128 .f32 := broadcastInDim S1x128 ![] bcast_S_S1x128 main_cst_7
  let main_v21 : IVec S1x128 1 := cmpf .ogt main_arg4 main_v20
  let main_cst_8 : FVec F S_ .f32 := constant S_ .f32 0x7F800000#32
  let main_v22 : FVec F S1x128 .f32 := broadcastInDim S1x128 ![] bcast_S_S1x128 main_cst_8
  let main_v23 : IVec S1x128 1 := cmpf .olt main_arg4 main_v22
  let main_v24 : IVec S1x128 1 := andi main_v21 main_v23
  (main_v4, main_v9, main_v14, main_v19, main_v24)

def fn {F : FTy → Type} [FloatOps F] (main_arg0 : FVec F S40960x6144 .bf16) (main_arg1 : FVec F S1x128 .f32) (main_arg2 : FVec F S1x128 .f32) (main_arg3 : FVec F S1x128 .f32) (main_arg4 : FVec F S1x128 .f32) (main_arg5 : FVec F S1x256 .f32) : IVec S40960x6144 1 × IVec S1x128 1 × IVec S1x128 1 × IVec S1x128 1 × IVec S1x128 1 :=
  let main_cst : FVec F S_ .bf16 := constant S_ .bf16 0xFF80#16
  let main_v0 : FVec F S40960x6144 .bf16 := broadcastInDim S40960x6144 ![] bcast_S_S40960x6144 main_cst
  let main_v1 : IVec S40960x6144 1 := cmpf .ogt main_arg0 main_v0
  let main_cst_0 : FVec F S_ .bf16 := constant S_ .bf16 0x7F80#16
  let main_v2 : FVec F S40960x6144 .bf16 := broadcastInDim S40960x6144 ![] bcast_S_S40960x6144 main_cst_0
  let main_v3 : IVec S40960x6144 1 := cmpf .olt main_arg0 main_v2
  let main_v4 : IVec S40960x6144 1 := andi main_v1 main_v3
  let main_cst_1 : FVec F S_ .f32 := constant S_ .f32 0xFF800000#32
  let main_v5 : FVec F S1x128 .f32 := broadcastInDim S1x128 ![] bcast_S_S1x128 main_cst_1
  let main_v6 : IVec S1x128 1 := cmpf .ogt main_arg1 main_v5
  let main_cst_2 : FVec F S_ .f32 := constant S_ .f32 0x7F800000#32
  let main_v7 : FVec F S1x128 .f32 := broadcastInDim S1x128 ![] bcast_S_S1x128 main_cst_2
  let main_v8 : IVec S1x128 1 := cmpf .olt main_arg1 main_v7
  let main_v9 : IVec S1x128 1 := andi main_v6 main_v8
  let main_cst_3 : FVec F S_ .f32 := constant S_ .f32 0xFF800000#32
  let main_v10 : FVec F S1x128 .f32 := broadcastInDim S1x128 ![] bcast_S_S1x128 main_cst_3
  let main_v11 : IVec S1x128 1 := cmpf .ogt main_arg2 main_v10
  let main_cst_4 : FVec F S_ .f32 := constant S_ .f32 0x7F800000#32
  let main_v12 : FVec F S1x128 .f32 := broadcastInDim S1x128 ![] bcast_S_S1x128 main_cst_4
  let main_v13 : IVec S1x128 1 := cmpf .olt main_arg2 main_v12
  let main_v14 : IVec S1x128 1 := andi main_v11 main_v13
  let main_cst_5 : FVec F S_ .f32 := constant S_ .f32 0xFF800000#32
  let main_v15 : FVec F S1x128 .f32 := broadcastInDim S1x128 ![] bcast_S_S1x128 main_cst_5
  let main_v16 : IVec S1x128 1 := cmpf .ogt main_arg3 main_v15
  fn_part1 (F := F) main_arg3 main_arg4 main_v4 main_v9 main_v14 main_v16
-- ==== Pre_finite_ret.lean ====
abbrev S40960x12288 : Shape := ⟨2, ![40960, 12288]⟩
abbrev S8 : Shape := ⟨1, ![8]⟩
abbrev S_ : Shape := ⟨0, ![]⟩

class Facts : Prop where
  bcast_S_S40960x12288 : S_.BroadcastsInDim S40960x12288 (![] : Fin 0 → Fin S40960x12288.rank)
  bcast_S_S8 : S_.BroadcastsInDim S8 (![] : Fin 0 → Fin S8.rank)

variable [Facts]

def fn {F : FTy → Type} [FloatOps F] (main_arg0 : FVec F S40960x12288 .bf16) (main_arg1 : FVec F S8 .f32) : IVec S40960x12288 1 × IVec S8 1 :=
  let main_cst : FVec F S_ .bf16 := constant S_ .bf16 0xFF80#16
  let main_v0 : FVec F S40960x12288 .bf16 := broadcastInDim S40960x12288 ![] bcast_S_S40960x12288 main_cst
  let main_v1 : IVec S40960x12288 1 := cmpf .ogt main_arg0 main_v0
  let main_cst_0 : FVec F S_ .bf16 := constant S_ .bf16 0x7F80#16
  let main_v2 : FVec F S40960x12288 .bf16 := broadcastInDim S40960x12288 ![] bcast_S_S40960x12288 main_cst_0
  let main_v3 : IVec S40960x12288 1 := cmpf .olt main_arg0 main_v2
  let main_v4 : IVec S40960x12288 1 := andi main_v1 main_v3
  let main_cst_1 : FVec F S_ .f32 := constant S_ .f32 0x7F800000#32
  let main_v5 : FVec F S8 .f32 := broadcastInDim S8 ![] bcast_S_S8 main_cst_1
  let main_v6 : IVec S8 1 := cmpf .olt main_arg1 main_v5
  (main_v4, main_v6)
-- ==== Pre_finite_ret_bwd.lean ====
abbrev S40960x12288 : Shape := ⟨2, ![40960, 12288]⟩
abbrev S8 : Shape := ⟨1, ![8]⟩
abbrev S40960x4096 : Shape := ⟨2, ![40960, 4096]⟩
abbrev S_ : Shape := ⟨0, ![]⟩

class Facts : Prop where
  bcast_S_S40960x12288 : S_.BroadcastsInDim S40960x12288 (![] : Fin 0 → Fin S40960x12288.rank)
  bcast_S_S8 : S_.BroadcastsInDim S8 (![] : Fin 0 → Fin S8.rank)

variable [Facts]

def fn {F : FTy → Type} [FloatOps F] (main_arg0 : FVec F S40960x12288 .bf16) (main_arg1 : FVec F S8 .f32) (main_arg2 : FVec F S40960x4096 .f32) : IVec S40960x12288 1 × IVec S8 1 :=
  let main_cst : FVec F S_ .bf16 := constant S_ .bf16 0xFF80#16
  let main_v0 : FVec F S40960x12288 .bf16 := broadcastInDim S40960x12288 ![] bcast_S_S40960x12288 main_cst
  let main_v1 : IVec S40960x12288 1 := cmpf .ogt main_arg0 main_v0
  let main_cst_0 : FVec F S_ .bf16 := constant S_ .bf16 0x7F80#16
  let main_v2 : FVec F S40960x12288 .bf16 := broadcastInDim S40960x12288 ![] bcast_S_S40960x12288 main_cst_0
  let main_v3 : IVec S40960x12288 1 := cmpf .olt main_arg0 main_v2
  let main_v4 : IVec S40960x12288 1 := andi main_v1 main_v3
  let main_cst_1 : FVec F S_ .f32 := constant S_ .f32 0x7F800000#32
  let main_v5 : FVec F S8 .f32 := broadcastInDim S8 ![] bcast_S_S8 main_cst_1
  let main_v6 : IVec S8 1 := cmpf .olt main_arg1 main_v5
  (main_v4, main_v6)
-- ==== Pre_tables_in_range.lean ====
abbrev S1344 : Shape := ⟨1, ![1344]⟩
abbrev S1 : Shape := ⟨1, ![1]⟩
abbrev S344064x2048 : Shape := ⟨2, ![344064, 2048]⟩
abbrev S64x2048x1024 : Shape := ⟨3, ![64, 2048, 1024]⟩
abbrev S64x512x2048 : Shape := ⟨3, ![64, 512, 2048]⟩
abbrev S_ : Shape := ⟨0, ![]⟩

class Facts : Prop where
  bcast_S_S1344 : S_.BroadcastsInDim S1344 (![] : Fin 0 → Fin S1344.rank)
  bcast_S_S1 : S_.BroadcastsInDim S1 (![] : Fin 0 → Fin S1.rank)

variable [Facts]

def fn {F : FTy → Type} [FloatOps F] (main_arg0 : IVec S1344 32) (main_arg1 : IVec S1 32) (main_arg2 : FVec F S344064x2048 .f32) (main_arg3 : FVec F S64x2048x1024 .f32) (main_arg4 : FVec F S64x512x2048 .f32) : IVec S1344 1 × IVec S1 1 :=
  let main_c : IVec S_ 32 := constantI S_ 32 0#32
  let main_v0 : IVec S1344 32 := broadcastInDim S1344 ![] bcast_S_S1344 main_c
  let main_v1 : IVec S1344 1 := cmpi .sge main_arg0 main_v0
  let main_c_0 : IVec S_ 32 := constantI S_ 32 64#32
  let main_v2 : IVec S1344 32 := broadcastInDim S1344 ![] bcast_S_S1344 main_c_0
  let main_v3 : IVec S1344 1 := cmpi .slt main_arg0 main_v2
  let main_v4 : IVec S1344 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  (main_v4, main_v6)
-- ==== AttnPrompt.lean ====
abbrev S40960x6144 : Shape := ⟨2, ![40960, 6144]⟩
abbrev S1x128 : Shape := ⟨2, ![1, 128]⟩
abbrev S1x256 : Shape := ⟨2, ![1, 256]⟩
abbrev S128 : Shape := ⟨1, ![128]⟩
abbrev S_ : Shape := ⟨0, ![]⟩
abbrev S1 : Shape := ⟨1, ![1]⟩
abbrev S256 : Shape := ⟨1, ![256]⟩
abbrev S8192x2048 : Shape := ⟨2, ![8192, 2048]⟩
abbrev S256x256 : Shape := ⟨2, ![256, 256]⟩
abbrev S2048x256 : Shape := ⟨2, ![2048, 256]⟩
abbrev S256x128 : Shape := ⟨2, ![256, 128]⟩
abbrev S2048x128 : Shape := ⟨2, ![2048, 128]⟩
abbrev S256x2048 : Shape := ⟨2, ![256, 2048]⟩
abbrev S256x1 : Shape := ⟨2, ![256, 1]⟩

abbrev nBuf : Space → Nat
  | .hbm => 25
  | .vmem => 9
  | .smem => 1
  | _ => 0

abbrev bufTy : (tb : Table) → Fin (tcTables nBuf tb) → BufTy
  | .hbm, ⟨0, _⟩ => ⟨S40960x6144, .bf16⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x256, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1, .f32⟩
  | .hbm, ⟨22, _⟩ => ⟨S256, .f32⟩
  | .hbm, ⟨23, _⟩ => ⟨S1x256, .f32⟩
  | .hbm, ⟨24, _⟩ => ⟨S8192x2048, .bf16⟩
  | .local _ .vmem, ⟨0, _⟩ => ⟨S256x256, .bf16⟩
  | .local _ .vmem, ⟨1, _⟩ => ⟨S256x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S1x256, .f32⟩
  | .local _ .vmem, ⟨7, _⟩ => ⟨S256x256, .bf16⟩
  | .local _ .vmem, ⟨8, _⟩ => ⟨S256x256, .bf16⟩
  | .local _ .smem, ⟨0, _⟩ => ⟨S1, .f32⟩
  | _, _ => ⟨S40960x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 8, 8], ![false, false, false]⟩

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c8_i32 : BitVec 32 := 8#32
  let v1 : BitVec 32 := Scalar.addi c8_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c16_i32 : BitVec 32 := 16#32
  let v1 : BitVec 32 := Scalar.addi c16_i32 arg1
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnPromptRefIdeal.lean ====
abbrev S40960x6144 : Shape := ⟨2, ![40960, 6144]⟩
abbrev S1x128 : Shape := ⟨2, ![1, 128]⟩
abbrev S1x256 : Shape := ⟨2, ![1, 256]⟩
abbrev S8192x6144 : Shape := ⟨2, ![8192, 6144]⟩
abbrev S4x2048x6144 : Shape := ⟨3, ![4, 2048, 6144]⟩
abbrev S128 : Shape := ⟨1, ![128]⟩
abbrev S256 : Shape := ⟨1, ![256]⟩
abbrev S4x2048x2048 : Shape := ⟨3, ![4, 2048, 2048]⟩
abbrev S4x2048x8x2x128 : Shape := ⟨5, ![4, 2048, 8, 2, 128]⟩
abbrev S4x2048x8x256 : Shape := ⟨4, ![4, 2048, 8, 256]⟩
abbrev S_ : Shape := ⟨0, ![]⟩
abbrev S4x8x2x2048x2048 : Shape := ⟨5, ![4, 8, 2, 2048, 2048]⟩
abbrev S4x8x2x2048 : Shape := ⟨4, ![4, 8, 2, 2048]⟩
abbrev S4x8x2x2048x1 : Shape := ⟨5, ![4, 8, 2, 2048, 1]⟩
abbrev S4x8x1x2048x2048 : Shape := ⟨5, ![4, 8, 1, 2048, 2048]⟩
abbrev S4x8x2048x2048 : Shape := ⟨4, ![4, 8, 2048, 2048]⟩
abbrev S4x8x256x2048 : Shape := ⟨4, ![4, 8, 256, 2048]⟩
abbrev S4x2048x8 : Shape := ⟨3, ![4, 2048, 8]⟩
abbrev S4x2048x8x1 : Shape := ⟨4, ![4, 2048, 8, 1]⟩
abbrev S1x1x1x256 : Shape := ⟨4, ![1, 1, 1, 256]⟩
abbrev S8192x2048 : Shape := ⟨2, ![8192, 2048]⟩

abbrev nBuf : Space → Nat
  | .hbm => 76
  | .vmem => 0
  | .smem => 0
  | _ => 0

abbrev bufTy : (tb : Table) → Fin (tcTables nBuf tb) → BufTy
  | .hbm, ⟨0, _⟩ => ⟨S40960x6144, .bf16⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x256, .f32⟩
  | .hbm, ⟨6, _⟩ => ⟨S8192x6144, .bf16⟩
  | .hbm, ⟨7, _⟩ => ⟨S8192x6144, .f32⟩
  | .hbm, ⟨8, _⟩ => ⟨S4x2048x6144, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S256, .f32⟩
  | .hbm, ⟨14, _⟩ => ⟨S4x2048x2048, .f32⟩
  | .hbm, ⟨15, _⟩ => ⟨S4x2048x8x2x128, .f32⟩
  | .hbm, ⟨16, _⟩ => ⟨S4x2048x2048, .f32⟩
  | .hbm, ⟨17, _⟩ => ⟨S4x2048x8x2x128, .f32⟩
  | .hbm, ⟨18, _⟩ => ⟨S4x2048x2048, .f32⟩
  | .hbm, ⟨19, _⟩ => ⟨S4x2048x8x256, .f32⟩
  | .hbm, ⟨20, _⟩ => ⟨S128, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S128, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4x8x2x2048x2048, .f32⟩
  | .hbm, ⟨32, _⟩ => ⟨S_, .f32⟩
  | .hbm, ⟨33, _⟩ => ⟨S4x8x2x2048, .f32⟩
  | .hbm, ⟨34, _⟩ => ⟨S_, .f32⟩
  | .hbm, ⟨35, _⟩ => ⟨S4x8x2x2048, .f32⟩
  | .hbm, ⟨36, _⟩ => ⟨S4x8x2x2048, .f32⟩
  | .hbm, ⟨37, _⟩ => ⟨S4x8x2x2048x1, .f32⟩
  | .hbm, ⟨38, _⟩ => ⟨S4x8x2x2048x2048, .f32⟩
  | .hbm, ⟨39, _⟩ => ⟨S4x8x2x2048x2048, .f32⟩
  | .hbm, ⟨40, _⟩ => ⟨S4x8x2x2048x2048, .f32⟩
  | .hbm, ⟨41, _⟩ => ⟨S_, .f32⟩
  | .hbm, ⟨42, _⟩ => ⟨S4x8x2x2048, .f32⟩
  | .hbm, ⟨43, _⟩ => ⟨S4x8x2x2048x1, .f32⟩
  | .hbm, ⟨44, _⟩ => ⟨S4x8x2x2048x2048, .f32⟩
  | .hbm, ⟨45, _⟩ => ⟨S4x8x2x2048x2048, .f32⟩
  | .hbm, ⟨46, _⟩ => ⟨S4x8x1x2048x2048, .f32⟩
  | .hbm, ⟨47, _⟩ => ⟨S4x8x2048x2048, .f32⟩
  | .hbm, ⟨48, _⟩ => ⟨S4x8x1x2048x2048, .f32⟩
  | .hbm, ⟨49, _⟩ => ⟨S4x8x2048x2048, .f32⟩
  | .hbm, ⟨50, _⟩ => ⟨S4x8x2048x2048, .f32⟩
  | .hbm, ⟨51, _⟩ => ⟨S4x8x2048x2048, .f32⟩
  | .hbm, ⟨52, _⟩ => ⟨S4x8x2048x2048, .f32⟩
  | .hbm, ⟨53, _⟩ => ⟨S4x8x256x2048, .f32⟩
  | .hbm, ⟨54, _⟩ => ⟨S4x2048x8x256, .f32⟩
  | .hbm, ⟨55, _⟩ => ⟨S4x2048x8x256, .f32⟩
  | .hbm, ⟨56, _⟩ => ⟨S_, .f32⟩
  | .hbm, ⟨57, _⟩ => ⟨S4x2048x8, .f32⟩
  | .hbm, ⟨58, _⟩ => ⟨S4x2048x8x1, .f32⟩
  | .hbm, ⟨59, _⟩ => ⟨S_, .f32⟩
  | .hbm, ⟨60, _⟩ => ⟨S4x2048x8x1, .f32⟩
  | .hbm, ⟨61, _⟩ => ⟨S4x2048x8x1, .f32⟩
  | .hbm, ⟨62, _⟩ => ⟨S_, .f32⟩
  | .hbm, ⟨63, _⟩ => ⟨S4x2048x8x1, .f32⟩
  | .hbm, ⟨64, _⟩ => ⟨S4x2048x8x1, .f32⟩
  | .hbm, ⟨65, _⟩ => ⟨S4x2048x8x1, .f32⟩
  | .hbm, ⟨66, _⟩ => ⟨S4x2048x8x256, .f32⟩
  | .hbm, ⟨67, _⟩ => ⟨S4x2048x8x256, .f32⟩
  | .hbm, ⟨68, _⟩ => ⟨S1x1x1x256, .f32⟩
  | .hbm, ⟨69, _⟩ => ⟨S4x2048x8x256, .f32⟩
  | .hbm, ⟨70, _⟩ => ⟨S4x2048x8x256, .f32⟩
  | .hbm, ⟨71, _⟩ => ⟨S_, .f32⟩
  | .hbm, ⟨72, _⟩ => ⟨S4x2048x8x256, .f32⟩
  | .hbm, ⟨73, _⟩ => ⟨S4x2048x8x256, .f32⟩
  | .hbm, ⟨74, _⟩ => ⟨S8192x2048, .f32⟩
  | .hbm, ⟨75, _⟩ => ⟨S8192x2048, .bf16⟩
  | _, _ => ⟨S40960x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_8 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩

abbrev nD : Nat := 1
abbrev τ : Topo := Topo.v7x

variable {F : FTy → Type} [FloatOps F]
-- ==== AttnSample.lean ====
abbrev S40960x6144 : Shape := ⟨2, ![40960, 6144]⟩
abbrev S1x128 : Shape := ⟨2, ![1, 128]⟩
abbrev S1x256 : Shape := ⟨2, ![1, 256]⟩
abbrev S128 : Shape := ⟨1, ![128]⟩
abbrev S_ : Shape := ⟨0, ![]⟩
abbrev S1 : Shape := ⟨1, ![1]⟩
abbrev S256 : Shape := ⟨1, ![256]⟩
abbrev S32768x2048 : Shape := ⟨2, ![32768, 2048]⟩
abbrev S256x256 : Shape := ⟨2, ![256, 256]⟩
abbrev S4096x256 : Shape := ⟨2, ![4096, 256]⟩
abbrev S256x128 : Shape := ⟨2, ![256, 128]⟩
abbrev S4096x128 : Shape := ⟨2, ![4096, 128]⟩
abbrev S256x4096 : Shape := ⟨2, ![256, 4096]⟩
abbrev S256x1 : Shape := ⟨2, ![256, 1]⟩

abbrev nBuf : Space → Nat
  | .hbm => 25
  | .vmem => 9
  | .smem => 1
  | _ => 0

abbrev bufTy : (tb : Table) → Fin (tcTables nBuf tb) → BufTy
  | .hbm, ⟨0, _⟩ => ⟨S40960x6144, .bf16⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x256, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1, .f32⟩
  | .hbm, ⟨22, _⟩ => ⟨S256, .f32⟩
  | .hbm, ⟨23, _⟩ => ⟨S1x256, .f32⟩
  | .hbm, ⟨24, _⟩ => ⟨S32768x2048, .bf16⟩
  | .local _ .vmem, ⟨0, _⟩ => ⟨S256x256, .bf16⟩
  | .local _ .vmem, ⟨1, _⟩ => ⟨S256x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S1x256, .f32⟩
  | .local _ .vmem, ⟨7, _⟩ => ⟨S256x256, .bf16⟩
  | .local _ .vmem, ⟨8, _⟩ => ⟨S256x256, .bf16⟩
  | .local _ .smem, ⟨0, _⟩ => ⟨S1, .f32⟩
  | _, _ => ⟨S40960x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 8, 16], ![false, false, false]⟩

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c32_i32 : BitVec 32 := 32#32
  let v1 : BitVec 32 := Scalar.addi c32_i32 v0
  let v2 : BitVec 32 := Scalar.addi v1 arg2
  let c0_i32 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c8_i32 : BitVec 32 := 8#32
  let v1 : BitVec 32 := Scalar.addi c8_i32 arg1
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c16_i32 : BitVec 32 := 16#32
  let v1 : BitVec 32 := Scalar.addi c16_i32 arg1
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnSampleRefIdeal.lean ====
abbrev S40960x6144 : Shape := ⟨2, ![40960, 6144]⟩
abbrev S1x128 : Shape := ⟨2, ![1, 128]⟩
abbrev S1x256 : Shape := ⟨2, ![1, 256]⟩
abbrev S32768x6144 : Shape := ⟨2, ![32768, 6144]⟩
abbrev S8x4096x6144 : Shape := ⟨3, ![8, 4096, 6144]⟩
abbrev S128 : Shape := ⟨1, ![128]⟩
abbrev S256 : Shape := ⟨1, ![256]⟩
abbrev S8x4096x2048 : Shape := ⟨3, ![8, 4096, 2048]⟩
abbrev S8x4096x8x2x128 : Shape := ⟨5, ![8, 4096, 8, 2, 128]⟩
abbrev S8x4096x8x256 : Shape := ⟨4, ![8, 4096, 8, 256]⟩
abbrev S_ : Shape := ⟨0, ![]⟩
abbrev S8x8x2x4096x4096 : Shape := ⟨5, ![8, 8, 2, 4096, 4096]⟩
abbrev S8x8x2x4096 : Shape := ⟨4, ![8, 8, 2, 4096]⟩
abbrev S8x8x2x4096x1 : Shape := ⟨5, ![8, 8, 2, 4096, 1]⟩
abbrev S8x8x1x4096x4096 : Shape := ⟨5, ![8, 8, 1, 4096, 4096]⟩
abbrev S8x8x4096x4096 : Shape := ⟨4, ![8, 8, 4096, 4096]⟩
abbrev S8x8x256x4096 : Shape := ⟨4, ![8, 8, 256, 4096]⟩
abbrev S8x4096x8 : Shape := ⟨3, ![8, 4096, 8]⟩
abbrev S8x4096x8x1 : Shape := ⟨4, ![8, 4096, 8, 1]⟩
abbrev S1x1x1x256 : Shape := ⟨4, ![1, 1, 1, 256]⟩
abbrev S32768x2048 : Shape := ⟨2, ![32768, 2048]⟩

abbrev nBuf : Space → Nat
  | .hbm => 76
  | .vmem => 0
  | .smem => 0
  | _ => 0

abbrev bufTy : (tb : Table) → Fin (tcTables nBuf tb) → BufTy
  | .hbm, ⟨0, _⟩ => ⟨S40960x6144, .bf16⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x256, .f32⟩
  | .hbm, ⟨6, _⟩ => ⟨S32768x6144, .bf16⟩
  | .hbm, ⟨7, _⟩ => ⟨S32768x6144, .f32⟩
  | .hbm, ⟨8, _⟩ => ⟨S8x4096x6144, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S256, .f32⟩
  | .hbm, ⟨14, _⟩ => ⟨S8x4096x2048, .f32⟩
  | .hbm, ⟨15, _⟩ => ⟨S8x4096x8x2x128, .f32⟩
  | .hbm, ⟨16, _⟩ => ⟨S8x4096x2048, .f32⟩
  | .hbm, ⟨17, _⟩ => ⟨S8x4096x8x2x128, .f32⟩
  | .hbm, ⟨18, _⟩ => ⟨S8x4096x2048, .f32⟩
  | .hbm, ⟨19, _⟩ => ⟨S8x4096x8x256, .f32⟩
  | .hbm, ⟨20, _⟩ => ⟨S128, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S128, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8x8x2x4096x4096, .f32⟩
  | .hbm, ⟨32, _⟩ => ⟨S_, .f32⟩
  | .hbm, ⟨33, _⟩ => ⟨S8x8x2x4096, .f32⟩
  | .hbm, ⟨34, _⟩ => ⟨S_, .f32⟩
  | .hbm, ⟨35, _⟩ => ⟨S8x8x2x4096, .f32⟩
  | .hbm, ⟨36, _⟩ => ⟨S8x8x2x4096, .f32⟩
  | .hbm, ⟨37, _⟩ => ⟨S8x8x2x4096x1, .f32⟩
  | .hbm, ⟨38, _⟩ => ⟨S8x8x2x4096x4096, .f32⟩
  | .hbm, ⟨39, _⟩ => ⟨S8x8x2x4096x4096, .f32⟩
  | .hbm, ⟨40, _⟩ => ⟨S8x8x2x4096x4096, .f32⟩
  | .hbm, ⟨41, _⟩ => ⟨S_, .f32⟩
  | .hbm, ⟨42, _⟩ => ⟨S8x8x2x4096, .f32⟩
  | .hbm, ⟨43, _⟩ => ⟨S8x8x2x4096x1, .f32⟩
  | .hbm, ⟨44, _⟩ => ⟨S8x8x2x4096x4096, .f32⟩
  | .hbm, ⟨45, _⟩ => ⟨S8x8x2x4096x4096, .f32⟩
  | .hbm, ⟨46, _⟩ => ⟨S8x8x1x4096x4096, .f32⟩
  | .hbm, ⟨47, _⟩ => ⟨S8x8x4096x4096, .f32⟩
  | .hbm, ⟨48, _⟩ => ⟨S8x8x1x4096x4096, .f32⟩
  | .hbm, ⟨49, _⟩ => ⟨S8x8x4096x4096, .f32⟩
  | .hbm, ⟨50, _⟩ => ⟨S8x8x4096x4096, .f32⟩
  | .hbm, ⟨51, _⟩ => ⟨S8x8x4096x4096, .f32⟩
  | .hbm, ⟨52, _⟩ => ⟨S8x8x4096x4096, .f32⟩
  | .hbm, ⟨53, _⟩ => ⟨S8x8x256x4096, .f32⟩
  | .hbm, ⟨54, _⟩ => ⟨S8x4096x8x256, .f32⟩
  | .hbm, ⟨55, _⟩ => ⟨S8x4096x8x256, .f32⟩
  | .hbm, ⟨56, _⟩ => ⟨S_, .f32⟩
  | .hbm, ⟨57, _⟩ => ⟨S8x4096x8, .f32⟩
  | .hbm, ⟨58, _⟩ => ⟨S8x4096x8x1, .f32⟩
  | .hbm, ⟨59, _⟩ => ⟨S_, .f32⟩
  | .hbm, ⟨60, _⟩ => ⟨S8x4096x8x1, .f32⟩
  | .hbm, ⟨61, _⟩ => ⟨S8x4096x8x1, .f32⟩
  | .hbm, ⟨62, _⟩ => ⟨S_, .f32⟩
  | .hbm, ⟨63, _⟩ => ⟨S8x4096x8x1, .f32⟩
  | .hbm, ⟨64, _⟩ => ⟨S8x4096x8x1, .f32⟩
  | .hbm, ⟨65, _⟩ => ⟨S8x4096x8x1, .f32⟩
  | .hbm, ⟨66, _⟩ => ⟨S8x4096x8x256, .f32⟩
  | .hbm, ⟨67, _⟩ => ⟨S8x4096x8x256, .f32⟩
  | .hbm, ⟨68, _⟩ => ⟨S1x1x1x256, .f32⟩
  | .hbm, ⟨69, _⟩ => ⟨S8x4096x8x256, .f32⟩
  | .hbm, ⟨70, _⟩ => ⟨S8x4096x8x256, .f32⟩
  | .hbm, ⟨71, _⟩ => ⟨S_, .f32⟩
  | .hbm, ⟨72, _⟩ => ⟨S8x4096x8x256, .f32⟩
  | .hbm, ⟨73, _⟩ => ⟨S8x4096x8x256, .f32⟩
  | .hbm, ⟨74, _⟩ => ⟨S32768x2048, .f32⟩
  | .hbm, ⟨75, _⟩ => ⟨S32768x2048, .bf16⟩
  | _, _ => ⟨S40960x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_8 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩

abbrev nD : Nat := 1
abbrev τ : Topo := Topo.v7x

variable {F : FTy → Type} [FloatOps F]
-- ==== ProjRet.lean ====
abbrev S4x2048x2048 : Shape := ⟨3, ![4, 2048, 2048]⟩
abbrev S8x4096x2048 : Shape := ⟨3, ![8, 4096, 2048]⟩
abbrev S1x2048x12288 : Shape := ⟨3, ![1, 2048, 12288]⟩
abbrev S8192x2048 : Shape := ⟨2, ![8192, 2048]⟩
abbrev S32768x2048 : Shape := ⟨2, ![32768, 2048]⟩
abbrev S40960x2048 : Shape := ⟨2, ![40960, 2048]⟩
abbrev S2048x12288 : Shape := ⟨2, ![2048, 12288]⟩
abbrev S128 : Shape := ⟨1, ![128]⟩
abbrev S_ : Shape := ⟨0, ![]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S40960x12288 : Shape := ⟨2, ![40960, 12288]⟩
abbrev S1024x2048 : Shape := ⟨2, ![1024, 2048]⟩
abbrev S2048x1024 : Shape := ⟨2, ![2048, 1024]⟩
abbrev S1024x128 : Shape := ⟨2, ![1024, 128]⟩
abbrev S1024x1024 : Shape := ⟨2, ![1024, 1024]⟩

abbrev nBuf : Space → Nat
  | .hbm => 26
  | .vmem => 12
  | .smem => 0
  | _ => 0

abbrev bufTy : (tb : Table) → Fin (tcTables nBuf tb) → BufTy
  | .hbm, ⟨0, _⟩ => ⟨S4x2048x2048, .f32⟩
  | .hbm, ⟨1, _⟩ => ⟨S8x4096x2048, .f32⟩
  | .hbm, ⟨2, _⟩ => ⟨S1x2048x12288, .f32⟩
  | .hbm, ⟨3, _⟩ => ⟨S8192x2048, .f32⟩
  | .hbm, ⟨4, _⟩ => ⟨S32768x2048, .f32⟩
  | .hbm, ⟨5, _⟩ => ⟨S40960x2048, .f32⟩
  | .hbm, ⟨6, _⟩ => ⟨S40960x2048, .bf16⟩
  | .hbm, ⟨7, _⟩ => ⟨S2048x12288, .f32⟩
  | .hbm, ⟨8, _⟩ => ⟨S2048x12288, .bf16⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S4096, .f32⟩
  | .hbm, ⟨18, _⟩ => ⟨S4096x1, .f32⟩
  | .hbm, ⟨19, _⟩ => ⟨S1x128, .f32⟩
  | .hbm, ⟨20, _⟩ => ⟨S4096x128, .f32⟩
  | .hbm, ⟨21, _⟩ => ⟨S4096x128, .f32⟩
  | .hbm, ⟨22, _⟩ => ⟨S4096x128, .f32⟩
  | .hbm, ⟨23, _⟩ => ⟨S4096x128, .f32⟩
  | .hbm, ⟨24, _⟩ => ⟨S4096x128, .f32⟩
  | .hbm, ⟨25, _⟩ => ⟨S40960x12288, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![40, 12], ![false, false]⟩

def k0_cond1 (i : grid0.Coords) : BitVec 1 :=
  let arg1 : BitVec 32 := BitVec.ofNat 32 (i 1).val
  let c4_i32 : BitVec 32 := 4#32
  let v5 : BitVec 1 := Scalar.cmpi .sge arg1 c4_i32
  let v6 : BitVec 32 := Scalar.extui v5
  let c0_i32 : BitVec 32 := 0#32
  let v7 : BitVec 1 := Scalar.cmpi .ne v6 c0_i32
  v7

def k0_cond2 (i : grid0.Coords) : BitVec 1 :=
  let arg1 : BitVec 32 := BitVec.ofNat 32 (i 1).val
  let c4_i32_3 : BitVec 32 := 4#32
  let v8 : BitVec 1 := Scalar.cmpi .slt arg1 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c2_i32 : BitVec 32 := 2#32
  let v1 : BitVec 32 := Scalar.remsi v0 c2_i32
  let c8_i32 : BitVec 32 := 8#32
  let v2 : BitVec 32 := Scalar.subi arg0 c8_i32
  let c4_i32 : BitVec 32 := 4#32
  let v3 : BitVec 32 := Scalar.remsi v2 c4_i32
  let c8_i32_0 : BitVec 32 := 8#32
  let v4 : BitVec 1 := Scalar.cmpi .sge arg0 c8_i32_0
  let v5 : BitVec 32 := Scalar.select v4 v3 v1
  let c0_i32_1 : BitVec 32 := 0#32
  let c0_i32_2 : BitVec 32 := 0#32
  ![v5.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c2_i32 : BitVec 32 := 2#32
  let v1 : BitVec 32 := Scalar.remsi v0 c2_i32
  let c8_i32 : BitVec 32 := 8#32
  let v2 : BitVec 32 := Scalar.subi arg0 c8_i32
  let c4_i32 : BitVec 32 := 4#32
  let v3 : BitVec 32 := Scalar.remsi v2 c4_i32
  let c8_i32_0 : BitVec 32 := 8#32
  let v4 : BitVec 1 := Scalar.cmpi .sge arg0 c8_i32_0
  let v5 : BitVec 32 := Scalar.select v4 v3 v1
  let c0_i32_1 : BitVec 32 := 0#32
  let c0_i32_2 : BitVec 32 := 0#32
  ![v5.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c2_i32 : BitVec 32 := 2#32
  let v1 : BitVec 32 := Scalar.remsi v0 c2_i32
  let c8_i32 : BitVec 32 := 8#32
  let v2 : BitVec 32 := Scalar.subi arg0 c8_i32
  let c4_i32 : BitVec 32 := 4#32
  let v3 : BitVec 32 := Scalar.remsi v2 c4_i32
  let c8_i32_0 : BitVec 32 := 8#32
  let v4 : BitVec 1 := Scalar.cmpi .sge arg0 c8_i32_0
  let v5 : BitVec 32 := Scalar.select v4 v3 v1
  let c0_i32_1 : BitVec 32 := 0#32
  let c0_i32_2 : BitVec 32 := 0#32
  ![v5.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjRetRefIdeal.lean ====
abbrev S4x2048x2048 : Shape := ⟨3, ![4, 2048, 2048]⟩
abbrev S8x4096x2048 : Shape := ⟨3, ![8, 4096, 2048]⟩
abbrev S1x2048x12288 : Shape := ⟨3, ![1, 2048, 12288]⟩
abbrev S2048x12288 : Shape := ⟨2, ![2048, 12288]⟩
abbrev S4x2048x12288 : Shape := ⟨3, ![4, 2048, 12288]⟩
abbrev S4x2048x8x256 : Shape := ⟨4, ![4, 2048, 8, 256]⟩
abbrev S128 : Shape := ⟨1, ![128]⟩
abbrev S_ : Shape := ⟨0, ![]⟩
abbrev S2048 : Shape := ⟨1, ![2048]⟩
abbrev S2048x1 : Shape := ⟨2, ![2048, 1]⟩
abbrev S1x128 : Shape := ⟨2, ![1, 128]⟩
abbrev S2048x128 : Shape := ⟨2, ![2048, 128]⟩
abbrev S2048x1x128 : Shape := ⟨3, ![2048, 1, 128]⟩
abbrev S4x2048x8x128 : Shape := ⟨4, ![4, 2048, 8, 128]⟩
abbrev S1x2048x1x128 : Shape := ⟨4, ![1, 2048, 1, 128]⟩
abbrev S4x2048x8192 : Shape := ⟨3, ![4, 2048, 8192]⟩
abbrev S8192x12288 : Shape := ⟨2, ![8192, 12288]⟩
abbrev S8x4096x12288 : Shape := ⟨3, ![8, 4096, 12288]⟩
abbrev S8x4096x8x256 : Shape := ⟨4, ![8, 4096, 8, 256]⟩
abbrev S4096 : Shape := ⟨1, ![4096]⟩
abbrev S4096x1 : Shape := ⟨2, ![4096, 1]⟩
abbrev S4096x128 : Shape := ⟨2, ![4096, 128]⟩
abbrev S4096x1x128 : Shape := ⟨3, ![4096, 1, 128]⟩
abbrev S8x4096x8x128 : Shape := ⟨4, ![8, 4096, 8, 128]⟩
abbrev S1x4096x1x128 : Shape := ⟨4, ![1, 4096, 1, 128]⟩
abbrev S8x4096x8192 : Shape := ⟨3, ![8, 4096, 8192]⟩
abbrev S32768x12288 : Shape := ⟨2, ![32768, 12288]⟩
abbrev S40960x12288 : Shape := ⟨2, ![40960, 12288]⟩

abbrev nBuf : Space → Nat
  | .hbm => 173
  | .vmem => 0
  | .smem => 0
  | _ => 0

abbrev hbmTy0_0 (i : Nat) : BufTy := match i % 128 with
  | 0 => ⟨S4x2048x2048, .f32⟩
  | 1 => ⟨S8x4096x2048, .f32⟩
  | 2 => ⟨S1x2048x12288, .f32⟩
  | 3 => ⟨S2048x12288, .f32⟩
  | 4 => ⟨S4x2048x12288, .f32⟩
  | 5 => ⟨S4x2048x2048, .f32⟩
  | 6 => ⟨S4x2048x8x256, .f32⟩
  | 7 => ⟨S128, .f32⟩
  | 8 => ⟨S128, .f32⟩
  | 9 => ⟨S_, .f32⟩
  | 10 => ⟨S128, .f32⟩
  | 11 => ⟨S128, .f32⟩
  | 12 => ⟨S_, .f32⟩
  | 13 => ⟨S128, .f32⟩
  | 14 => ⟨S128, .f32⟩
  | 15 => ⟨S2048, .f32⟩
  | 16 => ⟨S2048x1, .f32⟩
  | 17 => ⟨S1x128, .f32⟩
  | 18 => ⟨S2048x128, .f32⟩
  | 19 => ⟨S2048x128, .f32⟩
  | 20 => ⟨S2048x128, .f32⟩
  | 21 => ⟨S2048x128, .f32⟩
  | 22 => ⟨S2048x1x128, .f32⟩
  | 23 => ⟨S2048x128, .f32⟩
  | 24 => ⟨S2048x1x128, .f32⟩
  | 25 => ⟨S4x2048x8x128, .f32⟩
  | 26 => ⟨S4x2048x8x128, .f32⟩
  | 27 => ⟨S1x2048x1x128, .f32⟩
  | 28 => ⟨S4x2048x8x128, .f32⟩
  | 29 => ⟨S4x2048x8x128, .f32⟩
  | 30 => ⟨S1x2048x1x128, .f32⟩
  | 31 => ⟨S4x2048x8x128, .f32⟩
  | 32 => ⟨S4x2048x8x128, .f32⟩
  | 33 => ⟨S4x2048x8x128, .f32⟩
  | 34 => ⟨S1x2048x1x128, .f32⟩
  | 35 => ⟨S4x2048x8x128, .f32⟩
  | 36 => ⟨S4x2048x8x128, .f32⟩
  | 37 => ⟨S1x2048x1x128, .f32⟩
  | 38 => ⟨S4x2048x8x128, .f32⟩
  | 39 => ⟨S4x2048x8x128, .f32⟩
  | 40 => ⟨S4x2048x8x128, .f32⟩
  | 41 => ⟨S4x2048x8x256, .f32⟩
  | 42 => ⟨S4x2048x2048, .f32⟩
  | 43 => ⟨S4x2048x8x256, .f32⟩
  | 44 => ⟨S128, .f32⟩
  | 45 => ⟨S128, .f32⟩
  | 46 => ⟨S_, .f32⟩
  | 47 => ⟨S128, .f32⟩
  | 48 => ⟨S128, .f32⟩
  | 49 => ⟨S_, .f32⟩
  | 50 => ⟨S128, .f32⟩
  | 51 => ⟨S128, .f32⟩
  | 52 => ⟨S2048, .f32⟩
  | 53 => ⟨S2048x1, .f32⟩
  | 54 => ⟨S1x128, .f32⟩
  | 55 => ⟨S2048x128, .f32⟩
  | 56 => ⟨S2048x128, .f32⟩
  | 57 => ⟨S2048x128, .f32⟩
  | 58 => ⟨S2048x128, .f32⟩
  | 59 => ⟨S2048x1x128, .f32⟩
  | 60 => ⟨S2048x128, .f32⟩
  | 61 => ⟨S2048x1x128, .f32⟩
  | 62 => ⟨S4x2048x8x128, .f32⟩
  | 63 => ⟨S4x2048x8x128, .f32⟩
  | 64 => ⟨S1x2048x1x128, .f32⟩
  | 65 => ⟨S4x2048x8x128, .f32⟩
  | 66 => ⟨S4x2048x8x128, .f32⟩
  | 67 => ⟨S1x2048x1x128, .f32⟩
  | 68 => ⟨S4x2048x8x128, .f32⟩
  | 69 => ⟨S4x2048x8x128, .f32⟩
  | 70 => ⟨S4x2048x8x128, .f32⟩
  | 71 => ⟨S1x2048x1x128, .f32⟩
  | 72 => ⟨S4x2048x8x128, .f32⟩
  | 73 => ⟨S4x2048x8x128, .f32⟩
  | 74 => ⟨S1x2048x1x128, .f32⟩
  | 75 => ⟨S4x2048x8x128, .f32⟩
  | 76 => ⟨S4x2048x8x128, .f32⟩
  | 77 => ⟨S4x2048x8x128, .f32⟩
  | 78 => ⟨S4x2048x8x256, .f32⟩
  | 79 => ⟨S_, .f32⟩
  | 80 => ⟨S4x2048x8x256, .f32⟩
  | 81 => ⟨S4x2048x8x256, .f32⟩
  | 82 => ⟨S4x2048x2048, .f32⟩
  | 83 => ⟨S4x2048x2048, .f32⟩
  | 84 => ⟨S4x2048x8192, .f32⟩
  | 85 => ⟨S4x2048x12288, .f32⟩
  | 86 => ⟨S8192x12288, .f32⟩
  | 87 => ⟨S2048x12288, .f32⟩
  | 88 => ⟨S8x4096x12288, .f32⟩
  | 89 => ⟨S8x4096x2048, .f32⟩
  | 90 => ⟨S8x4096x8x256, .f32⟩
  | 91 => ⟨S128, .f32⟩
  | 92 => ⟨S128, .f32⟩
  | 93 => ⟨S_, .f32⟩
  | 94 => ⟨S128, .f32⟩
  | 95 => ⟨S128, .f32⟩
  | 96 => ⟨S_, .f32⟩
  | 97 => ⟨S128, .f32⟩
  | 98 => ⟨S128, .f32⟩
  | 99 => ⟨S4096, .f32⟩
  | 100 => ⟨S4096x1, .f32⟩
  | 101 => ⟨S1x128, .f32⟩
  | 102 => ⟨S4096x128, .f32⟩
  | 103 => ⟨S4096x128, .f32⟩
  | 104 => ⟨S4096x128, .f32⟩
  | 105 => ⟨S4096x128, .f32⟩
  | 106 => ⟨S4096x1x128, .f32⟩
  | 107 => ⟨S4096x128, .f32⟩
  | 108 => ⟨S4096x1x128, .f32⟩
  | 109 => ⟨S8x4096x8x128, .f32⟩
  | 110 => ⟨S8x4096x8x128, .f32⟩
  | 111 => ⟨S1x4096x1x128, .f32⟩
  | 112 => ⟨S8x4096x8x128, .f32⟩
  | 113 => ⟨S8x4096x8x128, .f32⟩
  | 114 => ⟨S1x4096x1x128, .f32⟩
  | 115 => ⟨S8x4096x8x128, .f32⟩
  | 116 => ⟨S8x4096x8x128, .f32⟩
  | 117 => ⟨S8x4096x8x128, .f32⟩
  | 118 => ⟨S1x4096x1x128, .f32⟩
  | 119 => ⟨S8x4096x8x128, .f32⟩
  | 120 => ⟨S8x4096x8x128, .f32⟩
  | 121 => ⟨S1x4096x1x128, .f32⟩
  | 122 => ⟨S8x4096x8x128, .f32⟩
  | 123 => ⟨S8x4096x8x128, .f32⟩
  | 124 => ⟨S8x4096x8x128, .f32⟩
  | 125 => ⟨S8x4096x8x256, .f32⟩
  | 126 => ⟨S8x4096x2048, .f32⟩
  | 127 => ⟨S8x4096x8x256, .f32⟩
  | _ => ⟨S4x2048x2048, .f32⟩

abbrev hbmTy0_1 (i : Nat) : BufTy := match i % 128 with
  | 0 => ⟨S128, .f32⟩
  | 1 => ⟨S128, .f32⟩
  | 2 => ⟨S_, .f32⟩
  | 3 => ⟨S128, .f32⟩
  | 4 => ⟨S128, .f32⟩
  | 5 => ⟨S_, .f32⟩
  | 6 => ⟨S128, .f32⟩
  | 7 => ⟨S128, .f32⟩
  | 8 => ⟨S4096, .f32⟩
  | 9 => ⟨S4096x1, .f32⟩
  | 10 => ⟨S1x128, .f32⟩
  | 11 => ⟨S4096x128, .f32⟩
  | 12 => ⟨S4096x128, .f32⟩
  | 13 => ⟨S4096x128, .f32⟩
  | 14 => ⟨S4096x128, .f32⟩
  | 15 => ⟨S4096x1x128, .f32⟩
  | 16 => ⟨S4096x128, .f32⟩
  | 17 => ⟨S4096x1x128, .f32⟩
  | 18 => ⟨S8x4096x8x128, .f32⟩
  | 19 => ⟨S8x4096x8x128, .f32⟩
  | 20 => ⟨S1x4096x1x128, .f32⟩
  | 21 => ⟨S8x4096x8x128, .f32⟩
  | 22 => ⟨S8x4096x8x128, .f32⟩
  | 23 => ⟨S1x4096x1x128, .f32⟩
  | 24 => ⟨S8x4096x8x128, .f32⟩
  | 25 => ⟨S8x4096x8x128, .f32⟩
  | 26 => ⟨S8x4096x8x128, .f32⟩
  | 27 => ⟨S1x4096x1x128, .f32⟩
  | 28 => ⟨S8x4096x8x128, .f32⟩
  | 29 => ⟨S8x4096x8x128, .f32⟩
  | 30 => ⟨S1x4096x1x128, .f32⟩
  | 31 => ⟨S8x4096x8x128, .f32⟩
  | 32 => ⟨S8x4096x8x128, .f32⟩
  | 33 => ⟨S8x4096x8x128, .f32⟩
  | 34 => ⟨S8x4096x8x256, .f32⟩
  | 35 => ⟨S_, .f32⟩
  | 36 => ⟨S8x4096x8x256, .f32⟩
  | 37 => ⟨S8x4096x8x256, .f32⟩
  | 38 => ⟨S8x4096x2048, .f32⟩
  | 39 => ⟨S8x4096x2048, .f32⟩
  | 40 => ⟨S8x4096x8192, .f32⟩
  | 41 => ⟨S8x4096x12288, .f32⟩
  | 42 => ⟨S32768x12288, .f32⟩
  | 43 => ⟨S40960x12288, .f32⟩
  | 44 => ⟨S40960x12288, .bf16⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_cst_1 : Ref sig .tc := ⟨.hbm, 46, rfl⟩
abbrev main_v41 : Ref sig .tc := ⟨.hbm, 47, rfl⟩
abbrev main_v42 : Ref sig .tc := ⟨.hbm, 48, rfl⟩
abbrev main_cst_2 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_cst_3 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_cst_4 : Ref sig .tc := ⟨.hbm, 93, rfl⟩
abbrev main_v85 : Ref sig .tc := ⟨.hbm, 94, rfl⟩
abbrev main_v86 : Ref sig .tc := ⟨.hbm, 95, rfl⟩
abbrev main_cst_5 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_cst_6 : Ref sig .tc := ⟨.hbm, 130, rfl⟩
abbrev main_v120 : Ref sig .tc := ⟨.hbm, 131, rfl⟩
abbrev main_v121 : Ref sig .tc := ⟨.hbm, 132, rfl⟩
abbrev main_cst_7 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_cst_8 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩

abbrev nD : Nat := 1
abbrev τ : Topo := Topo.v7x

variable {F : FTy → Type} [FloatOps F]
-- ==== ProjDiff.lean ====
abbrev S40960x2048 : Shape := ⟨2, ![40960, 2048]⟩
abbrev S1x2048x6144 : Shape := ⟨3, ![1, 2048, 6144]⟩
abbrev S2048x6144 : Shape := ⟨2, ![2048, 6144]⟩
abbrev S16 : Shape := ⟨1, ![16]⟩
abbrev S_ : Shape := ⟨0, ![]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x128 : Shape := ⟨2, ![4096, 128]⟩
abbrev S40960x6144 : Shape := ⟨2, ![40960, 6144]⟩
abbrev S1024x2048 : Shape := ⟨2, ![1024, 2048]⟩
abbrev S2048x1024 : Shape := ⟨2, ![2048, 1024]⟩
abbrev S1024x128 : Shape := ⟨2, ![1024, 128]⟩
abbrev S1024x1024 : Shape := ⟨2, ![1024, 1024]⟩

abbrev nBuf : Space → Nat
  | .hbm => 33
  | .vmem => 12
  | .smem => 0
  | _ => 0

abbrev bufTy : (tb : Table) → Fin (tcTables nBuf tb) → BufTy
  | .hbm, ⟨0, _⟩ => ⟨S40960x2048, .bf16⟩
  | .hbm, ⟨1, _⟩ => ⟨S1x2048x6144, .f32⟩
  | .hbm, ⟨2, _⟩ => ⟨S2048x6144, .f32⟩
  | .hbm, ⟨3, _⟩ => ⟨S2048x6144, .bf16⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S4096, .f32⟩
  | .hbm, ⟨13, _⟩ => ⟨S4096x1, .f32⟩
  | .hbm, ⟨14, _⟩ => ⟨S1x16, .f32⟩
  | .hbm, ⟨15, _⟩ => ⟨S4096x16, .f32⟩
  | .hbm, ⟨16, _⟩ => ⟨S4096x16, .f32⟩
  | .hbm, ⟨17, _⟩ => ⟨S4096x16, .f32⟩
  | .hbm, ⟨18, _⟩ => ⟨S4096x16, .f32⟩
  | .hbm, ⟨19, _⟩ => ⟨S4096x16, .f32⟩
  | .hbm, ⟨20, _⟩ => ⟨S_, .f32⟩
  | .hbm, ⟨21, _⟩ => ⟨S4096x16, .f32⟩
  | .hbm, ⟨22, _⟩ => ⟨S_, .f32⟩
  | .hbm, ⟨23, _⟩ => ⟨S4096x96, .f32⟩
  | .hbm, ⟨24, _⟩ => ⟨S4096x128, .f32⟩
  | .hbm, ⟨25, _⟩ => ⟨S_, .f32⟩
  | .hbm, ⟨26, _⟩ => ⟨S4096x96, .f32⟩
  | .hbm, ⟨27, _⟩ => ⟨S4096x128, .f32⟩
  | .hbm, ⟨28, _⟩ => ⟨S4096x16, .f32⟩
  | .hbm, ⟨29, _⟩ => ⟨S_, .f32⟩
  | .hbm, ⟨30, _⟩ => ⟨S4096x96, .f32⟩
  | .hbm, ⟨31, _⟩ => ⟨S4096x128, .f32⟩
  | .hbm, ⟨32, _⟩ => ⟨S40960x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | _, _ => ⟨S40960x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![40, 6], ![false, false]⟩

def k0_cond1 (i : grid0.Coords) : BitVec 1 :=
  let arg1 : BitVec 32 := BitVec.ofNat 32 (i 1).val
  let c4_i32 : BitVec 32 := 4#32
  let v4 : BitVec 1 := Scalar.cmpi .sge arg1 c4_i32
  let v5 : BitVec 32 := Scalar.extui v4
  let c0_i32 : BitVec 32 := 0#32
  let v6 : BitVec 1 := Scalar.cmpi .ne v5 c0_i32
  v6

def k0_cond2 (i : grid0.Coords) : BitVec 1 :=
  let arg1 : BitVec 32 := BitVec.ofNat 32 (i 1).val
  let c4_i32_3 : BitVec 32 := 4#32
  let v7 : BitVec 1 := Scalar.cmpi .slt arg1 c4_i32_3
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c2_i32 : BitVec 32 := 2#32
  let v1 : BitVec 32 := Scalar.remsi v0 c2_i32
  let c8_i32 : BitVec 32 := 8#32
  let v2 : BitVec 32 := Scalar.subi arg0 c8_i32
  let c4_i32 : BitVec 32 := 4#32
  let v3 : BitVec 32 := Scalar.remsi v2 c4_i32
  let c8_i32_0 : BitVec 32 := 8#32
  let v4 : BitVec 1 := Scalar.cmpi .sge arg0 c8_i32_0
  let v5 : BitVec 32 := Scalar.select v4 v3 v1
  let c0_i32_1 : BitVec 32 := 0#32
  let c0_i32_2 : BitVec 32 := 0#32
  ![v5.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c2_i32 : BitVec 32 := 2#32
  let v1 : BitVec 32 := Scalar.remsi v0 c2_i32
  let c8_i32 : BitVec 32 := 8#32
  let v2 : BitVec 32 := Scalar.subi arg0 c8_i32
  let c4_i32 : BitVec 32 := 4#32
  let v3 : BitVec 32 := Scalar.remsi v2 c4_i32
  let c8_i32_0 : BitVec 32 := 8#32
  let v4 : BitVec 1 := Scalar.cmpi .sge arg0 c8_i32_0
  let v5 : BitVec 32 := Scalar.select v4 v3 v1
  let c0_i32_1 : BitVec 32 := 0#32
  let c0_i32_2 : BitVec 32 := 0#32
  ![v5.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c2_i32 : BitVec 32 := 2#32
  let v1 : BitVec 32 := Scalar.remsi v0 c2_i32
  let c8_i32 : BitVec 32 := 8#32
  let v2 : BitVec 32 := Scalar.subi arg0 c8_i32
  let c4_i32 : BitVec 32 := 4#32
  let v3 : BitVec 32 := Scalar.remsi v2 c4_i32
  let c8_i32_0 : BitVec 32 := 8#32
  let v4 : BitVec 1 := Scalar.cmpi .sge arg0 c8_i32_0
  let v5 : BitVec 32 := Scalar.select v4 v3 v1
  let c0_i32_1 : BitVec 32 := 0#32
  let c0_i32_2 : BitVec 32 := 0#32
  ![v5.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjDiffRefIdeal.lean ====
abbrev S40960x2048 : Shape := ⟨2, ![40960, 2048]⟩
abbrev S1x2048x6144 : Shape := ⟨3, ![1, 2048, 6144]⟩
abbrev S8192x2048 : Shape := ⟨2, ![8192, 2048]⟩
abbrev S4x2048x2048 : Shape := ⟨3, ![4, 2048, 2048]⟩
abbrev S32768x2048 : Shape := ⟨2, ![32768, 2048]⟩
abbrev S8x4096x2048 : Shape := ⟨3, ![8, 4096, 2048]⟩
abbrev S2048x6144 : Shape := ⟨2, ![2048, 6144]⟩
abbrev S4x2048x6144 : Shape := ⟨3, ![4, 2048, 6144]⟩
abbrev S4x2048x8x2x128 : Shape := ⟨5, ![4, 2048, 8, 2, 128]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x1x1x16 : Shape := ⟨4, ![2048, 1, 1, 16]⟩
abbrev S4x2048x8x2x32 : Shape := ⟨5, ![4, 2048, 8, 2, 32]⟩
abbrev S4x2048x8x2x16 : Shape := ⟨5, ![4, 2048, 8, 2, 16]⟩
abbrev S1x2048x1x1x16 : Shape := ⟨5, ![1, 2048, 1, 1, 16]⟩
abbrev S4x2048x8x2x96 : Shape := ⟨5, ![4, 2048, 8, 2, 96]⟩
abbrev S8192x6144 : Shape := ⟨2, ![8192, 6144]⟩
abbrev S8x4096x6144 : Shape := ⟨3, ![8, 4096, 6144]⟩
abbrev S8x4096x8x2x128 : Shape := ⟨5, ![8, 4096, 8, 2, 128]⟩
abbrev S4096 : Shape := ⟨1, ![4096]⟩
abbrev S4096x1 : Shape := ⟨2, ![4096, 1]⟩
abbrev S4096x16 : Shape := ⟨2, ![4096, 16]⟩
abbrev S4096x1x1x16 : Shape := ⟨4, ![4096, 1, 1, 16]⟩
abbrev S8x4096x8x2x32 : Shape := ⟨5, ![8, 4096, 8, 2, 32]⟩
abbrev S8x4096x8x2x16 : Shape := ⟨5, ![8, 4096, 8, 2, 16]⟩
abbrev S1x4096x1x1x16 : Shape := ⟨5, ![1, 4096, 1, 1, 16]⟩
abbrev S8x4096x8x2x96 : Shape := ⟨5, ![8, 4096, 8, 2, 96]⟩
abbrev S32768x6144 : Shape := ⟨2, ![32768, 6144]⟩
abbrev S40960x6144 : Shape := ⟨2, ![40960, 6144]⟩

abbrev nBuf : Space → Nat
  | .hbm => 189
  | .vmem => 0
  | .smem => 0
  | _ => 0

abbrev hbmTy0_0 (i : Nat) : BufTy := match i % 128 with
  | 0 => ⟨S40960x2048, .bf16⟩
  | 1 => ⟨S1x2048x6144, .f32⟩
  | 2 => ⟨S40960x2048, .f32⟩
  | 3 => ⟨S8192x2048, .f32⟩
  | 4 => ⟨S4x2048x2048, .f32⟩
  | 5 => ⟨S32768x2048, .f32⟩
  | 6 => ⟨S8x4096x2048, .f32⟩
  | 7 => ⟨S2048x6144, .f32⟩
  | 8 => ⟨S4x2048x6144, .f32⟩
  | 9 => ⟨S4x2048x2048, .f32⟩
  | 10 => ⟨S4x2048x8x2x128, .f32⟩
  | 11 => ⟨S4x2048x2048, .f32⟩
  | 12 => ⟨S4x2048x8x2x128, .f32⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S2048, .f32⟩
  | 22 => ⟨S2048x1, .f32⟩
  | 23 => ⟨S1x16, .f32⟩
  | 24 => ⟨S2048x16, .f32⟩
  | 25 => ⟨S2048x16, .f32⟩
  | 26 => ⟨S2048x16, .f32⟩
  | 27 => ⟨S2048x16, .f32⟩
  | 28 => ⟨S2048x1x1x16, .f32⟩
  | 29 => ⟨S2048x16, .f32⟩
  | 30 => ⟨S2048x1x1x16, .f32⟩
  | 31 => ⟨S4x2048x8x2x32, .f32⟩
  | 32 => ⟨S4x2048x8x2x16, .f32⟩
  | 33 => ⟨S4x2048x8x2x16, .f32⟩
  | 34 => ⟨S1x2048x1x1x16, .f32⟩
  | 35 => ⟨S4x2048x8x2x16, .f32⟩
  | 36 => ⟨S4x2048x8x2x16, .f32⟩
  | 37 => ⟨S1x2048x1x1x16, .f32⟩
  | 38 => ⟨S4x2048x8x2x16, .f32⟩
  | 39 => ⟨S4x2048x8x2x16, .f32⟩
  | 40 => ⟨S4x2048x8x2x16, .f32⟩
  | 41 => ⟨S1x2048x1x1x16, .f32⟩
  | 42 => ⟨S4x2048x8x2x16, .f32⟩
  | 43 => ⟨S4x2048x8x2x16, .f32⟩
  | 44 => ⟨S1x2048x1x1x16, .f32⟩
  | 45 => ⟨S4x2048x8x2x16, .f32⟩
  | 46 => ⟨S4x2048x8x2x16, .f32⟩
  | 47 => ⟨S4x2048x8x2x16, .f32⟩
  | 48 => ⟨S4x2048x8x2x32, .f32⟩
  | 49 => ⟨S4x2048x8x2x96, .f32⟩
  | 50 => ⟨S4x2048x8x2x128, .f32⟩
  | 51 => ⟨S_, .f32⟩
  | 52 => ⟨S4x2048x8x2x128, .f32⟩
  | 53 => ⟨S4x2048x8x2x128, .f32⟩
  | 54 => ⟨S16, .f32⟩
  | 55 => ⟨S16, .f32⟩
  | 56 => ⟨S_, .f32⟩
  | 57 => ⟨S16, .f32⟩
  | 58 => ⟨S16, .f32⟩
  | 59 => ⟨S_, .f32⟩
  | 60 => ⟨S16, .f32⟩
  | 61 => ⟨S16, .f32⟩
  | 62 => ⟨S2048, .f32⟩
  | 63 => ⟨S2048x1, .f32⟩
  | 64 => ⟨S1x16, .f32⟩
  | 65 => ⟨S2048x16, .f32⟩
  | 66 => ⟨S2048x16, .f32⟩
  | 67 => ⟨S2048x16, .f32⟩
  | 68 => ⟨S2048x16, .f32⟩
  | 69 => ⟨S2048x1x1x16, .f32⟩
  | 70 => ⟨S2048x16, .f32⟩
  | 71 => ⟨S2048x1x1x16, .f32⟩
  | 72 => ⟨S4x2048x8x2x32, .f32⟩
  | 73 => ⟨S4x2048x8x2x16, .f32⟩
  | 74 => ⟨S4x2048x8x2x16, .f32⟩
  | 75 => ⟨S1x2048x1x1x16, .f32⟩
  | 76 => ⟨S4x2048x8x2x16, .f32⟩
  | 77 => ⟨S4x2048x8x2x16, .f32⟩
  | 78 => ⟨S1x2048x1x1x16, .f32⟩
  | 79 => ⟨S4x2048x8x2x16, .f32⟩
  | 80 => ⟨S4x2048x8x2x16, .f32⟩
  | 81 => ⟨S4x2048x8x2x16, .f32⟩
  | 82 => ⟨S1x2048x1x1x16, .f32⟩
  | 83 => ⟨S4x2048x8x2x16, .f32⟩
  | 84 => ⟨S4x2048x8x2x16, .f32⟩
  | 85 => ⟨S1x2048x1x1x16, .f32⟩
  | 86 => ⟨S4x2048x8x2x16, .f32⟩
  | 87 => ⟨S4x2048x8x2x16, .f32⟩
  | 88 => ⟨S4x2048x8x2x16, .f32⟩
  | 89 => ⟨S4x2048x8x2x32, .f32⟩
  | 90 => ⟨S4x2048x8x2x96, .f32⟩
  | 91 => ⟨S4x2048x8x2x128, .f32⟩
  | 92 => ⟨S4x2048x2048, .f32⟩
  | 93 => ⟨S4x2048x2048, .f32⟩
  | 94 => ⟨S4x2048x2048, .f32⟩
  | 95 => ⟨S4x2048x6144, .f32⟩
  | 96 => ⟨S8192x6144, .f32⟩
  | 97 => ⟨S2048x6144, .f32⟩
  | 98 => ⟨S8x4096x6144, .f32⟩
  | 99 => ⟨S8x4096x2048, .f32⟩
  | 100 => ⟨S8x4096x8x2x128, .f32⟩
  | 101 => ⟨S8x4096x2048, .f32⟩
  | 102 => ⟨S8x4096x8x2x128, .f32⟩
  | 103 => ⟨S16, .f32⟩
  | 104 => ⟨S16, .f32⟩
  | 105 => ⟨S_, .f32⟩
  | 106 => ⟨S16, .f32⟩
  | 107 => ⟨S16, .f32⟩
  | 108 => ⟨S_, .f32⟩
  | 109 => ⟨S16, .f32⟩
  | 110 => ⟨S16, .f32⟩
  | 111 => ⟨S4096, .f32⟩
  | 112 => ⟨S4096x1, .f32⟩
  | 113 => ⟨S1x16, .f32⟩
  | 114 => ⟨S4096x16, .f32⟩
  | 115 => ⟨S4096x16, .f32⟩
  | 116 => ⟨S4096x16, .f32⟩
  | 117 => ⟨S4096x16, .f32⟩
  | 118 => ⟨S4096x1x1x16, .f32⟩
  | 119 => ⟨S4096x16, .f32⟩
  | 120 => ⟨S4096x1x1x16, .f32⟩
  | 121 => ⟨S8x4096x8x2x32, .f32⟩
  | 122 => ⟨S8x4096x8x2x16, .f32⟩
  | 123 => ⟨S8x4096x8x2x16, .f32⟩
  | 124 => ⟨S1x4096x1x1x16, .f32⟩
  | 125 => ⟨S8x4096x8x2x16, .f32⟩
  | 126 => ⟨S8x4096x8x2x16, .f32⟩
  | 127 => ⟨S1x4096x1x1x16, .f32⟩
  | _ => ⟨S40960x2048, .bf16⟩

abbrev hbmTy0_1 (i : Nat) : BufTy := match i % 128 with
  | 0 => ⟨S8x4096x8x2x16, .f32⟩
  | 1 => ⟨S8x4096x8x2x16, .f32⟩
  | 2 => ⟨S8x4096x8x2x16, .f32⟩
  | 3 => ⟨S1x4096x1x1x16, .f32⟩
  | 4 => ⟨S8x4096x8x2x16, .f32⟩
  | 5 => ⟨S8x4096x8x2x16, .f32⟩
  | 6 => ⟨S1x4096x1x1x16, .f32⟩
  | 7 => ⟨S8x4096x8x2x16, .f32⟩
  | 8 => ⟨S8x4096x8x2x16, .f32⟩
  | 9 => ⟨S8x4096x8x2x16, .f32⟩
  | 10 => ⟨S8x4096x8x2x32, .f32⟩
  | 11 => ⟨S8x4096x8x2x96, .f32⟩
  | 12 => ⟨S8x4096x8x2x128, .f32⟩
  | 13 => ⟨S_, .f32⟩
  | 14 => ⟨S8x4096x8x2x128, .f32⟩
  | 15 => ⟨S8x4096x8x2x128, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S4096, .f32⟩
  | 25 => ⟨S4096x1, .f32⟩
  | 26 => ⟨S1x16, .f32⟩
  | 27 => ⟨S4096x16, .f32⟩
  | 28 => ⟨S4096x16, .f32⟩
  | 29 => ⟨S4096x16, .f32⟩
  | 30 => ⟨S4096x16, .f32⟩
  | 31 => ⟨S4096x1x1x16, .f32⟩
  | 32 => ⟨S4096x16, .f32⟩
  | 33 => ⟨S4096x1x1x16, .f32⟩
  | 34 => ⟨S8x4096x8x2x32, .f32⟩
  | 35 => ⟨S8x4096x8x2x16, .f32⟩
  | 36 => ⟨S8x4096x8x2x16, .f32⟩
  | 37 => ⟨S1x4096x1x1x16, .f32⟩
  | 38 => ⟨S8x4096x8x2x16, .f32⟩
  | 39 => ⟨S8x4096x8x2x16, .f32⟩
  | 40 => ⟨S1x4096x1x1x16, .f32⟩
  | 41 => ⟨S8x4096x8x2x16, .f32⟩
  | 42 => ⟨S8x4096x8x2x16, .f32⟩
  | 43 => ⟨S8x4096x8x2x16, .f32⟩
  | 44 => ⟨S1x4096x1x1x16, .f32⟩
  | 45 => ⟨S8x4096x8x2x16, .f32⟩
  | 46 => ⟨S8x4096x8x2x16, .f32⟩
  | 47 => ⟨S1x4096x1x1x16, .f32⟩
  | 48 => ⟨S8x4096x8x2x16, .f32⟩
  | 49 => ⟨S8x4096x8x2x16, .f32⟩
  | 50 => ⟨S8x4096x8x2x16, .f32⟩
  | 51 => ⟨S8x4096x8x2x32, .f32⟩
  | 52 => ⟨S8x4096x8x2x96, .f32⟩
  | 53 => ⟨S8x4096x8x2x128, .f32⟩
  | 54 => ⟨S8x4096x2048, .f32⟩
  | 55 => ⟨S8x4096x2048, .f32⟩
  | 56 => ⟨S8x4096x2048, .f32⟩
  | 57 => ⟨S8x4096x6144, .f32⟩
  | 58 => ⟨S32768x6144, .f32⟩
  | 59 => ⟨S40960x6144, .f32⟩
  | 60 => ⟨S40960x6144, .bf16⟩
  | _ => ⟨S40960x2048, .bf16⟩

abbrev hbmTy (i : Nat) : BufTy := match i / 128 with
  | 0 => hbmTy0_0 i
  | 1 => hbmTy0_1 i
  | _ => ⟨S40960x2048, .bf16⟩

abbrev bufTy : (tb : Table) → Fin (tcTables nBuf tb) → BufTy
  | .hbm, ⟨i, _⟩ => hbmTy i
  | _, _ => ⟨S40960x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_cst_1 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_cst_2 : Ref sig .tc := ⟨.hbm, 56, rfl⟩
abbrev main_v51 : Ref sig .tc := ⟨.hbm, 57, rfl⟩
abbrev main_v52 : Ref sig .tc := ⟨.hbm, 58, rfl⟩
abbrev main_cst_3 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_cst_4 : Ref sig .tc := ⟨.hbm, 105, rfl⟩
abbrev main_v98 : Ref sig .tc := ⟨.hbm, 106, rfl⟩
abbrev main_v99 : Ref sig .tc := ⟨.hbm, 107, rfl⟩
abbrev main_cst_5 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_cst_6 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_cst_7 : Ref sig .tc := ⟨.hbm, 146, rfl⟩
abbrev main_v136 : Ref sig .tc := ⟨.hbm, 147, rfl⟩
abbrev main_v137 : Ref sig .tc := ⟨.hbm, 148, rfl⟩
abbrev main_cst_8 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩

abbrev nD : Nat := 1
abbrev τ : Topo := Topo.v7x

variable {F : FTy → Type} [FloatOps F]
-- ==== RetOut.lean ====
abbrev S40960x4096 : Shape := ⟨2, ![40960, 4096]⟩
abbrev S1x4096x2048 : Shape := ⟨3, ![1, 4096, 2048]⟩
abbrev S4096x2048 : Shape := ⟨2, ![4096, 2048]⟩
abbrev S40960x2048 : Shape := ⟨2, ![40960, 2048]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S40960x4096, .bf16⟩
  | .hbm, ⟨1, _⟩ => ⟨S1x4096x2048, .f32⟩
  | .hbm, ⟨2, _⟩ => ⟨S4096x2048, .f32⟩
  | .hbm, ⟨3, _⟩ => ⟨S4096x2048, .bf16⟩
  | .hbm, ⟨4, _⟩ => ⟨S40960x2048, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S40960x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![80, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RetOutRefIdeal.lean ====
abbrev S40960x4096 : Shape := ⟨2, ![40960, 4096]⟩
abbrev S1x4096x2048 : Shape := ⟨3, ![1, 4096, 2048]⟩
abbrev S4096x2048 : Shape := ⟨2, ![4096, 2048]⟩
abbrev S40960x2048 : Shape := ⟨2, ![40960, 2048]⟩

abbrev nBuf : Space → Nat
  | .hbm => 5
  | .vmem => 0
  | .smem => 0
  | _ => 0

abbrev bufTy : (tb : Table) → Fin (tcTables nBuf tb) → BufTy
  | .hbm, ⟨0, _⟩ => ⟨S40960x4096, .bf16⟩
  | .hbm, ⟨1, _⟩ => ⟨S1x4096x2048, .f32⟩
  | .hbm, ⟨2, _⟩ => ⟨S40960x4096, .f32⟩
  | .hbm, ⟨3, _⟩ => ⟨S4096x2048, .f32⟩
  | .hbm, ⟨4, _⟩ => ⟨S40960x2048, .f32⟩
  | _, _ => ⟨S40960x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DiffOut.lean ====
abbrev S40960x2048 : Shape := ⟨2, ![40960, 2048]⟩
abbrev S1x2048x2048 : Shape := ⟨3, ![1, 2048, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S40960x2048, .bf16⟩
  | .hbm, ⟨1, _⟩ => ⟨S1x2048x2048, .f32⟩
  | .hbm, ⟨2, _⟩ => ⟨S2048x2048, .f32⟩
  | .hbm, ⟨3, _⟩ => ⟨S2048x2048, .bf16⟩
  | .hbm, ⟨4, _⟩ => ⟨S40960x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S40960x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![80, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DiffOutRefIdeal.lean ====
abbrev S40960x2048 : Shape := ⟨2, ![40960, 2048]⟩
abbrev S1x2048x2048 : Shape := ⟨3, ![1, 2048, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S40960x2048, .bf16⟩
  | .hbm, ⟨1, _⟩ => ⟨S1x2048x2048, .f32⟩
  | .hbm, ⟨2, _⟩ => ⟨S40960x2048, .f32⟩
  | .hbm, ⟨3, _⟩ => ⟨S2048x2048, .f32⟩
  | .hbm, ⟨4, _⟩ => ⟨S40960x2048, .f32⟩
  | _, _ => ⟨S40960x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ExpertFfn.lean ====
abbrev S1344 : Shape := ⟨1, ![1344]⟩
abbrev S1 : Shape := ⟨1, ![1]⟩
abbrev S344064x2048 : Shape := ⟨2, ![344064, 2048]⟩
abbrev S64x2048x1024 : Shape := ⟨3, ![64, 2048, 1024]⟩
abbrev S64x512x2048 : Shape := ⟨3, ![64, 512, 2048]⟩
abbrev S256x2048 : Shape := ⟨2, ![256, 2048]⟩
abbrev S1x2048x1024 : Shape := ⟨3, ![1, 2048, 1024]⟩
abbrev S1x512x2048 : Shape := ⟨3, ![1, 512, 2048]⟩
abbrev S2048x1024 : Shape := ⟨2, ![2048, 1024]⟩
abbrev S256x1024 : Shape := ⟨2, ![256, 1024]⟩
abbrev S256x512 : Shape := ⟨2, ![256, 512]⟩
abbrev S512x2048 : Shape := ⟨2, ![512, 2048]⟩

abbrev nBuf : Space → Nat
  | .hbm => 6
  | .vmem => 8
  | .smem => 2
  | _ => 0

abbrev bufTy : (tb : Table) → Fin (tcTables nBuf tb) → BufTy
  | .hbm, ⟨0, _⟩ => ⟨S344064x2048, .f32⟩
  | .hbm, ⟨1, _⟩ => ⟨S64x2048x1024, .f32⟩
  | .hbm, ⟨2, _⟩ => ⟨S64x512x2048, .f32⟩
  | .hbm, ⟨3, _⟩ => ⟨S64x2048x1024, .bf16⟩
  | .hbm, ⟨4, _⟩ => ⟨S64x512x2048, .bf16⟩
  | .hbm, ⟨5, _⟩ => ⟨S344064x2048, .f32⟩
  | .local _ .vmem, ⟨0, _⟩ => ⟨S256x2048, .f32⟩
  | .local _ .vmem, ⟨1, _⟩ => ⟨S256x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x512x2048, .bf16⟩
  | .local _ .vmem, ⟨5, _⟩ => ⟨S1x512x2048, .bf16⟩
  | .local _ .vmem, ⟨6, _⟩ => ⟨S256x2048, .f32⟩
  | .local _ .vmem, ⟨7, _⟩ => ⟨S256x2048, .f32⟩
  | .local _ .smem, ⟨0, _⟩ => ⟨S1344, .i32⟩
  | .local _ .smem, ⟨1, _⟩ => ⟨S1, .i32⟩
  | _, _ => ⟨S344064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![1344], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S1344.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1344) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S1344.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1344) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ExpertFfnRefIdeal.lean ====
abbrev S1344 : Shape := ⟨1, ![1344]⟩
abbrev S1 : Shape := ⟨1, ![1]⟩
abbrev S344064x2048 : Shape := ⟨2, ![344064, 2048]⟩
abbrev S64x2048x1024 : Shape := ⟨3, ![64, 2048, 1024]⟩
abbrev S64x512x2048 : Shape := ⟨3, ![64, 512, 2048]⟩
abbrev S1344x256x2048 : Shape := ⟨3, ![1344, 256, 2048]⟩
abbrev S1344x1 : Shape := ⟨2, ![1344, 1]⟩
abbrev S1344x2048x1024 : Shape := ⟨3, ![1344, 2048, 1024]⟩
abbrev S1344x256x1024 : Shape := ⟨3, ![1344, 256, 1024]⟩
abbrev S1344x256x512 : Shape := ⟨3, ![1344, 256, 512]⟩
abbrev S_ : Shape := ⟨0, ![]⟩
abbrev S1344x512x2048 : Shape := ⟨3, ![1344, 512, 2048]⟩

abbrev nBuf : Space → Nat
  | .hbm => 25
  | .vmem => 0
  | .smem => 0
  | _ => 0

abbrev bufTy : (tb : Table) → Fin (tcTables nBuf tb) → BufTy
  | .hbm, ⟨0, _⟩ => ⟨S1344, .i32⟩
  | .hbm, ⟨1, _⟩ => ⟨S1, .i32⟩
  | .hbm, ⟨2, _⟩ => ⟨S344064x2048, .f32⟩
  | .hbm, ⟨3, _⟩ => ⟨S64x2048x1024, .f32⟩
  | .hbm, ⟨4, _⟩ => ⟨S64x512x2048, .f32⟩
  | .hbm, ⟨5, _⟩ => ⟨S1344x256x2048, .f32⟩
  | .hbm, ⟨6, _⟩ => ⟨S1344x1, .i32⟩
  | .hbm, ⟨7, _⟩ => ⟨S1344x2048x1024, .f32⟩
  | .hbm, ⟨8, _⟩ => ⟨S1344x256x1024, .f32⟩
  | .hbm, ⟨9, _⟩ => ⟨S1344x256x512, .f32⟩
  | .hbm, ⟨10, _⟩ => ⟨S1344x256x512, .f32⟩
  | .hbm, ⟨11, _⟩ => ⟨S1344x256x512, .f32⟩
  | .hbm, ⟨12, _⟩ => ⟨S_, .f32⟩
  | .hbm, ⟨13, _⟩ => ⟨S1344x256x512, .f32⟩
  | .hbm, ⟨14, _⟩ => ⟨S1344x256x512, .f32⟩
  | .hbm, ⟨15, _⟩ => ⟨S_, .f32⟩
  | .hbm, ⟨16, _⟩ => ⟨S1344x256x512, .f32⟩
  | .hbm, ⟨17, _⟩ => ⟨S1344x256x512, .f32⟩
  | .hbm, ⟨18, _⟩ => ⟨S1344x256x512, .f32⟩
  | .hbm, ⟨19, _⟩ => ⟨S1344x256x512, .f32⟩
  | .hbm, ⟨20, _⟩ => ⟨S1344x256x512, .f32⟩
  | .hbm, ⟨21, _⟩ => ⟨S1344x1, .i32⟩
  | .hbm, ⟨22, _⟩ => ⟨S1344x512x2048, .f32⟩
  | .hbm, ⟨23, _⟩ => ⟨S1344x256x2048, .f32⟩
  | .hbm, ⟨24, _⟩ => ⟨S344064x2048, .f32⟩
  | _, _ => ⟨S1344, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call1_v0 : Ref sig .tc := ⟨.hbm, 10, rfl⟩
abbrev main_call1_v1 : Ref sig .tc := ⟨.hbm, 11, rfl⟩
abbrev main_call1_cst : Ref sig .tc := ⟨.hbm, 12, rfl⟩
abbrev main_call1_v2 : Ref sig .tc := ⟨.hbm, 13, rfl⟩
abbrev main_call1_v3 : Ref sig .tc := ⟨.hbm, 14, rfl⟩
abbrev main_call1_cst_0 : Ref sig .tc := ⟨.hbm, 15, rfl⟩
abbrev main_call1_v4 : Ref sig .tc := ⟨.hbm, 16, rfl⟩
abbrev main_call1_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_call2_v0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩

abbrev nD : Nat := 1
abbrev τ : Topo := Topo.v7x

variable {F : FTy → Type} [FloatOps F]
-- ==== SharedFfn.lean ====
abbrev S40960x2048 : Shape := ⟨2, ![40960, 2048]⟩
abbrev S2048x1024 : Shape := ⟨2, ![2048, 1024]⟩
abbrev S512x2048 : Shape := ⟨2, ![512, 2048]⟩
abbrev S1x2048x1024 : Shape := ⟨3, ![1, 2048, 1024]⟩
abbrev S1x512x2048 : Shape := ⟨3, ![1, 512, 2048]⟩
abbrev S_ : Shape := ⟨0, ![]⟩
abbrev S80 : Shape := ⟨1, ![80]⟩
abbrev S1 : Shape := ⟨1, ![1]⟩
abbrev S512x1024 : Shape := ⟨2, ![512, 1024]⟩
abbrev S512x512 : Shape := ⟨2, ![512, 512]⟩

abbrev nBuf : Space → Nat
  | .hbm => 10
  | .vmem => 8
  | .smem => 2
  | _ => 0

abbrev bufTy : (tb : Table) → Fin (tcTables nBuf tb) → BufTy
  | .hbm, ⟨0, _⟩ => ⟨S40960x2048, .f32⟩
  | .hbm, ⟨1, _⟩ => ⟨S2048x1024, .f32⟩
  | .hbm, ⟨2, _⟩ => ⟨S512x2048, .f32⟩
  | .hbm, ⟨3, _⟩ => ⟨S2048x1024, .bf16⟩
  | .hbm, ⟨4, _⟩ => ⟨S512x2048, .bf16⟩
  | .hbm, ⟨5, _⟩ => ⟨S1x2048x1024, .bf16⟩
  | .hbm, ⟨6, _⟩ => ⟨S1x512x2048, .bf16⟩
  | .hbm, ⟨7, _⟩ => ⟨S_, .i32⟩
  | .hbm, ⟨8, _⟩ => ⟨S_, .i32⟩
  | .hbm, ⟨9, _⟩ => ⟨S40960x2048, .f32⟩
  | .local _ .vmem, ⟨0, _⟩ => ⟨S512x2048, .f32⟩
  | .local _ .vmem, ⟨1, _⟩ => ⟨S512x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x512x2048, .bf16⟩
  | .local _ .vmem, ⟨5, _⟩ => ⟨S1x512x2048, .bf16⟩
  | .local _ .vmem, ⟨6, _⟩ => ⟨S512x2048, .f32⟩
  | .local _ .vmem, ⟨7, _⟩ => ⟨S512x2048, .f32⟩
  | .local _ .smem, ⟨0, _⟩ => ⟨S80, .i32⟩
  | .local _ .smem, ⟨1, _⟩ => ⟨S1, .i32⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_c_0 : Ref sig .tc := ⟨.hbm, 8, rfl⟩
abbrev main_v6 : Ref sig .tc := ⟨.hbm, 9, rfl⟩
abbrev main_v4 : Ref sig .tc := ⟨.smem, 0, rfl⟩
abbrev main_v5 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![80], ![false]⟩

abbrev pre0 : Pipeline.Prefetch sig := ⟨2, ![main_v4.idx, main_v5.idx], fun | 0 => main_v4.names | 1 => main_v5.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SharedFfnRefIdeal.lean ====
abbrev S40960x2048 : Shape := ⟨2, ![40960, 2048]⟩
abbrev S2048x1024 : Shape := ⟨2, ![2048, 1024]⟩
abbrev S512x2048 : Shape := ⟨2, ![512, 2048]⟩
abbrev S40960x1024 : Shape := ⟨2, ![40960, 1024]⟩
abbrev S40960x512 : Shape := ⟨2, ![40960, 512]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S40960x2048, .f32⟩
  | .hbm, ⟨1, _⟩ => ⟨S2048x1024, .f32⟩
  | .hbm, ⟨2, _⟩ => ⟨S512x2048, .f32⟩
  | .hbm, ⟨3, _⟩ => ⟨S40960x1024, .f32⟩
  | .hbm, ⟨4, _⟩ => ⟨S40960x512, .f32⟩
  | .hbm, ⟨5, _⟩ => ⟨S40960x512, .f32⟩
  | .hbm, ⟨6, _⟩ => ⟨S40960x512, .f32⟩
  | .hbm, ⟨7, _⟩ => ⟨S_, .f32⟩
  | .hbm, ⟨8, _⟩ => ⟨S40960x512, .f32⟩
  | .hbm, ⟨9, _⟩ => ⟨S40960x512, .f32⟩
  | .hbm, ⟨10, _⟩ => ⟨S_, .f32⟩
  | .hbm, ⟨11, _⟩ => ⟨S40960x512, .f32⟩
  | .hbm, ⟨12, _⟩ => ⟨S40960x512, .f32⟩
  | .hbm, ⟨13, _⟩ => ⟨S40960x512, .f32⟩
  | .hbm, ⟨14, _⟩ => ⟨S40960x512, .f32⟩
  | .hbm, ⟨15, _⟩ => ⟨S40960x512, .f32⟩
  | .hbm, ⟨16, _⟩ => ⟨S40960x2048, .f32⟩
  | _, _ => ⟨S40960x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== RetFwd.lean ====
abbrev S40960x12288 : Shape := ⟨2, ![40960, 12288]⟩
abbrev S8 : Shape := ⟨1, ![8]⟩
abbrev S_ : Shape := ⟨0, ![]⟩
abbrev S40960x4096 : Shape := ⟨2, ![40960, 4096]⟩
abbrev S256x256 : Shape := ⟨2, ![256, 256]⟩
abbrev S256x512 : Shape := ⟨2, ![256, 512]⟩
abbrev S256x1 : Shape := ⟨2, ![256, 1]⟩
abbrev S1 : Shape := ⟨1, ![1]⟩

abbrev nBuf : Space → Nat
  | .hbm => 7
  | .vmem => 12
  | .smem => 2
  | _ => 0

abbrev bufTy : (tb : Table) → Fin (tcTables nBuf tb) → BufTy
  | .hbm, ⟨0, _⟩ => ⟨S40960x12288, .bf16⟩
  | .hbm, ⟨1, _⟩ => ⟨S8, .f32⟩
  | .hbm, ⟨2, _⟩ => ⟨S_, .f32⟩
  | .hbm, ⟨3, _⟩ => ⟨S8, .f32⟩
  | .hbm, ⟨4, _⟩ => ⟨S8, .f32⟩
  | .hbm, ⟨5, _⟩ => ⟨S8, .f32⟩
  | .hbm, ⟨6, _⟩ => ⟨S40960x4096, .f32⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x512, .bf16⟩
  | .local _ .vmem, ⟨5, _⟩ => ⟨S256x512, .bf16⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x256, .f32⟩
  | .local _ .vmem, ⟨10, _⟩ => ⟨S256x1, .f32⟩
  | .local _ .vmem, ⟨11, _⟩ => ⟨S256x1, .f32⟩
  | .local _ .smem, ⟨0, _⟩ => ⟨S8, .f32⟩
  | .local _ .smem, ⟨1, _⟩ => ⟨S8, .f32⟩
  | _, _ => ⟨S40960x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 160], ![false, false]⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RetFwdRefIdeal.lean ====
abbrev S40960x12288 : Shape := ⟨2, ![40960, 12288]⟩
abbrev S8 : Shape := ⟨1, ![8]⟩
abbrev S8192x12288 : Shape := ⟨2, ![8192, 12288]⟩
abbrev S8192x2048 : Shape := ⟨2, ![8192, 2048]⟩
abbrev S4x2048x8x256 : Shape := ⟨4, ![4, 2048, 8, 256]⟩
abbrev S8192x4096 : Shape := ⟨2, ![8192, 4096]⟩
abbrev S4x2048x8x512 : Shape := ⟨4, ![4, 2048, 8, 512]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S1x2048x2048 : Shape := ⟨3, ![1, 2048, 2048]⟩
abbrev S8x1x1 : Shape := ⟨3, ![8, 1, 1]⟩
abbrev S8x2048x2048 : Shape := ⟨3, ![8, 2048, 2048]⟩
abbrev S4x8x2048x2048 : Shape := ⟨4, ![4, 8, 2048, 2048]⟩
abbrev S1x8x2048x2048 : Shape := ⟨4, ![1, 8, 2048, 2048]⟩
abbrev S4x8x512x2048 : Shape := ⟨4, ![4, 8, 512, 2048]⟩
abbrev S32768x12288 : Shape := ⟨2, ![32768, 12288]⟩
abbrev S32768x2048 : Shape := ⟨2, ![32768, 2048]⟩
abbrev S8x4096x8x256 : Shape := ⟨4, ![8, 4096, 8, 256]⟩
abbrev S32768x4096 : Shape := ⟨2, ![32768, 4096]⟩
abbrev S8x4096x8x512 : Shape := ⟨4, ![8, 4096, 8, 512]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S8x4096x4096 : Shape := ⟨3, ![8, 4096, 4096]⟩
abbrev S8x8x4096x4096 : Shape := ⟨4, ![8, 8, 4096, 4096]⟩
abbrev S1x8x4096x4096 : Shape := ⟨4, ![1, 8, 4096, 4096]⟩
abbrev S8x8x512x4096 : Shape := ⟨4, ![8, 8, 512, 4096]⟩
abbrev S40960x4096 : Shape := ⟨2, ![40960, 4096]⟩

abbrev nBuf : Space → Nat
  | .hbm => 85
  | .vmem => 0
  | .smem => 0
  | _ => 0

abbrev bufTy : (tb : Table) → Fin (tcTables nBuf tb) → BufTy
  | .hbm, ⟨0, _⟩ => ⟨S40960x12288, .bf16⟩
  | .hbm, ⟨1, _⟩ => ⟨S8, .f32⟩
  | .hbm, ⟨2, _⟩ => ⟨S8192x12288, .bf16⟩
  | .hbm, ⟨3, _⟩ => ⟨S8192x2048, .bf16⟩
  | .hbm, ⟨4, _⟩ => ⟨S4x2048x8x256, .bf16⟩
  | .hbm, ⟨5, _⟩ => ⟨S4x2048x8x256, .f32⟩
  | .hbm, ⟨6, _⟩ => ⟨S8192x2048, .bf16⟩
  | .hbm, ⟨7, _⟩ => ⟨S4x2048x8x256, .bf16⟩
  | .hbm, ⟨8, _⟩ => ⟨S4x2048x8x256, .f32⟩
  | .hbm, ⟨9, _⟩ => ⟨S8192x4096, .bf16⟩
  | .hbm, ⟨10, _⟩ => ⟨S4x2048x8x512, .bf16⟩
  | .hbm, ⟨11, _⟩ => ⟨S4x2048x8x512, .f32⟩
  | .hbm, ⟨12, _⟩ => ⟨S2048, .f32⟩
  | .hbm, ⟨13, _⟩ => ⟨S2048x1, .f32⟩
  | .hbm, ⟨14, _⟩ => ⟨S1x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .i1⟩
  | .hbm, ⟨21, _⟩ => ⟨S_, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S1x2048x2048, .f32⟩
  | .hbm, ⟨26, _⟩ => ⟨S8x1x1, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S_, .f32⟩
  | .hbm, ⟨32, _⟩ => ⟨S_, .f32⟩
  | .hbm, ⟨33, _⟩ => ⟨S8x2048x2048, .i1⟩
  | .hbm, ⟨34, _⟩ => ⟨S8x2048x2048, .f32⟩
  | .hbm, ⟨35, _⟩ => ⟨S8x2048x2048, .f32⟩
  | .hbm, ⟨36, _⟩ => ⟨S4x8x2048x2048, .f32⟩
  | .hbm, ⟨37, _⟩ => ⟨S1x8x2048x2048, .f32⟩
  | .hbm, ⟨38, _⟩ => ⟨S4x8x2048x2048, .f32⟩
  | .hbm, ⟨39, _⟩ => ⟨S4x8x2048x2048, .f32⟩
  | .hbm, ⟨40, _⟩ => ⟨S4x8x512x2048, .f32⟩
  | .hbm, ⟨41, _⟩ => ⟨S4x2048x8x512, .f32⟩
  | .hbm, ⟨42, _⟩ => ⟨S8192x4096, .f32⟩
  | .hbm, ⟨43, _⟩ => ⟨S32768x12288, .bf16⟩
  | .hbm, ⟨44, _⟩ => ⟨S32768x2048, .bf16⟩
  | .hbm, ⟨45, _⟩ => ⟨S8x4096x8x256, .bf16⟩
  | .hbm, ⟨46, _⟩ => ⟨S8x4096x8x256, .f32⟩
  | .hbm, ⟨47, _⟩ => ⟨S32768x2048, .bf16⟩
  | .hbm, ⟨48, _⟩ => ⟨S8x4096x8x256, .bf16⟩
  | .hbm, ⟨49, _⟩ => ⟨S8x4096x8x256, .f32⟩
  | .hbm, ⟨50, _⟩ => ⟨S32768x4096, .bf16⟩
  | .hbm, ⟨51, _⟩ => ⟨S8x4096x8x512, .bf16⟩
  | .hbm, ⟨52, _⟩ => ⟨S8x4096x8x512, .f32⟩
  | .hbm, ⟨53, _⟩ => ⟨S4096, .f32⟩
  | .hbm, ⟨54, _⟩ => ⟨S4096x1, .f32⟩
  | .hbm, ⟨55, _⟩ => ⟨S1x4096, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S_, .f32⟩
  | .hbm, ⟨60, _⟩ => ⟨S4096x4096, .f32⟩
  | .hbm, ⟨61, _⟩ => ⟨S4096x4096, .i1⟩
  | .hbm, ⟨62, _⟩ => ⟨S_, .f32⟩
  | .hbm, ⟨63, _⟩ => ⟨S_, .f32⟩
  | .hbm, ⟨64, _⟩ => ⟨S4096x4096, .f32⟩
  | .hbm, ⟨65, _⟩ => ⟨S4096x4096, .f32⟩
  | .hbm, ⟨66, _⟩ => ⟨S1x4096x4096, .f32⟩
  | .hbm, ⟨67, _⟩ => ⟨S8x1x1, .f32⟩
  | .hbm, ⟨68, _⟩ => ⟨S8x4096x4096, .f32⟩
  | .hbm, ⟨69, _⟩ => ⟨S8x4096x4096, .f32⟩
  | .hbm, ⟨70, _⟩ => ⟨S8x4096x4096, .f32⟩
  | .hbm, ⟨71, _⟩ => ⟨S8x4096x4096, .f32⟩
  | .hbm, ⟨72, _⟩ => ⟨S_, .f32⟩
  | .hbm, ⟨73, _⟩ => ⟨S_, .f32⟩
  | .hbm, ⟨74, _⟩ => ⟨S8x4096x4096, .i1⟩
  | .hbm, ⟨75, _⟩ => ⟨S8x4096x4096, .f32⟩
  | .hbm, ⟨76, _⟩ => ⟨S8x4096x4096, .f32⟩
  | .hbm, ⟨77, _⟩ => ⟨S8x8x4096x4096, .f32⟩
  | .hbm, ⟨78, _⟩ => ⟨S1x8x4096x4096, .f32⟩
  | .hbm, ⟨79, _⟩ => ⟨S8x8x4096x4096, .f32⟩
  | .hbm, ⟨80, _⟩ => ⟨S8x8x4096x4096, .f32⟩
  | .hbm, ⟨81, _⟩ => ⟨S8x8x512x4096, .f32⟩
  | .hbm, ⟨82, _⟩ => ⟨S8x4096x8x512, .f32⟩
  | .hbm, ⟨83, _⟩ => ⟨S32768x4096, .f32⟩
  | .hbm, ⟨84, _⟩ => ⟨S40960x4096, .f32⟩
  | _, _ => ⟨S40960x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_2 : Ref sig .tc := ⟨.hbm, 59, rfl⟩
abbrev main_v49 : Ref sig .tc := ⟨.hbm, 60, rfl⟩
abbrev main_v50 : Ref sig .tc := ⟨.hbm, 61, rfl⟩
abbrev main_cst_3 : Ref sig .tc := ⟨.hbm, 62, rfl⟩
abbrev main_call2_v0 : Ref sig .tc := ⟨.hbm, 63, rfl⟩
abbrev main_call2_v1 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_4 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩

abbrev nD : Nat := 1
abbrev τ : Topo := Topo.v7x

variable {F : FTy → Type} [FloatOps F]
-- ==== RetBwd.lean ====
abbrev S40960x12288 : Shape := ⟨2, ![40960, 12288]⟩
abbrev S8 : Shape := ⟨1, ![8]⟩
abbrev S40960x4096 : Shape := ⟨2, ![40960, 4096]⟩
abbrev S_ : Shape := ⟨0, ![]⟩
abbrev S256x256 : Shape := ⟨2, ![256, 256]⟩
abbrev S256x512 : Shape := ⟨2, ![256, 512]⟩
abbrev S256x1 : Shape := ⟨2, ![256, 1]⟩
abbrev S1 : Shape := ⟨1, ![1]⟩
abbrev S256 : Shape := ⟨1, ![256]⟩

abbrev nBuf : Space → Nat
  | .hbm => 8
  | .vmem => 16
  | .smem => 2
  | _ => 0

abbrev bufTy : (tb : Table) → Fin (tcTables nBuf tb) → BufTy
  | .hbm, ⟨0, _⟩ => ⟨S40960x12288, .bf16⟩
  | .hbm, ⟨1, _⟩ => ⟨S8, .f32⟩
  | .hbm, ⟨2, _⟩ => ⟨S40960x4096, .f32⟩
  | .hbm, ⟨3, _⟩ => ⟨S_, .f32⟩
  | .hbm, ⟨4, _⟩ => ⟨S8, .f32⟩
  | .hbm, ⟨5, _⟩ => ⟨S8, .f32⟩
  | .hbm, ⟨6, _⟩ => ⟨S8, .f32⟩
  | .hbm, ⟨7, _⟩ => ⟨S40960x4096, .bf16⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x512, .bf16⟩
  | .local _ .vmem, ⟨5, _⟩ => ⟨S256x512, .bf16⟩
  | .local _ .vmem, ⟨6, _⟩ => ⟨S256x512, .f32⟩
  | .local _ .vmem, ⟨7, _⟩ => ⟨S256x512, .f32⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .f32⟩
  | .local _ .vmem, ⟨13, _⟩ => ⟨S256x256, .f32⟩
  | .local _ .vmem, ⟨14, _⟩ => ⟨S256x1, .f32⟩
  | .local _ .vmem, ⟨15, _⟩ => ⟨S256x1, .f32⟩
  | .local _ .smem, ⟨0, _⟩ => ⟨S8, .f32⟩
  | .local _ .smem, ⟨1, _⟩ => ⟨S8, .f32⟩
  | _, _ => ⟨S40960x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 160], ![false, false]⟩

def k0_off1 (i : grid0.Coords) : Fin 1 → Nat :=
  let arg0 : BitVec 32 := BitVec.ofNat 32 (i 0).val
  let v1 : Index := Scalar.indexCast arg0
  ![v1.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c159_i32 : BitVec 32 := 159#32
  let v0 : BitVec 32 := Scalar.subi c159_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c159_i32 : BitVec 32 := 159#32
  let v0 : BitVec 32 := Scalar.subi c159_i32 arg1
  let c8_i32 : BitVec 32 := 8#32
  let v1 : BitVec 32 := Scalar.addi c8_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c159_i32 : BitVec 32 := 159#32
  let v0 : BitVec 32 := Scalar.subi c159_i32 arg1
  let c8_i32 : BitVec 32 := 8#32
  let v1 : BitVec 32 := Scalar.addi c8_i32 arg0
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c159_i32 : BitVec 32 := 159#32
  let v0 : BitVec 32 := Scalar.subi c159_i32 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c159_i32 : BitVec 32 := 159#32
  let v0 : BitVec 32 := Scalar.subi c159_i32 arg1
  let c16_i32 : BitVec 32 := 16#32
  let v1 : BitVec 32 := Scalar.addi c16_i32 arg0
  let c0_i32 : BitVec 32 := 0#32
  ![v0.toNat, v1.toNat]

def cc0_transform_7 (i : grid0.Coords) : Fin 2 → Nat :=
  let arg0 : BitVec 32 := BitVec.ofNat 32 (i 0).val
  let arg1 : BitVec 32 := BitVec.ofNat 32 (i 1).val
  let c159_i32 : BitVec 32 := 159#32
  let v0 : BitVec 32 := Scalar.subi c159_i32 arg1
  let c0_i32 : BitVec 32 := 0#32
  ![v0.toNat, arg0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RetBwdRefIdeal.lean ====
abbrev S40960x12288 : Shape := ⟨2, ![40960, 12288]⟩
abbrev S8 : Shape := ⟨1, ![8]⟩
abbrev S40960x4096 : Shape := ⟨2, ![40960, 4096]⟩
abbrev S8192x12288 : Shape := ⟨2, ![8192, 12288]⟩
abbrev S8192x4096 : Shape := ⟨2, ![8192, 4096]⟩
abbrev S8192x2048 : Shape := ⟨2, ![8192, 2048]⟩
abbrev S4x2048x8x256 : Shape := ⟨4, ![4, 2048, 8, 256]⟩
abbrev S4x2048x8x512 : Shape := ⟨4, ![4, 2048, 8, 512]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S1x2048x2048 : Shape := ⟨3, ![1, 2048, 2048]⟩
abbrev S8x1x1 : Shape := ⟨3, ![8, 1, 1]⟩
abbrev S8x2048x2048 : Shape := ⟨3, ![8, 2048, 2048]⟩
abbrev S4x8x2048x2048 : Shape := ⟨4, ![4, 8, 2048, 2048]⟩
abbrev S1x8x2048x2048 : Shape := ⟨4, ![1, 8, 2048, 2048]⟩
abbrev S4x8x512x2048 : Shape := ⟨4, ![4, 8, 512, 2048]⟩
abbrev S4x2048x8 : Shape := ⟨3, ![4, 2048, 8]⟩
abbrev S4x2048x8x1 : Shape := ⟨4, ![4, 2048, 8, 1]⟩
abbrev S32768x12288 : Shape := ⟨2, ![32768, 12288]⟩
abbrev S32768x4096 : Shape := ⟨2, ![32768, 4096]⟩
abbrev S32768x2048 : Shape := ⟨2, ![32768, 2048]⟩
abbrev S8x4096x8x256 : Shape := ⟨4, ![8, 4096, 8, 256]⟩
abbrev S8x4096x8x512 : Shape := ⟨4, ![8, 4096, 8, 512]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S8x4096x4096 : Shape := ⟨3, ![8, 4096, 4096]⟩
abbrev S8x8x4096x4096 : Shape := ⟨4, ![8, 8, 4096, 4096]⟩
abbrev S1x8x4096x4096 : Shape := ⟨4, ![1, 8, 4096, 4096]⟩
abbrev S8x8x512x4096 : Shape := ⟨4, ![8, 8, 512, 4096]⟩
abbrev S8x4096x8 : Shape := ⟨3, ![8, 4096, 8]⟩
abbrev S8x4096x8x1 : Shape := ⟨4, ![8, 4096, 8, 1]⟩

abbrev nBuf : Space → Nat
  | .hbm => 172
  | .vmem => 0
  | .smem => 0
  | _ => 0

abbrev hbmTy0_0 (i : Nat) : BufTy := match i % 128 with
  | 0 => ⟨S40960x12288, .bf16⟩
  | 1 => ⟨S8, .f32⟩
  | 2 => ⟨S40960x4096, .f32⟩
  | 3 => ⟨S8192x12288, .bf16⟩
  | 4 => ⟨S8192x4096, .f32⟩
  | 5 => ⟨S8192x2048, .bf16⟩
  | 6 => ⟨S4x2048x8x256, .bf16⟩
  | 7 => ⟨S4x2048x8x256, .f32⟩
  | 8 => ⟨S8192x2048, .bf16⟩
  | 9 => ⟨S4x2048x8x256, .bf16⟩
  | 10 => ⟨S4x2048x8x256, .f32⟩
  | 11 => ⟨S8192x4096, .bf16⟩
  | 12 => ⟨S4x2048x8x512, .bf16⟩
  | 13 => ⟨S4x2048x8x512, .f32⟩
  | 14 => ⟨S8192x4096, .bf16⟩
  | 15 => ⟨S8192x4096, .f32⟩
  | 16 => ⟨S4x2048x8x256, .f32⟩
  | 17 => ⟨S4x2048x8x256, .f32⟩
  | 18 => ⟨S4x2048x8x512, .f32⟩
  | 19 => ⟨S2048, .f32⟩
  | 20 => ⟨S2048x1, .f32⟩
  | 21 => ⟨S1x2048, .f32⟩
  | 22 => ⟨S2048x2048, .f32⟩
  | 23 => ⟨S2048x2048, .f32⟩
  | 24 => ⟨S2048x2048, .f32⟩
  | 25 => ⟨S_, .f32⟩
  | 26 => ⟨S2048x2048, .f32⟩
  | 27 => ⟨S2048x2048, .i1⟩
  | 28 => ⟨S_, .f32⟩
  | 29 => ⟨S_, .f32⟩
  | 30 => ⟨S2048x2048, .f32⟩
  | 31 => ⟨S2048x2048, .f32⟩
  | 32 => ⟨S1x2048x2048, .f32⟩
  | 33 => ⟨S8x1x1, .f32⟩
  | 34 => ⟨S8x2048x2048, .f32⟩
  | 35 => ⟨S8x2048x2048, .f32⟩
  | 36 => ⟨S8x2048x2048, .f32⟩
  | 37 => ⟨S8x2048x2048, .f32⟩
  | 38 => ⟨S_, .f32⟩
  | 39 => ⟨S_, .f32⟩
  | 40 => ⟨S8x2048x2048, .i1⟩
  | 41 => ⟨S8x2048x2048, .f32⟩
  | 42 => ⟨S8x2048x2048, .f32⟩
  | 43 => ⟨S4x8x2048x2048, .f32⟩
  | 44 => ⟨S1x8x2048x2048, .f32⟩
  | 45 => ⟨S4x8x2048x2048, .f32⟩
  | 46 => ⟨S4x8x2048x2048, .f32⟩
  | 47 => ⟨S4x8x512x2048, .f32⟩
  | 48 => ⟨S4x2048x8x512, .f32⟩
  | 49 => ⟨S4x2048x8x512, .f32⟩
  | 50 => ⟨S4x2048x8x512, .f32⟩
  | 51 => ⟨S4x2048x8x512, .f32⟩
  | 52 => ⟨S_, .f32⟩
  | 53 => ⟨S4x2048x8, .f32⟩
  | 54 => ⟨S4x2048x8x1, .f32⟩
  | 55 => ⟨S_, .f32⟩
  | 56 => ⟨S4x2048x8x1, .f32⟩
  | 57 => ⟨S4x2048x8x1, .f32⟩
  | 58 => ⟨S4x2048x8x512, .f32⟩
  | 59 => ⟨S4x2048x8x512, .f32⟩
  | 60 => ⟨S4x2048x8x512, .f32⟩
  | 61 => ⟨S_, .f32⟩
  | 62 => ⟨S4x2048x8, .f32⟩
  | 63 => ⟨S4x2048x8x1, .f32⟩
  | 64 => ⟨S_, .f32⟩
  | 65 => ⟨S4x2048x8x1, .f32⟩
  | 66 => ⟨S4x2048x8x1, .f32⟩
  | 67 => ⟨S4x2048x8x512, .f32⟩
  | 68 => ⟨S4x2048x8x512, .f32⟩
  | 69 => ⟨S_, .f32⟩
  | 70 => ⟨S4x2048x8x1, .f32⟩
  | 71 => ⟨S4x2048x8x1, .f32⟩
  | 72 => ⟨S4x2048x8x1, .f32⟩
  | 73 => ⟨S4x2048x8x512, .f32⟩
  | 74 => ⟨S4x2048x8x512, .f32⟩
  | 75 => ⟨S8192x4096, .f32⟩
  | 76 => ⟨S8192x4096, .f32⟩
  | 77 => ⟨S8192x4096, .f32⟩
  | 78 => ⟨S_, .f32⟩
  | 79 => ⟨S8192x4096, .f32⟩
  | 80 => ⟨S8192x4096, .f32⟩
  | 81 => ⟨S_, .f32⟩
  | 82 => ⟨S8192x4096, .f32⟩
  | 83 => ⟨S8192x4096, .f32⟩
  | 84 => ⟨S8192x4096, .f32⟩
  | 85 => ⟨S8192x4096, .f32⟩
  | 86 => ⟨S8192x4096, .bf16⟩
  | 87 => ⟨S32768x12288, .bf16⟩
  | 88 => ⟨S32768x4096, .f32⟩
  | 89 => ⟨S32768x2048, .bf16⟩
  | 90 => ⟨S8x4096x8x256, .bf16⟩
  | 91 => ⟨S8x4096x8x256, .f32⟩
  | 92 => ⟨S32768x2048, .bf16⟩
  | 93 => ⟨S8x4096x8x256, .bf16⟩
  | 94 => ⟨S8x4096x8x256, .f32⟩
  | 95 => ⟨S32768x4096, .bf16⟩
  | 96 => ⟨S8x4096x8x512, .bf16⟩
  | 97 => ⟨S8x4096x8x512, .f32⟩
  | 98 => ⟨S32768x4096, .bf16⟩
  | 99 => ⟨S32768x4096, .f32⟩
  | 100 => ⟨S8x4096x8x256, .f32⟩
  | 101 => ⟨S8x4096x8x256, .f32⟩
  | 102 => ⟨S8x4096x8x512, .f32⟩
  | 103 => ⟨S4096, .f32⟩
  | 104 => ⟨S4096x1, .f32⟩
  | 105 => ⟨S1x4096, .f32⟩
  | 106 => ⟨S4096x4096, .f32⟩
  | 107 => ⟨S4096x4096, .f32⟩
  | 108 => ⟨S4096x4096, .f32⟩
  | 109 => ⟨S_, .f32⟩
  | 110 => ⟨S4096x4096, .f32⟩
  | 111 => ⟨S4096x4096, .i1⟩
  | 112 => ⟨S_, .f32⟩
  | 113 => ⟨S_, .f32⟩
  | 114 => ⟨S4096x4096, .f32⟩
  | 115 => ⟨S4096x4096, .f32⟩
  | 116 => ⟨S1x4096x4096, .f32⟩
  | 117 => ⟨S8x1x1, .f32⟩
  | 118 => ⟨S8x4096x4096, .f32⟩
  | 119 => ⟨S8x4096x4096, .f32⟩
  | 120 => ⟨S8x4096x4096, .f32⟩
  | 121 => ⟨S8x4096x4096, .f32⟩
  | 122 => ⟨S_, .f32⟩
  | 123 => ⟨S_, .f32⟩
  | 124 => ⟨S8x4096x4096, .i1⟩
  | 125 => ⟨S8x4096x4096, .f32⟩
  | 126 => ⟨S8x4096x4096, .f32⟩
  | 127 => ⟨S8x8x4096x4096, .f32⟩
  | _ => ⟨S40960x12288, .bf16⟩

abbrev hbmTy0_1 (i : Nat) : BufTy := match i % 128 with
  | 0 => ⟨S1x8x4096x4096, .f32⟩
  | 1 => ⟨S8x8x4096x4096, .f32⟩
  | 2 => ⟨S8x8x4096x4096, .f32⟩
  | 3 => ⟨S8x8x512x4096, .f32⟩
  | 4 => ⟨S8x4096x8x512, .f32⟩
  | 5 => ⟨S8x4096x8x512, .f32⟩
  | 6 => ⟨S8x4096x8x512, .f32⟩
  | 7 => ⟨S8x4096x8x512, .f32⟩
  | 8 => ⟨S_, .f32⟩
  | 9 => ⟨S8x4096x8, .f32⟩
  | 10 => ⟨S8x4096x8x1, .f32⟩
  | 11 => ⟨S_, .f32⟩
  | 12 => ⟨S8x4096x8x1, .f32⟩
  | 13 => ⟨S8x4096x8x1, .f32⟩
  | 14 => ⟨S8x4096x8x512, .f32⟩
  | 15 => ⟨S8x4096x8x512, .f32⟩
  | 16 => ⟨S8x4096x8x512, .f32⟩
  | 17 => ⟨S_, .f32⟩
  | 18 => ⟨S8x4096x8, .f32⟩
  | 19 => ⟨S8x4096x8x1, .f32⟩
  | 20 => ⟨S_, .f32⟩
  | 21 => ⟨S8x4096x8x1, .f32⟩
  | 22 => ⟨S8x4096x8x1, .f32⟩
  | 23 => ⟨S8x4096x8x512, .f32⟩
  | 24 => ⟨S8x4096x8x512, .f32⟩
  | 25 => ⟨S_, .f32⟩
  | 26 => ⟨S8x4096x8x1, .f32⟩
  | 27 => ⟨S8x4096x8x1, .f32⟩
  | 28 => ⟨S8x4096x8x1, .f32⟩
  | 29 => ⟨S8x4096x8x512, .f32⟩
  | 30 => ⟨S8x4096x8x512, .f32⟩
  | 31 => ⟨S32768x4096, .f32⟩
  | 32 => ⟨S32768x4096, .f32⟩
  | 33 => ⟨S32768x4096, .f32⟩
  | 34 => ⟨S_, .f32⟩
  | 35 => ⟨S32768x4096, .f32⟩
  | 36 => ⟨S32768x4096, .f32⟩
  | 37 => ⟨S_, .f32⟩
  | 38 => ⟨S32768x4096, .f32⟩
  | 39 => ⟨S32768x4096, .f32⟩
  | 40 => ⟨S32768x4096, .f32⟩
  | 41 => ⟨S32768x4096, .f32⟩
  | 42 => ⟨S32768x4096, .bf16⟩
  | 43 => ⟨S40960x4096, .bf16⟩
  | _ => ⟨S40960x12288, .bf16⟩

abbrev hbmTy (i : Nat) : BufTy := match i / 128 with
  | 0 => hbmTy0_0 i
  | 1 => hbmTy0_1 i
  | _ => ⟨S40960x12288, .bf16⟩

abbrev bufTy : (tb : Table) → Fin (tcTables nBuf tb) → BufTy
  | .hbm, ⟨i, _⟩ => hbmTy i
  | _, _ => ⟨S40960x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_1 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_2 : Ref sig .tc := ⟨.hbm, 52, rfl⟩
abbrev main_v41 : Ref sig .tc := ⟨.hbm, 53, rfl⟩
abbrev main_v42 : Ref sig .tc := ⟨.hbm, 54, rfl⟩
abbrev main_cst_3 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_4 : Ref sig .tc := ⟨.hbm, 61, rfl⟩
abbrev main_v48 : Ref sig .tc := ⟨.hbm, 62, rfl⟩
abbrev main_v49 : Ref sig .tc := ⟨.hbm, 63, rfl⟩
abbrev main_cst_5 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_6 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_call2_v0 : Ref sig .tc := ⟨.hbm, 76, rfl⟩
abbrev main_call2_v1 : Ref sig .tc := ⟨.hbm, 77, rfl⟩
abbrev main_call2_cst : Ref sig .tc := ⟨.hbm, 78, rfl⟩
abbrev main_call2_v2 : Ref sig .tc := ⟨.hbm, 79, rfl⟩
abbrev main_call2_v3 : Ref sig .tc := ⟨.hbm, 80, rfl⟩
abbrev main_call2_cst_0 : Ref sig .tc := ⟨.hbm, 81, rfl⟩
abbrev main_call2_v4 : Ref sig .tc := ⟨.hbm, 82, rfl⟩
abbrev main_call2_v5 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_7 : Ref sig .tc := ⟨.hbm, 109, rfl⟩
abbrev main_v85 : Ref sig .tc := ⟨.hbm, 110, rfl⟩
abbrev main_v86 : Ref sig .tc := ⟨.hbm, 111, rfl⟩
abbrev main_cst_8 : Ref sig .tc := ⟨.hbm, 112, rfl⟩
abbrev main_call3_v0 : Ref sig .tc := ⟨.hbm, 113, rfl⟩
abbrev main_call3_v1 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_9 : Ref sig .tc := ⟨.hbm, 122, rfl⟩
abbrev main_call4_v0 : Ref sig .tc := ⟨.hbm, 123, rfl⟩
abbrev main_call4_v1 : Ref sig .tc := ⟨.hbm, 124, rfl⟩
abbrev main_call4_v2 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_10 : Ref sig .tc := ⟨.hbm, 136, rfl⟩
abbrev main_v104 : Ref sig .tc := ⟨.hbm, 137, rfl⟩
abbrev main_v105 : Ref sig .tc := ⟨.hbm, 138, rfl⟩
abbrev main_cst_11 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_cst_12 : Ref sig .tc := ⟨.hbm, 145, rfl⟩
abbrev main_v111 : Ref sig .tc := ⟨.hbm, 146, rfl⟩
abbrev main_v112 : Ref sig .tc := ⟨.hbm, 147, rfl⟩
abbrev main_cst_13 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_cst_14 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_call5_v0 : Ref sig .tc := ⟨.hbm, 160, rfl⟩
abbrev main_call5_v1 : Ref sig .tc := ⟨.hbm, 161, rfl⟩
abbrev main_call5_cst : Ref sig .tc := ⟨.hbm, 162, rfl⟩
abbrev main_call5_v2 : Ref sig .tc := ⟨.hbm, 163, rfl⟩
abbrev main_call5_v3 : Ref sig .tc := ⟨.hbm, 164, rfl⟩
abbrev main_call5_cst_0 : Ref sig .tc := ⟨.hbm, 165, rfl⟩
abbrev main_call5_v4 : Ref sig .tc := ⟨.hbm, 166, rfl⟩
abbrev main_call5_v5 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩

abbrev nD : Nat := 1
abbrev τ : Topo := Topo.v7x

variable {F : FTy → Type} [FloatOps F]
-- ==== Proof.RetOutValue.lean ====
module

public import proofs.«01_k».proof.Proof.Gen.RetOutIdeal
public import proofs.«01_k».proof.Proof.Gen.RetOutIdeal.Skeleton
public import proofs.«01_k».proof.Proof.Gen.RetOutIdeal.Launch
public import proofs.«01_k».proof.Proof.Gen.RetOutIdeal.Points
public import proofs.«01_k».proof.Proof.Gen.RetOutIdeal.Frame
public import proofs.«01_k».proof.Proof.Gen.RetOutRefIdeal.Read
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.RetOutIdeal.Value
open Cert.RetOutIdeal Cert.RetOutIdeal.Gen

variable (m : (ℓ : Loc nD τ sig) → Buf (Elt Ideal) ℓ)

/-- Where each window stands at a grid point. -/
theorem idx_val : ∀ t : Fin cfg0.N, win0_0.index t = ![t.val / 2, 0]
    ∧ win0_1.index t = ![0, t.val % 2]
    ∧ win0_2.index t = ![t.val / 2, t.val % 2] :=
  (by decide +kernel : ∀ t : Fin grid0.N, _)

/-- The tile written at a grid point is that tile of the reference's product. -/
theorem point (c : Dev nD) (t : Fin cfg0.N) (y) :
    k0_pay1 (iblk m c 0 t) (iblk m c 1 t) y
      = Cert.RetOutRefIdeal.Read.val_main_v2 (F := Ideal) (m ((c : Thread nD τ).loc main_arg0)) (m ((c : Thread nD τ).loc main_arg1))
          (((cfg0.win 2).blk t).view.emb y) := by
  unfold Cert.RetOutRefIdeal.Read.val_main_v2 Cert.RetOutRefIdeal.Read.val_main_v1 Cert.RetOutRefIdeal.Read.val_main_v0
  pointwise [k0_pay1]
  blk_point [iblk, V, idx_val t]

/-- The whole result is the reference's product. -/
theorem final (c : Dev nD) : (dats m 0 c).arrAt 2 (cfgs 0).N
    = Cert.RetOutRefIdeal.Read.val_main_v2 (F := Ideal) (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.RetOutIdeal.Value

end
-- ==== Proof.DiffOutValue.lean ====
module

public import proofs.«01_k».proof.Proof.Gen.DiffOutIdeal
public import proofs.«01_k».proof.Proof.Gen.DiffOutIdeal.Skeleton
public import proofs.«01_k».proof.Proof.Gen.DiffOutIdeal.Launch
public import proofs.«01_k».proof.Proof.Gen.DiffOutIdeal.Points
public import proofs.«01_k».proof.Proof.Gen.DiffOutIdeal.Frame
public import proofs.«01_k».proof.Proof.Gen.DiffOutRefIdeal.Read
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.DiffOutIdeal.Value
open Cert.DiffOutIdeal Cert.DiffOutIdeal.Gen

variable (m : (ℓ : Loc nD τ sig) → Buf (Elt Ideal) ℓ)

/-- Where each window stands at a grid point. -/
theorem idx_val : ∀ t : Fin cfg0.N, win0_0.index t = ![t.val / 2, 0]
    ∧ win0_1.index t = ![0, t.val % 2]
    ∧ win0_2.index t = ![t.val / 2, t.val % 2] :=
  (by decide +kernel : ∀ t : Fin grid0.N, _)

/-- The tile written at a grid point is that tile of the reference's product. -/
theorem point (c : Dev nD) (t : Fin cfg0.N) (y) :
    k0_pay1 (iblk m c 0 t) (iblk m c 1 t) y
      = Cert.DiffOutRefIdeal.Read.val_main_v2 (F := Ideal) (m ((c : Thread nD τ).loc main_arg0)) (m ((c : Thread nD τ).loc main_arg1))
          (((cfg0.win 2).blk t).view.emb y) := by
  unfold Cert.DiffOutRefIdeal.Read.val_main_v2 Cert.DiffOutRefIdeal.Read.val_main_v1 Cert.DiffOutRefIdeal.Read.val_main_v0
  pointwise [k0_pay1]
  blk_point [iblk, V, idx_val t]

/-- The whole result is the reference's product. -/
theorem final (c : Dev nD) : (dats m 0 c).arrAt 2 (cfgs 0).N
    = Cert.DiffOutRefIdeal.Read.val_main_v2 (F := Ideal) (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.DiffOutIdeal.Value

end
-- ==== Proof.OutClaim.lean ====
/- The value claims of this group of calls, and the frames of their references. -/
module

public import proofs.«01_k».proof.Defs
public import proofs.«01_k».proof.Proof.RetOutValue
public import proofs.«01_k».proof.Proof.Gen.RetOutIdeal.Value
public import proofs.«01_k».proof.Proof.Gen.RetOutRefIdeal.Run
public import proofs.«01_k».proof.Proof.Gen.RetOutRefIdeal.Read
public import Idealize.ShloMosaic.Lib.Quiescent
public import proofs.«01_k».proof.Proof.DiffOutValue
public import proofs.«01_k».proof.Proof.Gen.DiffOutIdeal.Value
public import proofs.«01_k».proof.Proof.Gen.DiffOutRefIdeal.Run
public import proofs.«01_k».proof.Proof.Gen.DiffOutRefIdeal.Read
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proof

/-- The product out of the retention mixer and its reference end with the same result. -/
theorem value_RetOut : Cert.algebraic_RetOutIdeal_RetOutRefIdeal := by
  pair_intro
  · run_from Cert.RetOutIdeal.Gen.run_main m g
  · hlo_run
    exact (Cert.RetOutIdeal.Value.final m c).symm

/-- The reference of the product out of the retention mixer runs and leaves its arguments unchanged. -/
theorem frame_RetOutRef : Cert.quiescent_RetOutRefIdeal := fun m g _ =>
  (θ_run _ _ _).mono (fun r h => ⟨fun c => (h c).2, sem_eq_zero_of_no_sems rfl r.2⟩) (Cert.RetOutRefIdeal.Value.run m g)

/-- The product out of the attention mixer and its reference end with the same result. -/
theorem value_DiffOut : Cert.algebraic_DiffOutIdeal_DiffOutRefIdeal := by
  pair_intro
  · run_from Cert.DiffOutIdeal.Gen.run_main m g
  · hlo_run
    exact (Cert.DiffOutIdeal.Value.final m c).symm

/-- The reference of the product out of the attention mixer runs and leaves its arguments unchanged. -/
theorem frame_DiffOutRef : Cert.quiescent_DiffOutRefIdeal := fun m g _ =>
  (θ_run _ _ _).mono (fun r h => ⟨fun c => (h c).2, sem_eq_zero_of_no_sems rfl r.2⟩) (Cert.DiffOutRefIdeal.Value.run m g)

end Cert.Proof

end
-- ==== Proof.AttnRow.lean ====
/- One output entry of differential attention, as arithmetic on extended reals: two softmax rows over the
   same values, combined before or after the products with the values. Shared by both batches. -/
module

public import Idealize.ShloMosaic.Lib.Pipeline.ValueKit

@[expose] public section

noncomputable section

namespace Cert.Attn

open Idealize.ShloMosaic

/-- The greatest score of a row, over the whole row at once. -/
def top {n : ℕ} (s : Fin n → EReal) : EReal := Finset.univ.fold max (Ideal.ofBits .f32 0xFF800000#32) s

/-- A row's unnormalised softmax weight: the exponential of the score's distance from the greatest. -/
def wt {n : ℕ} (s : Fin n → EReal) (k : Fin n) : EReal := Ideal.exp (s k - top s)

/-- The printed negative infinity is the least extended real. -/
theorem ofBits_bot : Ideal.ofBits .f32 0xFF800000#32 = ⊥ := by
  simp [Ideal.ofBits, Ideal.ieee]

/-- A finite sum of real numbers, taken in the extended reals, is the real sum. -/
theorem coe_sum {n : ℕ} (f : Fin n → ℝ) : (∑ k, ((f k : ℝ) : EReal)) = ((∑ k, f k : ℝ) : EReal) := by
  induction n with
  | zero => simp
  | succ n ih => rw [Fin.sum_univ_succ, Fin.sum_univ_succ, ih, EReal.coe_add]

/-- The greatest of a nonempty row of real scores is real. -/
theorem top_coe {n : ℕ} [NeZero n] (a : Fin n → ℝ) : ∃ r : ℝ, top (fun k => (a k : EReal)) = r := by
  have h := Finset.exists_mem_eq_sup (Finset.univ : Finset (Fin n)) ⟨0, Finset.mem_univ _⟩ fun k => (a k : EReal)
  obtain ⟨i, _, hi⟩ := h
  refine ⟨a i, ?_⟩
  rw [top, ofBits_bot]
  exact hi

/-- The weights of a nonempty row of real scores are positive real numbers. -/
theorem wt_coe {n : ℕ} [NeZero n] (a : Fin n → ℝ) :
    ∃ e : Fin n → ℝ, (∀ k, 0 < e k) ∧ ∀ k, wt (fun k => (a k : EReal)) k = (e k : EReal) := by
  obtain ⟨r, hr⟩ := top_coe a
  refine ⟨fun k => Real.exp (a k - r), fun k => Real.exp_pos _, fun k => ?_⟩
  rw [wt, hr, ← EReal.coe_sub, Ideal.exp_coe]

/-- Weighting the values by the combined, normalised rows is combining the two normalised weighted sums,
    where scores, values and the combining scalar are real. -/
theorem combine {n : ℕ} [NeZero n] (s₀ s₁ v : Fin n → EReal) (l : EReal)
    (h₀ : ∀ k, ∃ r : ℝ, s₀ k = r) (h₁ : ∀ k, ∃ r : ℝ, s₁ k = r) (hv : ∀ k, ∃ r : ℝ, v k = r) (hl : ∃ r : ℝ, l = r) :
    Ideal.div (∑ k, wt s₀ k * v k) (∑ k, wt s₀ k) - l * Ideal.div (∑ k, wt s₁ k * v k) (∑ k, wt s₁ k)
      = ∑ k, v k * (Ideal.div (wt s₀ k) (∑ k, wt s₀ k) - l * Ideal.div (wt s₁ k) (∑ k, wt s₁ k)) := by
  choose a₀ h₀ using h₀
  choose a₁ h₁ using h₁
  choose b hv using hv
  obtain ⟨c, rfl⟩ := hl
  obtain rfl : s₀ = fun k => (a₀ k : EReal) := funext h₀
  obtain rfl : s₁ = fun k => (a₁ k : EReal) := funext h₁
  obtain rfl : v = fun k => (b k : EReal) := funext hv
  obtain ⟨e₀, p₀, w₀⟩ := wt_coe a₀
  obtain ⟨e₁, p₁, w₁⟩ := wt_coe a₁
  have q₀ : (∑ k, e₀ k) ≠ 0 := (Finset.sum_pos (fun k _ => p₀ k) ⟨0, Finset.mem_univ _⟩).ne'
  have q₁ : (∑ k, e₁ k) ≠ 0 := (Finset.sum_pos (fun k _ => p₁ k) ⟨0, Finset.mem_univ _⟩).ne'
  simp only [w₀, w₁, ← EReal.coe_mul, coe_sum, Ideal.div_coe q₀, Ideal.div_coe q₁, ← EReal.coe_sub]
  refine congrArg _ ?_
  rw [Finset.sum_mul, Finset.sum_mul, Finset.mul_sum, ← Finset.sum_sub_distrib]
  exact Finset.sum_congr rfl fun k _ => by ring

/-- A head's combined row, divided by its root mean square and scaled. -/
def norm (o : Fin 256 → EReal) (g : EReal) (e : Fin 256) : EReal :=
  o e * Ideal.rsqrt (Ideal.div (∑ k, o k * o k) (Ideal.ofBits .f32 0x43800000#32) + Ideal.ofBits .f32 0x3727C5AC#32) * g
    * Ideal.ofBits .f32 0x3F24FD5C#32

/-- The weight of the second row: a difference of two exponentials of dot products, plus a constant. -/
def lam (q₁ k₁ q₂ k₂ : Fin 128 → EReal) : EReal :=
  Ideal.exp (∑ d, q₁ d * k₁ d) - Ideal.exp (∑ d, q₂ d * k₂ d) + Ideal.ofBits .f32 0x3EB60549#32

end Cert.Attn
-- ==== Proof.AttnPromptPure.lean ====
module

public import proofs.«01_k».proof.Proof.AttnRow
public import proofs.«01_k».proof.Proof.Gen.AttnPromptIdeal.Skeleton
public import proofs.«01_k».proof.Proof.Gen.AttnPromptRefIdeal.Read

@[expose] public section

set_option maxRecDepth 16384

noncomputable section

open Idealize.ShloMosaic Idealize.ShloMosaic.TcCoe Idealize.SL.Sem
open Idealize.ShloMosaic.Pipeline (Dat)

namespace Cert.AttnPromptRefIdeal.Pure
open Cert.AttnPromptRefIdeal Cert.AttnPromptRefIdeal.Gen Cert.AttnPromptRefIdeal.Read

/-- The greatest score of a row. -/
theorem v23_at (x : FVec Ideal S40960x6144 .bf16) (b : Fin 4) (h : Fin 8) (c : Fin 2) (q : Fin 2048) :
    val_main_v23 (F := Ideal) x (ix4 b h c q : S4x8x2x2048.Idx)
      = Finset.univ.fold max (Ideal.ofBits .f32 0xFF800000#32) fun k => val_main_v22 (F := Ideal) x (ix5 b h c q k : S4x8x2x2048x2048.Idx) := by
  unfold val_main_v23 val_main_cst_2
  generalize val_main_v22 (F := Ideal) x = y
  pointwise []

/-- It stands at every key of its row. -/
theorem v27_at (x : FVec Ideal S40960x6144 .bf16) (b : Fin 4) (h : Fin 8) (c : Fin 2) (q k : Fin 2048) :
    val_main_v27 (F := Ideal) x (ix5 b h c q k : S4x8x2x2048x2048.Idx) = val_main_v25 (F := Ideal) x (ix4 b h c q : S4x8x2x2048.Idx) := by
  unfold val_main_v27 val_main_v26
  generalize val_main_v25 (F := Ideal) x = y
  pointwise []

/-- The row's sum of weights. -/
theorem v30_at (x : FVec Ideal S40960x6144 .bf16) (b : Fin 4) (h : Fin 8) (c : Fin 2) (q : Fin 2048) :
    val_main_v30 (F := Ideal) x (ix4 b h c q : S4x8x2x2048.Idx)
      = ∑ k, val_main_v29 (F := Ideal) x (ix5 b h c q k : S4x8x2x2048x2048.Idx) := by
  unfold val_main_v30 val_main_cst_4
  generalize val_main_v29 (F := Ideal) x = y
  pointwise []

/-- It stands at every key of its row. -/
theorem v32_at (x : FVec Ideal S40960x6144 .bf16) (b : Fin 4) (h : Fin 8) (c : Fin 2) (q k : Fin 2048) :
    val_main_v32 (F := Ideal) x (ix5 b h c q k : S4x8x2x2048x2048.Idx) = val_main_v30 (F := Ideal) x (ix4 b h c q : S4x8x2x2048.Idx) := by
  unfold val_main_v32 val_main_v31
  generalize val_main_v30 (F := Ideal) x = y
  pointwise []

/-- A weight before normalising. -/
theorem v29_at (x : FVec Ideal S40960x6144 .bf16) (b : Fin 4) (h : Fin 8) (c : Fin 2) (q k : Fin 2048) :
    val_main_v29 (F := Ideal) x (ix5 b h c q k : S4x8x2x2048x2048.Idx)
      = Cert.Attn.wt (fun k => val_main_v22 (F := Ideal) x (ix5 b h c q k : S4x8x2x2048x2048.Idx)) k := by
  rw [val_main_v29_apply, val_main_v28_apply, v27_at, val_main_v25_apply, v23_at, val_main_v24_apply, val_main_cst_3_apply]
  generalize val_main_v22 (F := Ideal) x = y
  simp only [Cert.Attn.wt, Cert.Attn.top, Ideal.ofBits_def, Ideal.maximumf_def, Ideal.subf_def, Cert.Attn.ofBits_bot, bot_sup_eq]
  rfl

/-- A normalised weight. -/
theorem v33_at (x : FVec Ideal S40960x6144 .bf16) (b : Fin 4) (h : Fin 8) (c : Fin 2) (q k : Fin 2048) :
    val_main_v33 (F := Ideal) x (ix5 b h c q k : S4x8x2x2048x2048.Idx)
      = Ideal.div (Cert.Attn.wt (fun k => val_main_v22 (F := Ideal) x (ix5 b h c q k : S4x8x2x2048x2048.Idx)) k)
          (∑ k, Cert.Attn.wt (fun k => val_main_v22 (F := Ideal) x (ix5 b h c q k : S4x8x2x2048x2048.Idx)) k) := by
  rw [val_main_v33_apply, v29_at, v32_at, v30_at, Finset.sum_congr rfl fun k _ => v29_at x b h c q k]
  rfl

/-- The first of the two normalised rows. -/
theorem v35_at (x : FVec Ideal S40960x6144 .bf16) (b : Fin 4) (h : Fin 8) (q k : Fin 2048) :
    val_main_v35 (F := Ideal) x (ix4 b h q k : S4x8x2048x2048.Idx) = val_main_v33 (F := Ideal) x (ix5 b h 0 q k : S4x8x2x2048x2048.Idx) := by
  have e : val_main_v35 (F := Ideal) x (ix4 b h q k : S4x8x2048x2048.Idx) = val_main_v34 (F := Ideal) x (ix5 b h 0 q k : S4x8x1x2048x2048.Idx) := by
    unfold val_main_v35
    generalize val_main_v34 (F := Ideal) x = y
    pointwise []
  rw [e]
  unfold val_main_v34
  generalize val_main_v33 (F := Ideal) x = y
  pointwise []

/-- The second of the two normalised rows. -/
theorem v37_at (x : FVec Ideal S40960x6144 .bf16) (b : Fin 4) (h : Fin 8) (q k : Fin 2048) :
    val_main_v37 (F := Ideal) x (ix4 b h q k : S4x8x2048x2048.Idx) = val_main_v33 (F := Ideal) x (ix5 b h 1 q k : S4x8x2x2048x2048.Idx) := by
  have e : val_main_v37 (F := Ideal) x (ix4 b h q k : S4x8x2048x2048.Idx) = val_main_v36 (F := Ideal) x (ix5 b h 0 q k : S4x8x1x2048x2048.Idx) := by
    unfold val_main_v37
    generalize val_main_v36 (F := Ideal) x = y
    pointwise []
  rw [e]
  unfold val_main_v36
  generalize val_main_v33 (F := Ideal) x = y
  pointwise []

/-- A value. -/
theorem v13_at (x : FVec Ideal S40960x6144 .bf16) (b : Fin 4) (h : Fin 8) (k : Fin 2048) (e : Fin 256) :
    val_main_v13 (F := Ideal) x (ix4 b k h e : S4x2048x8x256.Idx) = x (ix2 ⟨b * 2048 + k, by omega⟩ ⟨4096 + (h * 256 + e), by omega⟩) := by
  unfold val_main_v13 val_main_v12 val_main_v2 val_main_v1 val_main_v0
  pointwise []

/-- The combined rows, times the values. -/
theorem v42_at (x : FVec Ideal S40960x6144 .bf16) (x1 x2 x3 x4 : FVec Ideal S1x128 .f32) (b : Fin 4) (h : Fin 8) (q : Fin 2048) (e : Fin 256) :
    val_main_v42 (F := Ideal) x x1 x2 x3 x4 (ix4 b q h e : S4x2048x8x256.Idx)
      = ∑ k, val_main_v13 (F := Ideal) x (ix4 b k h e : S4x2048x8x256.Idx)
          * (val_main_v33 (F := Ideal) x (ix5 b h 0 q k : S4x8x2x2048x2048.Idx)
              - val_main_v21 (F := Ideal) x1 x2 x3 x4 ix0 * val_main_v33 (F := Ideal) x (ix5 b h 1 q k : S4x8x2x2048x2048.Idx)) := by
  have e₁ : val_main_v42 (F := Ideal) x x1 x2 x3 x4 (ix4 b q h e : S4x2048x8x256.Idx) = val_main_v41 (F := Ideal) x x1 x2 x3 x4 (ix4 b h e q : S4x8x256x2048.Idx) := by
    unfold val_main_v42
    generalize val_main_v41 (F := Ideal) x x1 x2 x3 x4 = y
    pointwise []
  have e₂ : val_main_v41 (F := Ideal) x x1 x2 x3 x4 (ix4 b h e q : S4x8x256x2048.Idx)
      = ∑ k, val_main_v13 (F := Ideal) x (ix4 b k h e : S4x2048x8x256.Idx) * val_main_v40 (F := Ideal) x x1 x2 x3 x4 (ix4 b h q k : S4x8x2048x2048.Idx) := by
    unfold val_main_v41
    generalize val_main_v13 (F := Ideal) x = y
    generalize val_main_v40 (F := Ideal) x x1 x2 x3 x4 = z
    pointwise []
  rw [e₁, e₂]
  refine Finset.sum_congr rfl fun k _ => ?_
  rw [val_main_v40_apply, val_main_v39_apply, v35_at, v37_at]
  have e₃ : val_main_v38 (F := Ideal) x1 x2 x3 x4 (ix4 b h q k : S4x8x2048x2048.Idx) = val_main_v21 (F := Ideal) x1 x2 x3 x4 ix0 := by
    unfold val_main_v38
    generalize val_main_v21 (F := Ideal) x1 x2 x3 x4 = y
    pointwise []
  rw [e₃]
  rfl
/-- A score. -/
theorem v22_at (x : FVec Ideal S40960x6144 .bf16) (b : Fin 4) (h : Fin 8) (c : Fin 2) (q k : Fin 2048) :
    val_main_v22 (F := Ideal) x (ix5 b h c q k : S4x8x2x2048x2048.Idx)
      = ∑ d : Fin 128, x (ix2 ⟨b * 2048 + q, by omega⟩ ⟨h * 256 + c * 128 + d, by omega⟩)
          * x (ix2 ⟨b * 2048 + k, by omega⟩ ⟨2048 + (h * 256 + c * 128 + d), by omega⟩) := by
  unfold val_main_v22 val_main_v11 val_main_v10 val_main_v9 val_main_v8 val_main_v2 val_main_v1 val_main_v0
  pointwise []

/-- The second row's weight. -/
theorem v21_at (x1 x2 x3 x4 : FVec Ideal S1x128 .f32) :
    val_main_v21 (F := Ideal) x1 x2 x3 x4 ix0
      = Cert.Attn.lam (fun d => x1 (ix2 0 d)) (fun d => x2 (ix2 0 d)) (fun d => x3 (ix2 0 d)) (fun d => x4 (ix2 0 d)) := by
  unfold val_main_v21 val_main_v20 val_main_v19 val_main_v18 val_main_v17 val_main_v16 val_main_v15 val_main_v14 val_main_v3
    val_main_v4 val_main_v5 val_main_v6 val_main_cst val_main_cst_0 val_main_cst_1
  pointwise [Cert.Attn.lam]

/-- The result: the combined row normalised. -/
theorem v59_at (x : FVec Ideal S40960x6144 .bf16) (x1 x2 x3 x4 : FVec Ideal S1x128 .f32) (g : FVec Ideal S1x256 .f32)
    (i : Fin 8192) (j : Fin 2048) :
    val_main_v59 (F := Ideal) x x1 x2 x3 x4 g (ix2 i j : S8192x2048.Idx)
      = Cert.Attn.norm (fun e => val_main_v42 (F := Ideal) x x1 x2 x3 x4
          (ix4 (⟨i / 2048, by omega⟩ : Fin 4) (⟨i % 2048, by omega⟩ : Fin 2048) (⟨j / 256, by omega⟩ : Fin 8) e : S4x2048x8x256.Idx))
          (g (ix2 0 ⟨j % 256, by omega⟩)) ⟨j % 256, by omega⟩ := by
  unfold val_main_v59 val_main_v58 val_main_v57 val_main_v56 val_main_v55 val_main_v54 val_main_v53 val_main_v52 val_main_v51 val_main_v50
    val_main_v49 val_main_v48 val_main_v47 val_main_v46 val_main_v45 val_main_v44 val_main_v43 val_main_v7 val_main_cst_5 val_main_cst_6 val_main_cst_7 val_main_cst_8
  generalize val_main_v42 (F := Ideal) x x1 x2 x3 x4 = y
  pointwise [Cert.Attn.norm]

end Cert.AttnPromptRefIdeal.Pure
-- ==== Proof.AttnPre.lean ====
module

public import proofs.«01_k».proof.Proof.AttnRow
public import proofs.«01_k».proof.Proof.Gen.Pre_finite_attn

@[expose] public section

set_option maxRecDepth 16384

noncomputable section

open Idealize.ShloMosaic Idealize.ShloMosaic.TcCoe Idealize.SL.Sem
open Idealize.ShloMosaic.Pipeline (Dat)

namespace Cert.Attn
open Cert.Pre_finite_attn

/-- The two bounds the precondition compares with, in bf16. -/
theorem bf16_bounds : Ideal.ofBits .bf16 0xFF80#16 = ⊥ ∧ Ideal.ofBits .bf16 0x7F80#16 = ⊤ := by
  constructor <;> simp [Ideal.ofBits, Ideal.ieee]

/-- The two bounds the precondition compares with, in f32. -/
theorem f32_bounds : Ideal.ofBits .f32 0xFF800000#32 = ⊥ ∧ Ideal.ofBits .f32 0x7F800000#32 = ⊤ := by
  constructor <;> simp [Ideal.ofBits, Ideal.ieee]

/-- Above the bottom and below the top is a real number. -/
theorem real_of_between {lo hi x : EReal} (hb : lo = ⊥ ∧ hi = ⊤)
    (h : IntOp.andi (BitVec.ofBool (decide (lo < x))) (BitVec.ofBool (decide (x < hi))) = 1#1) : ∃ r : ℝ, x = r := by
  obtain ⟨rfl, rfl⟩ := hb
  induction x using EReal.rec with
  | bot => simp [IntOp.andi] at h
  | top => simp [IntOp.andi] at h
  | coe r => exact ⟨r, rfl⟩

/-- What the precondition says of the arguments: the projections and the four vectors hold real numbers. -/
theorem real_of_pre (x : FVec Ideal S40960x6144 .bf16) (q₁ k₁ q₂ k₂ : FVec Ideal S1x128 .f32) (g : FVec Ideal S1x256 .f32)
    (h : (fn (F := Ideal) x q₁ k₁ q₂ k₂ g).1 = (fun _ => 1#1)
      ∧ (fn (F := Ideal) x q₁ k₁ q₂ k₂ g).2.1 = (fun _ => 1#1)
      ∧ (fn (F := Ideal) x q₁ k₁ q₂ k₂ g).2.2.1 = (fun _ => 1#1)
      ∧ (fn (F := Ideal) x q₁ k₁ q₂ k₂ g).2.2.2.1 = (fun _ => 1#1)
      ∧ (fn (F := Ideal) x q₁ k₁ q₂ k₂ g).2.2.2.2 = (fun _ => 1#1)) :
    (∀ i, ∃ r : ℝ, x i = r) ∧ (∀ i, ∃ r : ℝ, q₁ i = r) ∧ (∀ i, ∃ r : ℝ, k₁ i = r) ∧ (∀ i, ∃ r : ℝ, q₂ i = r) ∧ (∀ i, ∃ r : ℝ, k₂ i = r) := by
  obtain ⟨h₀, h₁, h₂, h₃, h₄⟩ := h
  simp only [fn, fn_part1] at h₀ h₁ h₂ h₃ h₄
  refine ⟨fun i => real_of_between bf16_bounds ?_, fun i => real_of_between f32_bounds ?_, fun i => real_of_between f32_bounds ?_,
    fun i => real_of_between f32_bounds ?_, fun i => real_of_between f32_bounds ?_⟩
  · have := congrFun h₀ i; pointwise [] at this; exact this
  · have := congrFun h₁ i; pointwise [] at this; exact this
  · have := congrFun h₂ i; pointwise [] at this; exact this
  · have := congrFun h₃ i; pointwise [] at this; exact this
  · have := congrFun h₄ i; pointwise [] at this; exact this

/-- A product of real numbers is one. -/
theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

/-- A dot product of real numbers is one. -/
theorem real_dot {n : ℕ} {x y : Fin n → EReal} (hx : ∀ i, ∃ r : ℝ, x i = r) (hy : ∀ i, ∃ r : ℝ, y i = r) : ∃ r : ℝ, ∑ i, x i * y i = r := by
  choose a ha using hx
  choose b hb using hy
  refine ⟨∑ i, a i * b i, ?_⟩
  simp only [ha, hb, coe_sum, ← EReal.coe_mul]

/-- The second row's weight is a real number where the four vectors are. -/
theorem real_lam {q₁ k₁ q₂ k₂ : Fin 128 → EReal} (h₁ : ∀ i, ∃ r : ℝ, q₁ i = r) (h₂ : ∀ i, ∃ r : ℝ, k₁ i = r)
    (h₃ : ∀ i, ∃ r : ℝ, q₂ i = r) (h₄ : ∀ i, ∃ r : ℝ, k₂ i = r) : ∃ r : ℝ, lam q₁ k₁ q₂ k₂ = r := by
  obtain ⟨a, ha⟩ := real_dot h₁ h₂
  obtain ⟨b, hb⟩ := real_dot h₃ h₄
  have hc : ∃ c : ℝ, Ideal.ofBits .f32 0x3EB60549#32 = c := by
    simp [Ideal.ofBits, Ideal.ieee]
    exact real_mul ⟨_, rfl⟩ ⟨_, rfl⟩
  obtain ⟨c, hc⟩ := hc
  refine ⟨Real.exp a - Real.exp b + c, ?_⟩
  rw [lam, ha, hb, hc, Ideal.exp_coe, Ideal.exp_coe, ← EReal.coe_sub, ← EReal.coe_add]

end Cert.Attn

end
-- ==== Proof.AttnPromptValue.lean ====
module

public import proofs.«01_k».proof.Proof.Gen.AttnPromptIdeal
public import proofs.«01_k».proof.Proof.Gen.AttnPromptIdeal.Skeleton
public import proofs.«01_k».proof.Proof.Gen.AttnPromptIdeal.Launch
public import proofs.«01_k».proof.Proof.Gen.AttnPromptIdeal.Frame
public import proofs.«01_k».proof.Proof.Gen.AttnPromptIdeal.Value
public import proofs.«01_k».proof.Proof.AttnPromptPure
public import proofs.«01_k».proof.Proof.AttnPre
public import proofs.«01_k».proof.Defs
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.AttnPromptIdeal.Value
open Cert.AttnPromptIdeal Cert.AttnPromptIdeal.Gen

/-- The tile a grid point writes: two softmax rows, each already multiplied by the values, combined and normalised. -/
theorem pay_at (v0 : Vec Ideal S2048x256 .bf16) (v1 : Vec Ideal S256x128 .bf16) (v2 : Vec Ideal S2048x128 .bf16)
    (v15 : Vec Ideal S256x128 .bf16) (v16 : Vec Ideal S2048x128 .bf16) (l : Elt Ideal .f32) (g : Vec Ideal S1x256 .f32) (r e : Fin 256) :
    k0_pay1 (F := Ideal) (k0_pay2 v0 v1 v2 v15 v16 l) (k0_pay3 v0 v1 v2 v15 v16 l) (Scalar.ofBits .f32 0x43800000#32) g (ix2 r e)
      = Cert.Attn.norm (fun e =>
          Ideal.div (∑ k, Cert.Attn.wt (fun k => ∑ d, v1 (ix2 r d) * v2 (ix2 k d)) k * v0 (ix2 k e)) (∑ k, Cert.Attn.wt (fun k => ∑ d, v1 (ix2 r d) * v2 (ix2 k d)) k)
            - l * Ideal.div (∑ k, Cert.Attn.wt (fun k => ∑ d, v15 (ix2 r d) * v16 (ix2 k d)) k * v0 (ix2 k e)) (∑ k, Cert.Attn.wt (fun k => ∑ d, v15 (ix2 r d) * v16 (ix2 k d)) k))
          (g (ix2 0 e)) e := by
  pointwise [k0_pay1, k0_pay2, k0_pay3, Cert.Attn.norm, Cert.Attn.wt, Cert.Attn.top]

variable (m : (ℓ : Loc nD τ sig) → Buf (Elt Ideal) ℓ)

/-- Where each window stands at a grid point. -/
theorem idx_val : ∀ t : Fin cfg0.N, win0_0.index t = ![0]
    ∧ win0_1.index t = ![(t.val / 64) * 8 + (t.val % 8), t.val / 8 % 8]
    ∧ win0_2.index t = ![t.val / 64, 8 + (t.val / 8 % 8)]
    ∧ win0_3.index t = ![t.val / 64, 16 + (t.val / 8 % 8)]
    ∧ win0_4.index t = ![0, 0]
    ∧ win0_5.index t = ![(t.val / 64) * 8 + (t.val % 8), t.val / 8 % 8] :=
  (by decide +kernel : ∀ t : Fin grid0.N, _)

/-- The number of grid points. -/
theorem lt_N (t : Fin cfg0.N) : t.val < 256 := t.isLt

/-- The first half of the queries. -/
theorem q0_at (c : Dev nD) (t : Fin cfg0.N) (r : Fin 256) (d : Fin 128) :
    View.ld (iblk m c 1 t) (Rect.unit ![0, 0] ![256, 128] inb_S256x256_S256x128_0_0) (ix2 r d)
      = m ((c : Thread nD τ).loc main_arg0) (ix2 ⟨t.val / 64 * 2048 + (t.val % 8 * 256 + r), by have := lt_N t; omega⟩
          ⟨t.val / 8 % 8 * 256 + (0 : Fin 2).val * 128 + d, by omega⟩ : S40960x6144.Idx) := by
  blk_point [iblk, V, idx_val t]

/-- The second half of the queries. -/
theorem q1_at (c : Dev nD) (t : Fin cfg0.N) (r : Fin 256) (d : Fin 128) :
    View.ld (iblk m c 1 t) (Rect.unit ![0, 128] ![256, 128] inb_S256x256_S256x128_0_128) (ix2 r d)
      = m ((c : Thread nD τ).loc main_arg0) (ix2 ⟨t.val / 64 * 2048 + (t.val % 8 * 256 + r), by have := lt_N t; omega⟩
          ⟨t.val / 8 % 8 * 256 + (1 : Fin 2).val * 128 + d, by omega⟩ : S40960x6144.Idx) := by
  blk_point [iblk, V, idx_val t]

/-- The first half of the keys. -/
theorem k0_at (c : Dev nD) (t : Fin cfg0.N) (k : Fin 2048) (d : Fin 128) :
    View.ld (iblk m c 2 t) (Rect.unit ![0, 0] ![2048, 128] inb_S2048x256_S2048x128_0_0) (ix2 k d)
      = m ((c : Thread nD τ).loc main_arg0) (ix2 ⟨t.val / 64 * 2048 + k, by have := lt_N t; omega⟩
          ⟨2048 + (t.val / 8 % 8 * 256 + (0 : Fin 2).val * 128 + d), by omega⟩ : S40960x6144.Idx) := by
  blk_point [iblk, V, idx_val t]

/-- The second half of the keys. -/
theorem k1_at (c : Dev nD) (t : Fin cfg0.N) (k : Fin 2048) (d : Fin 128) :
    View.ld (iblk m c 2 t) (Rect.unit ![0, 128] ![2048, 128] inb_S2048x256_S2048x128_0_128) (ix2 k d)
      = m ((c : Thread nD τ).loc main_arg0) (ix2 ⟨t.val / 64 * 2048 + k, by have := lt_N t; omega⟩
          ⟨2048 + (t.val / 8 % 8 * 256 + (1 : Fin 2).val * 128 + d), by omega⟩ : S40960x6144.Idx) := by
  blk_point [iblk, V, idx_val t]

/-- The values. -/
theorem v_at (c : Dev nD) (t : Fin cfg0.N) (k : Fin 2048) (e : Fin 256) :
    (iblk m c 3 t : Vec Ideal S2048x256 .bf16) (ix2 k e)
      = m ((c : Thread nD τ).loc main_arg0) (ix2 ⟨t.val / 64 * 2048 + k, by have := lt_N t; omega⟩
          ⟨4096 + (t.val / 8 % 8 * 256 + e), by omega⟩ : S40960x6144.Idx) := by
  blk_point [iblk, V, idx_val t]

/-- The gains. -/
theorem g_at (c : Dev nD) (t : Fin cfg0.N) (e : Fin 256) :
    (iblk m c 4 t : Vec Ideal S1x256 .f32) (ix2 0 e) = m ((c : Thread nD τ).loc main_arg5) (ix2 0 e : S1x256.Idx) := by
  blk_point [iblk, idx_val t]

/-- The one word of the weight's operand, read. -/
theorem word_at (A : FVec Ideal S1 .f32) (t : Fin cfg0.N) (h) :
    View.ld (View.read (Elt Ideal) ((cfg0.win 0).blk t).view A) (Rect.unit ![0] ![1] inb_S1_S1_0) (Shape.Idx.first h) = A (ix1 0) :=
  congrArg A (funext fun a => by fin_cases a; exact Subsingleton.elim (α := Fin 1) _ _)

/-- The weight of the second row, as the launch computes it. -/
theorem lam_at (c : Dev nD) : (V m c main_v12 : FVec Ideal S1 .f32) (ix1 0)
      = Cert.Attn.lam (fun d => m ((c : Thread nD τ).loc main_arg1) (ix2 0 d : S1x128.Idx)) (fun d => m ((c : Thread nD τ).loc main_arg2) (ix2 0 d : S1x128.Idx))
          (fun d => m ((c : Thread nD τ).loc main_arg3) (ix2 0 d : S1x128.Idx)) (fun d => m ((c : Thread nD τ).loc main_arg4) (ix2 0 d : S1x128.Idx)) := by
  entry_read
  pointwise [Cert.Attn.lam]

/-- The tile written at a grid point is that tile of the reference's result, where the arguments are real numbers. -/
theorem point (c : Dev nD) (hx : ∀ i, ∃ r : ℝ, (m ((c : Thread nD τ).loc main_arg0) : FVec Ideal S40960x6144 .bf16) i = (r : EReal))
    (h₁ : ∀ i, ∃ r : ℝ, (m ((c : Thread nD τ).loc main_arg1) : FVec Ideal S1x128 .f32) i = (r : EReal))
    (h₂ : ∀ i, ∃ r : ℝ, (m ((c : Thread nD τ).loc main_arg2) : FVec Ideal S1x128 .f32) i = (r : EReal))
    (h₃ : ∀ i, ∃ r : ℝ, (m ((c : Thread nD τ).loc main_arg3) : FVec Ideal S1x128 .f32) i = (r : EReal))
    (h₄ : ∀ i, ∃ r : ℝ, (m ((c : Thread nD τ).loc main_arg4) : FVec Ideal S1x128 .f32) i = (r : EReal))
    (t : Fin cfg0.N) (h) (r e : Fin 256) :
    k0_pay1
      (k0_pay2 (iblk m c 3 t) (View.ld (iblk m c 1 t) (Rect.unit ![0, 0] ![256, 128] inb_S256x256_S256x128_0_0))
        (View.ld (iblk m c 2 t) (Rect.unit ![0, 0] ![2048, 128] inb_S2048x256_S2048x128_0_0))
        (View.ld (iblk m c 1 t) (Rect.unit ![0, 128] ![256, 128] inb_S256x256_S256x128_0_128))
        (View.ld (iblk m c 2 t) (Rect.unit ![0, 128] ![2048, 128] inb_S2048x256_S2048x128_0_128))
        (View.ld (iblk m c 0 t) (Rect.unit ![0] ![1] inb_S1_S1_0) (Shape.Idx.first h)))
      (k0_pay3 (iblk m c 3 t) (View.ld (iblk m c 1 t) (Rect.unit ![0, 0] ![256, 128] inb_S256x256_S256x128_0_0))
        (View.ld (iblk m c 2 t) (Rect.unit ![0, 0] ![2048, 128] inb_S2048x256_S2048x128_0_0))
        (View.ld (iblk m c 1 t) (Rect.unit ![0, 128] ![256, 128] inb_S256x256_S256x128_0_128))
        (View.ld (iblk m c 2 t) (Rect.unit ![0, 128] ![2048, 128] inb_S2048x256_S2048x128_0_128))
        (View.ld (iblk m c 0 t) (Rect.unit ![0] ![1] inb_S1_S1_0) (Shape.Idx.first h)))
      (Scalar.ofBits FTy.f32 0x43800000#32) (iblk m c 4 t) (ix2 r e)
      = Cert.AttnPromptRefIdeal.Read.val_main_v59 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (ix2 ⟨t.val / 64 * 2048 + (t.val % 8 * 256 + r), by have := lt_N t; omega⟩
            ⟨t.val / 8 % 8 * 256 + e, by omega⟩ : S8192x2048.Idx) := by
  have hN := lt_N t
  have el : View.ld (iblk m c 0 t) (Rect.unit ![0] ![1] inb_S1_S1_0) (Shape.Idx.first h) = _ := (word_at _ t h).trans (lam_at m c)
  rw [Cert.AttnPromptRefIdeal.Pure.v59_at, pay_at, el]
  simp only [q0_at, q1_at, k0_at, k1_at, v_at, g_at]
  have e₁ : (⟨(t.val / 64 * 2048 + (t.val % 8 * 256 + r.val)) / 2048, by omega⟩ : Fin 4) = ⟨t.val / 64, by omega⟩ := Fin.ext (by simp only; omega)
  have e₂ : (⟨(t.val / 64 * 2048 + (t.val % 8 * 256 + r.val)) % 2048, by omega⟩ : Fin 2048) = ⟨t.val % 8 * 256 + r.val, by omega⟩ := Fin.ext (by simp only; omega)
  have e₃ : (⟨(t.val / 8 % 8 * 256 + e.val) / 256, by omega⟩ : Fin 8) = ⟨t.val / 8 % 8, by omega⟩ := Fin.ext (by simp only; omega)
  have e₄ : (⟨(t.val / 8 % 8 * 256 + e.val) % 256, by omega⟩ : Fin 256) = e := Fin.ext (by simp only; omega)
  simp only [e₁, e₂, e₃, e₄]
  congr 1
  funext e'
  rw [Cert.AttnPromptRefIdeal.Pure.v42_at, Cert.AttnPromptRefIdeal.Pure.v21_at]
  simp only [Cert.AttnPromptRefIdeal.Pure.v33_at, Cert.AttnPromptRefIdeal.Pure.v22_at, Cert.AttnPromptRefIdeal.Pure.v13_at]
  exact Cert.Attn.combine _ _ _ _ (fun k => Cert.Attn.real_dot (fun _ => hx _) fun _ => hx _) (fun k => Cert.Attn.real_dot (fun _ => hx _) fun _ => hx _)
    (fun k => hx _) (Cert.Attn.real_lam (fun _ => h₁ _) (fun _ => h₂ _) (fun _ => h₃ _) fun _ => h₄ _)

/-- The whole result is the reference's, where the arguments are real numbers. -/
theorem final (h : Cert.Pre_AttnPromptIdeal_finite_attn m) (c : Dev nD) : (dats m 0 c).arrAt 5 (cfgs 0).N
    = Cert.AttnPromptRefIdeal.Read.val_main_v59 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  obtain ⟨hx, h₁, h₂, h₃, h₄⟩ := Cert.Attn.real_of_pre _ _ _ _ _ _ (h c)
  refine (dats m 0 c).arrAt_eq_of_covers 5 _ (by decide +kernel) fun t hf y => ?_
  blk_simp; rw [after0_5]
  simp only [outsAt0]
  frame_out
  have ey : y = (ix2 (y 0) (y 1) : S256x256.Idx) := by funext a; fin_cases a <;> rfl
  rw [ey]
  refine (point m c hx h₁ h₂ h₃ h₄ t _ (y 0) (y 1)).trans ?_
  generalize Cert.AttnPromptRefIdeal.Read.val_main_v59 (F := Ideal) _ _ _ _ _ _ = Z
  blk_ext [idx_val t]

end Cert.AttnPromptIdeal.Value

end
-- ==== Proof.AttnSamplePure.lean ====
module

public import proofs.«01_k».proof.Proof.AttnRow
public import proofs.«01_k».proof.Proof.Gen.AttnSampleIdeal.Skeleton
public import proofs.«01_k».proof.Proof.Gen.AttnSampleRefIdeal.Read

@[expose] public section

set_option maxRecDepth 16384

noncomputable section

open Idealize.ShloMosaic Idealize.ShloMosaic.TcCoe Idealize.SL.Sem
open Idealize.ShloMosaic.Pipeline (Dat)

namespace Cert.AttnSampleRefIdeal.Pure
open Cert.AttnSampleRefIdeal Cert.AttnSampleRefIdeal.Gen Cert.AttnSampleRefIdeal.Read

/-- The greatest score of a row. -/
theorem v23_at (x : FVec Ideal S40960x6144 .bf16) (b h : Fin 8) (c : Fin 2) (q : Fin 4096) :
    val_main_v23 (F := Ideal) x (ix4 b h c q : S8x8x2x4096.Idx)
      = Finset.univ.fold max (Ideal.ofBits .f32 0xFF800000#32) fun k => val_main_v22 (F := Ideal) x (ix5 b h c q k : S8x8x2x4096x4096.Idx) := by
  unfold val_main_v23 val_main_cst_2
  generalize val_main_v22 (F := Ideal) x = y
  pointwise []

/-- It stands at every key of its row. -/
theorem v27_at (x : FVec Ideal S40960x6144 .bf16) (b h : Fin 8) (c : Fin 2) (q k : Fin 4096) :
    val_main_v27 (F := Ideal) x (ix5 b h c q k : S8x8x2x4096x4096.Idx) = val_main_v25 (F := Ideal) x (ix4 b h c q : S8x8x2x4096.Idx) := by
  unfold val_main_v27 val_main_v26
  generalize val_main_v25 (F := Ideal) x = y
  pointwise []

/-- The row's sum of weights. -/
theorem v30_at (x : FVec Ideal S40960x6144 .bf16) (b h : Fin 8) (c : Fin 2) (q : Fin 4096) :
    val_main_v30 (F := Ideal) x (ix4 b h c q : S8x8x2x4096.Idx)
      = ∑ k, val_main_v29 (F := Ideal) x (ix5 b h c q k : S8x8x2x4096x4096.Idx) := by
  unfold val_main_v30 val_main_cst_4
  generalize val_main_v29 (F := Ideal) x = y
  pointwise []

/-- It stands at every key of its row. -/
theorem v32_at (x : FVec Ideal S40960x6144 .bf16) (b h : Fin 8) (c : Fin 2) (q k : Fin 4096) :
    val_main_v32 (F := Ideal) x (ix5 b h c q k : S8x8x2x4096x4096.Idx) = val_main_v30 (F := Ideal) x (ix4 b h c q : S8x8x2x4096.Idx) := by
  unfold val_main_v32 val_main_v31
  generalize val_main_v30 (F := Ideal) x = y
  pointwise []

/-- A weight before normalising. -/
theorem v29_at (x : FVec Ideal S40960x6144 .bf16) (b h : Fin 8) (c : Fin 2) (q k : Fin 4096) :
    val_main_v29 (F := Ideal) x (ix5 b h c q k : S8x8x2x4096x4096.Idx)
      = Cert.Attn.wt (fun k => val_main_v22 (F := Ideal) x (ix5 b h c q k : S8x8x2x4096x4096.Idx)) k := by
  rw [val_main_v29_apply, val_main_v28_apply, v27_at, val_main_v25_apply, v23_at, val_main_v24_apply, val_main_cst_3_apply]
  generalize val_main_v22 (F := Ideal) x = y
  simp only [Cert.Attn.wt, Cert.Attn.top, Ideal.ofBits_def, Ideal.maximumf_def, Ideal.subf_def, Cert.Attn.ofBits_bot, bot_sup_eq]
  rfl

/-- A normalised weight. -/
theorem v33_at (x : FVec Ideal S40960x6144 .bf16) (b h : Fin 8) (c : Fin 2) (q k : Fin 4096) :
    val_main_v33 (F := Ideal) x (ix5 b h c q k : S8x8x2x4096x4096.Idx)
      = Ideal.div (Cert.Attn.wt (fun k => val_main_v22 (F := Ideal) x (ix5 b h c q k : S8x8x2x4096x4096.Idx)) k)
          (∑ k, Cert.Attn.wt (fun k => val_main_v22 (F := Ideal) x (ix5 b h c q k : S8x8x2x4096x4096.Idx)) k) := by
  rw [val_main_v33_apply, v29_at, v32_at, v30_at, Finset.sum_congr rfl fun k _ => v29_at x b h c q k]
  rfl

/-- The first of the two normalised rows. -/
theorem v35_at (x : FVec Ideal S40960x6144 .bf16) (b h : Fin 8) (q k : Fin 4096) :
    val_main_v35 (F := Ideal) x (ix4 b h q k : S8x8x4096x4096.Idx) = val_main_v33 (F := Ideal) x (ix5 b h 0 q k : S8x8x2x4096x4096.Idx) := by
  have e : val_main_v35 (F := Ideal) x (ix4 b h q k : S8x8x4096x4096.Idx) = val_main_v34 (F := Ideal) x (ix5 b h 0 q k : S8x8x1x4096x4096.Idx) := by
    unfold val_main_v35
    generalize val_main_v34 (F := Ideal) x = y
    pointwise []
  rw [e]
  unfold val_main_v34
  generalize val_main_v33 (F := Ideal) x = y
  pointwise []

/-- The second of the two normalised rows. -/
theorem v37_at (x : FVec Ideal S40960x6144 .bf16) (b h : Fin 8) (q k : Fin 4096) :
    val_main_v37 (F := Ideal) x (ix4 b h q k : S8x8x4096x4096.Idx) = val_main_v33 (F := Ideal) x (ix5 b h 1 q k : S8x8x2x4096x4096.Idx) := by
  have e : val_main_v37 (F := Ideal) x (ix4 b h q k : S8x8x4096x4096.Idx) = val_main_v36 (F := Ideal) x (ix5 b h 0 q k : S8x8x1x4096x4096.Idx) := by
    unfold val_main_v37
    generalize val_main_v36 (F := Ideal) x = y
    pointwise []
  rw [e]
  unfold val_main_v36
  generalize val_main_v33 (F := Ideal) x = y
  pointwise []

/-- A value. -/
theorem v13_at (x : FVec Ideal S40960x6144 .bf16) (b h : Fin 8) (k : Fin 4096) (e : Fin 256) :
    val_main_v13 (F := Ideal) x (ix4 b k h e : S8x4096x8x256.Idx) = x (ix2 ⟨8192 + (b * 4096 + k), by omega⟩ ⟨4096 + (h * 256 + e), by omega⟩) := by
  unfold val_main_v13 val_main_v12 val_main_v2 val_main_v1 val_main_v0
  pointwise []

/-- The combined rows, times the values. -/
theorem v42_at (x : FVec Ideal S40960x6144 .bf16) (x1 x2 x3 x4 : FVec Ideal S1x128 .f32) (b h : Fin 8) (q : Fin 4096) (e : Fin 256) :
    val_main_v42 (F := Ideal) x x1 x2 x3 x4 (ix4 b q h e : S8x4096x8x256.Idx)
      = ∑ k, val_main_v13 (F := Ideal) x (ix4 b k h e : S8x4096x8x256.Idx)
          * (val_main_v33 (F := Ideal) x (ix5 b h 0 q k : S8x8x2x4096x4096.Idx)
              - val_main_v21 (F := Ideal) x1 x2 x3 x4 ix0 * val_main_v33 (F := Ideal) x (ix5 b h 1 q k : S8x8x2x4096x4096.Idx)) := by
  have e₁ : val_main_v42 (F := Ideal) x x1 x2 x3 x4 (ix4 b q h e : S8x4096x8x256.Idx) = val_main_v41 (F := Ideal) x x1 x2 x3 x4 (ix4 b h e q : S8x8x256x4096.Idx) := by
    unfold val_main_v42
    generalize val_main_v41 (F := Ideal) x x1 x2 x3 x4 = y
    pointwise []
  have e₂ : val_main_v41 (F := Ideal) x x1 x2 x3 x4 (ix4 b h e q : S8x8x256x4096.Idx)
      = ∑ k, val_main_v13 (F := Ideal) x (ix4 b k h e : S8x4096x8x256.Idx) * val_main_v40 (F := Ideal) x x1 x2 x3 x4 (ix4 b h q k : S8x8x4096x4096.Idx) := by
    unfold val_main_v41
    generalize val_main_v13 (F := Ideal) x = y
    generalize val_main_v40 (F := Ideal) x x1 x2 x3 x4 = z
    pointwise []
  rw [e₁, e₂]
  refine Finset.sum_congr rfl fun k _ => ?_
  rw [val_main_v40_apply, val_main_v39_apply, v35_at, v37_at]
  have e₃ : val_main_v38 (F := Ideal) x1 x2 x3 x4 (ix4 b h q k : S8x8x4096x4096.Idx) = val_main_v21 (F := Ideal) x1 x2 x3 x4 ix0 := by
    unfold val_main_v38
    generalize val_main_v21 (F := Ideal) x1 x2 x3 x4 = y
    pointwise []
  rw [e₃]
  rfl
/-- A score. -/
theorem v22_at (x : FVec Ideal S40960x6144 .bf16) (b h : Fin 8) (c : Fin 2) (q k : Fin 4096) :
    val_main_v22 (F := Ideal) x (ix5 b h c q k : S8x8x2x4096x4096.Idx)
      = ∑ d : Fin 128, x (ix2 ⟨8192 + (b * 4096 + q), by omega⟩ ⟨h * 256 + c * 128 + d, by omega⟩)
          * x (ix2 ⟨8192 + (b * 4096 + k), by omega⟩ ⟨2048 + (h * 256 + c * 128 + d), by omega⟩) := by
  unfold val_main_v22 val_main_v11 val_main_v10 val_main_v9 val_main_v8 val_main_v2 val_main_v1 val_main_v0
  pointwise []

/-- The second row's weight. -/
theorem v21_at (x1 x2 x3 x4 : FVec Ideal S1x128 .f32) :
    val_main_v21 (F := Ideal) x1 x2 x3 x4 ix0
      = Cert.Attn.lam (fun d => x1 (ix2 0 d)) (fun d => x2 (ix2 0 d)) (fun d => x3 (ix2 0 d)) (fun d => x4 (ix2 0 d)) := by
  unfold val_main_v21 val_main_v20 val_main_v19 val_main_v18 val_main_v17 val_main_v16 val_main_v15 val_main_v14 val_main_v3
    val_main_v4 val_main_v5 val_main_v6 val_main_cst val_main_cst_0 val_main_cst_1
  pointwise [Cert.Attn.lam]

/-- The result: the combined row normalised. -/
theorem v59_at (x : FVec Ideal S40960x6144 .bf16) (x1 x2 x3 x4 : FVec Ideal S1x128 .f32) (g : FVec Ideal S1x256 .f32)
    (i : Fin 32768) (j : Fin 2048) :
    val_main_v59 (F := Ideal) x x1 x2 x3 x4 g (ix2 i j : S32768x2048.Idx)
      = Cert.Attn.norm (fun e => val_main_v42 (F := Ideal) x x1 x2 x3 x4
          (ix4 (⟨i / 4096, by omega⟩ : Fin 8) (⟨i % 4096, by omega⟩ : Fin 4096) (⟨j / 256, by omega⟩ : Fin 8) e : S8x4096x8x256.Idx))
          (g (ix2 0 ⟨j % 256, by omega⟩)) ⟨j % 256, by omega⟩ := by
  unfold val_main_v59 val_main_v58 val_main_v57 val_main_v56 val_main_v55 val_main_v54 val_main_v53 val_main_v52 val_main_v51 val_main_v50
    val_main_v49 val_main_v48 val_main_v47 val_main_v46 val_main_v45 val_main_v44 val_main_v43 val_main_v7 val_main_cst_5 val_main_cst_6 val_main_cst_7 val_main_cst_8
  generalize val_main_v42 (F := Ideal) x x1 x2 x3 x4 = y
  pointwise [Cert.Attn.norm]

end Cert.AttnSampleRefIdeal.Pure
-- ==== Proof.AttnSampleValue.lean ====
module

public import proofs.«01_k».proof.Proof.Gen.AttnSampleIdeal
public import proofs.«01_k».proof.Proof.Gen.AttnSampleIdeal.Skeleton
public import proofs.«01_k».proof.Proof.Gen.AttnSampleIdeal.Launch
public import proofs.«01_k».proof.Proof.Gen.AttnSampleIdeal.Frame
public import proofs.«01_k».proof.Proof.Gen.AttnSampleIdeal.Value
public import proofs.«01_k».proof.Proof.AttnSamplePure
public import proofs.«01_k».proof.Proof.AttnPre
public import proofs.«01_k».proof.Defs
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.AttnSampleIdeal.Value
open Cert.AttnSampleIdeal Cert.AttnSampleIdeal.Gen

/-- The tile a grid point writes: two softmax rows, each already multiplied by the values, combined and normalised. -/
theorem pay_at (v0 : Vec Ideal S4096x256 .bf16) (v1 : Vec Ideal S256x128 .bf16) (v2 : Vec Ideal S4096x128 .bf16)
    (v15 : Vec Ideal S256x128 .bf16) (v16 : Vec Ideal S4096x128 .bf16) (l : Elt Ideal .f32) (g : Vec Ideal S1x256 .f32) (r e : Fin 256) :
    k0_pay1 (F := Ideal) (k0_pay2 v0 v1 v2 v15 v16 l) (k0_pay3 v0 v1 v2 v15 v16 l) (Scalar.ofBits .f32 0x43800000#32) g (ix2 r e)
      = Cert.Attn.norm (fun e =>
          Ideal.div (∑ k, Cert.Attn.wt (fun k => ∑ d, v1 (ix2 r d) * v2 (ix2 k d)) k * v0 (ix2 k e)) (∑ k, Cert.Attn.wt (fun k => ∑ d, v1 (ix2 r d) * v2 (ix2 k d)) k)
            - l * Ideal.div (∑ k, Cert.Attn.wt (fun k => ∑ d, v15 (ix2 r d) * v16 (ix2 k d)) k * v0 (ix2 k e)) (∑ k, Cert.Attn.wt (fun k => ∑ d, v15 (ix2 r d) * v16 (ix2 k d)) k))
          (g (ix2 0 e)) e := by
  pointwise [k0_pay1, k0_pay2, k0_pay3, Cert.Attn.norm, Cert.Attn.wt, Cert.Attn.top]

variable (m : (ℓ : Loc nD τ sig) → Buf (Elt Ideal) ℓ)

/-- Where each window stands at a grid point. -/
theorem idx_val : ∀ t : Fin cfg0.N, win0_0.index t = ![0]
    ∧ win0_1.index t = ![32 + (t.val / 128) * 16 + (t.val % 16), t.val / 16 % 8]
    ∧ win0_2.index t = ![2 + (t.val / 128), 8 + (t.val / 16 % 8)]
    ∧ win0_3.index t = ![2 + (t.val / 128), 16 + (t.val / 16 % 8)]
    ∧ win0_4.index t = ![0, 0]
    ∧ win0_5.index t = ![(t.val / 128) * 16 + (t.val % 16), t.val / 16 % 8] :=
  (by decide +kernel : ∀ t : Fin grid0.N, _)

/-- The number of grid points. -/
theorem lt_N (t : Fin cfg0.N) : t.val < 1024 := t.isLt

/-- The first half of the queries. -/
theorem q0_at (c : Dev nD) (t : Fin cfg0.N) (r : Fin 256) (d : Fin 128) :
    View.ld (iblk m c 1 t) (Rect.unit ![0, 0] ![256, 128] inb_S256x256_S256x128_0_0) (ix2 r d)
      = m ((c : Thread nD τ).loc main_arg0) (ix2 ⟨8192 + (t.val / 128 * 4096 + (t.val % 16 * 256 + r)), by have := lt_N t; omega⟩
          ⟨t.val / 16 % 8 * 256 + (0 : Fin 2).val * 128 + d, by omega⟩ : S40960x6144.Idx) := by
  blk_point [iblk, V, idx_val t]

/-- The second half of the queries. -/
theorem q1_at (c : Dev nD) (t : Fin cfg0.N) (r : Fin 256) (d : Fin 128) :
    View.ld (iblk m c 1 t) (Rect.unit ![0, 128] ![256, 128] inb_S256x256_S256x128_0_128) (ix2 r d)
      = m ((c : Thread nD τ).loc main_arg0) (ix2 ⟨8192 + (t.val / 128 * 4096 + (t.val % 16 * 256 + r)), by have := lt_N t; omega⟩
          ⟨t.val / 16 % 8 * 256 + (1 : Fin 2).val * 128 + d, by omega⟩ : S40960x6144.Idx) := by
  blk_point [iblk, V, idx_val t]

/-- The first half of the keys. -/
theorem k0_at (c : Dev nD) (t : Fin cfg0.N) (k : Fin 4096) (d : Fin 128) :
    View.ld (iblk m c 2 t) (Rect.unit ![0, 0] ![4096, 128] inb_S4096x256_S4096x128_0_0) (ix2 k d)
      = m ((c : Thread nD τ).loc main_arg0) (ix2 ⟨8192 + (t.val / 128 * 4096 + k), by have := lt_N t; omega⟩
          ⟨2048 + (t.val / 16 % 8 * 256 + (0 : Fin 2).val * 128 + d), by omega⟩ : S40960x6144.Idx) := by
  blk_point [iblk, V, idx_val t]

/-- The second half of the keys. -/
theorem k1_at (c : Dev nD) (t : Fin cfg0.N) (k : Fin 4096) (d : Fin 128) :
    View.ld (iblk m c 2 t) (Rect.unit ![0, 128] ![4096, 128] inb_S4096x256_S4096x128_0_128) (ix2 k d)
      = m ((c : Thread nD τ).loc main_arg0) (ix2 ⟨8192 + (t.val / 128 * 4096 + k), by have := lt_N t; omega⟩
          ⟨2048 + (t.val / 16 % 8 * 256 + (1 : Fin 2).val * 128 + d), by omega⟩ : S40960x6144.Idx) := by
  blk_point [iblk, V, idx_val t]

/-- The values. -/
theorem v_at (c : Dev nD) (t : Fin cfg0.N) (k : Fin 4096) (e : Fin 256) :
    (iblk m c 3 t : Vec Ideal S4096x256 .bf16) (ix2 k e)
      = m ((c : Thread nD τ).loc main_arg0) (ix2 ⟨8192 + (t.val / 128 * 4096 + k), by have := lt_N t; omega⟩
          ⟨4096 + (t.val / 16 % 8 * 256 + e), by omega⟩ : S40960x6144.Idx) := by
  blk_point [iblk, V, idx_val t]

/-- The gains. -/
theorem g_at (c : Dev nD) (t : Fin cfg0.N) (e : Fin 256) :
    (iblk m c 4 t : Vec Ideal S1x256 .f32) (ix2 0 e) = m ((c : Thread nD τ).loc main_arg5) (ix2 0 e : S1x256.Idx) := by
  blk_point [iblk, idx_val t]

/-- The one word of the weight's operand, read. -/
theorem word_at (A : FVec Ideal S1 .f32) (t : Fin cfg0.N) (h) :
    View.ld (View.read (Elt Ideal) ((cfg0.win 0).blk t).view A) (Rect.unit ![0] ![1] inb_S1_S1_0) (Shape.Idx.first h) = A (ix1 0) :=
  congrArg A (funext fun a => by fin_cases a; exact Subsingleton.elim (α := Fin 1) _ _)

/-- The weight of the second row, as the launch computes it. -/
theorem lam_at (c : Dev nD) : (V m c main_v12 : FVec Ideal S1 .f32) (ix1 0)
      = Cert.Attn.lam (fun d => m ((c : Thread nD τ).loc main_arg1) (ix2 0 d : S1x128.Idx)) (fun d => m ((c : Thread nD τ).loc main_arg2) (ix2 0 d : S1x128.Idx))
          (fun d => m ((c : Thread nD τ).loc main_arg3) (ix2 0 d : S1x128.Idx)) (fun d => m ((c : Thread nD τ).loc main_arg4) (ix2 0 d : S1x128.Idx)) := by
  entry_read
  pointwise [Cert.Attn.lam]

/-- The tile written at a grid point is that tile of the reference's result, where the arguments are real numbers. -/
theorem point (c : Dev nD) (hx : ∀ i, ∃ r : ℝ, (m ((c : Thread nD τ).loc main_arg0) : FVec Ideal S40960x6144 .bf16) i = (r : EReal))
    (h₁ : ∀ i, ∃ r : ℝ, (m ((c : Thread nD τ).loc main_arg1) : FVec Ideal S1x128 .f32) i = (r : EReal))
    (h₂ : ∀ i, ∃ r : ℝ, (m ((c : Thread nD τ).loc main_arg2) : FVec Ideal S1x128 .f32) i = (r : EReal))
    (h₃ : ∀ i, ∃ r : ℝ, (m ((c : Thread nD τ).loc main_arg3) : FVec Ideal S1x128 .f32) i = (r : EReal))
    (h₄ : ∀ i, ∃ r : ℝ, (m ((c : Thread nD τ).loc main_arg4) : FVec Ideal S1x128 .f32) i = (r : EReal))
    (t : Fin cfg0.N) (h) (r e : Fin 256) :
    k0_pay1
      (k0_pay2 (iblk m c 3 t) (View.ld (iblk m c 1 t) (Rect.unit ![0, 0] ![256, 128] inb_S256x256_S256x128_0_0))
        (View.ld (iblk m c 2 t) (Rect.unit ![0, 0] ![4096, 128] inb_S4096x256_S4096x128_0_0))
        (View.ld (iblk m c 1 t) (Rect.unit ![0, 128] ![256, 128] inb_S256x256_S256x128_0_128))
        (View.ld (iblk m c 2 t) (Rect.unit ![0, 128] ![4096, 128] inb_S4096x256_S4096x128_0_128))
        (View.ld (iblk m c 0 t) (Rect.unit ![0] ![1] inb_S1_S1_0) (Shape.Idx.first h)))
      (k0_pay3 (iblk m c 3 t) (View.ld (iblk m c 1 t) (Rect.unit ![0, 0] ![256, 128] inb_S256x256_S256x128_0_0))
        (View.ld (iblk m c 2 t) (Rect.unit ![0, 0] ![4096, 128] inb_S4096x256_S4096x128_0_0))
        (View.ld (iblk m c 1 t) (Rect.unit ![0, 128] ![256, 128] inb_S256x256_S256x128_0_128))
        (View.ld (iblk m c 2 t) (Rect.unit ![0, 128] ![4096, 128] inb_S4096x256_S4096x128_0_128))
        (View.ld (iblk m c 0 t) (Rect.unit ![0] ![1] inb_S1_S1_0) (Shape.Idx.first h)))
      (Scalar.ofBits FTy.f32 0x43800000#32) (iblk m c 4 t) (ix2 r e)
      = Cert.AttnSampleRefIdeal.Read.val_main_v59 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (ix2 ⟨t.val / 128 * 4096 + (t.val % 16 * 256 + r), by have := lt_N t; omega⟩
            ⟨t.val / 16 % 8 * 256 + e, by omega⟩ : S32768x2048.Idx) := by
  have hN := lt_N t
  have el : View.ld (iblk m c 0 t) (Rect.unit ![0] ![1] inb_S1_S1_0) (Shape.Idx.first h) = _ := (word_at _ t h).trans (lam_at m c)
  rw [Cert.AttnSampleRefIdeal.Pure.v59_at, pay_at, el]
  simp only [q0_at, q1_at, k0_at, k1_at, v_at, g_at]
  have e₁ : (⟨(t.val / 128 * 4096 + (t.val % 16 * 256 + r.val)) / 4096, by omega⟩ : Fin 8) = ⟨t.val / 128, by omega⟩ := Fin.ext (by simp only; omega)
  have e₂ : (⟨(t.val / 128 * 4096 + (t.val % 16 * 256 + r.val)) % 4096, by omega⟩ : Fin 4096) = ⟨t.val % 16 * 256 + r.val, by omega⟩ := Fin.ext (by simp only; omega)
  have e₃ : (⟨(t.val / 16 % 8 * 256 + e.val) / 256, by omega⟩ : Fin 8) = ⟨t.val / 16 % 8, by omega⟩ := Fin.ext (by simp only; omega)
  have e₄ : (⟨(t.val / 16 % 8 * 256 + e.val) % 256, by omega⟩ : Fin 256) = e := Fin.ext (by simp only; omega)
  simp only [e₁, e₂, e₃, e₄]
  congr 1
  funext e'
  rw [Cert.AttnSampleRefIdeal.Pure.v42_at, Cert.AttnSampleRefIdeal.Pure.v21_at]
  simp only [Cert.AttnSampleRefIdeal.Pure.v33_at, Cert.AttnSampleRefIdeal.Pure.v22_at, Cert.AttnSampleRefIdeal.Pure.v13_at]
  exact Cert.Attn.combine _ _ _ _ (fun k => Cert.Attn.real_dot (fun _ => hx _) fun _ => hx _) (fun k => Cert.Attn.real_dot (fun _ => hx _) fun _ => hx _)
    (fun k => hx _) (Cert.Attn.real_lam (fun _ => h₁ _) (fun _ => h₂ _) (fun _ => h₃ _) fun _ => h₄ _)

/-- The whole result is the reference's, where the arguments are real numbers. -/
theorem final (h : Cert.Pre_AttnSampleIdeal_finite_attn m) (c : Dev nD) : (dats m 0 c).arrAt 5 (cfgs 0).N
    = Cert.AttnSampleRefIdeal.Read.val_main_v59 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  obtain ⟨hx, h₁, h₂, h₃, h₄⟩ := Cert.Attn.real_of_pre _ _ _ _ _ _ (h c)
  refine (dats m 0 c).arrAt_eq_of_covers 5 _ (by decide +kernel) fun t hf y => ?_
  blk_simp; rw [after0_5]
  simp only [outsAt0]
  frame_out
  have ey : y = (ix2 (y 0) (y 1) : S256x256.Idx) := by funext a; fin_cases a <;> rfl
  rw [ey]
  refine (point m c hx h₁ h₂ h₃ h₄ t _ (y 0) (y 1)).trans ?_
  generalize Cert.AttnSampleRefIdeal.Read.val_main_v59 (F := Ideal) _ _ _ _ _ _ = Z
  blk_ext [idx_val t]

end Cert.AttnSampleIdeal.Value

end
-- ==== Proof.AttnClaim.lean ====
/- The value claims of this group of calls, and the frames of their references. -/
module

public import proofs.«01_k».proof.Defs
public import proofs.«01_k».proof.Proof.AttnPromptValue
public import proofs.«01_k».proof.Proof.Gen.AttnPromptIdeal.Value
public import proofs.«01_k».proof.Proof.Gen.AttnPromptRefIdeal.Run
public import proofs.«01_k».proof.Proof.Gen.AttnPromptRefIdeal.Read
public import Idealize.ShloMosaic.Lib.Quiescent
public import proofs.«01_k».proof.Proof.AttnSampleValue
public import proofs.«01_k».proof.Proof.Gen.AttnSampleIdeal.Value
public import proofs.«01_k».proof.Proof.Gen.AttnSampleRefIdeal.Run
public import proofs.«01_k».proof.Proof.Gen.AttnSampleRefIdeal.Read
public import Idealize.ShloMosaic.Lib.Quiescent
public import proofs.«01_k».proof.Proof.Gen.Pre_finite_attn

@[expose] public section

set_option maxRecDepth 16384

noncomputable section

open Idealize.ShloMosaic Idealize.ShloMosaic.TcCoe Idealize.SL.Sem
open Idealize.ShloMosaic.Pipeline (Dat)

namespace Cert.Proof

/-- The attention over the prompts and its reference end with the same result. -/
theorem value_AttnPrompt : Cert.algebraic_AttnPromptIdeal_AttnPromptRefIdeal_pre_finite_attn := by
  pair_intro
  · run_from Cert.AttnPromptIdeal.Gen.run_main m g
  · hlo_run
    exact (Cert.AttnPromptIdeal.Value.final m hpre c).symm

/-- The reference of the attention over the prompts runs and leaves its arguments unchanged. -/
theorem frame_AttnPromptRef : Cert.quiescent_AttnPromptRefIdeal := fun m g _ =>
  (θ_run _ _ _).mono (fun r h => ⟨fun c => (h c).2, sem_eq_zero_of_no_sems rfl r.2⟩) (Cert.AttnPromptRefIdeal.Value.run m g)

/-- The attention over the samples and its reference end with the same result. -/
theorem value_AttnSample : Cert.algebraic_AttnSampleIdeal_AttnSampleRefIdeal_pre_finite_attn := by
  pair_intro
  · run_from Cert.AttnSampleIdeal.Gen.run_main m g
  · hlo_run
    exact (Cert.AttnSampleIdeal.Value.final m hpre c).symm

/-- The reference of the attention over the samples runs and leaves its arguments unchanged. -/
theorem frame_AttnSampleRef : Cert.quiescent_AttnSampleRefIdeal := fun m g _ =>
  (θ_run _ _ _).mono (fun r h => ⟨fun c => (h c).2, sem_eq_zero_of_no_sems rfl r.2⟩) (Cert.AttnSampleRefIdeal.Value.run m g)

end Cert.Proof

end
-- ==== Proof.ProjRetRows.lean ====
module

public import proofs.«01_k».proof.Proof.Gen.ProjRetRefIdeal.Read
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.ProjRetRefIdeal.Rows
open Cert.ProjRetRefIdeal Cert.ProjRetRefIdeal.Gen Cert.ProjRetRefIdeal.Read

/-- The cosine of a position's angle in a lane. -/
def C (p : Fin 4096) (f : Fin 128) : EReal := val_main_v95 (F := Ideal) (ix2 p f : S4096x128.Idx)

/-- The sine of a position's angle in a lane. -/
def S (p : Fin 4096) (f : Fin 128) : EReal := val_main_v97 (F := Ideal) (ix2 p f : S4096x128.Idx)

/-- A head's lanes turned by the angles of a position. -/
def turn (z : Fin 256 → EReal) (p : Fin 4096) (l : Fin 256) : EReal :=
  if h : l.val < 128 then z l * C p ⟨l, h⟩ - z ⟨128 + l, by omega⟩ * S p ⟨l, h⟩
  else z ⟨128 + (l - 128), by omega⟩ * C p ⟨l - 128, by omega⟩ + z ⟨l - 128, by omega⟩ * S p ⟨l - 128, by omega⟩

/-- The prompts' table of cosines is the head of the longer one. -/
theorem v16_at (p : Fin 2048) (f : Fin 128) : val_main_v16 (F := Ideal) (ix2 p f : S2048x128.Idx) = C ⟨p, by omega⟩ f := by
  unfold C
  pointwise [val_main_v16, val_main_v95, val_main_v15, val_main_v94, val_main_v13, val_main_v14, val_main_v11, val_main_v12, val_main_v10, val_main_v9, val_main_v8, val_main_v7, val_main_v6, val_main_v5, val_main_v4, val_main_cst, val_main_cst_0, val_main_v92, val_main_v93, val_main_v90, val_main_v91, val_main_v89, val_main_v88, val_main_v87, val_main_v86, val_main_v85, val_main_v84, val_main_v83, val_main_cst_4, val_main_cst_5]

/-- The prompts' table of sines is the head of the longer one. -/
theorem v18_at (p : Fin 2048) (f : Fin 128) : val_main_v18 (F := Ideal) (ix2 p f : S2048x128.Idx) = S ⟨p, by omega⟩ f := by
  unfold S
  pointwise [val_main_v18, val_main_v97, val_main_v15, val_main_v94, val_main_v13, val_main_v14, val_main_v11, val_main_v12, val_main_v10, val_main_v9, val_main_v8, val_main_v7, val_main_v6, val_main_v5, val_main_v4, val_main_cst, val_main_cst_0, val_main_v92, val_main_v93, val_main_v90, val_main_v91, val_main_v89, val_main_v88, val_main_v87, val_main_v86, val_main_v85, val_main_v84, val_main_v83, val_main_cst_4, val_main_cst_5]

/-- The reference's turning of the prompts' heads. -/
def ropeP (Z : FVec Ideal S4x2048x8x256 .f32) : FVec Ideal S4x2048x8x256 .f32 :=
  concatenate S4x2048x8x256 3
    [⟨S4x2048x8x128, subf (mulf (extractStridedSlice S4x2048x8x128 ![0, 0, 0, 0] Z slices_S4x2048x8x256_S4x2048x8x128_0_0_0_0) (val_main_v23 (F := Ideal)))
        (mulf (extractStridedSlice S4x2048x8x128 ![0, 0, 0, 128] Z slices_S4x2048x8x256_S4x2048x8x128_0_0_0_128) (val_main_v26 (F := Ideal)))⟩,
     ⟨S4x2048x8x128, addf (mulf (extractStridedSlice S4x2048x8x128 ![0, 0, 0, 128] Z slices_S4x2048x8x256_S4x2048x8x128_0_0_0_128) (val_main_v30 (F := Ideal)))
        (mulf (extractStridedSlice S4x2048x8x128 ![0, 0, 0, 0] Z slices_S4x2048x8x256_S4x2048x8x128_0_0_0_0) (val_main_v33 (F := Ideal)))⟩]
    concatenates_S4x2048x8x128_S4x2048x8x128_S4x2048x8x256_d3

/-- The reference's turning of the samples' heads. -/
def ropeS (Z : FVec Ideal S8x4096x8x256 .f32) : FVec Ideal S8x4096x8x256 .f32 :=
  concatenate S8x4096x8x256 3
    [⟨S8x4096x8x128, subf (mulf (extractStridedSlice S8x4096x8x128 ![0, 0, 0, 0] Z slices_S8x4096x8x256_S8x4096x8x128_0_0_0_0) (val_main_v102 (F := Ideal)))
        (mulf (extractStridedSlice S8x4096x8x128 ![0, 0, 0, 128] Z slices_S8x4096x8x256_S8x4096x8x128_0_0_0_128) (val_main_v105 (F := Ideal)))⟩,
     ⟨S8x4096x8x128, addf (mulf (extractStridedSlice S8x4096x8x128 ![0, 0, 0, 128] Z slices_S8x4096x8x256_S8x4096x8x128_0_0_0_128) (val_main_v109 (F := Ideal)))
        (mulf (extractStridedSlice S8x4096x8x128 ![0, 0, 0, 0] Z slices_S8x4096x8x256_S8x4096x8x128_0_0_0_0) (val_main_v112 (F := Ideal)))⟩]
    concatenates_S8x4096x8x128_S8x4096x8x128_S8x4096x8x256_d3

/-- The turned prompts' heads, entry by entry. -/
theorem ropeP_at (Z : FVec Ideal S4x2048x8x256 .f32) (b : Fin 4) (s : Fin 2048) (h : Fin 8) (l : Fin 256) :
    ropeP Z (ix4 b s h l) = turn (fun l => Z (ix4 b s h l)) ⟨s, by omega⟩ l := by
  unfold ropeP turn
  rw [show val_main_v30 (F := Ideal) = val_main_v23 (F := Ideal) from rfl, show val_main_v33 (F := Ideal) = val_main_v26 (F := Ideal) from rfl]
  unfold val_main_v23 val_main_v22 val_main_v17 val_main_v26 val_main_v25 val_main_v19
  have hc := v16_at
  have hs := v18_at
  generalize val_main_v16 (F := Ideal) = c at *
  generalize val_main_v18 (F := Ideal) = d at *
  pointwise []
  by_cases h0 : l.val < 128
  · rw [dif_pos h0, dif_pos h0, hc, hs]
  · rw [dif_neg h0, dif_neg h0, hc, hs]

/-- The turned samples' heads, entry by entry. -/
theorem ropeS_at (Z : FVec Ideal S8x4096x8x256 .f32) (b : Fin 8) (s : Fin 4096) (h : Fin 8) (l : Fin 256) :
    ropeS Z (ix4 b s h l) = turn (fun l => Z (ix4 b s h l)) s l := by
  unfold ropeS turn C S
  rw [show val_main_v109 (F := Ideal) = val_main_v102 (F := Ideal) from rfl, show val_main_v112 (F := Ideal) = val_main_v105 (F := Ideal) from rfl]
  unfold val_main_v102 val_main_v101 val_main_v96 val_main_v105 val_main_v104 val_main_v98
  generalize val_main_v95 (F := Ideal) = c
  generalize val_main_v97 (F := Ideal) = d
  pointwise []

/-- All four turnings of the reference are these two. -/
theorem v36_eq (x0 : FVec Ideal S4x2048x2048 .f32) (x2 : FVec Ideal S1x2048x12288 .f32) :
    val_main_v36 (F := Ideal) x0 x2 = ropeP (val_main_v3 (F := Ideal) x0 x2) := rfl

theorem v71_eq (x0 : FVec Ideal S4x2048x2048 .f32) (x2 : FVec Ideal S1x2048x12288 .f32) :
    val_main_v71 (F := Ideal) x0 x2 = ropeP (val_main_v38 (F := Ideal) x0 x2) := rfl

theorem v115_eq (x1 : FVec Ideal S8x4096x2048 .f32) (x2 : FVec Ideal S1x2048x12288 .f32) :
    val_main_v115 (F := Ideal) x1 x2 = ropeS (val_main_v82 (F := Ideal) x1 x2) := rfl

theorem v150_eq (x1 : FVec Ideal S8x4096x2048 .f32) (x2 : FVec Ideal S1x2048x12288 .f32) :
    val_main_v150 (F := Ideal) x1 x2 = ropeS (val_main_v117 (F := Ideal) x1 x2) := rfl

/-- A prompt's plain product. -/
theorem v1_at (x0 : FVec Ideal S4x2048x2048 .f32) (x2 : FVec Ideal S1x2048x12288 .f32) (b : Fin 4) (s : Fin 2048) (e : Fin 12288) :
    val_main_v1 (F := Ideal) x0 x2 (ix3 b s e : S4x2048x12288.Idx) = ∑ d : Fin 2048, x0 (ix3 b s d) * x2 (ix3 0 d e) := by
  unfold val_main_v1 val_main_v0
  pointwise []

/-- A sample's plain product. -/
theorem v80_at (x1 : FVec Ideal S8x4096x2048 .f32) (x2 : FVec Ideal S1x2048x12288 .f32) (b : Fin 8) (s : Fin 4096) (e : Fin 12288) :
    val_main_v80 (F := Ideal) x1 x2 (ix3 b s e : S8x4096x12288.Idx) = ∑ d : Fin 2048, x1 (ix3 b s d) * x2 (ix3 0 d e) := by
  unfold val_main_v80 val_main_v79
  pointwise []

/-- A finished row: the first two groups of heads turned, the second also scaled, the rest as it is. -/
def row (z : Fin 12288 → EReal) (p : Fin 4096) (e : Fin 12288) : EReal :=
  if h : e.val < 4096 then
    turn (fun l => z ⟨e / 256 * 256 + l, by omega⟩) p ⟨e % 256, by omega⟩
      * (if e.val < 2048 then 1 else Ideal.ofBits .f32 0x3D800000#32)
  else z e

/-- A prompt's row. -/
theorem v77_at (x0 : FVec Ideal S4x2048x2048 .f32) (x2 : FVec Ideal S1x2048x12288 .f32) (b : Fin 4) (s : Fin 2048) (e : Fin 12288) :
    val_main_v77 (F := Ideal) x0 x2 (ix3 b s e : S4x2048x12288.Idx)
      = row (fun e => val_main_v1 (F := Ideal) x0 x2 (ix3 b s e : S4x2048x12288.Idx)) ⟨s, by omega⟩ e := by
  unfold val_main_v77 val_main_v74 val_main_v75 val_main_v76 val_main_v73 val_main_v72 val_main_cst_3
  rw [v36_eq, v71_eq]
  unfold val_main_v3 val_main_v2 val_main_v38 val_main_v37
  have h := ropeP_at
  generalize val_main_v1 (F := Ideal) x0 x2 = z
  generalize ropeP = R at *
  pointwise [row]
  by_cases h1 : e.val < 2048
  · rw [dif_pos h1, dif_pos (by omega), if_pos h1, h, mul_one]
    refine congrArg (fun f => turn f _ _) (funext fun l => ?_)
    pointwise []
    blk_ext
  rw [dif_neg h1]
  by_cases h2 : e.val - 2048 < 2048
  · rw [dif_pos h2, dif_pos (by omega), if_neg h1, h]
    have hl : (⟨(e.val - 2048) % 256, by omega⟩ : Fin 256) = ⟨e.val % 256, by omega⟩ := Fin.ext (by show (e.val - 2048) % 256 = e.val % 256; omega)
    rw [hl]
    refine congrArg (fun f => turn f _ _ * _) (funext fun l => ?_)
    pointwise []
    blk_ext
  · rw [dif_neg h2, dif_neg (by omega)]
    blk_ext

/-- A sample's row. -/
theorem v156_at (x1 : FVec Ideal S8x4096x2048 .f32) (x2 : FVec Ideal S1x2048x12288 .f32) (b : Fin 8) (s : Fin 4096) (e : Fin 12288) :
    val_main_v156 (F := Ideal) x1 x2 (ix3 b s e : S8x4096x12288.Idx)
      = row (fun e => val_main_v80 (F := Ideal) x1 x2 (ix3 b s e : S8x4096x12288.Idx)) s e := by
  unfold val_main_v156 val_main_v153 val_main_v154 val_main_v155 val_main_v152 val_main_v151 val_main_cst_8
  rw [v115_eq, v150_eq]
  unfold val_main_v82 val_main_v81 val_main_v117 val_main_v116
  have h := ropeS_at
  generalize val_main_v80 (F := Ideal) x1 x2 = z
  generalize ropeS = R at *
  pointwise [row]
  by_cases h1 : e.val < 2048
  · rw [dif_pos h1, dif_pos (by omega), if_pos h1, h, mul_one]
    refine congrArg (fun f => turn f _ _) (funext fun l => ?_)
    pointwise []
    blk_ext
  rw [dif_neg h1]
  by_cases h2 : e.val - 2048 < 2048
  · rw [dif_pos h2, dif_pos (by omega), if_neg h1, h]
    have hl : (⟨(e.val - 2048) % 256, by omega⟩ : Fin 256) = ⟨e.val % 256, by omega⟩ := Fin.ext (by show (e.val - 2048) % 256 = e.val % 256; omega)
    rw [hl]
    refine congrArg (fun f => turn f _ _ * _) (funext fun l => ?_)
    pointwise []
    blk_ext
  · rw [dif_neg h2, dif_neg (by omega)]
    blk_ext

/-- A token's plain product. -/
def acc (x0 : FVec Ideal S4x2048x2048 .f32) (x1 : FVec Ideal S8x4096x2048 .f32) (x2 : FVec Ideal S1x2048x12288 .f32) (r : Fin 40960) (e : Fin 12288) : EReal :=
  ∑ d : Fin 2048, (if h : r.val < 8192 then x0 (ix3 ⟨r / 2048, by omega⟩ ⟨r % 2048, by omega⟩ d)
    else x1 (ix3 ⟨(r - 8192) / 4096, by omega⟩ ⟨(r - 8192) % 4096, by omega⟩ d)) * x2 (ix3 0 d e)

/-- A token's position in its sequence. -/
def pos (r : Fin 40960) : Fin 4096 := if r.val < 8192 then ⟨r % 2048, by omega⟩ else ⟨(r - 8192) % 4096, by omega⟩

/-- The reference's result, entry by entry. -/
theorem result_at (x0 : FVec Ideal S4x2048x2048 .f32) (x1 : FVec Ideal S8x4096x2048 .f32) (x2 : FVec Ideal S1x2048x12288 .f32) (r : Fin 40960) (e : Fin 12288) :
    val_main_v159 (F := Ideal) x0 x1 x2 (ix2 r e : S40960x12288.Idx) = row (acc x0 x1 x2 r) (pos r) e := by
  rw [val_main_v159_apply]
  unfold val_main_v158 val_main_v78 val_main_v157 acc pos
  have hp := v77_at x0 x2
  have hs := v156_at x1 x2
  simp only [v1_at, v80_at] at hp hs
  generalize val_main_v77 (F := Ideal) x0 x2 = y at *
  generalize val_main_v156 (F := Ideal) x1 x2 = z at *
  pointwise []
  by_cases h : r.val < 8192
  · simp only [dif_pos h, if_pos h]
    exact hp _ _ _
  · simp only [dif_neg h, if_neg h]
    exact hs _ _ _

end Cert.ProjRetRefIdeal.Rows

end
-- ==== Proof.ProjRetValue.lean ====
module

public import proofs.«01_k».proof.Proof.ProjRetRows
public import proofs.«01_k».proof.Proof.Gen.ProjRetIdeal
public import proofs.«01_k».proof.Proof.Gen.ProjRetIdeal.Skeleton
public import proofs.«01_k».proof.Proof.Gen.ProjRetIdeal.Launch
public import proofs.«01_k».proof.Proof.Gen.ProjRetIdeal.Points
public import proofs.«01_k».proof.Proof.Gen.ProjRetIdeal.Frame
public import proofs.«01_k».proof.Proof.Gen.ProjRetRefIdeal.Read
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.ProjRetIdeal.Value
open Cert.ProjRetIdeal Cert.ProjRetIdeal.Gen
open Cert.ProjRetRefIdeal.Rows (C S turn row acc pos result_at)

variable (m : (ℓ : Loc nD τ sig) → Buf (Elt Ideal) ℓ)

/-- Where each window stands at a grid point. -/
theorem idx_val : ∀ t : Fin cfg0.N, win0_0.index t = ![t.val / 12, 0]
    ∧ win0_1.index t = ![0, t.val % 12]
    ∧ win0_2.index t = ![if t.val / 12 < 8 then t.val / 12 % 2 else (t.val / 12 - 8) % 4, 0]
    ∧ win0_3.index t = ![if t.val / 12 < 8 then t.val / 12 % 2 else (t.val / 12 - 8) % 4, 0]
    ∧ win0_5.index t = ![t.val / 12, t.val % 12] :=
  (by decide +kernel : ∀ t : Fin grid0.N, _)

/-- The number of grid points. -/
theorem lt_N (t : Fin cfg0.N) : t.val < 480 := t.isLt

/-- The token of a row of a grid point's tile. -/
def tok (t : Fin cfg0.N) (r : Fin 1024) : Fin 40960 := ⟨t.val / 12 * 1024 + r, by have := lt_N t; omega⟩

/-- The column of a lane of a grid point's tile. -/
def col (t : Fin cfg0.N) (k : Fin 1024) : Fin 12288 := ⟨t.val % 12 * 1024 + k, by omega⟩

/-- The two batches' rows, one after the other. -/
theorem join_at (X : FVec Ideal S4x2048x2048 .f32) (Y : FVec Ideal S8x4096x2048 .f32) (r : Fin 40960) (d : Fin 2048) :
    truncf (F := Ideal) .bf16 (concatenate S40960x2048 0 [⟨S8192x2048, shapeCast S8192x2048 X shapeCasts_S4x2048x2048_S8192x2048⟩,
        ⟨S32768x2048, shapeCast S32768x2048 Y shapeCasts_S8x4096x2048_S32768x2048⟩] concatenates_S8192x2048_S32768x2048_S40960x2048_d0) bitsLt_bf16_f32 (ix2 r d)
      = if h : r.val < 8192 then X (ix3 ⟨r / 2048, by omega⟩ ⟨r % 2048, by omega⟩ d)
        else Y (ix3 ⟨(r - 8192) / 4096, by omega⟩ ⟨(r - 8192) % 4096, by omega⟩ d) := by
  pointwise []

/-- The tokens' rows, as the launch lays them out. -/
theorem x_at (c : Dev nD) (r : Fin 40960) (d : Fin 2048) : (V m c main_v3 : FVec Ideal S40960x2048 .bf16) (ix2 r d)
    = if h : r.val < 8192 then m ((c : Thread nD τ).loc main_arg0) (ix3 ⟨r / 2048, by omega⟩ ⟨r % 2048, by omega⟩ d : S4x2048x2048.Idx)
      else m ((c : Thread nD τ).loc main_arg1) (ix3 ⟨(r - 8192) / 4096, by omega⟩ ⟨(r - 8192) % 4096, by omega⟩ d : S8x4096x2048.Idx) := by
  entry_read
  exact join_at _ _ r d

/-- The weights, as the launch lays them out. -/
theorem w_at (c : Dev nD) (d : Fin 2048) (e : Fin 12288) : (V m c main_v5 : FVec Ideal S2048x12288 .bf16) (ix2 d e)
    = m ((c : Thread nD τ).loc main_arg2) (ix3 0 d e : S1x2048x12288.Idx) := by
  entry_read
  pointwise []

/-- The table of cosines. -/
theorem cos_at (c : Dev nD) (p : Fin 4096) (f : Fin 128) : (V m c main_v18 : FVec Ideal S4096x128 .f32) (ix2 p f) = C p f := by
  entry_read
  rfl

/-- The table of sines. -/
theorem sin_at (c : Dev nD) (p : Fin 4096) (f : Fin 128) : (V m c main_v19 : FVec Ideal S4096x128 .f32) (ix2 p f) = S p f := by
  entry_read
  rfl

/-- A window's block of rows, of any array of tokens. -/
theorem xblk_at (A : FVec Ideal S40960x2048 .bf16) (t : Fin cfg0.N) (r : Fin 1024) (d : Fin 2048) :
    (View.read (Elt Ideal) ((cfg0.win 0).blk t).view A : Vec Ideal S1024x2048 .bf16) (ix2 r d) = A (ix2 (tok t r) d) := by
  unfold tok
  blk_point [idx_val t]

/-- A window's block of columns, of any array of weights. -/
theorem wblk_at (A : FVec Ideal S2048x12288 .bf16) (t : Fin cfg0.N) (d : Fin 2048) (k : Fin 1024) :
    (View.read (Elt Ideal) ((cfg0.win 1).blk t).view A : Vec Ideal S2048x1024 .bf16) (ix2 d k) = A (ix2 d (col t k)) := by
  unfold col
  blk_point [idx_val t]

/-- A window's block of the cosines stands at the tokens' positions. -/
theorem cblk_at (A : FVec Ideal S4096x128 .f32) (t : Fin cfg0.N) (r : Fin 1024) (f : Fin 128) :
    (View.read (Elt Ideal) ((cfg0.win 2).blk t).view A : Vec Ideal S1024x128 .f32) (ix2 r f) = A (ix2 (pos (tok t r)) f) := by
  have ht := lt_N t
  unfold pos tok
  by_cases h : t.val / 12 < 8
  · have h' : t.val / 12 * 1024 + r.val < 8192 := by omega
    simp only [if_pos h']
    blk_point [idx_val t, if_pos h]
  · have h' : ¬ t.val / 12 * 1024 + r.val < 8192 := by omega
    simp only [if_neg h']
    blk_point [idx_val t, if_neg h]

/-- So does its block of the sines. -/
theorem sblk_at (A : FVec Ideal S4096x128 .f32) (t : Fin cfg0.N) (r : Fin 1024) (f : Fin 128) :
    (View.read (Elt Ideal) ((cfg0.win 3).blk t).view A : Vec Ideal S1024x128 .f32) (ix2 r f) = A (ix2 (pos (tok t r)) f) := by
  have ht := lt_N t
  unfold pos tok
  by_cases h : t.val / 12 < 8
  · have h' : t.val / 12 * 1024 + r.val < 8192 := by omega
    simp only [if_pos h']
    blk_point [idx_val t, if_pos h]
  · have h' : ¬ t.val / 12 * 1024 + r.val < 8192 := by omega
    simp only [if_neg h']
    blk_point [idx_val t, if_neg h]

/-- A tile of the plain product. -/
theorem acc_at (c : Dev nD) (t : Fin cfg0.N) (r k : Fin 1024) :
    k0_pay1 (F := Ideal) (iblk m c 0 t) (iblk m c 1 t) (ix2 r k)
      = acc (m ((c : Thread nD τ).loc main_arg0)) (m ((c : Thread nD τ).loc main_arg1)) (m ((c : Thread nD τ).loc main_arg2)) (tok t r) (col t k) := by
  have e : ∀ (X : Vec Ideal S1024x2048 .bf16) (W : Vec Ideal S2048x1024 .bf16), k0_pay1 (F := Ideal) X W (ix2 r k) = ∑ d : Fin 2048, X (ix2 r d) * W (ix2 d k) := by
    intro X W
    pointwise [k0_pay1]
  rw [e]
  unfold acc
  refine Finset.sum_congr rfl fun d _ => ?_
  refine congrArg₂ (· * ·) ?_ ?_
  · exact (xblk_at _ t r d).trans (x_at m c _ d)
  · exact (wblk_at _ t d k).trans (w_at m c d _)

/-- The factor of the turned heads at a grid point. -/
theorem scale_at (t : Fin cfg0.N) (k : Fin 1024) :
    k0_pay9 (F := Ideal) (BitVec.ofNat 32 (grid0.coords t 1).val) = if (col t k).val < 2048 then (1 : EReal) else Ideal.ofBits .f32 0x3D800000#32 := by
  have h : ∀ t : Fin cfg0.N, Scalar.cmpi .slt (BitVec.ofNat 32 (grid0.coords t 1).val) 2#32 = if t.val % 12 < 2 then 1#1 else 0#1 := by decide +kernel
  unfold k0_pay9 col
  rw [h]
  by_cases h2 : t.val % 12 < 2
  · rw [if_pos h2, if_pos (by show t.val % 12 * 1024 + k.val < 2048; omega)]
    exact Idealize.ShloMosaic.Ideal.ofBits_one_f32
  · rw [if_neg h2, if_neg (by show ¬ t.val % 12 * 1024 + k.val < 2048; omega)]
    rfl

/-- A turned row in the first half of a head. -/
theorem row_lo (z : Fin 12288 → EReal) (p : Fin 4096) (e e' : Fin 12288) (f : Fin 128) (h0 : e.val < 4096) (hf : e.val % 256 = f.val) (he : e'.val = e.val + 128) :
    row z p e = (z e * C p f - z e' * S p f) * (if e.val < 2048 then 1 else Ideal.ofBits .f32 0x3D800000#32) := by
  unfold row turn
  rw [dif_pos h0, dif_pos (by show e.val % 256 < 128; omega)]
  have a : (⟨e.val / 256 * 256 + e.val % 256, by omega⟩ : Fin 12288) = e := Fin.ext (by show e.val / 256 * 256 + e.val % 256 = e.val; omega)
  have b : (⟨e.val / 256 * 256 + (128 + e.val % 256), by omega⟩ : Fin 12288) = e' := Fin.ext (by show e.val / 256 * 256 + (128 + e.val % 256) = e'.val; omega)
  have d : (⟨e.val % 256, by omega⟩ : Fin 128) = f := Fin.ext hf
  simp only [a, b, d]

/-- A turned row in the second half of a head. -/
theorem row_hi (z : Fin 12288 → EReal) (p : Fin 4096) (e e' : Fin 12288) (f : Fin 128) (h0 : e.val < 4096) (hf : e.val % 256 = 128 + f.val) (he : e.val = e'.val + 128) :
    row z p e = (z e * C p f + z e' * S p f) * (if e.val < 2048 then 1 else Ideal.ofBits .f32 0x3D800000#32) := by
  unfold row turn
  rw [dif_pos h0, dif_neg (by show ¬ e.val % 256 < 128; omega)]
  have a : (⟨e.val / 256 * 256 + (128 + (e.val % 256 - 128)), by omega⟩ : Fin 12288) = e := Fin.ext (by show e.val / 256 * 256 + (128 + (e.val % 256 - 128)) = e.val; omega)
  have b : (⟨e.val / 256 * 256 + (e.val % 256 - 128), by omega⟩ : Fin 12288) = e' := Fin.ext (by show e.val / 256 * 256 + (e.val % 256 - 128) = e'.val; omega)
  have d : (⟨e.val % 256 - 128, by omega⟩ : Fin 128) = f := Fin.ext (by show e.val % 256 - 128 = f.val; omega)
  simp only [a, b, d]

/-- The part of the result a grid point writes, where it is left as it is. -/
theorem plain (c : Dev nD) (t : Fin cfg0.N) (h0 : 4 ≤ t.val % 12) (h1 : ¬t.val % 12 ≤ 3) (r k : Fin 1024) :
    outsAt0 m c t.val t.isLt (ix2 r k)
      = row (acc (m ((c : Thread nD τ).loc main_arg0)) (m ((c : Thread nD τ).loc main_arg1)) (m ((c : Thread nD τ).loc main_arg2)) (tok t r)) (pos (tok t r)) (col t k) := by
  rw [outsAt0_B m c t h0 h1]
  frame_out
  unfold row
  rw [dif_neg (by show ¬ t.val % 12 * 1024 + k.val < 4096; omega)]
  exact acc_at m c t r k

/-- A first half of a head, as a store computes it. -/
theorem lo_at (c : Dev nD) (t : Fin cfg0.N) (h1 : t.val % 12 ≤ 3) (r k a k' : Fin 1024) (f : Fin 128) (ha : a.val = k.val) (hf : a.val % 256 = f.val) (hk : k'.val = a.val + 128) :
    (k0_pay1 (F := Ideal) (iblk m c 0 t) (iblk m c 1 t) (ix2 r a) * (iblk m c 2 t : Vec Ideal S1024x128 .f32) (ix2 r f)
        - k0_pay1 (F := Ideal) (iblk m c 0 t) (iblk m c 1 t) (ix2 r k') * (iblk m c 3 t : Vec Ideal S1024x128 .f32) (ix2 r f))
        * k0_pay9 (F := Ideal) (BitVec.ofNat 32 (grid0.coords t 1).val)
      = row (acc (m ((c : Thread nD τ).loc main_arg0)) (m ((c : Thread nD τ).loc main_arg1)) (m ((c : Thread nD τ).loc main_arg2)) (tok t r)) (pos (tok t r)) (col t k) := by
  obtain rfl : a = k := Fin.ext ha
  rw [row_lo _ _ (col t a) (col t k') f (by show t.val % 12 * 1024 + a.val < 4096; omega) (by show (t.val % 12 * 1024 + a.val) % 256 = f.val; omega)
    (by show t.val % 12 * 1024 + k'.val = t.val % 12 * 1024 + a.val + 128; omega), acc_at, acc_at, scale_at t a,
    show (iblk m c 2 t : Vec Ideal S1024x128 .f32) (ix2 r f) = C (pos (tok t r)) f from (cblk_at _ t r f).trans (cos_at m c _ f),
    show (iblk m c 3 t : Vec Ideal S1024x128 .f32) (ix2 r f) = S (pos (tok t r)) f from (sblk_at _ t r f).trans (sin_at m c _ f)]

/-- A second half of a head, as a store computes it. -/
theorem hi_at (c : Dev nD) (t : Fin cfg0.N) (h1 : t.val % 12 ≤ 3) (r k a k' : Fin 1024) (f : Fin 128) (ha : a.val = k.val) (hf : a.val % 256 = 128 + f.val) (hk : a.val = k'.val + 128) :
    (k0_pay1 (F := Ideal) (iblk m c 0 t) (iblk m c 1 t) (ix2 r a) * (iblk m c 2 t : Vec Ideal S1024x128 .f32) (ix2 r f)
        + k0_pay1 (F := Ideal) (iblk m c 0 t) (iblk m c 1 t) (ix2 r k') * (iblk m c 3 t : Vec Ideal S1024x128 .f32) (ix2 r f))
        * k0_pay9 (F := Ideal) (BitVec.ofNat 32 (grid0.coords t 1).val)
      = row (acc (m ((c : Thread nD τ).loc main_arg0)) (m ((c : Thread nD τ).loc main_arg1)) (m ((c : Thread nD τ).loc main_arg2)) (tok t r)) (pos (tok t r)) (col t k) := by
  obtain rfl : a = k := Fin.ext ha
  rw [row_hi _ _ (col t a) (col t k') f (by show t.val % 12 * 1024 + a.val < 4096; omega) (by show (t.val % 12 * 1024 + a.val) % 256 = 128 + f.val; omega)
    (by show t.val % 12 * 1024 + a.val = t.val % 12 * 1024 + k'.val + 128; omega), acc_at, acc_at, scale_at t a,
    show (iblk m c 2 t : Vec Ideal S1024x128 .f32) (ix2 r f) = C (pos (tok t r)) f from (cblk_at _ t r f).trans (cos_at m c _ f),
    show (iblk m c 3 t : Vec Ideal S1024x128 .f32) (ix2 r f) = S (pos (tok t r)) f from (sblk_at _ t r f).trans (sin_at m c _ f)]

/-- The part of the result a grid point writes, where its heads are turned. -/
theorem turned (c : Dev nD) (t : Fin cfg0.N) (h0 : ¬4 ≤ t.val % 12) (h1 : t.val % 12 ≤ 3) (r k : Fin 1024) :
    outsAt0 m c t.val t.isLt (ix2 r k)
      = row (acc (m ((c : Thread nD τ).loc main_arg0)) (m ((c : Thread nD τ).loc main_arg1)) (m ((c : Thread nD τ).loc main_arg2)) (tok t r)) (pos (tok t r)) (col t k) := by
  rw [outsAt0_A m c t h0 h1]
  frame_out
  have hlo := lo_at m c t h1 r k
  have hhi := hi_at m c t h1 r k
  generalize row _ _ _ = g at *
  unfold k0_pay8 k0_pay7 k0_pay6 k0_pay5 k0_pay14 k0_pay15 k0_pay18 k0_pay19
  generalize k0_pay1 (F := Ideal) (iblk m c 0 t) (iblk m c 1 t) = A at *
  generalize k0_pay9 (F := Ideal) (BitVec.ofNat 32 (grid0.coords t 1).val) = q at *
  generalize iblk m c 2 t = B at *
  generalize iblk m c 3 t = D at *
  canon_tiles x h
  all_goals
    obtain ⟨a, f, rfl⟩ : ∃ (a : Fin 1024) (f : Fin 128), x = ix2 a f := ⟨x 0, x 1, by funext a; fin_cases a <;> rfl⟩
    obtain rfl : r = a := Fin.ext h0
    change k.val = _ at h1
    change f.val < 128 at x1_lt
    pointwise [k0_pay3, k0_pay4, k0_pay10, k0_pay11, k0_pay12, k0_pay13, k0_pay16, k0_pay17, k0_pay20, k0_pay21, k0_pay22]
    first | change k.val = _ + f.val at h1 | change k.val = f.val at h1
    first
      | (refine hlo _ _ f ?_ ?_ ?_ <;> dsimp only <;> omega)
      | (refine hhi _ _ f ?_ ?_ ?_ <;> dsimp only <;> omega)

/-- The whole result is the reference's. -/
theorem final (c : Dev nD) : (dats m 0 c).arrAt 5 (cfgs 0).N
    = Cert.ProjRetRefIdeal.Read.val_main_v159 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp; rw [after0_5]
  have hy : y = ix2 (y 0) (y 1) := by funext a; fin_cases a <;> rfl
  have he : ((cfg0.win 5).blk t).view.emb y = ix2 (tok t (y 0)) (col t (y 1)) := by
    unfold tok col
    blk_ext [idx_val t]
  rw [he, result_at, hy]
  by_cases h : t.val % 12 ≤ 3
  · exact turned m c t (by omega) h _ _
  · exact plain m c t (by omega) h _ _

end Cert.ProjRetIdeal.Value

end
-- ==== Proof.ProjDiffRows.lean ====
module

public import proofs.«01_k».proof.Proof.Gen.ProjDiffRefIdeal.Read
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.ProjDiffRefIdeal.Rows
open Cert.ProjDiffRefIdeal Cert.ProjDiffRefIdeal.Gen Cert.ProjDiffRefIdeal.Read

/-- The cosine of a position's angle in a lane. -/
def C (p : Fin 4096) (f : Fin 16) : EReal := val_main_v108 (F := Ideal) (ix2 p f : S4096x16.Idx)

/-- The sine of a position's angle in a lane. -/
def S (p : Fin 4096) (f : Fin 16) : EReal := val_main_v110 (F := Ideal) (ix2 p f : S4096x16.Idx)

/-- A head's first thirty-two lanes turned by the angles of a position, the others left. -/
def turn (z : Fin 128 → EReal) (p : Fin 4096) (l : Fin 128) : EReal :=
  if h' : l.val < 32 then
    if h : l.val < 16 then z ⟨l, by omega⟩ * C p ⟨l, h⟩ - z ⟨16 + l, by omega⟩ * S p ⟨l, h⟩
    else z ⟨16 + (l - 16), by omega⟩ * C p ⟨l - 16, by omega⟩ + z ⟨l - 16, by omega⟩ * S p ⟨l - 16, by omega⟩
  else z ⟨32 + (l - 32), by omega⟩

/-- The prompts' table of cosines is the head of the longer one. -/
theorem v23_at (p : Fin 2048) (f : Fin 16) : val_main_v23 (F := Ideal) (ix2 p f : S2048x16.Idx) = C ⟨p, by omega⟩ f := by
  unfold C
  pointwise [val_main_v23, val_main_v108, val_main_v22, val_main_v107, val_main_v20, val_main_v21, val_main_v18, val_main_v19, val_main_v17, val_main_v16, val_main_v15, val_main_v14, val_main_v13, val_main_v12, val_main_v11, val_main_cst, val_main_cst_0, val_main_v105, val_main_v106, val_main_v103, val_main_v104, val_main_v102, val_main_v101, val_main_v100, val_main_v99, val_main_v98, val_main_v97, val_main_v96, val_main_cst_4, val_main_cst_5]

/-- The prompts' table of sines is the head of the longer one. -/
theorem v25_at (p : Fin 2048) (f : Fin 16) : val_main_v25 (F := Ideal) (ix2 p f : S2048x16.Idx) = S ⟨p, by omega⟩ f := by
  unfold S
  pointwise [val_main_v25, val_main_v110, val_main_v22, val_main_v107, val_main_v20, val_main_v21, val_main_v18, val_main_v19, val_main_v17, val_main_v16, val_main_v15, val_main_v14, val_main_v13, val_main_v12, val_main_v11, val_main_cst, val_main_cst_0, val_main_v105, val_main_v106, val_main_v103, val_main_v104, val_main_v102, val_main_v101, val_main_v100, val_main_v99, val_main_v98, val_main_v97, val_main_v96, val_main_cst_4, val_main_cst_5]

/-- The reference's turning of the prompts' heads. -/
def ropeP (Z : FVec Ideal S4x2048x8x2x128 .f32) : FVec Ideal S4x2048x8x2x128 .f32 :=
  let a : FVec Ideal S4x2048x8x2x32 .f32 := extractStridedSlice S4x2048x8x2x32 ![0, 0, 0, 0, 0] Z slices_S4x2048x8x2x128_S4x2048x8x2x32_0_0_0_0_0
  let a1 : FVec Ideal S4x2048x8x2x16 .f32 := extractStridedSlice S4x2048x8x2x16 ![0, 0, 0, 0, 0] a slices_S4x2048x8x2x32_S4x2048x8x2x16_0_0_0_0_0
  let a2 : FVec Ideal S4x2048x8x2x16 .f32 := extractStridedSlice S4x2048x8x2x16 ![0, 0, 0, 0, 16] a slices_S4x2048x8x2x32_S4x2048x8x2x16_0_0_0_0_16
  concatenate S4x2048x8x2x128 4
    [⟨S4x2048x8x2x32, concatenate S4x2048x8x2x32 4
        [⟨S4x2048x8x2x16, subf (mulf a1 (val_main_v31 (F := Ideal))) (mulf a2 (val_main_v34 (F := Ideal)))⟩,
         ⟨S4x2048x8x2x16, addf (mulf a2 (val_main_v38 (F := Ideal))) (mulf a1 (val_main_v41 (F := Ideal)))⟩]
        concatenates_S4x2048x8x2x16_S4x2048x8x2x16_S4x2048x8x2x32_d4⟩,
     ⟨S4x2048x8x2x96, extractStridedSlice S4x2048x8x2x96 ![0, 0, 0, 0, 32] Z slices_S4x2048x8x2x128_S4x2048x8x2x96_0_0_0_0_32⟩]
    concatenates_S4x2048x8x2x32_S4x2048x8x2x96_S4x2048x8x2x128_d4

/-- The reference's turning of the samples' heads. -/
def ropeS (Z : FVec Ideal S8x4096x8x2x128 .f32) : FVec Ideal S8x4096x8x2x128 .f32 :=
  let a : FVec Ideal S8x4096x8x2x32 .f32 := extractStridedSlice S8x4096x8x2x32 ![0, 0, 0, 0, 0] Z slices_S8x4096x8x2x128_S8x4096x8x2x32_0_0_0_0_0
  let a1 : FVec Ideal S8x4096x8x2x16 .f32 := extractStridedSlice S8x4096x8x2x16 ![0, 0, 0, 0, 0] a slices_S8x4096x8x2x32_S8x4096x8x2x16_0_0_0_0_0
  let a2 : FVec Ideal S8x4096x8x2x16 .f32 := extractStridedSlice S8x4096x8x2x16 ![0, 0, 0, 0, 16] a slices_S8x4096x8x2x32_S8x4096x8x2x16_0_0_0_0_16
  concatenate S8x4096x8x2x128 4
    [⟨S8x4096x8x2x32, concatenate S8x4096x8x2x32 4
        [⟨S8x4096x8x2x16, subf (mulf a1 (val_main_v116 (F := Ideal))) (mulf a2 (val_main_v119 (F := Ideal)))⟩,
         ⟨S8x4096x8x2x16, addf (mulf a2 (val_main_v123 (F := Ideal))) (mulf a1 (val_main_v126 (F := Ideal)))⟩]
        concatenates_S8x4096x8x2x16_S8x4096x8x2x16_S8x4096x8x2x32_d4⟩,
     ⟨S8x4096x8x2x96, extractStridedSlice S8x4096x8x2x96 ![0, 0, 0, 0, 32] Z slices_S8x4096x8x2x128_S8x4096x8x2x96_0_0_0_0_32⟩]
    concatenates_S8x4096x8x2x32_S8x4096x8x2x96_S8x4096x8x2x128_d4

/-- The turned prompts' heads, entry by entry. -/
theorem ropeP_at (Z : FVec Ideal S4x2048x8x2x128 .f32) (b : Fin 4) (s : Fin 2048) (h : Fin 8) (w : Fin 2) (l : Fin 128) :
    ropeP Z (ix5 b s h w l) = turn (fun l => Z (ix5 b s h w l)) ⟨s, by omega⟩ l := by
  unfold ropeP turn
  rw [show val_main_v38 (F := Ideal) = val_main_v31 (F := Ideal) from rfl, show val_main_v41 (F := Ideal) = val_main_v34 (F := Ideal) from rfl]
  unfold val_main_v31 val_main_v30 val_main_v24 val_main_v34 val_main_v33 val_main_v26
  have hc := v23_at
  have hs := v25_at
  generalize val_main_v23 (F := Ideal) = c at *
  generalize val_main_v25 (F := Ideal) = d at *
  pointwise []
  by_cases h1 : l.val < 32
  · rw [dif_pos h1, dif_pos h1]
    by_cases h0 : l.val < 16
    · rw [dif_pos h0, dif_pos h0, hc, hs]
    · rw [dif_neg h0, dif_neg h0, hc, hs]
  · rw [dif_neg h1, dif_neg h1]

/-- The turned samples' heads, entry by entry. -/
theorem ropeS_at (Z : FVec Ideal S8x4096x8x2x128 .f32) (b : Fin 8) (s : Fin 4096) (h : Fin 8) (w : Fin 2) (l : Fin 128) :
    ropeS Z (ix5 b s h w l) = turn (fun l => Z (ix5 b s h w l)) s l := by
  unfold ropeS turn C S
  rw [show val_main_v123 (F := Ideal) = val_main_v116 (F := Ideal) from rfl, show val_main_v126 (F := Ideal) = val_main_v119 (F := Ideal) from rfl]
  unfold val_main_v116 val_main_v115 val_main_v109 val_main_v119 val_main_v118 val_main_v111
  generalize val_main_v108 (F := Ideal) = c
  generalize val_main_v110 (F := Ideal) = d
  pointwise []

/-- All four turnings of the reference are these two. -/
theorem v46_eq (x0 : FVec Ideal S40960x2048 .bf16) (x1 : FVec Ideal S1x2048x6144 .f32) :
    val_main_v46 (F := Ideal) x0 x1 = ropeP (val_main_v8 (F := Ideal) x0 x1) := rfl

theorem v84_eq (x0 : FVec Ideal S40960x2048 .bf16) (x1 : FVec Ideal S1x2048x6144 .f32) :
    val_main_v84 (F := Ideal) x0 x1 = ropeP (val_main_v10 (F := Ideal) x0 x1) := rfl

theorem v131_eq (x0 : FVec Ideal S40960x2048 .bf16) (x1 : FVec Ideal S1x2048x6144 .f32) :
    val_main_v131 (F := Ideal) x0 x1 = ropeS (val_main_v93 (F := Ideal) x0 x1) := rfl

theorem v169_eq (x0 : FVec Ideal S40960x2048 .bf16) (x1 : FVec Ideal S1x2048x6144 .f32) :
    val_main_v169 (F := Ideal) x0 x1 = ropeS (val_main_v95 (F := Ideal) x0 x1) := rfl

/-- A token's plain product. -/
def acc (x0 : FVec Ideal S40960x2048 .bf16) (x1 : FVec Ideal S1x2048x6144 .f32) (r : Fin 40960) (e : Fin 6144) : EReal :=
  ∑ d : Fin 2048, x0 (ix2 r d) * x1 (ix3 0 d e)

/-- A prompt's plain product. -/
theorem v6_at (x0 : FVec Ideal S40960x2048 .bf16) (x1 : FVec Ideal S1x2048x6144 .f32) (b : Fin 4) (s : Fin 2048) (e : Fin 6144) :
    val_main_v6 (F := Ideal) x0 x1 (ix3 b s e : S4x2048x6144.Idx) = acc x0 x1 ⟨b * 2048 + s, by omega⟩ e := by
  unfold val_main_v6 val_main_v5 val_main_v2 val_main_v1 val_main_v0 acc
  pointwise []

/-- A sample's plain product. -/
theorem v91_at (x0 : FVec Ideal S40960x2048 .bf16) (x1 : FVec Ideal S1x2048x6144 .f32) (b : Fin 8) (s : Fin 4096) (e : Fin 6144) :
    val_main_v91 (F := Ideal) x0 x1 (ix3 b s e : S8x4096x6144.Idx) = acc x0 x1 ⟨8192 + (b * 4096 + s), by omega⟩ e := by
  unfold val_main_v91 val_main_v90 val_main_v4 val_main_v3 val_main_v0 acc
  pointwise []

/-- A finished row: the first two groups of heads turned, the first also scaled, the rest as it is. -/
def row (z : Fin 6144 → EReal) (p : Fin 4096) (e : Fin 6144) : EReal :=
  if h : e.val < 4096 then
    turn (fun l => z ⟨e / 128 * 128 + l, by omega⟩) p ⟨e % 128, by omega⟩
      * (if e.val < 2048 then Ideal.ofBits .f32 0x3DB504F3#32 else 1)
  else z e

/-- A prompt's row. -/
theorem v88_at (x0 : FVec Ideal S40960x2048 .bf16) (x1 : FVec Ideal S1x2048x6144 .f32) (b : Fin 4) (s : Fin 2048) (e : Fin 6144) :
    val_main_v88 (F := Ideal) x0 x1 (ix3 b s e : S4x2048x6144.Idx)
      = row (fun e => val_main_v6 (F := Ideal) x0 x1 (ix3 b s e : S4x2048x6144.Idx)) ⟨s, by omega⟩ e := by
  unfold val_main_v88 val_main_v85 val_main_v86 val_main_v87 val_main_v48 val_main_v47 val_main_cst_1
  rw [v46_eq, v84_eq]
  unfold val_main_v8 val_main_v7 val_main_v10 val_main_v9
  have h := ropeP_at
  generalize val_main_v6 (F := Ideal) x0 x1 = z
  generalize ropeP = R at *
  pointwise [row]
  by_cases h1 : e.val < 2048
  · rw [dif_pos h1, dif_pos (by omega), if_pos h1, h]
    refine congrArg (fun f => turn f _ _ * _) (funext fun l => ?_)
    pointwise []
    blk_ext
  rw [dif_neg h1]
  by_cases h2 : e.val - 2048 < 2048
  · rw [dif_pos h2, dif_pos (by omega), if_neg h1, h, mul_one]
    have hl : (⟨(e.val - 2048) % 128, by omega⟩ : Fin 128) = ⟨e.val % 128, by omega⟩ := Fin.ext (by show (e.val - 2048) % 128 = e.val % 128; omega)
    rw [hl]
    refine congrArg (fun f => turn f _ _) (funext fun l => ?_)
    pointwise []
    blk_ext
  · rw [dif_neg h2, dif_neg (by omega)]
    blk_ext

/-- A sample's row. -/
theorem v173_at (x0 : FVec Ideal S40960x2048 .bf16) (x1 : FVec Ideal S1x2048x6144 .f32) (b : Fin 8) (s : Fin 4096) (e : Fin 6144) :
    val_main_v173 (F := Ideal) x0 x1 (ix3 b s e : S8x4096x6144.Idx)
      = row (fun e => val_main_v91 (F := Ideal) x0 x1 (ix3 b s e : S8x4096x6144.Idx)) s e := by
  unfold val_main_v173 val_main_v170 val_main_v171 val_main_v172 val_main_v133 val_main_v132 val_main_cst_6
  rw [v131_eq, v169_eq]
  unfold val_main_v93 val_main_v92 val_main_v95 val_main_v94
  have h := ropeS_at
  generalize val_main_v91 (F := Ideal) x0 x1 = z
  generalize ropeS = R at *
  pointwise [row]
  by_cases h1 : e.val < 2048
  · rw [dif_pos h1, dif_pos (by omega), if_pos h1, h]
    refine congrArg (fun f => turn f _ _ * _) (funext fun l => ?_)
    pointwise []
    blk_ext
  rw [dif_neg h1]
  by_cases h2 : e.val - 2048 < 2048
  · rw [dif_pos h2, dif_pos (by omega), if_neg h1, h, mul_one]
    have hl : (⟨(e.val - 2048) % 128, by omega⟩ : Fin 128) = ⟨e.val % 128, by omega⟩ := Fin.ext (by show (e.val - 2048) % 128 = e.val % 128; omega)
    rw [hl]
    refine congrArg (fun f => turn f _ _) (funext fun l => ?_)
    pointwise []
    blk_ext
  · rw [dif_neg h2, dif_neg (by omega)]
    blk_ext

/-- A token's position in its sequence. -/
def pos (r : Fin 40960) : Fin 4096 := if r.val < 8192 then ⟨r % 2048, by omega⟩ else ⟨(r - 8192) % 4096, by omega⟩

/-- The reference's result, entry by entry. -/
theorem result_at (x0 : FVec Ideal S40960x2048 .bf16) (x1 : FVec Ideal S1x2048x6144 .f32) (r : Fin 40960) (e : Fin 6144) :
    val_main_v176 (F := Ideal) x0 x1 (ix2 r e : S40960x6144.Idx) = row (acc x0 x1 r) (pos r) e := by
  rw [val_main_v176_apply]
  unfold val_main_v175 val_main_v89 val_main_v174 pos
  have hp := v88_at x0 x1
  have hs := v173_at x0 x1
  simp only [v6_at, v91_at] at hp hs
  generalize val_main_v88 (F := Ideal) x0 x1 = y at *
  generalize val_main_v173 (F := Ideal) x0 x1 = z at *
  pointwise []
  by_cases h : r.val < 8192
  · simp only [dif_pos h, if_pos h]
    have hr : (⟨r.val / 2048 * 2048 + r.val % 2048, by omega⟩ : Fin 40960) = r := Fin.ext (by show r.val / 2048 * 2048 + r.val % 2048 = r.val; omega)
    refine (hp _ _ _).trans ?_
    dsimp only
    rw [hr]
  · simp only [dif_neg h, if_neg h]
    have hr : (⟨8192 + ((r.val - 8192) / 4096 * 4096 + (r.val - 8192) % 4096), by omega⟩ : Fin 40960) = r := Fin.ext (by show 8192 + ((r.val - 8192) / 4096 * 4096 + (r.val - 8192) % 4096) = r.val; omega)
    refine (hs _ _ _).trans ?_
    dsimp only
    rw [hr]

end Cert.ProjDiffRefIdeal.Rows

end
-- ==== Proof.ProjDiffValue.lean ====
module

public import proofs.«01_k».proof.Proof.ProjDiffRows
public import proofs.«01_k».proof.Proof.Gen.ProjDiffIdeal
public import proofs.«01_k».proof.Proof.Gen.ProjDiffIdeal.Skeleton
public import proofs.«01_k».proof.Proof.Gen.ProjDiffIdeal.Launch
public import proofs.«01_k».proof.Proof.Gen.ProjDiffIdeal.Points
public import proofs.«01_k».proof.Proof.Gen.ProjDiffIdeal.Frame
public import proofs.«01_k».proof.Proof.Gen.ProjDiffRefIdeal.Read
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.ProjDiffIdeal.Value
open Cert.ProjDiffIdeal Cert.ProjDiffIdeal.Gen
open Cert.ProjDiffRefIdeal.Rows (C S turn row acc pos result_at)

variable (m : (ℓ : Loc nD τ sig) → Buf (Elt Ideal) ℓ)

/-- Where each window stands at a grid point. -/
theorem idx_val : ∀ t : Fin cfg0.N, win0_0.index t = ![t.val / 6, 0]
    ∧ win0_1.index t = ![0, t.val % 6]
    ∧ win0_2.index t = ![if t.val / 6 < 8 then t.val / 6 % 2 else (t.val / 6 - 8) % 4, 0]
    ∧ win0_3.index t = ![if t.val / 6 < 8 then t.val / 6 % 2 else (t.val / 6 - 8) % 4, 0]
    ∧ win0_4.index t = ![if t.val / 6 < 8 then t.val / 6 % 2 else (t.val / 6 - 8) % 4, 0]
    ∧ win0_5.index t = ![t.val / 6, t.val % 6] :=
  (by decide +kernel : ∀ t : Fin grid0.N, _)

/-- The number of grid points. -/
theorem lt_N (t : Fin cfg0.N) : t.val < 240 := t.isLt

/-- The token of a row of a grid point's tile. -/
def tok (t : Fin cfg0.N) (r : Fin 1024) : Fin 40960 := ⟨t.val / 6 * 1024 + r, by have := lt_N t; omega⟩

/-- The column of a lane of a grid point's tile. -/
def col (t : Fin cfg0.N) (k : Fin 1024) : Fin 6144 := ⟨t.val % 6 * 1024 + k, by omega⟩

/-- The weights, as the launch lays them out. -/
theorem w_at (c : Dev nD) (d : Fin 2048) (e : Fin 6144) : (V m c main_v1 : FVec Ideal S2048x6144 .bf16) (ix2 d e)
    = m ((c : Thread nD τ).loc main_arg1) (ix3 0 d e : S1x2048x6144.Idx) := by
  entry_read
  pointwise []

/-- Three tables side by side. -/
theorem cat_at (X Y : FVec Ideal S4096x16 .f32) (Z : FVec Ideal S4096x96 .f32) (p : Fin 4096) (f : Fin 128) :
    concatenate S4096x128 1 [⟨S4096x16, X⟩, ⟨S4096x16, Y⟩, ⟨S4096x96, Z⟩] concatenates_S4096x16_S4096x16_S4096x96_S4096x128_d1 (ix2 p f)
      = if h : f.val < 16 then X (ix2 p ⟨f, h⟩) else if h' : f.val < 32 then Y (ix2 p ⟨f - 16, by omega⟩) else Z (ix2 p ⟨f - 32, by omega⟩) := by
  pointwise []
  by_cases h : f.val < 16
  · rw [dif_pos h, dif_pos h]
  · rw [dif_neg h, dif_neg h]
    by_cases h' : f.val < 32
    · rw [dif_pos h', dif_pos (by omega)]
    · rw [dif_neg h', dif_neg (by omega)]
      exact congrArg (fun a => Z (ix2 p a)) (Fin.ext (by show f.val - 16 - 16 = f.val - 32; omega))

/-- Three tables side by side, of whose entries something is known. -/
theorem cat_of (X Y : FVec Ideal S4096x16 .f32) (Z : FVec Ideal S4096x96 .f32) (p : Fin 4096) (f : Fin 128) (a b : Fin 16 → EReal) (d : EReal)
    (hX : ∀ f, X (ix2 p f) = a f) (hY : ∀ f, Y (ix2 p f) = b f) (hZ : ∀ f, Z (ix2 p f) = d) :
    concatenate S4096x128 1 [⟨S4096x16, X⟩, ⟨S4096x16, Y⟩, ⟨S4096x96, Z⟩] concatenates_S4096x16_S4096x16_S4096x96_S4096x128_d1 (ix2 p f)
      = if h : f.val < 16 then a ⟨f, h⟩ else if h' : f.val < 32 then b ⟨f - 16, by omega⟩ else d := by
  rw [cat_at]
  simp only [hX, hY, hZ]

/-- The cosines of the turned lanes. -/
theorem cos16_at (c : Dev nD) (p : Fin 4096) (f : Fin 16) : (V m c main_v14 : FVec Ideal S4096x16 .f32) (ix2 p f) = C p f := by
  entry_read
  rfl

/-- The sines of the turned lanes. -/
theorem sin16_at (c : Dev nD) (p : Fin 4096) (f : Fin 16) : (V m c main_v15 : FVec Ideal S4096x16 .f32) (ix2 p f) = S p f := by
  entry_read
  rfl

/-- The sines with their sign changed. -/
theorem neg16_at (c : Dev nD) (p : Fin 4096) (f : Fin 16) : (V m c main_v21 : FVec Ideal S4096x16 .f32) (ix2 p f) = -S p f := by
  entry_read
  rfl

/-- Zeros for lanes that take nothing. -/
theorem zero16_at (c : Dev nD) (p : Fin 4096) (f : Fin 16) : (V m c main_v16 : FVec Ideal S4096x16 .f32) (ix2 p f) = (0 : EReal) := by
  entry_read
  exact Idealize.ShloMosaic.Ideal.ofBits_zero_f32

/-- Ones for the lanes left alone. -/
theorem one96_at (c : Dev nD) (p : Fin 4096) (f : Fin 96) : (V m c main_v17 : FVec Ideal S4096x96 .f32) (ix2 p f) = (1 : EReal) := by
  entry_read
  exact Idealize.ShloMosaic.Ideal.ofBits_one_f32

/-- Zeros for the lanes left alone. -/
theorem up96_at (c : Dev nD) (p : Fin 4096) (f : Fin 96) : (V m c main_v19 : FVec Ideal S4096x96 .f32) (ix2 p f) = (0 : EReal) := by
  entry_read
  exact Idealize.ShloMosaic.Ideal.ofBits_zero_f32

/-- Zeros for the lanes left alone. -/
theorem down96_at (c : Dev nD) (p : Fin 4096) (f : Fin 96) : (V m c main_v22 : FVec Ideal S4096x96 .f32) (ix2 p f) = (0 : EReal) := by
  entry_read
  exact Idealize.ShloMosaic.Ideal.ofBits_zero_f32

/-- The table of cosines is put together of three. -/
theorem cos_eq (c : Dev nD) : (V m c main_v18 : FVec Ideal S4096x128 .f32)
    = concatenate S4096x128 1 [⟨S4096x16, (V m c main_v14 : FVec Ideal S4096x16 .f32)⟩, ⟨S4096x16, (V m c main_v14 : FVec Ideal S4096x16 .f32)⟩, ⟨S4096x96, (V m c main_v17 : FVec Ideal S4096x96 .f32)⟩]
        concatenates_S4096x16_S4096x16_S4096x96_S4096x128_d1 := by
  rfl

/-- So is the table of the lanes turned up. -/
theorem up_eq (c : Dev nD) : (V m c main_v20 : FVec Ideal S4096x128 .f32)
    = concatenate S4096x128 1 [⟨S4096x16, (V m c main_v16 : FVec Ideal S4096x16 .f32)⟩, ⟨S4096x16, (V m c main_v15 : FVec Ideal S4096x16 .f32)⟩, ⟨S4096x96, (V m c main_v19 : FVec Ideal S4096x96 .f32)⟩]
        concatenates_S4096x16_S4096x16_S4096x96_S4096x128_d1 := by
  rfl

/-- So is the table of the lanes turned down. -/
theorem down_eq (c : Dev nD) : (V m c main_v23 : FVec Ideal S4096x128 .f32)
    = concatenate S4096x128 1 [⟨S4096x16, (V m c main_v21 : FVec Ideal S4096x16 .f32)⟩, ⟨S4096x16, (V m c main_v16 : FVec Ideal S4096x16 .f32)⟩, ⟨S4096x96, (V m c main_v22 : FVec Ideal S4096x96 .f32)⟩]
        concatenates_S4096x16_S4096x16_S4096x96_S4096x128_d1 := by
  rfl

/-- The table of cosines: both halves of the turned lanes, then ones. -/
theorem cos_at (c : Dev nD) (p : Fin 4096) (f : Fin 128) : (V m c main_v18 : FVec Ideal S4096x128 .f32) (ix2 p f)
    = if h : f.val < 16 then C p ⟨f, h⟩ else if h' : f.val < 32 then C p ⟨f - 16, by omega⟩ else 1 := by
  exact (congrFun (cos_eq m c) (ix2 p f)).trans (cat_of _ _ _ p f _ _ _ (cos16_at m c p) (cos16_at m c p) (one96_at m c p))

/-- The table of sines of the lanes turned up. -/
theorem up_at (c : Dev nD) (p : Fin 4096) (f : Fin 128) : (V m c main_v20 : FVec Ideal S4096x128 .f32) (ix2 p f)
    = if h : f.val < 16 then (0 : EReal) else if h' : f.val < 32 then S p ⟨f - 16, by omega⟩ else 0 := by
  exact (congrFun (up_eq m c) (ix2 p f)).trans (cat_of _ _ _ p f _ _ _ (zero16_at m c p) (sin16_at m c p) (up96_at m c p))

/-- The table of sines of the lanes turned down. -/
theorem down_at (c : Dev nD) (p : Fin 4096) (f : Fin 128) : (V m c main_v23 : FVec Ideal S4096x128 .f32) (ix2 p f)
    = if h : f.val < 16 then -S p ⟨f, h⟩ else if h' : f.val < 32 then 0 else 0 := by
  exact (congrFun (down_eq m c) (ix2 p f)).trans (cat_of _ _ _ p f _ _ _ (neg16_at m c p) (zero16_at m c p) (down96_at m c p))

/-- A window's block of rows, of any array of tokens. -/
theorem xblk_at (A : FVec Ideal S40960x2048 .bf16) (t : Fin cfg0.N) (r : Fin 1024) (d : Fin 2048) :
    (View.read (Elt Ideal) ((cfg0.win 0).blk t).view A : Vec Ideal S1024x2048 .bf16) (ix2 r d) = A (ix2 (tok t r) d) := by
  unfold tok
  blk_point [idx_val t]

/-- A window's block of columns, of any array of weights. -/
theorem wblk_at (A : FVec Ideal S2048x6144 .bf16) (t : Fin cfg0.N) (d : Fin 2048) (k : Fin 1024) :
    (View.read (Elt Ideal) ((cfg0.win 1).blk t).view A : Vec Ideal S2048x1024 .bf16) (ix2 d k) = A (ix2 d (col t k)) := by
  unfold col
  blk_point [idx_val t]

/-- A window's block of the cosines stands at the tokens' positions. -/
theorem cblk_at (A : FVec Ideal S4096x128 .f32) (t : Fin cfg0.N) (r : Fin 1024) (f : Fin 128) :
    (View.read (Elt Ideal) ((cfg0.win 2).blk t).view A : Vec Ideal S1024x128 .f32) (ix2 r f) = A (ix2 (pos (tok t r)) f) := by
  have ht := lt_N t
  unfold pos tok
  by_cases h : t.val / 6 < 8
  · have h' : t.val / 6 * 1024 + r.val < 8192 := by omega
    simp only [if_pos h']
    blk_point [idx_val t, if_pos h]
  · have h' : ¬ t.val / 6 * 1024 + r.val < 8192 := by omega
    simp only [if_neg h']
    blk_point [idx_val t, if_neg h]

/-- So does its block of the sines. -/
theorem sblk_at (A : FVec Ideal S4096x128 .f32) (t : Fin cfg0.N) (r : Fin 1024) (f : Fin 128) :
    (View.read (Elt Ideal) ((cfg0.win 3).blk t).view A : Vec Ideal S1024x128 .f32) (ix2 r f) = A (ix2 (pos (tok t r)) f) := by
  have ht := lt_N t
  unfold pos tok
  by_cases h : t.val / 6 < 8
  · have h' : t.val / 6 * 1024 + r.val < 8192 := by omega
    simp only [if_pos h']
    blk_point [idx_val t, if_pos h]
  · have h' : ¬ t.val / 6 * 1024 + r.val < 8192 := by omega
    simp only [if_neg h']
    blk_point [idx_val t, if_neg h]

/-- So does its block of the other sines. -/
theorem dblk_at (A : FVec Ideal S4096x128 .f32) (t : Fin cfg0.N) (r : Fin 1024) (f : Fin 128) :
    (View.read (Elt Ideal) ((cfg0.win 4).blk t).view A : Vec Ideal S1024x128 .f32) (ix2 r f) = A (ix2 (pos (tok t r)) f) := by
  have ht := lt_N t
  unfold pos tok
  by_cases h : t.val / 6 < 8
  · have h' : t.val / 6 * 1024 + r.val < 8192 := by omega
    simp only [if_pos h']
    blk_point [idx_val t, if_pos h]
  · have h' : ¬ t.val / 6 * 1024 + r.val < 8192 := by omega
    simp only [if_neg h']
    blk_point [idx_val t, if_neg h]

/-- A tile of the plain product. -/
theorem acc_at (c : Dev nD) (t : Fin cfg0.N) (r k : Fin 1024) :
    k0_pay1 (F := Ideal) (iblk m c 0 t) (iblk m c 1 t) (ix2 r k)
      = acc (m ((c : Thread nD τ).loc main_arg0)) (m ((c : Thread nD τ).loc main_arg1)) (tok t r) (col t k) := by
  have e : ∀ (X : Vec Ideal S1024x2048 .bf16) (W : Vec Ideal S2048x1024 .bf16), k0_pay1 (F := Ideal) X W (ix2 r k) = ∑ d : Fin 2048, X (ix2 r d) * W (ix2 d k) := by
    intro X W
    pointwise [k0_pay1]
  rw [e]
  unfold acc
  refine Finset.sum_congr rfl fun d _ => ?_
  refine congrArg₂ (· * ·) ?_ ?_
  · exact (xblk_at _ t r d).trans (by entry_read; rfl)
  · exact (wblk_at _ t d k).trans (w_at m c d _)

/-- The factor of the turned heads at a grid point. -/
theorem scale_at (t : Fin cfg0.N) (k : Fin 1024) :
    k0_pay5 (F := Ideal) (BitVec.ofNat 32 (grid0.coords t 1).val) = if (col t k).val < 2048 then Ideal.ofBits .f32 0x3DB504F3#32 else (1 : EReal) := by
  have h : ∀ t : Fin cfg0.N, Scalar.cmpi .slt (BitVec.ofNat 32 (grid0.coords t 1).val) 2#32 = if t.val % 6 < 2 then 1#1 else 0#1 := by decide +kernel
  unfold k0_pay5 col
  rw [h]
  by_cases h2 : t.val % 6 < 2
  · rw [if_pos h2, if_pos (by show t.val % 6 * 1024 + k.val < 2048; omega)]
    rfl
  · rw [if_neg h2, if_neg (by show ¬ t.val % 6 * 1024 + k.val < 2048; omega)]
    exact Idealize.ShloMosaic.Ideal.ofBits_one_f32

/-- A turned head, as three products with the tables. -/
theorem turn_at (z : Fin 128 → EReal) (p : Fin 4096) (l l1 l2 : Fin 128) (h1 : l1.val = (l.val + 112) % 128) (h2 : l2.val = (l.val + 16) % 128) :
    z l * (if h : l.val < 16 then C p ⟨l, h⟩ else if h' : l.val < 32 then C p ⟨l - 16, by omega⟩ else 1)
        + z l1 * (if h : l.val < 16 then 0 else if h' : l.val < 32 then S p ⟨l - 16, by omega⟩ else 0)
        + z l2 * (if h : l.val < 16 then -S p ⟨l, h⟩ else if h' : l.val < 32 then 0 else 0)
      = turn z p l := by
  unfold turn
  by_cases h : l.val < 16
  · rw [dif_pos h, dif_pos h, dif_pos h, dif_pos (by omega), dif_pos h, mul_zero, add_zero, sub_eq_add_neg, mul_neg]
    have e : l2 = ⟨16 + l.val, by omega⟩ := Fin.ext (by show l2.val = 16 + l.val; omega)
    exact congrArg (fun a => z l * C p ⟨l.val, h⟩ + -(z a * S p ⟨l.val, h⟩)) e
  by_cases h' : l.val < 32
  · rw [dif_neg h, dif_neg h, dif_neg h, dif_pos h', dif_pos h', dif_pos h', dif_pos h', dif_neg h, mul_zero, add_zero]
    have e1 : l1 = ⟨l.val - 16, by omega⟩ := Fin.ext (by show l1.val = l.val - 16; omega)
    have e : (⟨16 + (l.val - 16), by omega⟩ : Fin 128) = l := Fin.ext (by show 16 + (l.val - 16) = l.val; omega)
    exact congrArg₂ (fun a b => z a * C p ⟨l.val - 16, by omega⟩ + z b * S p ⟨l.val - 16, by omega⟩) e.symm e1
  · rw [dif_neg h, dif_neg h, dif_neg h, dif_neg h', dif_neg h', dif_neg h', dif_neg h', mul_zero, mul_zero, add_zero, add_zero, mul_one]
    exact congrArg z (Fin.ext (by show l.val = 32 + (l.val - 32); omega))

/-- The part of the result a grid point writes, where it is left as it is. -/
theorem plain (c : Dev nD) (t : Fin cfg0.N) (h0 : 4 ≤ t.val % 6) (h1 : ¬t.val % 6 ≤ 3) (r k : Fin 1024) :
    outsAt0 m c t.val t.isLt (ix2 r k)
      = row (acc (m ((c : Thread nD τ).loc main_arg0)) (m ((c : Thread nD τ).loc main_arg1)) (tok t r)) (pos (tok t r)) (col t k) := by
  rw [outsAt0_B m c t h0 h1]
  frame_out
  unfold row
  rw [dif_neg (by show ¬ t.val % 6 * 1024 + k.val < 4096; omega)]
  exact acc_at m c t r k

/-- A head's lane, as a store computes it. -/
theorem head_at (c : Dev nD) (t : Fin cfg0.N) (h1 : t.val % 6 ≤ 3) (r k a a1 a2 : Fin 1024) (f : Fin 128) (ha : a.val = k.val) (hf : a.val % 128 = f.val)
    (e1 : a1.val = a.val / 128 * 128 + (f.val + 112) % 128) (e2 : a2.val = a.val / 128 * 128 + (f.val + 16) % 128) :
    (k0_pay1 (F := Ideal) (iblk m c 0 t) (iblk m c 1 t) (ix2 r a) * (iblk m c 2 t : Vec Ideal S1024x128 .f32) (ix2 r f)
        + k0_pay1 (F := Ideal) (iblk m c 0 t) (iblk m c 1 t) (ix2 r a1) * (iblk m c 3 t : Vec Ideal S1024x128 .f32) (ix2 r f)
        + k0_pay1 (F := Ideal) (iblk m c 0 t) (iblk m c 1 t) (ix2 r a2) * (iblk m c 4 t : Vec Ideal S1024x128 .f32) (ix2 r f))
        * k0_pay5 (F := Ideal) (BitVec.ofNat 32 (grid0.coords t 1).val)
      = row (acc (m ((c : Thread nD τ).loc main_arg0)) (m ((c : Thread nD τ).loc main_arg1)) (tok t r)) (pos (tok t r)) (col t k) := by
  obtain rfl : a = k := Fin.ext ha
  have hc : (col t a).val = t.val % 6 * 1024 + a.val := rfl
  rw [acc_at, acc_at, acc_at, scale_at t a,
    show (iblk m c 2 t : Vec Ideal S1024x128 .f32) (ix2 r f) = _ from (cblk_at _ t r f).trans (cos_at m c _ f),
    show (iblk m c 3 t : Vec Ideal S1024x128 .f32) (ix2 r f) = _ from (sblk_at _ t r f).trans (up_at m c _ f),
    show (iblk m c 4 t : Vec Ideal S1024x128 .f32) (ix2 r f) = _ from (dblk_at _ t r f).trans (down_at m c _ f)]
  unfold row
  rw [dif_pos (show (col t a).val < 4096 by omega)]
  generalize acc _ _ _ = z
  have hl : (⟨(col t a).val % 128, by omega⟩ : Fin 128) = f := Fin.ext (by show (col t a).val % 128 = f.val; omega)
  rw [hl]
  refine congrArg (· * _) ((turn_at (fun l => z ⟨(col t a).val / 128 * 128 + l, by omega⟩) _ f ⟨(f.val + 112) % 128, by omega⟩ ⟨(f.val + 16) % 128, by omega⟩ rfl rfl).symm.trans ?_).symm
  have b : ∀ (a' : Fin 1024) (l : Fin 128), a'.val = a.val / 128 * 128 + l.val → (⟨(col t a).val / 128 * 128 + l.val, by omega⟩ : Fin 6144) = col t a' :=
    fun a' l h => Fin.ext (by show (col t a).val / 128 * 128 + l.val = t.val % 6 * 1024 + a'.val; omega)
  dsimp only
  rw [b a f (by omega), b a1 ⟨(f.val + 112) % 128, by omega⟩ e1, b a2 ⟨(f.val + 16) % 128, by omega⟩ e2]

/-- The part of the result a grid point writes, where its heads are turned. -/
theorem turned (c : Dev nD) (t : Fin cfg0.N) (h0 : ¬4 ≤ t.val % 6) (h1 : t.val % 6 ≤ 3) (r k : Fin 1024) :
    outsAt0 m c t.val t.isLt (ix2 r k)
      = row (acc (m ((c : Thread nD τ).loc main_arg0)) (m ((c : Thread nD τ).loc main_arg1)) (tok t r)) (pos (tok t r)) (col t k) := by
  rw [outsAt0_A m c t h0 h1]
  frame_out
  have hd := head_at m c t h1 r k
  generalize row _ _ _ = g at *
  unfold k0_pay4 k0_pay9 k0_pay10 k0_pay14 k0_pay12 k0_pay13 k0_pay6 k0_pay7 k0_pay8
  generalize k0_pay1 (F := Ideal) (iblk m c 0 t) (iblk m c 1 t) = A at *
  generalize k0_pay5 (F := Ideal) (BitVec.ofNat 32 (grid0.coords t 1).val) = q at *
  generalize iblk m c 2 t = B at *
  generalize iblk m c 3 t = D at *
  generalize iblk m c 4 t = E at *
  canon_tiles x h
  all_goals
    obtain ⟨a, f, rfl⟩ : ∃ (a : Fin 1024) (f : Fin 128), x = ix2 a f := ⟨x 0, x 1, by funext a; fin_cases a <;> rfl⟩
    obtain rfl : r = a := Fin.ext h0
    change k.val = _ at h1
    change f.val < 128 at x1_lt
    pointwise [k0_pay3, k0_pay11, k0_pay15, k0_pay16, k0_pay17, k0_pay18]
    first | change k.val = _ + f.val at h1 | change k.val = f.val at h1
    refine hd _ _ _ f ?_ ?_ ?_ ?_ <;> dsimp only <;> omega

/-- The whole result is the reference's. -/
theorem final (c : Dev nD) : (dats m 0 c).arrAt 5 (cfgs 0).N
    = Cert.ProjDiffRefIdeal.Read.val_main_v176 (F := Ideal) (m ((c : Thread nD τ).loc main_arg0)) (m ((c : Thread nD τ).loc main_arg1)) := by
  refine (dats m 0 c).arrAt_eq_of_covers 5 _ (by decide +kernel) fun t hf y => ?_
  blk_simp; rw [after0_5]
  have hy : y = ix2 (y 0) (y 1) := by funext a; fin_cases a <;> rfl
  have he : ((cfg0.win 5).blk t).view.emb y = ix2 (tok t (y 0)) (col t (y 1)) := by
    unfold tok col
    blk_ext [idx_val t]
  rw [he, result_at, hy]
  by_cases h : t.val % 6 ≤ 3
  · exact turned m c t (by omega) h _ _
  · exact plain m c t (by omega) h _ _

end Cert.ProjDiffIdeal.Value

end
-- ==== Proof.ProjClaim.lean ====
/- The value claims of this group of calls, and the frames of their references. -/
module

public import proofs.«01_k».proof.Defs
public import proofs.«01_k».proof.Proof.ProjRetValue
public import proofs.«01_k».proof.Proof.Gen.ProjRetIdeal.Value
public import proofs.«01_k».proof.Proof.Gen.ProjRetRefIdeal.Run
public import proofs.«01_k».proof.Proof.Gen.ProjRetRefIdeal.Read
public import Idealize.ShloMosaic.Lib.Quiescent
public import proofs.«01_k».proof.Proof.ProjDiffValue
public import proofs.«01_k».proof.Proof.Gen.ProjDiffIdeal.Value
public import proofs.«01_k».proof.Proof.Gen.ProjDiffRefIdeal.Run
public import proofs.«01_k».proof.Proof.Gen.ProjDiffRefIdeal.Read
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proof

/-- The projection into the retention mixer and its reference end with the same result. -/
theorem value_ProjRet : Cert.algebraic_ProjRetIdeal_ProjRetRefIdeal := by
  pair_intro
  · run_from Cert.ProjRetIdeal.Gen.run_main m g
  · run_from Cert.ProjRetRefIdeal.Value.run m' g'
    rw [Cert.ProjRetRefIdeal.Read.val_main_v159_eq]
    exact (congr (congr (congrArg _ (hagree c).1) (hagree c).2.1) (hagree c).2.2).trans (Cert.ProjRetIdeal.Value.final m c).symm

/-- The reference of the projection into the retention mixer runs and leaves its arguments unchanged. -/
theorem frame_ProjRetRef : Cert.quiescent_ProjRetRefIdeal := fun m g _ =>
  (θ_run _ _ _).mono (fun r h => ⟨fun c => (h c).2, sem_eq_zero_of_no_sems rfl r.2⟩) (Cert.ProjRetRefIdeal.Value.run m g)

/-- The projection into the attention mixer and its reference end with the same result. -/
theorem value_ProjDiff : Cert.algebraic_ProjDiffIdeal_ProjDiffRefIdeal := by
  pair_intro
  · run_from Cert.ProjDiffIdeal.Gen.run_main m g
  · run_from Cert.ProjDiffRefIdeal.Value.run m' g'
    rw [Cert.ProjDiffRefIdeal.Read.val_main_v176_eq]
    exact (congr (congrArg _ (hagree c).1) (hagree c).2).trans (Cert.ProjDiffIdeal.Value.final m c).symm

/-- The reference of the projection into the attention mixer runs and leaves its arguments unchanged. -/
theorem frame_ProjDiffRef : Cert.quiescent_ProjDiffRefIdeal := fun m g _ =>
  (θ_run _ _ _).mono (fun r h => ⟨fun c => (h c).2, sem_eq_zero_of_no_sems rfl r.2⟩) (Cert.ProjDiffRefIdeal.Value.run m g)

end Cert.Proof

end
-- ==== Proof.TableWords.lean ====
/- Words of the two tables the experts' kernel reads: where the guard of its body holds and which block of rows its index maps name. -/
module

public import Idealize.ShloMosaic.Lib.Pipeline.ValueKit
public import Idealize.ShloMosaic.Lib.WordCmp

@[expose] public section

namespace Cert.TableWords

open Idealize.ShloMosaic

/-- A word that is at least one, read signed, is its natural number and lies below the sign bit. -/
theorem word_pos (v : BitVec 32) (hv : 1 ≤ v.toInt) : 1 ≤ v.toNat ∧ v.toNat < 2147483648 ∧ v.toInt = (v.toNat : Int) := by
  have h1 := BitVec.toInt_eq_toNat_cond v
  have h2 := v.isLt
  split at h1 <;> omega

/-- The body's guard at point `i`: `i` is below the number of used blocks. -/
theorem guard_iff (i : ℕ) (hi : i < 2147483648) (v : BitVec 32) (hv : 1 ≤ v.toInt) :
    Scalar.cmpi .ne (Scalar.extui (Scalar.cmpi .slt (BitVec.ofNat 32 i) v)) 0#32 = 1#1 ↔ i < v.toNat := by
  obtain ⟨-, -, e⟩ := word_pos v hv
  have hs : Scalar.cmpi .slt (BitVec.ofNat 32 i) v = BitVec.ofBool (decide (i < v.toNat)) := by
    show IntOp.cmpi .slt _ _ = _
    rw [WordCmp.cmpi_slt_eq, WordCmp.toInt_ofNat_of_lt hi, e]
    congr 1
    exact decide_eq_decide.mpr Int.ofNat_lt
  rw [hs]
  by_cases h : i < v.toNat
  · rw [decide_eq_true h]; exact ⟨fun _ => h, fun _ => by decide⟩
  · rw [decide_eq_false h]; exact ⟨fun h' => absurd h' (by decide), fun h' => absurd h' h⟩

/-- The block of rows at point `i`: `i` itself while it is used, the last used block after that. -/
theorem row_eq (i : ℕ) (hi : i < 2147483648) (v : BitVec 32) (hv : 1 ≤ v.toInt) :
    (Scalar.minsi (BitVec.ofNat 32 i) (Scalar.subi v 1#32)).toNat = min i (v.toNat - 1) := by
  obtain ⟨h1, h2, e⟩ := word_pos v hv
  have hsub : (v - 1#32).toNat = v.toNat - 1 := by
    rw [BitVec.toNat_sub]; simp only [BitVec.toNat_ofNat]; omega
  have hi' : (BitVec.ofNat 32 i).toNat = i := WordCmp.toNat_ofNat_of_lt (by omega)
  show (if (BitVec.ofNat 32 i).slt (v - 1#32) then BitVec.ofNat 32 i else v - 1#32).toNat = _
  have hs : (BitVec.ofNat 32 i).slt (v - 1#32) = decide (i < v.toNat - 1) := by
    have a : (BitVec.ofNat 32 i).toInt = (i : Int) := WordCmp.toInt_ofNat_of_lt hi
    have b : (v - 1#32).toInt = ((v.toNat - 1 : ℕ) : Int) := by
      rw [BitVec.toInt_eq_toNat_of_lt (by rw [hsub]; omega), hsub]
    show decide ((BitVec.ofNat 32 i).toInt < (v - 1#32).toInt) = _
    rw [a, b]
    exact decide_eq_decide.mpr Int.ofNat_lt
  rw [hs]
  by_cases h : i < v.toNat - 1
  · rw [decide_eq_true h, if_pos rfl, hi']; omega
  · rw [decide_eq_false h, if_neg Bool.false_ne_true, hsub]; omega

end Cert.TableWords
-- ==== Proof.ExpertRunIdeal.lean ====
/- The experts' kernel run at the ideal values, for every contents of its two tables that keep its blocks inside their arrays and
   name at least one used block. The body works only at the points below the number of used blocks; after them the window of its
   result stays on the last used block, so that block is written back once more by the last point of the grid, still as the last used
   point left it. -/
module

public import proofs.«01_k».proof.Proof.TableWords
public import proofs.«01_k».proof.Proof.Gen.ExpertFfnIdeal.Launch
public import proofs.«01_k».proof.Proof.Gen.ExpertFfnIdeal.Skeleton
public import Idealize.ShloMosaic.Lib.Pipeline.FrameBody
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.ExpertFfnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.ExpertFfnIdeal Cert.ExpertFfnIdeal.Gen

variable {F : FTy → Type} [FloatOps F]

local notation "𝕄" => MT nD τ sig Unit (Elt F) ℕ (UR sig nD τ) ℕ

/-! ## The tables: how many blocks are used, where the body works and where its result goes -/

section tables

variable (pf : pre0.Contents (Elt F))

/-- The one index of the second table. -/
def word0 : S1.Idx := fun a => ⟨(![0] : Fin 1 → ℕ) a, by fin_cases a; decide⟩

/-- The number of used blocks, the one word of the second table. -/
def used : BitVec 32 := (show S1.Idx → BitVec 32 from pf 1) word0

/-- The second table has one index. -/
theorem word0_eq (x : S1.Idx) : x = word0 := by
  funext a
  refine Fin.ext ?_
  fin_cases a
  have : (x 0).val < 1 := (x 0).isLt
  show (x 0).val = 0
  omega

/-- The word an index map or the body loads from the second table is that number. -/
theorem used_eq (x : S1.Idx) : (show S1.Idx → BitVec 32 from pf 1) x = used pf := by
  rw [word0_eq x]; rfl

/-- So is the word the table of idle points is stated over. -/
theorem usedD_eq : (pf.atD 1 ![0] : BitVec 32) = used pf :=
  dif_pos (show ∀ a : Fin 1, (![0] : Fin 1 → ℕ) a + 1 ≤ S1.size a from fun a => by fin_cases a; decide)

variable (hv : 1 ≤ (used pf).toInt)
include hv

/-- The body works at a point exactly when the point is below the number of used blocks. -/
theorem works_iff (i : grid0.Coords) : k0_cond1 i (used pf) = 1#1 ↔ (i 0).val < (used pf).toNat :=
  TableWords.guard_iff _ (by have : (i 0).val < 1344 := (i 0).isLt; omega) _ hv

/-- The block of rows the result's window is on at a point. -/
theorem out_row (i : grid0.Coords) : cc0_transform_3 inb_S1_S1_0 numel1_S1 pf i = ![min (i 0).val ((used pf).toNat - 1), 0] := by
  unfold cc0_transform_3
  dsimp only
  have e : (pf.at 1 (Rect.unit (s := S1) ![0] S1.size inb_S1_S1_0) numel1_S1 : BitVec 32) = used pf := used_eq pf _
  rw [e, TableWords.row_eq _ (by have : (i 0).val < 1344 := (i 0).isLt; omega) _ hv]
  rfl

/-- The block of rows the input's window is on is the same. -/
theorem in_row (i : grid0.Coords) : cc0_transform_0 inb_S1_S1_0 numel1_S1 pf i = ![min (i 0).val ((used pf).toNat - 1), 0] :=
  out_row pf hv i

end tables

/-- The grid has one axis, so a point's coordinate is its position. -/
theorem coord (t : Fin grid0.N) : (grid0.coords t 0).val = t.val := by
  revert t; decide +kernel

/-! ## The launch: what the region finds, and the pipeline at the tables it finds -/

variable (m : (ℓ : Loc nD τ sig) → Buf (Elt F) ℓ) (ρ : Dev nD → PrngReg)

/-- What the buffers of a core hold when the region is entered, after the host's casts. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is the host's casts and then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer the host's casts do not write is found as it was launched. -/
theorem V_of_not_written (c : Dev nD) (b : Ref sig .tc) (hb : ∀ op ∈ (hostOps0 : List (HloOp τ sig (Elt F))), Proc.devRef .tc b ∉ op.writes) :
    V m c b = m ((c : Thread nD τ).loc b) :=
  StableHlo.after_of_forall_not_mem (b := Proc.devRef .tc b) _ _ hb

theorem V_arg0 (c : Dev nD) : V m c main_arg0 = m ((c : Thread nD τ).loc main_arg0) :=
  V_of_not_written m c _ (List.forall_iff_forall_mem.mp (by
    simp only [hostOps0, List.Forall, StableHlo.unary_writes, Finset.mem_singleton]
    repeat' apply And.intro
    all_goals exact StableHlo.devRef_ne_of_ne (by decide)))
theorem V_arg1 (c : Dev nD) : V m c main_arg1 = m ((c : Thread nD τ).loc main_arg1) :=
  V_of_not_written m c _ (List.forall_iff_forall_mem.mp (by
    simp only [hostOps0, List.Forall, StableHlo.unary_writes, Finset.mem_singleton]
    repeat' apply And.intro
    all_goals exact StableHlo.devRef_ne_of_ne (by decide)))
theorem V_arg2 (c : Dev nD) : V m c main_arg2 = m ((c : Thread nD τ).loc main_arg2) :=
  V_of_not_written m c _ (List.forall_iff_forall_mem.mp (by
    simp only [hostOps0, List.Forall, StableHlo.unary_writes, Finset.mem_singleton]
    repeat' apply And.intro
    all_goals exact StableHlo.devRef_ne_of_ne (by decide)))
theorem V_arg3 (c : Dev nD) : V m c main_arg3 = m ((c : Thread nD τ).loc main_arg3) :=
  V_of_not_written m c _ (List.forall_iff_forall_mem.mp (by
    simp only [hostOps0, List.Forall, StableHlo.unary_writes, Finset.mem_singleton]
    repeat' apply And.intro
    all_goals exact StableHlo.devRef_ne_of_ne (by decide)))
theorem V_arg4 (c : Dev nD) : V m c main_arg4 = m ((c : Thread nD τ).loc main_arg4) :=
  V_of_not_written m c _ (List.forall_iff_forall_mem.mp (by
    simp only [hostOps0, List.Forall, StableHlo.unary_writes, Finset.mem_singleton]
    repeat' apply And.intro
    all_goals exact StableHlo.devRef_ne_of_ne (by decide)))

/-- The tables the region finds (there is one device). -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- What is asked of the tables: every block they name lies inside its array, and at least one block is used. -/
structure Ok : Prop where
  inside : ok0 (F := F) (tbl m)
  one_used : 1 ≤ (used (tbl m)).toInt

variable (hO : Ok m)

/-- The pipeline at those tables. -/
abbrev adm : (pcfg0 (F := F)).Adm := ⟨tbl m, hO.inside⟩
abbrev cfgM : Pipeline.Cfg sig Λ₀ := cfg0 (adm m hO)

/-- The tables as the body is handed them. -/
abbrev tbM0 : Memref sig .tc .smem S1344 .i32 := Memref.whole main_arg0
abbrev tbM1 : Memref sig .tc .smem S1 .i32 := Memref.whole main_arg1

/-- A table's buffer on a core, and the half of it the body holds. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem tables_eq (c : Dev nD) : (Pipeline.ΦT pre0 (tbl m) c : sProp 𝕄) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- A window's block at a point, read off its array as the region finds it. -/
def iblk (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The staging buffer each window is on at a point. -/
abbrev ms0 (t : Fin (cfgM m hO).N) : Memref sig .tc .vmem S256x2048 .f32 := spec0_0.stage ((cfgM m hO).slots t 0)
abbrev hs0 (t : Fin (cfgM m hO).N) : (ms0 m hO t).IsWhole := hstage0_0 (((cfgM m hO).slots t 0).cast nbuf0_0)
abbrev ms1 (t : Fin (cfgM m hO).N) : Memref sig .tc .vmem S1x2048x1024 .bf16 := spec0_1.stage ((cfgM m hO).slots t 1)
abbrev hs1 (t : Fin (cfgM m hO).N) : (ms1 m hO t).IsWhole := hstage0_1 (((cfgM m hO).slots t 1).cast nbuf0_1)
abbrev ms2 (t : Fin (cfgM m hO).N) : Memref sig .tc .vmem S1x512x2048 .bf16 := spec0_2.stage ((cfgM m hO).slots t 2)
abbrev hs2 (t : Fin (cfgM m hO).N) : (ms2 m hO t).IsWhole := hstage0_2 (((cfgM m hO).slots t 2).cast nbuf0_2)
abbrev ms3 (t : Fin (cfgM m hO).N) : Memref sig .tc .vmem S256x2048 .f32 := spec0_3.stage ((cfgM m hO).slots t 3)
abbrev hs3 (t : Fin (cfgM m hO).N) : (ms3 m hO t).IsWhole := hstage0_3 (((cfgM m hO).slots t 3).cast nbuf0_3)

/-- The body at a point, on what the pipeline calls it with. -/
abbrev bodyAt (t : Fin (cfgM m hO).N) : Prog (TpuEff nD τ sig (Elt F) Λ₀ .tc) PUnit :=
  cc0_expert_ffn (grid0.coords t) tbM0 (Memref.isWhole_whole _) tbM1 (Memref.isWhole_whole _) (ms0 m hO t) (hs0 m hO t) (ms1 m hO t) (hs1 m hO t) (ms2 m hO t) (hs2 m hO t) (ms3 m hO t) (hs3 m hO t)

/-! ## The body at a point, by whether it works there -/

/-- What the body leaves in its result's staging buffer at a point where it works: the payload of its three blocks, whatever the
    buffer held. -/
theorem body_works (c : Dev nD) (i : grid0.Coords) (arg3 : Memref sig .tc .vmem S256x2048 .f32) (harg3 : arg3.IsWhole) (arg4 : Memref sig .tc .vmem S1x2048x1024 .bf16) (harg4 : arg4.IsWhole) (arg5 : Memref sig .tc .vmem S1x512x2048 .bf16) (harg5 : arg5.IsWhole) (arg6 : Memref sig .tc .vmem S256x2048 .f32) (harg6 : arg6.IsWhole)
    (x0 : Vec F S256x2048 .f32) (x1 : Vec F S1x2048x1024 .bf16) (x2 : Vec F S1x512x2048 .bf16) (xt0 : TbBuf (F := F) c tbM0) (xt1 : TbBuf (F := F) c tbM1)
    (hc : k0_cond1 i ((show S1.Idx → BitVec 32 from xt1) word0) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ tbPt c tbM0 xt0 ∗ tbPt c tbM1 xt1
        ∗ (iprop(owns (c : Thread nD τ) arg3 fullShare x0 ∗ owns (c : Thread nD τ) arg4 fullShare x1 ∗ owns (c : Thread nD τ) arg5 fullShare x2 ∗ owns (c : Thread nD τ) arg6 fullShare (k0_pay1 x0 x1 x2) ∗ tbPt c tbM0 xt0 ∗ tbPt c tbM1 xt1) -∗ K ⟨⟩))
      ⊢ wp frame (wpE (defs₀ (F := F)) Variants.none c none) E (cc0_expert_ffn i tbM0 (Memref.isWhole_whole _) tbM1 (Memref.isWhole_whole _) arg3 harg3 arg4 harg4 arg5 harg5 arg6 harg6) K := by
  simp only [cc0_expert_ffn_eq_skeleton]; unfold cc0_expert_ffn_skel
  unfold owns
  iintro ⟨⟨%f0, %hf0, H0⟩, ⟨%f1, %hf1, H1⟩, ⟨%f2, %hf2, H2⟩, ⟨%d3, %f3, -, H3⟩, HT0, HT1, Hk⟩
  obtain rfl := harg3.eq_unread hf0; obtain rfl := harg4.eq_unread hf1; obtain rfl := harg5.eq_unread hf2
  sl_exec (disch := sl_exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    rw [View.readAt_full arg3.view, View.readAt_full arg4.view, View.readAt_full arg5.view, hf0, hf1, hf2]
    exact View.read_writes_full arg6.view _ _ _ _
  isplitl [HT0]; · iexact HT0
  iexact HT1

/-- At a point where it does not work the body reads its table and touches no staging buffer. -/
theorem body_idles (c : Dev nD) (i : grid0.Coords) (arg3 : Memref sig .tc .vmem S256x2048 .f32) (harg3 : arg3.IsWhole) (arg4 : Memref sig .tc .vmem S1x2048x1024 .bf16) (harg4 : arg4.IsWhole) (arg5 : Memref sig .tc .vmem S1x512x2048 .bf16) (harg5 : arg5.IsWhole) (arg6 : Memref sig .tc .vmem S256x2048 .f32) (harg6 : arg6.IsWhole)
    (xt0 : TbBuf (F := F) c tbM0) (xt1 : TbBuf (F := F) c tbM1)
    (hc : ¬ k0_cond1 i ((show S1.Idx → BitVec 32 from xt1) word0) = 1#1) (E : Set ℕ) (K : PUnit → sProp 𝕄) :
    iprop(tbPt c tbM0 xt0 ∗ tbPt c tbM1 xt1 ∗ (iprop(tbPt c tbM0 xt0 ∗ tbPt c tbM1 xt1) -∗ K ⟨⟩))
      ⊢ wp frame (wpE (defs₀ (F := F)) Variants.none c none) E (cc0_expert_ffn i tbM0 (Memref.isWhole_whole _) tbM1 (Memref.isWhole_whole _) arg3 harg3 arg4 harg4 arg5 harg5 arg6 harg6) K := by
  simp only [cc0_expert_ffn_eq_skeleton]; unfold cc0_expert_ffn_skel
  iintro ⟨HT0, HT1, Hk⟩
  sl_exec (disch := sl_exact hc)
  sl_step
  iapply Hk
  isplitl [HT0]; · iexact HT0
  iexact HT1

/-! ## The schedule of the result's window

Before the number of blocks used is reached every point has a block of its own; from there on every point names the last used block,
and the body leaves its buffer alone. So the buffer is handed back at each used point but the last, and then once at the grid's end. -/

/-- The number of blocks used. -/
abbrev nUsed : ℕ := (used (tbl m)).toNat

theorem nUsed_pos (hO : Ok m) : 1 ≤ nUsed m := (TableWords.word_pos _ hO.one_used).1

/-- The point whose block a point's result window is on. -/
def pt (t : Fin grid0.N) : Fin grid0.N := ⟨min t.val (nUsed m - 1), lt_of_le_of_lt (min_le_left _ _) t.isLt⟩

theorem out_index (t : Fin (cfgM m hO).N) : ((cfgM m hO).win 3).index t = ![min t.val (nUsed m - 1), 0] :=
  (out_row (tbl m) hO.one_used (grid0.coords t)).trans (by rw [coord])

theorem flush_iff (t : Fin (cfgM m hO).N) :
    ((cfgM m hO).win 3).flush t = true ↔ t.val + 1 = grid0.N ∨ t.val + 1 < nUsed m := by
  have hv := nUsed_pos m hO
  have ht : t.val < grid0.N := t.isLt
  rw [Pipeline.Window.flush_eq_flushF]
  unfold Pipeline.Window.flushF
  rw [show ((cfgM m hO).win 3).isOut = true from rfl, Bool.true_and, Bool.or_eq_true, decide_eq_true_iff, decide_eq_true_iff]
  have hN : ((cfgM m hO).grid.N : ℕ) = grid0.N := rfl
  refine ⟨fun h => h.elim (fun h => Or.inl h) ?_, fun h => ?_⟩
  · rintro ⟨h, a, ha⟩
    rw [out_index, out_index] at ha
    match a with
    | ⟨0, _⟩ =>
      have ha' : min (t.val + 1) (nUsed m - 1) ≠ min t.val (nUsed m - 1) := ha
      omega
    | ⟨1, _⟩ => exact absurd rfl ha
  · by_cases h1 : t.val + 1 = grid0.N
    · exact Or.inl h1
    · refine Or.inr ⟨(by omega : t.val + 1 < grid0.N), (⟨0, by decide⟩ : Fin 2), ?_⟩
      rw [out_index, out_index]
      show min (t.val + 1) (nUsed m - 1) ≠ min t.val (nUsed m - 1)
      omega

theorem idle_table : (cfgM m hO).idle = idle0 (tbl m) := rfl

theorem idle_eq (pf : pre0.Contents (Elt F)) (i : grid0.Coords) : idle0 pf 3 i = !(k0_cond1 i (used pf) == 1#1) := by
  rw [← usedD_eq]

theorem idle_iff (t : Fin (cfgM m hO).N) : (cfgM m hO).idle 3 ((cfgM m hO).grid.coords t) = true ↔ nUsed m ≤ t.val := by
  have h := works_iff (tbl m) hO.one_used (grid0.coords t)
  rw [coord] at h
  rw [show (cfgM m hO).idle 3 ((cfgM m hO).grid.coords t) = idle0 (tbl m) 3 (grid0.coords t) from congrFun (congrFun (idle_table m hO) 3) _, idle_eq]
  by_cases hc : k0_cond1 (grid0.coords t) (used (tbl m)) = 1#1
  · rw [hc]
    exact ⟨fun h' => absurd h' (by decide), fun h' => absurd (h.mp hc) (not_lt.mpr h')⟩
  · rw [beq_false_of_ne hc]
    exact ⟨fun _ => not_lt.mp fun h' => hc (h.mpr h'), fun _ => rfl⟩

/-- From the number of blocks used on, the result's buffer holds what was stored last. -/
theorem not_fresh (n : ℕ) (hn : nUsed m ≤ n) (hN : n < grid0.N) : (cfgM m hO).fresh 3 n = false := by
  induction n with
  | zero => exact absurd (nUsed_pos m hO) (by omega)
  | succ n ih =>
    have hN' : n < (cfgM m hO).N := Nat.lt_of_succ_lt hN
    rw [Pipeline.Cfg.fresh_succ _ _ n hN', Bool.or_eq_false_iff, Bool.and_eq_false_iff]
    refine ⟨Bool.eq_false_iff.mpr fun h => ?_, ?_⟩
    · rcases (flush_iff m hO ⟨n, hN'⟩).mp h with h | h <;> simp only at h <;> omega
    · by_cases h : nUsed m ≤ n
      · exact Or.inr (ih h (Nat.lt_of_succ_lt hN))
      · exact Or.inl (Bool.eq_false_iff.mpr fun h' => h ((idle_iff m hO ⟨n, hN'⟩).mp h'))

/-! ## The pipeline's proof data -/

/-- What the body makes of a point's three blocks. -/
def made (c : Dev nD) (t : Fin (cfgM m hO).N) : Vec F S256x2048 .f32 := k0_pay1 (iblk m hO c 0 t) (iblk m hO c 1 t) (iblk m hO c 2 t)

/-- The data: arrays as the region finds them; after a point each argument's buffer holds its block and the result's buffer what the
    body made at the last working point; the scoped rest, the generator and the tables are passed through. -/
def dats (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => made m hO c (pt m t)
  Φ _ := iprop(Pipeline.ΦA spec0 c ∗ Pipeline.ΦT pre0 (tbl m) c)
  q _ := fullShare
  owed _ := 0

theorem A_eq (c : Dev nD) (w : Fin (cfgM m hO).W) : (dats m hO 0 c).A w = V m c (Pipeline.arrRef spec0 w) := by dsimp only [dats]

theorem after0 (c : Dev nD) (t : Fin (cfgM m hO).N) : (dats m hO 0 c).after 0 t = iblk m hO c 0 t := by dsimp only [dats]; try rfl
theorem after1 (c : Dev nD) (t : Fin (cfgM m hO).N) : (dats m hO 0 c).after 1 t = iblk m hO c 1 t := by dsimp only [dats]; try rfl
theorem after2 (c : Dev nD) (t : Fin (cfgM m hO).N) : (dats m hO 0 c).after 2 t = iblk m hO c 2 t := by dsimp only [dats]; try rfl
theorem after3 (c : Dev nD) (t : Fin (cfgM m hO).N) : (dats m hO 0 c).after 3 t = made m hO c (pt m t) := by dsimp only [dats]; try rfl

/-- An argument's buffer holds its block at every point, fetched there or kept. -/
theorem before0 (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-- At a point where the body does not work the result's buffer already holds what the point is to leave. -/
theorem before3_idle (c : Dev nD) (t : Fin (cfgM m hO).N) (ht : nUsed m ≤ t.val) (d) : (dats m hO 0 c).before 3 t d = (dats m hO 0 c).after 3 t := by
  have hv := nUsed_pos m hO
  have carry : ∀ (t : Fin (cfgM m hO).N), t.val ≠ 0 → nUsed m ≤ t.val →
      (dats m hO 0 c).after 3 t = (dats m hO 0 c).after 3 ⟨t.val - 1, by omega⟩ := fun t _ h => by
    rw [after3, after3]
    refine congrArg (made m hO c) (Fin.ext ?_)
    show min t.val (nUsed m - 1) = min (t.val - 1) (nUsed m - 1)
    omega
  rw [(dats m hO 0 c).before_out_traj 3 rfl (fun _ _ => rfl) (fun t h0 hi _ => carry t h0 ((idle_iff m hO t).mp hi)) t.val t rfl d,
    not_fresh m hO t.val ht t.isLt, if_neg Bool.false_ne_true]
  exact (carry t (by omega) ht).symm

/-! ## The body's obligation -/

/-- What the body is called with, window by window. -/
def bodyPre (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d)))

/-- What it returns. -/
def bodyPost (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t)

/-- An argument's buffer is to be left at its block. -/
theorem leaves0 (c : Dev nD) (t : Fin (cfgM m hO).N) : (dats m hO 0 c).leavesExact 0 t = owns (c : Thread nD τ) (ms0 m hO t) fullShare (iblk m hO c 0 t) := by
  unfold Dat.leavesExact
  rw [show (cfgM m hO).idle 0 ((cfgM m hO).grid.coords t) = false from congrFun (congrFun (idle_table m hO) 0) _, after0]
  rfl
theorem leaves1 (c : Dev nD) (t : Fin (cfgM m hO).N) : (dats m hO 0 c).leavesExact 1 t = owns (c : Thread nD τ) (ms1 m hO t) fullShare (iblk m hO c 1 t) := by
  unfold Dat.leavesExact
  rw [show (cfgM m hO).idle 1 ((cfgM m hO).grid.coords t) = false from congrFun (congrFun (idle_table m hO) 1) _, after1]
  rfl
theorem leaves2 (c : Dev nD) (t : Fin (cfgM m hO).N) : (dats m hO 0 c).leavesExact 2 t = owns (c : Thread nD τ) (ms2 m hO t) fullShare (iblk m hO c 2 t) := by
  unfold Dat.leavesExact
  rw [show (cfgM m hO).idle 2 ((cfgM m hO).grid.coords t) = false from congrFun (congrFun (idle_table m hO) 2) _, after2]
  rfl

/-- A buffer holding what the point is to leave is what the result's window asks for, whether it is handed back there or not. -/
theorem leaves_of_after (c : Dev nD) (t : Fin (cfgM m hO).N) (h : nUsed m ≤ t.val → ∀ d, (dats m hO 0 c).before 3 t d = (dats m hO 0 c).after 3 t) :
    owns (c : Thread nD τ) (ms3 m hO t) fullShare ((dats m hO 0 c).after 3 t) ⊢ (dats m hO 0 c).leavesExact 3 t := by
  unfold Dat.leavesExact
  cases hi : (cfgM m hO).idle 3 ((cfgM m hO).grid.coords t)
  · exact .rfl
  · cases hf : ((cfgM m hO).win 3).flush t
    · iintro H; iexists (dats m hO 0 c).after 3 t
      rw [h ((idle_iff m hO t).mp hi)]
      iexact H
    · exact .rfl

/-- The body at any point: it works on the three blocks, or it leaves every buffer alone where the result's already holds what it is to. -/
theorem sound_body (c : Dev nD) (t : Fin (cfgM m hO).N) :
    bodyPre m hO c t ⊢ wp frame (wpE (defs₀ (F := F)) Variants.none c none) Set.univ (bodyAt m hO t) (fun _ => bodyPost m hO c t) := by
  have hw := works_iff (tbl m) hO.one_used (grid0.coords t)
  rw [coord] at hw
  unfold bodyPre bodyPost bodyAt
  simp only [before0, before1, before2]
  rw [show (dats m hO 0 c).Φ t.succ = (dats m hO 0 c).Φ t.castSucc from rfl,
    show (dats m hO 0 c).owesAt () t.succ = (dats m hO 0 c).owesAt () t.castSucc from rfl,
    leaves0, leaves1, leaves2]
  rw [show (dats m hO 0 c).Φ t.castSucc = iprop(Pipeline.ΦA spec0 c ∗ Pipeline.ΦT pre0 (tbl m) c) from rfl, tables_eq]
  by_cases hc : k0_cond1 (grid0.coords t) (used (tbl m)) = 1#1
  · have ht : t.val < nUsed m := hw.mp hc
    have e : (dats m hO 0 c).after 3 t = k0_pay1 (iblk m hO c 0 t) (iblk m hO c 1 t) (iblk m hO c 2 t) := by
      rw [after3]
      exact congrArg (made m hO c) (Fin.ext (show min t.val (nUsed m - 1) = t.val by omega))
    iintro ⟨⟨HΦ, ⟨HT0, HT1⟩⟩, Ho, ⟨%d0, H0⟩, ⟨%d1, H1⟩, ⟨%d2, H2⟩, ⟨%d3, H3⟩⟩
    iapply (body_works c (grid0.coords t) _ _ _ _ _ _ _ _ (iblk m hO c 0 t) (iblk m hO c 1 t) (iblk m hO c 2 t) (tbl m 0) (tbl m 1) hc Set.univ _)
    isplitl [H0]; · iexact H0
    isplitl [H1]; · iexact H1
    isplitl [H2]; · iexact H2
    isplitl [H3]; · iexists _; iexact H3
    isplitl [HT0]; · iexact HT0
    isplitl [HT1]; · iexact HT1
    iintro ⟨H0, H1, H2, H3, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    iapply (leaves_of_after m hO c t fun h => absurd ht (not_lt.mpr h))
    rw [e]
    iexact H3
  · have ht : nUsed m ≤ t.val := not_lt.mp fun h => hc (hw.mpr h)
    iintro ⟨⟨HΦ, ⟨HT0, HT1⟩⟩, Ho, ⟨%d0, H0⟩, ⟨%d1, H1⟩, ⟨%d2, H2⟩, ⟨%d3, H3⟩⟩
    iapply (body_idles c (grid0.coords t) _ _ _ _ _ _ _ _ (tbl m 0) (tbl m 1) hc Set.univ _)
    isplitl [HT0]; · iexact HT0
    isplitl [HT1]; · iexact HT1
    iintro ⟨HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    iapply (leaves_of_after m hO c t fun h => before3_idle m hO c t h)
    rw [← before3_idle m hO c t ht d3]
    iexact H3

theorem defs₀_row (t : Fin (cfgM m hO).N) : defs₀ (F := F) .tc (cfgM m hO).body ((cfgM m hO).bodyArgs t ((cfgM m hO).slots t)) = bodyAt m hO t := by
  unfold defs₀; rw [Defs.onTc_tc]

theorem body_obligation (c : Dev nD) : BodyObligation (dats (F := F) m hO 0 c) (defs₀ (F := F)) Variants.none () Set.univ := fun t => by
  rw [bigSep_W0, bigSep_W0, defs₀_row m hO]
  exact triple_restated (sound_body m hO c t) rfl .rfl fun _ => by unfold bodyPost; exact .rfl

/-! ## The run, and what it leaves alone -/

-- the rule's implicit arguments are found by unifying its conclusion with this one
set_option backward.isDefEq.respectTransparency.types false in
/-- Every fair execution ends with each array of the pipeline at what the data says, every other buffer as the region found it, and
    every semaphore at zero. -/
theorem run_quiescent : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

theorem run_main : θ_run defs (onTc (τ := τ) (main (F := F))) (s₀ m ρ) (Pipeline.FramePost (Pipeline.pin pcfgs fun _ => adm m hO) (dats m hO) 0 (V m)) :=
  (θ_run defs _ _).mono (fun _ h => h.1) (run_quiescent m ρ hO)

/-- The frame: the arguments end as they were launched, and every semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨((h.1 c).2 main_arg0 (by decide : main_arg0 ∈ Pipeline.restRefs sig spec0)).trans (V_arg0 m c),
        ((h.1 c).2 main_arg1 (by decide : main_arg1 ∈ Pipeline.restRefs sig spec0)).trans (V_arg1 m c),
        ((h.1 c).1 0).trans (((dats m hO 0 c).arrAt_in 0 rfl _).trans ((A_eq m hO c 0).trans (V_arg2 m c))),
        ((h.1 c).2 main_arg3 (by decide : main_arg3 ∈ Pipeline.restRefs sig spec0)).trans (V_arg3 m c),
        ((h.1 c).2 main_arg4 (by decide : main_arg4 ∈ Pipeline.restRefs sig spec0)).trans (V_arg4 m c)⟩, h.2⟩) (run_quiescent m ρ hO)

end Cert.ExpertFfnIdeal.Hand

end
-- ==== Proof.ExpertFrames.lean ====
/- The experts' feed-forward: what its precondition says of the tables, and its frames. -/
module

public import proofs.«01_k».proof.Proof.ExpertRunIdeal
public import proofs.«01_k».proof.Proof.Gen.ExpertFfn
public import proofs.«01_k».proof.Proof.Gen.Pre_tables_in_range
public import Idealize.ShloMosaic.Lib.StableHlo.Predicate
public import Idealize.ShloMosaic.Lib.Affine
public import proofs.«01_k».proof.Defs

@[expose] public section

noncomputable section

namespace Cert.ExpertFrames

open Idealize.ShloMosaic Idealize.ShloMosaic.TcCoe

/-- What the tables are asked: experts that exist, and at least one used block. -/
structure good (be : IVec ⟨1, ![1344]⟩ 32) (nu : IVec ⟨1, ![1]⟩ 32) : Prop where
  expert : ∀ b, 0 ≤ (be b).toInt ∧ (be b).toInt < 64
  one_used : ∀ x, 1 ≤ (nu x).toInt

/-- What the precondition says of the tables. -/
theorem good_of_pre {F : FTy → Type} [FloatOps F] (be : IVec ⟨1, ![1344]⟩ 32) (nu : IVec ⟨1, ![1]⟩ 32) (x : FVec F ⟨2, ![344064, 2048]⟩ .f32)
    (wgu : FVec F ⟨3, ![64, 2048, 1024]⟩ .f32) (wd : FVec F ⟨3, ![64, 512, 2048]⟩ .f32)
    (h : (Pre_tables_in_range.fn (F := F) be nu x wgu wd).1 = (fun _ => 1#1) ∧ (Pre_tables_in_range.fn (F := F) be nu x wgu wd).2 = (fun _ => 1#1)) :
    good be nu := by
  refine ⟨fun b => ?_, fun b => ?_⟩
  · have e : IntOp.andi (IntOp.cmpi .sge (be b) 0#32) (IntOp.cmpi .slt (be b) 64#32) = 1#1 := congrFun h.1 b
    rw [WordCmp.cmpi_sge_eq, WordCmp.cmpi_slt_eq] at e
    have split : ∀ p q : Bool, IntOp.andi (BitVec.ofBool p) (BitVec.ofBool q) = 1#1 → p = true ∧ q = true := by decide
    obtain ⟨h0, h1⟩ := split _ _ e
    exact ⟨of_decide_eq_true h0, of_decide_eq_true h1⟩
  · have e : IntOp.cmpi .sge (nu b) 1#32 = 1#1 := congrFun h.2 b
    rw [WordCmp.cmpi_sge_eq] at e
    by_cases h0 : (1#32 : BitVec 32).toInt ≤ (nu b).toInt
    · exact h0
    · rw [decide_eq_false h0] at e; exact absurd e (by decide)

end Cert.ExpertFrames

namespace Cert.ExpertFfnIdeal.Hand

open Idealize.ShloMosaic Idealize.ShloMosaic.TcCoe
open Cert.ExpertFfnIdeal Cert.ExpertFfnIdeal.Gen Cert.ExpertFrames

variable {F : FTy → Type} [FloatOps F]

/-- The expert of a block of rows, the table's word there. -/
def expert (pf : pre0.Contents (Elt F)) (b : Fin 1344) : BitVec 32 := (show S1344.Idx → BitVec 32 from pf 0) (ix1 b)

/-- The expert whose weights the second and third windows are on at a point. -/
theorem weight_row (pf : pre0.Contents (Elt F)) (i : grid0.Coords) :
    cc0_transform_1 k0_off1_inb numel1_S1 pf i = ![(expert pf (i 0)).toNat, 0, 0] := by
  unfold cc0_transform_1
  dsimp only
  refine congrArg (fun w : BitVec 32 => ![w.toNat, 0, 0]) ?_
  unfold expert
  show (show S1344.Idx → BitVec 32 from pf 0) _ = _
  refine congrArg _ ?_
  funext a
  refine Fin.ext ?_
  fin_cases a
  show (Scalar.indexCast (BitVec.ofNat 32 (i 0).val)).toNat + _ = (i 0).val
  have h : (i 0).val < 1344 := (i 0).isLt
  show (BitVec.ofNat 32 (i 0).val).toNat + 1 * 0 = (i 0).val
  rw [WordCmp.toNat_ofNat_of_lt (by omega)]
  omega

/-- Tables of existing experts and a used block keep every block inside its array. -/
theorem ok_tables (pf : pre0.Contents (Elt F)) (h : good (pf 0) (pf 1)) : ok0 pf := by
  have hv : 1 ≤ (used pf).toInt := h.one_used _
  have hr : ∀ i : grid0.Coords, ∀ a, (cc0_transform_0 inb_S1_S1_0 numel1_S1 pf i a + 1) * S256x2048.size a ≤ S344064x2048.size a := fun i a => by
    rw [in_row pf hv i]
    have hi : (i 0).val < 1344 := (i 0).isLt
    match a with
    | ⟨0, _⟩ => show (min (i 0).val ((used pf).toNat - 1) + 1) * 256 ≤ 344064; omega
    | ⟨1, _⟩ => show (0 + 1) * 2048 ≤ 2048; omega
  have he : ∀ i : grid0.Coords, (expert pf (i 0)).toNat < 64 := fun i => by
    have : 0 ≤ (expert pf (i 0)).toInt ∧ (expert pf (i 0)).toInt < 64 := h.expert (ix1 (i 0))
    have e := BitVec.toInt_eq_toNat_cond (expert pf (i 0))
    have e2 := (expert pf (i 0)).isLt
    split at e <;> omega
  have h1 : ∀ i : grid0.Coords, ∀ a, (cc0_transform_1 k0_off1_inb numel1_S1 pf i a + 1) * S1x2048x1024.size a ≤ S64x2048x1024.size a := fun i a => by
    rw [weight_row pf i]
    have := he i
    match a with
    | ⟨0, _⟩ => show ((expert pf (i 0)).toNat + 1) * 1 ≤ 64; omega
    | ⟨1, _⟩ => show (0 + 1) * 2048 ≤ 2048; omega
    | ⟨2, _⟩ => show (0 + 1) * 1024 ≤ 1024; omega
  have h2 : ∀ i : grid0.Coords, ∀ a, (cc0_transform_2 k0_off1_inb numel1_S1 pf i a + 1) * S1x512x2048.size a ≤ S64x512x2048.size a := fun i a => by
    rw [show cc0_transform_2 k0_off1_inb numel1_S1 pf i = _ from weight_row pf i]
    have := he i
    match a with
    | ⟨0, _⟩ => show ((expert pf (i 0)).toNat + 1) * 1 ≤ 64; omega
    | ⟨1, _⟩ => show (0 + 1) * 512 ≤ 512; omega
    | ⟨2, _⟩ => show (0 + 1) * 2048 ≤ 2048; omega
  exact ⟨fun i => ⟨hr i, .inl rfl⟩, fun i => ⟨h1 i, .inr (Affine.block_words_dvd (of_decide_eq_true rfl) (by decide))⟩,
    fun i => ⟨h2 i, .inr (Affine.block_words_dvd (of_decide_eq_true rfl) (by decide))⟩, fun i => ⟨hr i, .inl rfl⟩⟩

/-- What the run asks of a memory, from what the precondition says of its tables. -/
theorem ok_of_good (m : (ℓ : Loc nD τ sig) → Buf (Elt F) ℓ)
    (h : ∀ c : Dev nD, good (m ((c.tc : Thread nD τ).loc main_arg0)) (m ((c.tc : Thread nD τ).loc main_arg1))) : Ok m := by
  have e0 : tbl m 0 = m (((0 : Dev nD) : Thread nD τ).loc main_arg0) := V_arg0 m 0
  have e1 : tbl m 1 = m (((0 : Dev nD) : Thread nD τ).loc main_arg1) := V_arg1 m 0
  have hg : good (tbl m 0) (tbl m 1) := by rw [e0, e1]; exact h 0
  exact ⟨ok_tables _ hg, hg.one_used _⟩

end Cert.ExpertFfnIdeal.Hand

namespace Cert.ExpertFrames

open Idealize.ShloMosaic Idealize.ShloMosaic.TcCoe

/-- The printed program and its idealization have the same text, so what is proved of one holds of the other: their frames, at the bits. -/
theorem same : (∀ (m : (ℓ : Loc Cert.ExpertFfn.nD Cert.ExpertFfn.τ Cert.ExpertFfn.sig) → Buf (Elt Bits) ℓ) (g : Dev Cert.ExpertFfn.nD → PrngReg), (∀ c : Dev Cert.ExpertFfn.nD, good (m ((c.tc : Thread Cert.ExpertFfn.nD Cert.ExpertFfn.τ).loc Cert.ExpertFfn.main_arg0)) (m ((c.tc : Thread Cert.ExpertFfn.nD Cert.ExpertFfn.τ).loc Cert.ExpertFfn.main_arg1))) →
    θ_run (Cert.ExpertFfn.defs (F := Bits)) (onTc (τ := Cert.ExpertFfn.τ) (Cert.ExpertFfn.main (F := Bits))) ⟨m, fun _ => 0, g⟩ (fun r => (∀ c : Dev Cert.ExpertFfn.nD,
        r.2.mem ((c.tc : Thread Cert.ExpertFfn.nD Cert.ExpertFfn.τ).loc Cert.ExpertFfn.main_arg0) = m ((c.tc : Thread Cert.ExpertFfn.nD Cert.ExpertFfn.τ).loc Cert.ExpertFfn.main_arg0)
        ∧ r.2.mem ((c.tc : Thread Cert.ExpertFfn.nD Cert.ExpertFfn.τ).loc Cert.ExpertFfn.main_arg1) = m ((c.tc : Thread Cert.ExpertFfn.nD Cert.ExpertFfn.τ).loc Cert.ExpertFfn.main_arg1)
        ∧ r.2.mem ((c.tc : Thread Cert.ExpertFfn.nD Cert.ExpertFfn.τ).loc Cert.ExpertFfn.main_arg2) = m ((c.tc : Thread Cert.ExpertFfn.nD Cert.ExpertFfn.τ).loc Cert.ExpertFfn.main_arg2)
        ∧ r.2.mem ((c.tc : Thread Cert.ExpertFfn.nD Cert.ExpertFfn.τ).loc Cert.ExpertFfn.main_arg3) = m ((c.tc : Thread Cert.ExpertFfn.nD Cert.ExpertFfn.τ).loc Cert.ExpertFfn.main_arg3)
        ∧ r.2.mem ((c.tc : Thread Cert.ExpertFfn.nD Cert.ExpertFfn.τ).loc Cert.ExpertFfn.main_arg4) = m ((c.tc : Thread Cert.ExpertFfn.nD Cert.ExpertFfn.τ).loc Cert.ExpertFfn.main_arg4))
      ∧ r.2.sem = fun _ => 0)) =
  (∀ (m : (ℓ : Loc Cert.ExpertFfnIdeal.nD Cert.ExpertFfnIdeal.τ Cert.ExpertFfnIdeal.sig) → Buf (Elt Bits) ℓ) (g : Dev Cert.ExpertFfnIdeal.nD → PrngReg), (∀ c : Dev Cert.ExpertFfnIdeal.nD, good (m ((c.tc : Thread Cert.ExpertFfnIdeal.nD Cert.ExpertFfnIdeal.τ).loc Cert.ExpertFfnIdeal.main_arg0)) (m ((c.tc : Thread Cert.ExpertFfnIdeal.nD Cert.ExpertFfnIdeal.τ).loc Cert.ExpertFfnIdeal.main_arg1))) →
    θ_run (Cert.ExpertFfnIdeal.defs (F := Bits)) (onTc (τ := Cert.ExpertFfnIdeal.τ) (Cert.ExpertFfnIdeal.main (F := Bits))) ⟨m, fun _ => 0, g⟩ (fun r => (∀ c : Dev Cert.ExpertFfnIdeal.nD,
        r.2.mem ((c.tc : Thread Cert.ExpertFfnIdeal.nD Cert.ExpertFfnIdeal.τ).loc Cert.ExpertFfnIdeal.main_arg0) = m ((c.tc : Thread Cert.ExpertFfnIdeal.nD Cert.ExpertFfnIdeal.τ).loc Cert.ExpertFfnIdeal.main_arg0)
        ∧ r.2.mem ((c.tc : Thread Cert.ExpertFfnIdeal.nD Cert.ExpertFfnIdeal.τ).loc Cert.ExpertFfnIdeal.main_arg1) = m ((c.tc : Thread Cert.ExpertFfnIdeal.nD Cert.ExpertFfnIdeal.τ).loc Cert.ExpertFfnIdeal.main_arg1)
        ∧ r.2.mem ((c.tc : Thread Cert.ExpertFfnIdeal.nD Cert.ExpertFfnIdeal.τ).loc Cert.ExpertFfnIdeal.main_arg2) = m ((c.tc : Thread Cert.ExpertFfnIdeal.nD Cert.ExpertFfnIdeal.τ).loc Cert.ExpertFfnIdeal.main_arg2)
        ∧ r.2.mem ((c.tc : Thread Cert.ExpertFfnIdeal.nD Cert.ExpertFfnIdeal.τ).loc Cert.ExpertFfnIdeal.main_arg3) = m ((c.tc : Thread Cert.ExpertFfnIdeal.nD Cert.ExpertFfnIdeal.τ).loc Cert.ExpertFfnIdeal.main_arg3)
        ∧ r.2.mem ((c.tc : Thread Cert.ExpertFfnIdeal.nD Cert.ExpertFfnIdeal.τ).loc Cert.ExpertFfnIdeal.main_arg4) = m ((c.tc : Thread Cert.ExpertFfnIdeal.nD Cert.ExpertFfnIdeal.τ).loc Cert.ExpertFfnIdeal.main_arg4))
      ∧ r.2.sem = fun _ => 0)) := by sl_kernel_rfl

end Cert.ExpertFrames

namespace Cert.Proof

open Idealize.ShloMosaic Idealize.ShloMosaic.TcCoe Cert.ExpertFrames

/-- The experts' feed-forward as printed runs and leaves its arguments unchanged. -/
theorem frame_Expert : Cert.quiescent_ExpertFfn := fun m g hp =>
  (cast same.symm fun m g h => Cert.ExpertFfnIdeal.Hand.frame (F := Bits) m g (Cert.ExpertFfnIdeal.Hand.ok_of_good m h)) m g
    (fun c => good_of_pre _ _ _ _ _ (hp c))

/-- So does it at the ideal values. -/
theorem frame_ExpertIdeal : Cert.quiescent_ExpertFfnIdeal := fun m g hp =>
  Cert.ExpertFfnIdeal.Hand.frame (F := Ideal) m g (Cert.ExpertFfnIdeal.Hand.ok_of_good m fun c => good_of_pre _ _ _ _ _ (hp c))

end Cert.Proof
-- ==== Proof.ExpertPure.lean ====
/- The experts' feed-forward of one row, and the reference's result read as it: the row's expert is the one its block's word names. -/
module

public import proofs.«01_k».proof.Proof.Gen.ExpertFfnRefIdeal.Read
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem

namespace Cert.Expert

/-- A row through a matrix of 1024 columns. -/
def lin (a : Fin 2048 → EReal) (G : Fin 2048 → Fin 1024 → EReal) (e : Fin 1024) : EReal := ∑ d, a d * G d e

/-- The gate, its sigmoid and the other half of the columns, multiplied. -/
def hid (a : Fin 2048 → EReal) (G : Fin 2048 → Fin 1024 → EReal) (k : Fin 512) : EReal :=
  lin a G ⟨k, by omega⟩ * Ideal.div 1 (1 + Ideal.exp (-lin a G ⟨k, by omega⟩)) * lin a G ⟨512 + k, by omega⟩

/-- The feed-forward of a row. -/
def ffn (a : Fin 2048 → EReal) (G : Fin 2048 → Fin 1024 → EReal) (D : Fin 512 → Fin 2048 → EReal) (j : Fin 2048) : EReal := ∑ k, hid a G k * D k j

section gather

variable {α : Type} {N R P Q : ℕ}

/-- The dimension numbers of a gather of whole matrices, one word for each. -/
abbrev mats (wf : GatherDims.WF ⟨3, ![N, P, Q]⟩ ⟨2, ![R, 1]⟩ ⟨3, ![R, P, Q]⟩ [1, 2] [0] [] [0] [] 1 ![1, P, Q]) :
    GatherDims ⟨3, ![N, P, Q]⟩ ⟨2, ![R, 1]⟩ ⟨3, ![R, P, Q]⟩ where
  offsetDims := [1, 2]
  collapsedSliceDims := [0]
  operandBatchingDims := []
  startIndicesBatchingDims := []
  startIndexMap := [0]
  indexVectorDim := 1
  sliceSizes := ![1, P, Q]
  wf := wf

/-- A gather of whole matrices at an entry: the entry of the matrix the word names, clamped into the array. -/
theorem gather_mats (hN : 0 < N) (wf : GatherDims.WF ⟨3, ![N, P, Q]⟩ ⟨2, ![R, 1]⟩ ⟨3, ![R, P, Q]⟩ [1, 2] [0] [] [0] [] 1 ![1, P, Q])
    (x : (⟨3, ![N, P, Q]⟩ : Shape).Idx → α) (idx : IVec ⟨2, ![R, 1]⟩ 32) (b : Fin R) (p : Fin P) (q : Fin Q) :
    Host.gather (mats wf) x idx (ix3 b p q) = x (ix3 ⟨min (idx (ix2 b 0)).toInt.toNat (N - 1), by omega⟩ p q) := by
  unfold Host.gather
  congr 1
  funext a
  refine Fin.ext ?_
  show (mats wf).start (ix3 b p q) idx a + (mats wf).batchCoord (ix3 b p q) a + (mats wf).offCoord (ix3 b p q) a = _
  rw [GatherDims.batchCoord_eq_zero _ _ _ List.not_mem_nil, Nat.add_zero]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (mats wf).startIndexMap from List.mem_singleton.mpr rfl)]
    have hsi : (mats wf).siIdx (ix3 b p q) ⟨List.idxOf (0 : Fin 3) (mats wf).startIndexMap,
        List.idxOf_lt_length_iff.2 (List.mem_singleton.mpr rfl)⟩ = ix2 b 0 := by
      funext s; refine Fin.ext ?_
      match s with
      | ⟨0, _⟩ => rfl
      | ⟨1, _⟩ => rfl
    exact congrArg (fun s => min (idx s).toInt.toNat (N - 1)) hsi
  · unfold GatherDims.start
    rw [dif_neg (show ¬ (1 : Fin 3) ∈ (mats wf).startIndexMap from by simp [mats]), Nat.zero_add]
    rfl
  · unfold GatherDims.start
    rw [dif_neg (show ¬ (2 : Fin 3) ∈ (mats wf).startIndexMap from by simp [mats]), Nat.zero_add]
    rfl

end gather

end Cert.Expert

namespace Cert.ExpertFfnRefIdeal.Rows
open Cert.ExpertFfnRefIdeal Cert.ExpertFfnRefIdeal.Gen Cert.ExpertFfnRefIdeal.Read Cert.Expert

variable (x0 : IVec S1344 32) (x2 : FVec Ideal S344064x2048 .f32) (x3 : FVec Ideal S64x2048x1024 .f32) (x4 : FVec Ideal S64x512x2048 .f32)

/-- The expert the reference takes for a block of rows. -/
def pick (b : Fin 1344) : Fin 64 := ⟨min (x0 (ix1 b)).toInt.toNat 63, by omega⟩

/-- A row of a block. -/
def rowOf (b : Fin 1344) (r : Fin 256) : Fin 344064 := ⟨b.val * 256 + r.val, by omega⟩

/-- The gate and up weights a block takes are its expert's. -/
theorem v1_at (b : Fin 1344) (d : Fin 2048) (e : Fin 1024) : val_main_v1 (F := Ideal) x0 x3 (ix3 b d e) = x3 (ix3 (pick x0 b) d e) := by
  unfold val_main_v1
  refine (gather_mats (by decide) _ x3 _ b d e).trans ?_
  refine congrArg (fun p => x3 (ix3 p d e)) (Fin.ext ?_)
  refine congrArg (fun w : BitVec 32 => min w.toInt.toNat 63) ((val_main_call0_v0_apply (F := Ideal) x0 _).trans (congrArg x0 ?_))
  exact funext fun a => Fin.ext (by fin_cases a; rfl)

/-- So are the down weights. -/
theorem v7_at (b : Fin 1344) (k : Fin 512) (j : Fin 2048) : val_main_v7 (F := Ideal) x0 x4 (ix3 b k j) = x4 (ix3 (pick x0 b) k j) := by
  unfold val_main_v7
  refine (gather_mats (by decide) _ x4 _ b k j).trans ?_
  refine congrArg (fun p => x4 (ix3 p k j)) (Fin.ext ?_)
  refine congrArg (fun w : BitVec 32 => min w.toInt.toNat 63) ((val_main_call2_v0_apply (F := Ideal) x0 _).trans (congrArg x0 ?_))
  exact funext fun a => Fin.ext (by fin_cases a; rfl)

/-- The rows, cut into blocks. -/
theorem v0_at (b : Fin 1344) (r : Fin 256) (d : Fin 2048) : val_main_v0 (F := Ideal) x2 (ix3 b r d) = x2 (ix2 (rowOf b r) d) := by
  rw [val_main_v0_apply]
  refine congrArg x2 ?_
  funext a
  refine Fin.ext ?_
  match a with
  | ⟨0, _⟩ => show ((b.val * 256 + r.val) * 2048 + d.val) / 2048 = b.val * 256 + r.val; omega
  | ⟨1, _⟩ => show ((b.val * 256 + r.val) * 2048 + d.val) % 2048 = d.val; omega

/-- The first product at an entry. -/
theorem v2_at (b : Fin 1344) (r : Fin 256) (e : Fin 1024) :
    val_main_v2 (F := Ideal) x0 x2 x3 (ix3 b r e) = lin (fun d => x2 (ix2 (rowOf b r) d)) (fun d e => x3 (ix3 (pick x0 b) d e)) e := by
  rw [val_main_v2_apply]
  unfold lin
  refine Finset.sum_congr rfl fun d _ => ?_
  refine congrArg₂ (· * ·) ((congrArg _ ?_).trans (v0_at x2 b r d)) ((congrArg _ ?_).trans (v1_at x0 x3 b d e))
  all_goals exact funext fun a => Fin.ext (by fin_cases a <;> rfl)

/-- Its gated half. -/
theorem v6_at (b : Fin 1344) (r : Fin 256) (k : Fin 512) :
    val_main_v6 (F := Ideal) x0 x2 x3 (ix3 b r k) = hid (fun d => x2 (ix2 (rowOf b r) d)) (fun d e => x3 (ix3 (pick x0 b) d e)) k := by
  have e3 : val_main_v3 (F := Ideal) x0 x2 x3 (ix3 b r k) = lin (fun d => x2 (ix2 (rowOf b r) d)) (fun d e => x3 (ix3 (pick x0 b) d e)) ⟨k, by omega⟩ := by
    rw [val_main_v3_apply, ← v2_at]
    refine congrArg _ ?_
    funext a
    refine Fin.ext ?_
    fin_cases a <;> simp [ix3]
  have e5 : val_main_v5 (F := Ideal) x0 x2 x3 (ix3 b r k) = lin (fun d => x2 (ix2 (rowOf b r) d)) (fun d e => x3 (ix3 (pick x0 b) d e)) ⟨512 + k, by omega⟩ := by
    rw [val_main_v5_apply, ← v2_at]
    refine congrArg _ ?_
    funext a
    refine Fin.ext ?_
    fin_cases a <;> simp [ix3]
  unfold hid
  rw [val_main_v6_apply, val_main_v4_apply, e5, e3]
  simp only [val_main_call1_v5_apply, val_main_call1_v4_apply, val_main_call1_v3_apply, val_main_call1_v2_apply, val_main_call1_v1_apply, val_main_call1_v0_apply, e3,
    val_main_call1_cst_apply, val_main_call1_cst_0_apply]
  rw [show FloatOps.ofBits (F := Ideal) .f32 0x3F800000#32 = (1 : EReal) from Ideal.ofBits_one_f32]
  rfl

/-- The reference's result at an entry. -/
theorem result_at (b : Fin 1344) (r : Fin 256) (j : Fin 2048) :
    val_main_v9 (F := Ideal) x0 x2 x3 x4 (ix2 (rowOf b r) j)
      = ffn (fun d => x2 (ix2 (rowOf b r) d)) (fun d e => x3 (ix3 (pick x0 b) d e)) (fun k j => x4 (ix3 (pick x0 b) k j)) j := by
  have hi : idx_main_v9 (ix2 (rowOf b r) j) = ix3 b r j := by
    funext a
    refine Fin.ext ?_
    match a with
    | ⟨0, _⟩ => show ((b.val * 256 + r.val) * 2048 + j.val) / 524288 = b.val; omega
    | ⟨1, _⟩ => show ((b.val * 256 + r.val) * 2048 + j.val) / 2048 % 256 = r.val; omega
    | ⟨2, _⟩ => show ((b.val * 256 + r.val) * 2048 + j.val) % 2048 = j.val; omega
  rw [val_main_v9_apply, hi, val_main_v8_apply]
  unfold ffn
  refine Finset.sum_congr rfl fun k _ => ?_
  refine congrArg₂ (· * ·) ((congrArg _ ?_).trans (v6_at x0 x2 x3 b r k)) ((congrArg _ ?_).trans (v7_at x0 x4 b k j))
  all_goals exact funext fun a => Fin.ext (by fin_cases a <;> rfl)

end Cert.ExpertFfnRefIdeal.Rows

end
-- ==== Proof.ExpertValue.lean ====
/- What the experts' kernel ends with at the ideal values: each row of a used block through the two products of its block's expert. -/
module

public import proofs.«01_k».proof.Proof.ExpertFrames
public import proofs.«01_k».proof.Proof.ExpertPure
public import proofs.«01_k».proof.Proof.Gen.ExpertFfnRefIdeal.Run
public import proofs.«01_k».proof.Proof.Gen.On_rows_used
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.ExpertFfnIdeal.Value
open Cert.ExpertFfnIdeal Cert.ExpertFfnIdeal.Gen Cert.ExpertFfnIdeal.Hand Cert.Expert

/-- Two indices of two axes are equal when they agree on each. -/
theorem ext2 {n k : ℕ} {i j : (⟨2, ![n, k]⟩ : Shape).Idx} (h0 : (i 0).val = (j 0).val) (h1 : (i 1).val = (j 1).val) : i = j := by
  funext a
  refine Fin.ext ?_
  fin_cases a
  · exact h0
  · exact h1

/-- So are two of three. -/
theorem ext3 {n k l : ℕ} {i j : (⟨3, ![n, k, l]⟩ : Shape).Idx} (h0 : (i 0).val = (j 0).val) (h1 : (i 1).val = (j 1).val) (h2 : (i 2).val = (j 2).val) : i = j := by
  funext a
  refine Fin.ext ?_
  fin_cases a
  · exact h0
  · exact h1
  · exact h2

/-- What the body makes of three blocks, at an entry. -/
theorem pay_at (x : Vec Ideal S256x2048 .f32) (wgu : Vec Ideal S1x2048x1024 .bf16) (wd : Vec Ideal S1x512x2048 .bf16) (r : Fin 256) (j : Fin 2048) :
    k0_pay1 (F := Ideal) x wgu wd (ix2 r j) = ffn (fun d => x (ix2 r d)) (fun d e => wgu (ix3 0 d e)) (fun k j => wd (ix3 0 k j)) j := by
  unfold ffn hid lin
  pointwise [k0_pay1]
  simp only [zero_sub]

variable (m : (ℓ : Loc nD τ sig) → Buf (Elt Ideal) ℓ) (hO : Ok m)

/-- The two tables, the tokens and the two arrays of weights, as they are launched. -/
abbrev be (c : Dev nD) : IVec S1344 32 := m ((c : Thread nD τ).loc main_arg0)
abbrev nu (c : Dev nD) : IVec S1 32 := m ((c : Thread nD τ).loc main_arg1)
abbrev X (c : Dev nD) : FVec Ideal S344064x2048 .f32 := m ((c : Thread nD τ).loc main_arg2)
abbrev Wgu (c : Dev nD) : FVec Ideal S64x2048x1024 .f32 := m ((c : Thread nD τ).loc main_arg3)
abbrev Wd (c : Dev nD) : FVec Ideal S64x512x2048 .f32 := m ((c : Thread nD τ).loc main_arg4)

/-- A point's position, as a block's. -/
def no (t : Fin grid0.N) : Fin 1344 := ⟨t.val, t.isLt⟩

/-- Where the first window stands at a point. -/
theorem in_index (t : Fin (cfgM m hO).N) : ((cfgM m hO).win 0).index t = ![min t.val (nUsed m - 1), 0] := out_index m hO t

/-- The first window's block at a point: the rows of the last used block at or before it. -/
theorem xblk_at (c : Dev nD) (t : Fin (cfgM m hO).N) (r : Fin 256) (d : Fin 2048) :
    (iblk m hO c 0 t : Vec Ideal S256x2048 .f32) (ix2 r d) = X m c (ix2 (Cert.ExpertFfnRefIdeal.Rows.rowOf (no (pt m t)) r) d) := by
  have e : (((cfgM m hO).win 0).blk t).view.emb (ix2 r d) = ix2 (Cert.ExpertFfnRefIdeal.Rows.rowOf (no (pt m t)) r) d := by
    have h0 := ((cfgM m hO).win 0).rect_emb_val t (ix2 r d) (0 : Fin 2)
    have h1 := ((cfgM m hO).win 0).rect_emb_val t (ix2 r d) (1 : Fin 2)
    rw [in_index] at h0 h1
    exact ext2 h0 (h1.trans (by show 0 * 2048 + d.val = d.val; omega))
  exact (congrArg (V m c main_arg2) e).trans (congrFun (V_arg2 m c) _)

/-- The expert of a block that the windows of weights read is the one the reference takes. -/
theorem expert_eq (hg : ∀ c : Dev nD, Cert.ExpertFrames.good (be m c) (nu m c)) (c : Dev nD) (b : Fin 1344) :
    (expert (tbl m) b).toNat = (Cert.ExpertFfnRefIdeal.Rows.pick (be m c) b).val := by
  obtain rfl : c = 0 := Subsingleton.elim _ _
  have e : expert (tbl m) b = be m 0 (ix1 b) := congrFun (V_arg0 m 0) (ix1 b)
  have h := (hg 0).expert (ix1 b)
  rw [e]
  show _ = min (be m 0 (ix1 b)).toInt.toNat 63
  have e1 := BitVec.toInt_eq_toNat_cond (be m 0 (ix1 b))
  have e2 := (be m 0 (ix1 b)).isLt
  split at e1 <;> omega

/-- Where the windows of weights stand at a point. -/
theorem gu_index (t : Fin (cfgM m hO).N) : ((cfgM m hO).win 1).index t = ![(expert (tbl m) (no t)).toNat, 0, 0] :=
  (weight_row (tbl m) (grid0.coords t)).trans (by rw [show grid0.coords t 0 = no t from Fin.ext (coord t)])
theorem down_index (t : Fin (cfgM m hO).N) : ((cfgM m hO).win 2).index t = ![(expert (tbl m) (no t)).toNat, 0, 0] := gu_index m hO t

/-- The second window's block at a point: the gate and up weights of the point's expert. -/
theorem gublk_at (hg : ∀ c : Dev nD, Cert.ExpertFrames.good (be m c) (nu m c)) (c : Dev nD) (t : Fin (cfgM m hO).N) (d : Fin 2048) (e : Fin 1024) :
    (iblk m hO c 1 t : Vec Ideal S1x2048x1024 .bf16) (ix3 0 d e) = Wgu m c (ix3 (Cert.ExpertFfnRefIdeal.Rows.pick (be m c) (no t)) d e) := by
  have e : (((cfgM m hO).win 1).blk t).view.emb (ix3 0 d e) = ix3 (Cert.ExpertFfnRefIdeal.Rows.pick (be m c) (no t)) d e := by
    have h0 := ((cfgM m hO).win 1).rect_emb_val t (ix3 0 d e) (0 : Fin 3)
    have h1 := ((cfgM m hO).win 1).rect_emb_val t (ix3 0 d e) (1 : Fin 3)
    have h2 := ((cfgM m hO).win 1).rect_emb_val t (ix3 0 d e) (2 : Fin 3)
    rw [gu_index] at h0 h1 h2
    refine ext3 (h0.trans ?_) (h1.trans (by show 0 * 2048 + d.val = d.val; omega)) (h2.trans (by show 0 * 1024 + e.val = e.val; omega))
    show (expert (tbl m) (no t)).toNat * 1 + 0 = (Cert.ExpertFfnRefIdeal.Rows.pick (be m c) (no t)).val
    rw [← expert_eq m hg]; omega
  refine (congrArg (V m c main_v0) e).trans ?_
  entry_read
  rfl

/-- The third window's block at a point: the down weights of the point's expert. -/
theorem downblk_at (hg : ∀ c : Dev nD, Cert.ExpertFrames.good (be m c) (nu m c)) (c : Dev nD) (t : Fin (cfgM m hO).N) (k : Fin 512) (j : Fin 2048) :
    (iblk m hO c 2 t : Vec Ideal S1x512x2048 .bf16) (ix3 0 k j) = Wd m c (ix3 (Cert.ExpertFfnRefIdeal.Rows.pick (be m c) (no t)) k j) := by
  have e : (((cfgM m hO).win 2).blk t).view.emb (ix3 0 k j) = ix3 (Cert.ExpertFfnRefIdeal.Rows.pick (be m c) (no t)) k j := by
    have h0 := ((cfgM m hO).win 2).rect_emb_val t (ix3 0 k j) (0 : Fin 3)
    have h1 := ((cfgM m hO).win 2).rect_emb_val t (ix3 0 k j) (1 : Fin 3)
    have h2 := ((cfgM m hO).win 2).rect_emb_val t (ix3 0 k j) (2 : Fin 3)
    rw [down_index] at h0 h1 h2
    refine ext3 (h0.trans ?_) (h1.trans (by show 0 * 512 + k.val = k.val; omega)) (h2.trans (by show 0 * 2048 + j.val = j.val; omega))
    show (expert (tbl m) (no t)).toNat * 1 + 0 = (Cert.ExpertFfnRefIdeal.Rows.pick (be m c) (no t)).val
    rw [← expert_eq m hg]; omega
  refine (congrArg (V m c main_v1) e).trans ?_
  entry_read
  rfl

/-- The reference's result, of the arguments as they are launched. -/
abbrev result (c : Dev nD) : FVec Ideal S344064x2048 .f32 := Cert.ExpertFfnRefIdeal.Read.val_main_v9 (F := Ideal) (be m c) (X m c) (Wgu m c) (Wd m c)

/-- What the body makes at a used point is the point's rows of the reference's result. -/
theorem made_at (hg : ∀ c : Dev nD, Cert.ExpertFrames.good (be m c) (nu m c)) (c : Dev nD) (t : Fin (cfgM m hO).N) (r : Fin 256) (j : Fin 2048) :
    made m hO c (pt m t) (ix2 r j) = result m c (ix2 (Cert.ExpertFfnRefIdeal.Rows.rowOf (no (pt m t)) r) j) := by
  have hp : pt m (pt m t) = pt m t := Fin.ext (by show min (min t.val (nUsed m - 1)) (nUsed m - 1) = min t.val (nUsed m - 1); omega)
  refine Eq.trans ?_ (Cert.ExpertFfnRefIdeal.Rows.result_at (be m c) (X m c) (Wgu m c) (Wd m c) (no (pt m t)) r j).symm
  refine (pay_at _ _ _ r j).trans ?_
  have e0 : (fun d => (iblk m hO c 0 (pt m t) : Vec Ideal S256x2048 .f32) (ix2 r d)) = fun d => X m c (ix2 (Cert.ExpertFfnRefIdeal.Rows.rowOf (no (pt m t)) r) d) :=
    funext fun d => by rw [xblk_at, hp]
  have e1 : (fun d e => (iblk m hO c 1 (pt m t) : Vec Ideal S1x2048x1024 .bf16) (ix3 0 d e)) = fun d e => Wgu m c (ix3 (Cert.ExpertFfnRefIdeal.Rows.pick (be m c) (no (pt m t))) d e) :=
    funext fun d => funext fun e => gublk_at m hO hg c _ d e
  have e2 : (fun k j => (iblk m hO c 2 (pt m t) : Vec Ideal S1x512x2048 .bf16) (ix3 0 k j)) = fun k j => Wd m c (ix3 (Cert.ExpertFfnRefIdeal.Rows.pick (be m c) (no (pt m t))) k j) :=
    funext fun k => funext fun j => downblk_at m hO hg c _ k j
  rw [e0, e1, e2]

/-- A point's block of the result: the rows of the last used block at or before it. -/
theorem out_emb (t : Fin (cfgM m hO).N) (r : Fin 256) (j : Fin 2048) :
    (((cfgM m hO).win 3).blk t).view.emb (ix2 r j) = ix2 (Cert.ExpertFfnRefIdeal.Rows.rowOf (no (pt m t)) r) j := by
  have h0 := ((cfgM m hO).win 3).rect_emb_val t (ix2 r j) (0 : Fin 2)
  have h1 := ((cfgM m hO).win 3).rect_emb_val t (ix2 r j) (1 : Fin 2)
  rw [out_index] at h0 h1
  exact ext2 h0 (h1.trans (by show 0 * 2048 + j.val = j.val; omega))

/-- At a row of a used block the result ends as the reference's. -/
theorem final_at (hg : ∀ c : Dev nD, Cert.ExpertFrames.good (be m c) (nu m c)) (c : Dev nD) (b : Fin 1344) (hb : b.val < nUsed m) (r : Fin 256) (j : Fin 2048) :
    (dats m hO 0 c).arrAt 3 (cfgM m hO).N (ix2 (Cert.ExpertFfnRefIdeal.Rows.rowOf b r) j) = result m c (ix2 (Cert.ExpertFfnRefIdeal.Rows.rowOf b r) j) := by
  have hN : (cfgM m hO).N = 1344 := rfl
  have key := (dats m hO 0 c).arrAt_forall_of_flushed 3 (fun i x => x = result m c i) (fun t ht y => by
    obtain ⟨r, j, rfl⟩ : ∃ (r : Fin 256) (j : Fin 2048), (show S256x2048.Idx from y) = ix2 r j := ⟨_, _, ext2 rfl rfl⟩
    refine Eq.trans ?_ ((made_at m hO hg c t r j).trans (congrArg (result m c) (out_emb m hO t r j).symm))
    exact congrFun (after3 m hO c t) (ix2 r j)) (cfgM m hO).N
  by_cases h : b.val + 1 < nUsed m
  · have hp : no (pt m b) = b := Fin.ext (by show min b.val (nUsed m - 1) = b.val; omega)
    refine key b _ b.isLt ((flush_iff m hO b).mpr (Or.inr h)) ?_
    exact Finset.mem_map.mpr ⟨ix2 r j, Finset.mem_univ _, (out_emb m hO b r j).trans (congrArg (fun b => ix2 (Cert.ExpertFfnRefIdeal.Rows.rowOf b r) j) hp)⟩
  · let t : Fin (cfgM m hO).N := (⟨1343, by decide⟩ : Fin 1344)
    have hp : no (pt m t) = b := Fin.ext (by show min 1343 (nUsed m - 1) = b.val; have := b.isLt; omega)
    refine key t _ t.isLt ((flush_iff m hO t).mpr (Or.inl rfl)) ?_
    exact Finset.mem_map.mpr ⟨ix2 r j, Finset.mem_univ _, (out_emb m hO t r j).trans (congrArg (fun b => ix2 (Cert.ExpertFfnRefIdeal.Rows.rowOf b r) j) hp)⟩

end Cert.ExpertFfnIdeal.Value

end
-- ==== Proof.ExpertClaim.lean ====
/- The experts' value claim on the rows of used blocks, and the frames of its reference. -/
module

public import proofs.«01_k».proof.Defs
public import proofs.«01_k».proof.Proof.ExpertValue
public import proofs.«01_k».proof.Proof.Gen.ExpertFfnRefIdeal.Run
public import proofs.«01_k».proof.Proof.Gen.ExpertFfnRefIdeal.Read
public import proofs.«01_k».proof.Proof.Gen.On_rows_used
public import Idealize.ShloMosaic.Lib.Quiescent

@[expose] public section

set_option maxRecDepth 16384

noncomputable section

open Idealize.ShloMosaic Idealize.ShloMosaic.TcCoe Idealize.SL.Sem

namespace Cert.Proof

/-- Where the mask is set the row belongs to a used block. -/
theorem used_of_mask (be : IVec ⟨1, ![1344]⟩ 32) (nu : IVec ⟨1, ![1]⟩ 32) (x : FVec Ideal ⟨2, ![344064, 2048]⟩ .f32)
    (wgu : FVec Ideal ⟨3, ![64, 2048, 1024]⟩ .f32) (wd : FVec Ideal ⟨3, ![64, 512, 2048]⟩ .f32) (b : Fin 1344) (r : Fin 256) (j : Fin 2048)
    (w : BitVec 32) (hw : ∀ z, nu z = w) (hv : 1 ≤ w.toInt)
    (h : Cert.On_rows_used.fn (F := Ideal) be nu x wgu wd (ix2 (Cert.ExpertFfnRefIdeal.Rows.rowOf b r) j) = 1#1) : b.val < w.toNat := by
  have e : IntOp.cmpi .slt (BitVec.ofNat 32 (b.val * 256 + r.val)) (w * 256#32) = 1#1 := by
    rw [show w = nu (ix1 0) from (hw _).symm]
    refine Eq.trans ?_ h
    show IntOp.cmpi .slt _ (nu _ * 256#32) = IntOp.cmpi .slt _ (nu _ * 256#32)
    rw [hw, hw]
    rfl
  obtain ⟨h1, h2, h3⟩ := TableWords.word_pos w hv
  by_contra hb
  have hn : (w * 256#32).toNat = w.toNat * 256 := by
    rw [BitVec.toNat_mul]
    show w.toNat * 256 % 4294967296 = _
    have := b.isLt
    omega
  have hb1 := b.isLt
  have hr1 := r.isLt
  rw [WordCmp.cmpi_slt_eq, WordCmp.toInt_ofNat_of_lt (by omega), BitVec.toInt_eq_toNat_of_lt (by rw [hn]; omega), hn] at e
  rw [decide_eq_false (by omega)] at e
  exact absurd e (by decide)

/-- The experts' feed-forward and its reference end with the same rows, for the blocks that are used. -/
theorem value_Expert : Cert.algebraic_ExpertFfnIdeal_ExpertFfnRefIdeal_on_rows_used := by
  intro m g m' g' hp hagree
  have hg : ∀ c : Dev Cert.ExpertFfnIdeal.nD, Cert.ExpertFrames.good (Cert.ExpertFfnIdeal.Value.be m c) (Cert.ExpertFfnIdeal.Value.nu m c) :=
    fun c => Cert.ExpertFrames.good_of_pre _ _ _ _ _ (hp c)
  have hO := Cert.ExpertFfnIdeal.Hand.ok_of_good m hg
  refine ⟨fun c => Cert.ExpertFfnIdeal.Value.result m c, ?_, ?_⟩
  · refine (θ_run _ _ _).mono (fun r h c => ⟨fun i hi => ?_, ((h.2.1 c))⟩)
      (θ_run_and (Cert.ExpertFfnIdeal.Hand.run_main m g hO) (Cert.ExpertFfnIdeal.Hand.frame m g hO))
    obtain ⟨b, r', j, rfl⟩ : ∃ (b : Fin 1344) (r' : Fin 256) (j : Fin 2048), i = ix2 (Cert.ExpertFfnRefIdeal.Rows.rowOf b r') j := by
      have h0 : (i 0).val < 344064 := (i 0).isLt
      refine ⟨⟨(i 0).val / 256, by omega⟩, ⟨(i 0).val % 256, by omega⟩, i 1, Cert.ExpertFfnIdeal.Value.ext2 ?_ rfl⟩
      show (i 0).val = (i 0).val / 256 * 256 + (i 0).val % 256
      omega
    have hb := used_of_mask _ _ _ _ _ b r' j (Cert.ExpertFfnIdeal.Hand.used (Cert.ExpertFfnIdeal.Hand.tbl m)) (fun z => ?_) hO.one_used hi
    · exact (congrFun ((h.1 c).1 3) _).trans (Cert.ExpertFfnIdeal.Value.final_at m hO hg c b hb r' j)
    · rw [← Cert.ExpertFfnIdeal.Hand.used_eq _ z]
      exact congrFun (Cert.ExpertFfnIdeal.Hand.V_arg1 m c).symm z |>.trans (congrFun (Cert.ExpertFfnIdeal.Hand.V_pre m c 1) z)
  · refine (θ_run _ _ _).mono (fun r h c => ⟨fun i _ => congrFun ((h c).1.trans ?_) i, (h c).2⟩) (Cert.ExpertFfnRefIdeal.Value.run m' g')
    rw [Cert.ExpertFfnRefIdeal.Read.val_main_v9_eq]
    exact congr (congr (congr (congrArg _ (hagree c).1) (hagree c).2.2.1) (hagree c).2.2.2.1) (hagree c).2.2.2.2

/-- The reference of the experts' feed-forward runs and leaves its arguments unchanged. -/
theorem frame_ExpertRef : Cert.quiescent_ExpertFfnRefIdeal := fun m g _ =>
  (θ_run _ _ _).mono (fun r h => ⟨fun c => (h c).2, sem_eq_zero_of_no_sems rfl r.2⟩) (Cert.ExpertFfnRefIdeal.Value.run m g)

/-- So does it under the precondition. -/
theorem frame_ExpertRef_pre : Cert.quiescent_ExpertFfnRefIdeal_pre_tables_in_range := fun m g _ =>
  (θ_run _ _ _).mono (fun r h => ⟨fun c => (h c).2, sem_eq_zero_of_no_sems rfl r.2⟩) (Cert.ExpertFfnRefIdeal.Value.run m g)

end Cert.Proof

end
-- ==== Proof.SharedRun.lean ====
/- The shared feed-forward's kernel run, for every float semantics. Its two tables are constants of the program: one expert for every
   block of rows, and all 80 blocks used. So the body works at every point, and each point has a block of rows of its own. -/
module

public import proofs.«01_k».proof.Proof.TableWords
public import proofs.«01_k».proof.Proof.Gen.SharedFfnIdeal.Launch
public import proofs.«01_k».proof.Proof.Gen.SharedFfnIdeal.Skeleton
public import Idealize.ShloMosaic.Lib.Pipeline.FrameBody
public import Idealize.ShloMosaic.Lib.Pipeline.TableIdle
public import Idealize.ShloMosaic.Lib.Pipeline.ValueKit
public import Idealize.ShloMosaic.Lib.VecWindow
public import Idealize.ShloMosaic.Lib.Ring
public import Idealize.ShloMosaic.Lib.Tactic
public import Idealize.ShloMosaic.Lib.WordCmp
public import Idealize.ShloMosaic.Lib.Affine
public import Idealize.ShloMosaic.Lib.Claim

@[expose] public section

set_option maxRecDepth 16384

noncomputable section

namespace Cert.SharedFfnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.SharedFfnIdeal Cert.SharedFfnIdeal.Gen

variable {F : FTy → Type} [FloatOps F]

local notation "𝕄" => MT nD τ sig Unit (Elt F) ℕ (UR sig nD τ) ℕ

/-- The one index of the second table. -/
def word0 : S1.Idx := fun a => ⟨(![0] : Fin 1 → ℕ) a, by fin_cases a; decide⟩

/-- The grid has one axis, so a point's coordinate is its position. -/
theorem coord (t : Fin grid0.N) : (grid0.coords t 0).val = t.val := by
  revert t; decide +kernel

/-! ## The launch: what the region finds -/

variable (m : (ℓ : Loc nD τ sig) → Buf (Elt F) ℓ) (ρ : Dev nD → PrngReg)

/-- What the buffers of a core hold when the region is entered, after the host's casts and constants. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is the host's casts and constants and then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer the host does not write is found as it was launched. -/
theorem V_of_not_written (c : Dev nD) (b : Ref sig .tc) (hb : ∀ op ∈ (hostOps0 : List (HloOp τ sig (Elt F))), Proc.devRef .tc b ∉ op.writes) :
    V m c b = m ((c : Thread nD τ).loc b) :=
  StableHlo.after_of_forall_not_mem (b := Proc.devRef .tc b) _ _ hb

/-- The host writes none of the arguments. -/
theorem V_arg (c : Dev nD) (b : Ref sig .tc) (hb : b = main_arg0 ∨ b = main_arg1 ∨ b = main_arg2) : V m c b = m ((c : Thread nD τ).loc b) :=
  V_of_not_written m c _ (List.forall_iff_forall_mem.mp (by
    simp only [hostOps0, List.Forall, StableHlo.unary_writes, StableHlo.nullary_writes, Finset.mem_singleton]
    rcases hb with rfl | rfl | rfl
    all_goals
      repeat' apply And.intro
      all_goals exact StableHlo.devRef_ne_of_ne (by decide)))

/-- The tables the region finds (there is one device). -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- The first table names expert 0 for every block. -/
theorem expert_zero (x : S80.Idx) : (show S80.Idx → BitVec 32 from tbl m 0) x = 0#32 := by
  show (V m 0 main_v4 : S80.Idx → BitVec 32) x = _
  entry_read
  rfl

/-- The second holds the number of blocks. -/
theorem all_used (x : S1.Idx) : (show S1.Idx → BitVec 32 from tbl m 1) x = 80#32 := by
  show (V m 0 main_v5 : S1.Idx → BitVec 32) x = _
  entry_read
  rfl

/-- The body works at every point. -/
theorem works (i : grid0.Coords) : k0_cond1 i 80#32 = 1#1 :=
  (TableWords.guard_iff _ (by have : (i 0).val < 80 := (i 0).isLt; omega) 80#32 (by decide)).mpr (i 0).isLt

/-- The block of rows the result's window is on at a point is the point's. -/
theorem out_row (i : grid0.Coords) : cc0_transform_3 inb_S1_S1_0 numel1_S1 (tbl m) i = ![(i 0).val, 0] := by
  have hi : (i 0).val < 80 := (i 0).isLt
  unfold cc0_transform_3
  dsimp only
  have e : ((tbl m).at 1 (Rect.unit (s := S1) ![0] S1.size inb_S1_S1_0) numel1_S1 : BitVec 32) = 80#32 := all_used m _
  rw [e, TableWords.row_eq _ (by omega) 80#32 (by decide)]
  show ![min (i 0).val 79, 0] = _
  rw [min_eq_left (by omega)]

/-- So is the input's. -/
theorem in_row (i : grid0.Coords) : cc0_transform_0 inb_S1_S1_0 numel1_S1 (tbl m) i = ![(i 0).val, 0] := out_row m i

/-- The weights' windows stay on the one expert. -/
theorem weight_row (i : grid0.Coords) : cc0_transform_1 k0_off1_inb numel1_S1 (tbl m) i = ![0, 0, 0] := by
  unfold cc0_transform_1
  dsimp only
  exact congrArg (fun w : BitVec 32 => ![w.toNat, 0, 0]) (expert_zero m _)

/-- The constants keep every block inside its array. -/
theorem ok_tables : ok0 (F := F) (tbl m) := by
  have hr : ∀ i : grid0.Coords, ∀ a, (cc0_transform_0 inb_S1_S1_0 numel1_S1 (tbl m) i a + 1) * S512x2048.size a ≤ S40960x2048.size a := fun i a => by
    rw [in_row m i]
    have hi : (i 0).val < 80 := (i 0).isLt
    match a with
    | ⟨0, _⟩ => show ((i 0).val + 1) * 512 ≤ 40960; omega
    | ⟨1, _⟩ => show (0 + 1) * 2048 ≤ 2048; omega
  have h1 : ∀ i : grid0.Coords, ∀ a, (cc0_transform_1 k0_off1_inb numel1_S1 (tbl m) i a + 1) * S1x2048x1024.size a ≤ S1x2048x1024.size a := fun i => by
    rw [weight_row m i]; decide
  have h2 : ∀ i : grid0.Coords, ∀ a, (cc0_transform_2 k0_off1_inb numel1_S1 (tbl m) i a + 1) * S1x512x2048.size a ≤ S1x512x2048.size a := fun i => by
    rw [show cc0_transform_2 k0_off1_inb numel1_S1 (tbl m) i = _ from weight_row m i]; decide
  exact ⟨fun i => ⟨hr i, .inl rfl⟩, fun i => ⟨h1 i, .inr (Affine.block_words_dvd (of_decide_eq_true rfl) (by decide))⟩,
    fun i => ⟨h2 i, .inr (Affine.block_words_dvd (of_decide_eq_true rfl) (by decide))⟩, fun i => ⟨hr i, .inl rfl⟩⟩

/-- The pipeline at those tables. -/
abbrev adm : (pcfg0 (F := F)).Adm := ⟨tbl m, ok_tables m⟩
abbrev cfgM : Pipeline.Cfg sig Λ₀ := cfg0 (adm m)

/-- The tables as the body is handed them. -/
abbrev tbM0 : Memref sig .tc .smem S80 .i32 := Memref.whole main_v4
abbrev tbM1 : Memref sig .tc .smem S1 .i32 := Memref.whole main_v5

/-- A table's buffer on a core, and the half of it the body holds. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem tables_eq (c : Dev nD) : (Pipeline.ΦT pre0 (tbl m) c : sProp 𝕄) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- A window's block at a point, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The staging buffer each window is on at a point. -/
abbrev ms0 (t : Fin (cfgM m).N) : Memref sig .tc .vmem S512x2048 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x2048x1024 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x512x2048 .bf16 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S512x2048 .f32 := spec0_3.stage ((cfgM m).slots t 3)
abbrev hs3 (t : Fin (cfgM m).N) : (ms3 m t).IsWhole := hstage0_3 (((cfgM m).slots t 3).cast nbuf0_3)

/-- The body at a point, on what the pipeline calls it with. -/
abbrev bodyAt (t : Fin (cfgM m).N) : Prog (TpuEff nD τ sig (Elt F) Λ₀ .tc) PUnit :=
  cc0_shared_ffn (grid0.coords t) tbM0 (Memref.isWhole_whole _) tbM1 (Memref.isWhole_whole _) (ms0 m t) (hs0 m t) (ms1 m t) (hs1 m t) (ms2 m t) (hs2 m t) (ms3 m t) (hs3 m t)

/-! ## The body at a point -/

/-- What the body leaves in its result's staging buffer at a point where it works: the payload of its three blocks, whatever the
    buffer held. -/
theorem body_works (c : Dev nD) (i : grid0.Coords) (arg3 : Memref sig .tc .vmem S512x2048 .f32) (harg3 : arg3.IsWhole) (arg4 : Memref sig .tc .vmem S1x2048x1024 .bf16) (harg4 : arg4.IsWhole) (arg5 : Memref sig .tc .vmem S1x512x2048 .bf16) (harg5 : arg5.IsWhole) (arg6 : Memref sig .tc .vmem S512x2048 .f32) (harg6 : arg6.IsWhole)
    (x0 : Vec F S512x2048 .f32) (x1 : Vec F S1x2048x1024 .bf16) (x2 : Vec F S1x512x2048 .bf16) (xt0 : TbBuf (F := F) c tbM0) (xt1 : TbBuf (F := F) c tbM1)
    (hc : k0_cond1 i ((show S1.Idx → BitVec 32 from xt1) word0) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ tbPt c tbM0 xt0 ∗ tbPt c tbM1 xt1
        ∗ (iprop(owns (c : Thread nD τ) arg3 fullShare x0 ∗ owns (c : Thread nD τ) arg4 fullShare x1 ∗ owns (c : Thread nD τ) arg5 fullShare x2 ∗ owns (c : Thread nD τ) arg6 fullShare (k0_pay1 x0 x1 x2) ∗ tbPt c tbM0 xt0 ∗ tbPt c tbM1 xt1) -∗ K ⟨⟩))
      ⊢ wp frame (wpE (defs₀ (F := F)) Variants.none c none) E (cc0_shared_ffn i tbM0 (Memref.isWhole_whole _) tbM1 (Memref.isWhole_whole _) arg3 harg3 arg4 harg4 arg5 harg5 arg6 harg6) K := by
  simp only [cc0_shared_ffn_eq_skeleton]; unfold cc0_shared_ffn_skel
  unfold owns
  iintro ⟨⟨%f0, %hf0, H0⟩, ⟨%f1, %hf1, H1⟩, ⟨%f2, %hf2, H2⟩, ⟨%d3, %f3, -, H3⟩, HT0, HT1, Hk⟩
  obtain rfl := harg3.eq_unread hf0; obtain rfl := harg4.eq_unread hf1; obtain rfl := harg5.eq_unread hf2
  sl_exec (disch := sl_exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    rw [View.readAt_full arg3.view, View.readAt_full arg4.view, View.readAt_full arg5.view, hf0, hf1, hf2]
    exact View.read_writes_full arg6.view _ _ _ _
  isplitl [HT0]; · iexact HT0
  iexact HT1

/-! ## The schedule of the result's window -/

theorem out_index (t : Fin (cfgM m).N) : ((cfgM m).win 3).index t = ![t.val, 0] :=
  (out_row m (grid0.coords t)).trans (by rw [coord])

theorem idle_table : (cfgM m).idle = idle0 (tbl m) := rfl

/-- The word the table of idle points is stated over is the number of blocks. -/
theorem usedD_eq : ((tbl m).atD 1 ![0] : BitVec 32) = 80#32 :=
  (dif_pos (show ∀ a : Fin 1, (![0] : Fin 1 → ℕ) a + 1 ≤ S1.size a from fun a => by fin_cases a; decide)).trans (all_used m _)

/-- No point is idle. -/
theorem not_idle (i : grid0.Coords) : idle0 (tbl m) 3 i = false := by
  show (!(k0_cond1 i ((tbl m).atD 1 ![0] : BitVec 32) == 1#1)) = false
  rw [usedD_eq, works]
  rfl

/-- A result's buffer is handed back at every point. -/
theorem flush_all (t : Fin (cfgM m).N) : ((cfgM m).win 3).flush t = true := by
  rw [Pipeline.Window.flush_eq_flushF]
  unfold Pipeline.Window.flushF
  rw [show ((cfgM m).win 3).isOut = true from rfl, Bool.true_and, Bool.or_eq_true, decide_eq_true_iff, decide_eq_true_iff]
  by_cases h1 : t.val + 1 = grid0.N
  · exact Or.inl h1
  · have ht : t.val < grid0.N := t.isLt
    refine Or.inr ⟨(by omega : t.val + 1 < grid0.N), (⟨0, by decide⟩ : Fin 2), ?_⟩
    rw [out_index, out_index]
    show t.val + 1 ≠ t.val
    omega

/-! ## The pipeline's proof data -/

/-- What the body makes of a point's three blocks. -/
def made (c : Dev nD) (t : Fin (cfgM m).N) : Vec F S512x2048 .f32 := k0_pay1 (iblk m c 0 t) (iblk m c 1 t) (iblk m c 2 t)

/-- The data: arrays as the region finds them; after a point each argument's buffer holds its block and the result's buffer what the
    body made there; the scoped rest, the generator and the tables are passed through. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => made m c t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by dsimp only [dats]

theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = iblk m c 2 t := by dsimp only [dats]; try rfl
theorem after3 (c : Dev nD) (t : Fin (cfgM m).N) : (dats m 0 c).after 3 t = made m c t := by dsimp only [dats]; try rfl

/-- An argument's buffer holds its block at every point, fetched there or kept. -/
theorem before0 (c : Dev nD) (t : Fin (cfgM m).N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfgM m).N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfgM m).N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-! ## The body's obligation -/

/-- What the body is called with, window by window. -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d)))

/-- What it returns. -/
def bodyPost (c : Dev nD) (t : Fin (cfgM m).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- An argument's buffer is to be left at its block. -/
theorem leaves0 (c : Dev nD) (t : Fin (cfgM m).N) : (dats m 0 c).leavesExact 0 t = owns (c : Thread nD τ) (ms0 m t) fullShare (iblk m c 0 t) := by
  unfold Dat.leavesExact
  rw [show (cfgM m).idle 0 ((cfgM m).grid.coords t) = false from congrFun (congrFun (idle_table m) 0) _, after0]
  rfl
theorem leaves1 (c : Dev nD) (t : Fin (cfgM m).N) : (dats m 0 c).leavesExact 1 t = owns (c : Thread nD τ) (ms1 m t) fullShare (iblk m c 1 t) := by
  unfold Dat.leavesExact
  rw [show (cfgM m).idle 1 ((cfgM m).grid.coords t) = false from congrFun (congrFun (idle_table m) 1) _, after1]
  rfl
theorem leaves2 (c : Dev nD) (t : Fin (cfgM m).N) : (dats m 0 c).leavesExact 2 t = owns (c : Thread nD τ) (ms2 m t) fullShare (iblk m c 2 t) := by
  unfold Dat.leavesExact
  rw [show (cfgM m).idle 2 ((cfgM m).grid.coords t) = false from congrFun (congrFun (idle_table m) 2) _, after2]
  rfl

theorem leaves3 (c : Dev nD) (t : Fin (cfgM m).N) : (dats m 0 c).leavesExact 3 t = owns (c : Thread nD τ) (ms3 m t) fullShare (made m c t) := by
  unfold Dat.leavesExact
  rw [show (cfgM m).idle 3 ((cfgM m).grid.coords t) = false from (congrFun (congrFun (idle_table m) 3) _).trans (not_idle m _), after3]
  rfl

/-- The body at any point works on the three blocks. -/
theorem sound_body (c : Dev nD) (t : Fin (cfgM m).N) :
    bodyPre m c t ⊢ wp frame (wpE (defs₀ (F := F)) Variants.none c none) Set.univ (bodyAt m t) (fun _ => bodyPost m c t) := by
  have hc : k0_cond1 (grid0.coords t) ((show S1.Idx → BitVec 32 from tbl m 1) word0) = 1#1 := by rw [all_used, works]
  unfold bodyPre bodyPost bodyAt
  simp only [before0, before1, before2]
  rw [show (dats m 0 c).Φ t.succ = (dats m 0 c).Φ t.castSucc from rfl,
    show (dats m 0 c).owesAt () t.succ = (dats m 0 c).owesAt () t.castSucc from rfl,
    leaves0, leaves1, leaves2, leaves3]
  rw [show (dats m 0 c).Φ t.castSucc = iprop(Pipeline.ΦA spec0 c ∗ Pipeline.ΦT pre0 (tbl m) c) from rfl, tables_eq]
  iintro ⟨⟨HΦ, ⟨HT0, HT1⟩⟩, Ho, ⟨%d0, H0⟩, ⟨%d1, H1⟩, ⟨%d2, H2⟩, ⟨%d3, H3⟩⟩
  iapply (body_works c (grid0.coords t) _ _ _ _ _ _ _ _ (iblk m c 0 t) (iblk m c 1 t) (iblk m c 2 t) (tbl m 0) (tbl m 1) hc Set.univ _)
  isplitl [H0]; · iexact H0
  isplitl [H1]; · iexact H1
  isplitl [H2]; · iexact H2
  isplitl [H3]; · iexists _; iexact H3
  isplitl [HT0]; · iexact HT0
  isplitl [HT1]; · iexact HT1
  iintro ⟨H0, H1, H2, H3, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  iexact H3

theorem defs₀_row (t : Fin (cfgM m).N) : defs₀ (F := F) .tc (cfgM m).body ((cfgM m).bodyArgs t ((cfgM m).slots t)) = bodyAt m t := by
  unfold defs₀; rw [Defs.onTc_tc]

attribute [local irreducible] tbl in
theorem body_obligation (c : Dev nD) : BodyObligation (dats (F := F) m 0 c) (defs₀ (F := F)) Variants.none () Set.univ := fun t => by
  rw [bigSep_W0, bigSep_W0, defs₀_row m]
  exact triple_restated (sound_body m c t) rfl .rfl fun _ => by unfold bodyPost; exact .rfl

/-! ## The run, and what it leaves alone -/

-- the rule's implicit arguments are found by unifying its conclusion with this one
set_option backward.isDefEq.respectTransparency.types false in
/-- Every fair execution ends with each array of the pipeline at what the data says, every other buffer as the region found it, and
    every semaphore at zero. -/
theorem run_quiescent : θ_run defs (onTc (τ := τ) (main (F := F))) (s₀ m ρ) (fun r => (Pipeline.FramePost (Pipeline.pin pcfgs fun _ => adm m) (dats m) 0 (V m)) r ∧ r.2.sem = fun _ => 0) :=
  Pipeline.θ_run_frameP (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hΦ := fun _ _ => rfl)

theorem run_main : θ_run defs (onTc (τ := τ) (main (F := F))) (s₀ m ρ) (Pipeline.FramePost (Pipeline.pin pcfgs fun _ => adm m) (dats m) 0 (V m)) :=
  (θ_run defs _ _).mono (fun _ h => h.1) (run_quiescent m ρ)

/-- The frame: the arguments end as they were launched, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨((h.1 c).1 0).trans (((dats m 0 c).arrAt_in 0 rfl _).trans ((A_eq m c 0).trans (V_arg m c main_arg0 (.inl rfl)))),
        ((h.1 c).2 main_arg1 (by decide : main_arg1 ∈ Pipeline.restRefs sig spec0)).trans (V_arg m c _ (.inr (.inl rfl))),
        ((h.1 c).2 main_arg2 (by decide : main_arg2 ∈ Pipeline.restRefs sig spec0)).trans (V_arg m c _ (.inr (.inr rfl)))⟩, h.2⟩) (run_quiescent m ρ)

end Cert.SharedFfnIdeal.Hand

end
-- ==== Proof.SharedValue.lean ====
/- What the shared feed-forward's kernel ends with at the ideal values: each row through the two products of the shared weights, as its
   reference has it. Its value claim and the frames. -/
module

public import proofs.«01_k».proof.Proof.SharedRun
public import proofs.«01_k».proof.Proof.ExpertValue
public import proofs.«01_k».proof.Proof.Gen.SharedFfn
public import proofs.«01_k».proof.Proof.Gen.SharedFfnRefIdeal.Run
public import proofs.«01_k».proof.Proof.Gen.SharedFfnRefIdeal.Read
public import proofs.«01_k».proof.Defs
public import Idealize.ShloMosaic.Lib.Pipeline.ValueKit
public import Idealize.ShloMosaic.Lib.StableHlo.Run
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SharedFfnRefIdeal.Rows
open Cert.SharedFfnRefIdeal Cert.SharedFfnRefIdeal.Gen Cert.SharedFfnRefIdeal.Read Cert.Expert

variable (x0 : FVec Ideal S40960x2048 .f32) (x1 : FVec Ideal S2048x1024 .f32) (x2 : FVec Ideal S512x2048 .f32)

/-- The reference's first product at an entry. -/
theorem v0_at (n : Fin 40960) (e : Fin 1024) :
    val_main_v0 (F := Ideal) x0 x1 (ix2 n e) = lin (fun d => x0 (ix2 n d)) (fun d e => x1 (ix2 d e)) e := by
  rw [val_main_v0_apply]
  unfold lin
  refine Finset.sum_congr rfl fun d _ => congrArg₂ (· * ·) (congrArg _ ?_) (congrArg _ ?_)
  all_goals exact funext fun a => Fin.ext (by fin_cases a <;> rfl)

/-- Its gated half. -/
theorem v4_at (n : Fin 40960) (k : Fin 512) :
    val_main_v4 (F := Ideal) x0 x1 (ix2 n k) = hid (fun d => x0 (ix2 n d)) (fun d e => x1 (ix2 d e)) k := by
  have e1 : val_main_v1 (F := Ideal) x0 x1 (ix2 n k) = lin (fun d => x0 (ix2 n d)) (fun d e => x1 (ix2 d e)) ⟨k, by omega⟩ := by
    rw [val_main_v1_apply, ← v0_at]
    exact congrArg _ (funext fun a => Fin.ext (by fin_cases a <;> rfl))
  have e3 : val_main_v3 (F := Ideal) x0 x1 (ix2 n k) = lin (fun d => x0 (ix2 n d)) (fun d e => x1 (ix2 d e)) ⟨512 + k, by omega⟩ := by
    rw [val_main_v3_apply, ← v0_at]
    exact congrArg _ (funext fun a => Fin.ext (by fin_cases a <;> rfl))
  unfold hid
  rw [val_main_v4_apply, val_main_v2_apply, e3, e1]
  simp only [val_main_call0_v5_apply, val_main_call0_v4_apply, val_main_call0_v3_apply, val_main_call0_v2_apply, val_main_call0_v1_apply, val_main_call0_v0_apply, e1,
    val_main_call0_cst_apply, val_main_call0_cst_0_apply]
  rw [show FloatOps.ofBits (F := Ideal) .f32 0x3F800000#32 = (1 : EReal) from Ideal.ofBits_one_f32]
  rfl

/-- The reference's result at an entry. -/
theorem result_at (n : Fin 40960) (j : Fin 2048) :
    val_main_v5 (F := Ideal) x0 x1 x2 (ix2 n j) = ffn (fun d => x0 (ix2 n d)) (fun d e => x1 (ix2 d e)) (fun k j => x2 (ix2 k j)) j := by
  rw [val_main_v5_apply]
  unfold ffn
  refine Finset.sum_congr rfl fun k _ => congrArg₂ (· * ·) ((congrArg _ ?_).trans (v4_at x0 x1 n k)) (congrArg _ ?_)
  all_goals exact funext fun a => Fin.ext (by fin_cases a <;> rfl)

end Cert.SharedFfnRefIdeal.Rows

namespace Cert.SharedFfnIdeal.Value
open Cert.SharedFfnIdeal Cert.SharedFfnIdeal.Gen Cert.SharedFfnIdeal.Hand Cert.Expert
open Cert.ExpertFfnIdeal.Value (ext2 ext3)

/-- What the body makes of three blocks, at an entry. -/
theorem pay_at (x : Vec Ideal S512x2048 .f32) (wgu : Vec Ideal S1x2048x1024 .bf16) (wd : Vec Ideal S1x512x2048 .bf16) (r : Fin 512) (j : Fin 2048) :
    k0_pay1 (F := Ideal) x wgu wd (ix2 r j) = ffn (fun d => x (ix2 r d)) (fun d e => wgu (ix3 0 d e)) (fun k j => wd (ix3 0 k j)) j := by
  unfold ffn hid lin
  pointwise [k0_pay1]
  simp only [zero_sub]

variable (m : (ℓ : Loc nD τ sig) → Buf (Elt Ideal) ℓ)

/-- The rows and the two weights, as they are launched. -/
abbrev X (c : Dev nD) : FVec Ideal S40960x2048 .f32 := m ((c : Thread nD τ).loc main_arg0)
abbrev Wgu (c : Dev nD) : FVec Ideal S2048x1024 .f32 := m ((c : Thread nD τ).loc main_arg1)
abbrev Wd (c : Dev nD) : FVec Ideal S512x2048 .f32 := m ((c : Thread nD τ).loc main_arg2)

/-- A point's position, as a block's. -/
def no (t : Fin grid0.N) : Fin 80 := ⟨t.val, t.isLt⟩

/-- A row of a block. -/
def rowOf (b : Fin 80) (r : Fin 512) : Fin 40960 := ⟨b.val * 512 + r.val, by omega⟩

/-- Where the windows stand at a point: on the point's rows, and on the one matrix. -/
theorem in_index (t : Fin (cfgM m).N) : ((cfgM m).win 0).index t = ![t.val, 0] := out_index m t
theorem gu_index (t : Fin (cfgM m).N) : ((cfgM m).win 1).index t = ![0, 0, 0] := weight_row m (grid0.coords t)
theorem down_index (t : Fin (cfgM m).N) : ((cfgM m).win 2).index t = ![0, 0, 0] := gu_index m t

/-- The first window's block at a point. -/
theorem xblk_at (c : Dev nD) (t : Fin (cfgM m).N) (r : Fin 512) (d : Fin 2048) :
    (iblk m c 0 t : Vec Ideal S512x2048 .f32) (ix2 r d) = X m c (ix2 (rowOf (no t) r) d) := by
  have e : (((cfgM m).win 0).blk t).view.emb (ix2 r d) = ix2 (rowOf (no t) r) d := by
    have h0 := ((cfgM m).win 0).rect_emb_val t (ix2 r d) (0 : Fin 2)
    have h1 := ((cfgM m).win 0).rect_emb_val t (ix2 r d) (1 : Fin 2)
    rw [in_index] at h0 h1
    exact ext2 h0 (h1.trans (by show 0 * 2048 + d.val = d.val; omega))
  exact (congrArg (V m c main_arg0) e).trans (congrFun (V_arg m c main_arg0 (.inl rfl)) _)

/-- The second window's block at a point: the gate and up weights. -/
theorem gublk_at (c : Dev nD) (t : Fin (cfgM m).N) (d : Fin 2048) (e : Fin 1024) :
    (iblk m c 1 t : Vec Ideal S1x2048x1024 .bf16) (ix3 0 d e) = Wgu m c (ix2 d e) := by
  have e : (((cfgM m).win 1).blk t).view.emb (ix3 0 d e) = ix3 0 d e := by
    have h0 := ((cfgM m).win 1).rect_emb_val t (ix3 0 d e) (0 : Fin 3)
    have h1 := ((cfgM m).win 1).rect_emb_val t (ix3 0 d e) (1 : Fin 3)
    have h2 := ((cfgM m).win 1).rect_emb_val t (ix3 0 d e) (2 : Fin 3)
    rw [gu_index] at h0 h1 h2
    exact ext3 h0 (h1.trans (by show 0 * 2048 + d.val = d.val; omega)) (h2.trans (by show 0 * 1024 + e.val = e.val; omega))
  refine (congrArg (V m c main_v2) e).trans ?_
  entry_read
  exact congrArg (Wgu m c) (ext2 rfl rfl)

/-- The third window's block at a point: the down weights. -/
theorem downblk_at (c : Dev nD) (t : Fin (cfgM m).N) (k : Fin 512) (j : Fin 2048) :
    (iblk m c 2 t : Vec Ideal S1x512x2048 .bf16) (ix3 0 k j) = Wd m c (ix2 k j) := by
  have e : (((cfgM m).win 2).blk t).view.emb (ix3 0 k j) = ix3 0 k j := by
    have h0 := ((cfgM m).win 2).rect_emb_val t (ix3 0 k j) (0 : Fin 3)
    have h1 := ((cfgM m).win 2).rect_emb_val t (ix3 0 k j) (1 : Fin 3)
    have h2 := ((cfgM m).win 2).rect_emb_val t (ix3 0 k j) (2 : Fin 3)
    rw [down_index] at h0 h1 h2
    exact ext3 h0 (h1.trans (by show 0 * 512 + k.val = k.val; omega)) (h2.trans (by show 0 * 2048 + j.val = j.val; omega))
  refine (congrArg (V m c main_v3) e).trans ?_
  entry_read
  exact congrArg (Wd m c) (ext2 rfl rfl)

/-- The reference's result, of the arguments as they are launched. -/
abbrev result (c : Dev nD) : FVec Ideal S40960x2048 .f32 := Cert.SharedFfnRefIdeal.Read.val_main_v5 (F := Ideal) (X m c) (Wgu m c) (Wd m c)

/-- What the body makes at a point is the point's rows of the reference's result. -/
theorem made_at (c : Dev nD) (t : Fin (cfgM m).N) (r : Fin 512) (j : Fin 2048) : made m c t (ix2 r j) = result m c (ix2 (rowOf (no t) r) j) := by
  refine Eq.trans ?_ (Cert.SharedFfnRefIdeal.Rows.result_at (X m c) (Wgu m c) (Wd m c) (rowOf (no t) r) j).symm
  refine (pay_at _ _ _ r j).trans ?_
  have e0 : (fun d => (iblk m c 0 t : Vec Ideal S512x2048 .f32) (ix2 r d)) = fun d => X m c (ix2 (rowOf (no t) r) d) := funext fun d => xblk_at m c t r d
  have e1 : (fun d e => (iblk m c 1 t : Vec Ideal S1x2048x1024 .bf16) (ix3 0 d e)) = fun d e => Wgu m c (ix2 d e) :=
    funext fun d => funext fun e => gublk_at m c t d e
  have e2 : (fun k j => (iblk m c 2 t : Vec Ideal S1x512x2048 .bf16) (ix3 0 k j)) = fun k j => Wd m c (ix2 k j) :=
    funext fun k => funext fun j => downblk_at m c t k j
  rw [e0, e1, e2]

/-- A point's block of the result: the point's rows. -/
theorem out_emb (t : Fin (cfgM m).N) (r : Fin 512) (j : Fin 2048) : (((cfgM m).win 3).blk t).view.emb (ix2 r j) = ix2 (rowOf (no t) r) j := by
  have h0 := ((cfgM m).win 3).rect_emb_val t (ix2 r j) (0 : Fin 2)
  have h1 := ((cfgM m).win 3).rect_emb_val t (ix2 r j) (1 : Fin 2)
  rw [out_index] at h0 h1
  exact ext2 h0 (h1.trans (by show 0 * 2048 + j.val = j.val; omega))

/-- Every entry of the result is in one block of rows. -/
theorem split (i : S40960x2048.Idx) : ∃ (b : Fin 80) (r : Fin 512) (j : Fin 2048), i = ix2 (rowOf b r) j := by
  have h0 : (i 0).val < 40960 := (i 0).isLt
  refine ⟨⟨(i 0).val / 512, by omega⟩, ⟨(i 0).val % 512, by omega⟩, i 1, ext2 ?_ rfl⟩
  show (i 0).val = (i 0).val / 512 * 512 + (i 0).val % 512
  omega

/-- The result ends as the reference's. -/
theorem final (c : Dev nD) : (dats m 0 c).arrAt 3 (cfgM m).N = result m c := by
  have key := (dats m 0 c).arrAt_forall_of_flushed 3 (fun i x => x = result m c i) (fun t ht y => by
    obtain ⟨r, j, rfl⟩ : ∃ (r : Fin 512) (j : Fin 2048), (show S512x2048.Idx from y) = ix2 r j := ⟨_, _, ext2 rfl rfl⟩
    refine Eq.trans ?_ ((made_at m c t r j).trans (congrArg (result m c) (out_emb m t r j).symm))
    exact congrFun (after3 m c t) (ix2 r j)) (cfgM m).N
  refine funext fun i => ?_
  obtain ⟨b, r, j, rfl⟩ := split i
  let t : Fin (cfgM m).N := (b : Fin 80)
  exact key t _ t.isLt (flush_all m t) (Finset.mem_map.mpr ⟨ix2 r j, Finset.mem_univ _, out_emb m t r j⟩)

end Cert.SharedFfnIdeal.Value

namespace Cert.Proof

/-- The printed program and its idealization have the same text, so what is proved of one holds of the other: their frames, at the bits. -/
theorem same_Shared : (∀ (m : (ℓ : Loc Cert.SharedFfn.nD Cert.SharedFfn.τ Cert.SharedFfn.sig) → Buf (Elt Bits) ℓ) (g : Dev Cert.SharedFfn.nD → PrngReg),
    θ_run (Cert.SharedFfn.defs (F := Bits)) (onTc (τ := Cert.SharedFfn.τ) (Cert.SharedFfn.main (F := Bits))) ⟨m, fun _ => 0, g⟩ (fun r => (∀ c : Dev Cert.SharedFfn.nD,
        r.2.mem ((c.tc : Thread Cert.SharedFfn.nD Cert.SharedFfn.τ).loc Cert.SharedFfn.main_arg0) = m ((c.tc : Thread Cert.SharedFfn.nD Cert.SharedFfn.τ).loc Cert.SharedFfn.main_arg0)
        ∧ r.2.mem ((c.tc : Thread Cert.SharedFfn.nD Cert.SharedFfn.τ).loc Cert.SharedFfn.main_arg1) = m ((c.tc : Thread Cert.SharedFfn.nD Cert.SharedFfn.τ).loc Cert.SharedFfn.main_arg1)
        ∧ r.2.mem ((c.tc : Thread Cert.SharedFfn.nD Cert.SharedFfn.τ).loc Cert.SharedFfn.main_arg2) = m ((c.tc : Thread Cert.SharedFfn.nD Cert.SharedFfn.τ).loc Cert.SharedFfn.main_arg2))
      ∧ r.2.sem = fun _ => 0)) =
  (∀ (m : (ℓ : Loc Cert.SharedFfnIdeal.nD Cert.SharedFfnIdeal.τ Cert.SharedFfnIdeal.sig) → Buf (Elt Bits) ℓ) (g : Dev Cert.SharedFfnIdeal.nD → PrngReg),
    θ_run (Cert.SharedFfnIdeal.defs (F := Bits)) (onTc (τ := Cert.SharedFfnIdeal.τ) (Cert.SharedFfnIdeal.main (F := Bits))) ⟨m, fun _ => 0, g⟩ (fun r => (∀ c : Dev Cert.SharedFfnIdeal.nD,
        r.2.mem ((c.tc : Thread Cert.SharedFfnIdeal.nD Cert.SharedFfnIdeal.τ).loc Cert.SharedFfnIdeal.main_arg0) = m ((c.tc : Thread Cert.SharedFfnIdeal.nD Cert.SharedFfnIdeal.τ).loc Cert.SharedFfnIdeal.main_arg0)
        ∧ r.2.mem ((c.tc : Thread Cert.SharedFfnIdeal.nD Cert.SharedFfnIdeal.τ).loc Cert.SharedFfnIdeal.main_arg1) = m ((c.tc : Thread Cert.SharedFfnIdeal.nD Cert.SharedFfnIdeal.τ).loc Cert.SharedFfnIdeal.main_arg1)
        ∧ r.2.mem ((c.tc : Thread Cert.SharedFfnIdeal.nD Cert.SharedFfnIdeal.τ).loc Cert.SharedFfnIdeal.main_arg2) = m ((c.tc : Thread Cert.SharedFfnIdeal.nD Cert.SharedFfnIdeal.τ).loc Cert.SharedFfnIdeal.main_arg2))
      ∧ r.2.sem = fun _ => 0)) := by sl_kernel_rfl

/-- The shared feed-forward as printed runs and leaves its arguments unchanged. -/
theorem frame_Shared : Cert.quiescent_SharedFfn := fun m g _ => cast same_Shared.symm (Cert.SharedFfnIdeal.Hand.frame (F := Bits)) m g

/-- So does it at the ideal values. -/
theorem frame_SharedIdeal : Cert.quiescent_SharedFfnIdeal := fun m g _ => Cert.SharedFfnIdeal.Hand.frame (F := Ideal) m g

/-- So does its reference. -/
theorem frame_SharedRef : Cert.quiescent_SharedFfnRefIdeal := fun m g _ =>
  (θ_run _ _ _).mono (fun r h => ⟨fun c => (h c).2, sem_eq_zero_of_no_sems rfl r.2⟩) (Cert.SharedFfnRefIdeal.Value.run m g)

/-- The shared feed-forward and its reference end with the same rows. -/
theorem value_Shared : Cert.algebraic_SharedFfnIdeal_SharedFfnRefIdeal := by
  intro m g m' g' _ hagree
  refine ⟨fun c => Cert.SharedFfnIdeal.Value.result m c, ?_, ?_⟩
  · exact (θ_run _ _ _).mono (fun r h c => ⟨((h.1 c).1 3).trans (Cert.SharedFfnIdeal.Value.final m c), h.2.1 c⟩)
      (θ_run_and (Cert.SharedFfnIdeal.Hand.run_main m g) (Cert.SharedFfnIdeal.Hand.frame m g))
  · refine (θ_run _ _ _).mono (fun r h c => ⟨(h c).1.trans ?_, (h c).2⟩) (Cert.SharedFfnRefIdeal.Value.run m' g')
    rw [Cert.SharedFfnRefIdeal.Read.val_main_v5_eq]
    exact congr (congr (congrArg _ (hagree c).1) (hagree c).2.1) (hagree c).2.2

end Cert.Proof

end
-- ==== Proof.RetSum.lean ====
/- One direction of retention as arithmetic on real numbers: the state carried from chunk to chunk, and the sum over all
   earlier rows it stands for. -/
module

public import proofs.«01_k».proof.Proof.AttnPre

@[expose] public section

noncomputable section

namespace Cert.Ret

open Idealize.ShloMosaic

/-- The state after the first `n` rows of a sequence: every earlier row's product of key and value, decayed by its distance
    from the last of them. -/
def state (g : ℝ) (K V : ℕ → ℝ) (n : ℕ) : ℝ := ∑ p ∈ Finset.range n, K p * g ^ (n - 1 - p) * V p

/-- The state after 256 more rows: the old one decayed by 256 steps, and the new rows' products. -/
theorem state_add (g : ℝ) (K V : ℕ → ℝ) (n : ℕ) :
    state g K V (n + 256) = state g K V n * g ^ 256 + ∑ k ∈ Finset.range 256, K (n + k) * g ^ (255 - k) * V (n + k) := by
  rw [state, Finset.sum_range_add, state, Finset.sum_mul]
  congr 1
  · refine Finset.sum_congr rfl fun p hp => ?_
    have hp := Finset.mem_range.1 hp
    rw [show n + 256 - 1 - p = (n - 1 - p) + 256 by omega, pow_add]
    ring
  · refine Finset.sum_congr rfl fun k hk => ?_
    have hk := Finset.mem_range.1 hk
    rw [show n + 256 - 1 - (n + k) = 255 - k by omega]

/-- The decay between two rows of one sequence: zero where the second comes after the first. -/
def decay (g : ℝ) (i j : ℕ) : ℝ := if j ≤ i then g ^ (i - j) else 0

/-- The decay from a strictly earlier row: zero on the row itself and on every later one. -/
def strict (g : ℝ) (i j : ℕ) : ℝ := if j < i then g ^ (i - j) else 0

/-- A weight of pairs of rows that decays by `g` a step, knows no later row, and depends on the distance alone. -/
structure Weight (g : ℝ) (w : ℕ → ℕ → ℝ) : Prop where
  earlier : ∀ i j, j < i → w i j = g ^ (i - j)
  later : ∀ i j, i < j → w i j = 0
  shift : ∀ a i j, w (a + i) (a + j) = w i j

theorem decay_weight (g : ℝ) : Weight g (decay g) where
  earlier i j h := if_pos h.le
  later i j h := if_neg h.not_ge
  shift a i j := by simp only [decay, Nat.add_le_add_iff_left, Nat.add_sub_add_left]

theorem strict_weight (g : ℝ) : Weight g (strict g) where
  earlier i j h := if_pos h
  later i j h := if_neg h.le.not_gt
  shift a i j := by simp only [strict, Nat.add_lt_add_iff_left, Nat.add_sub_add_left]

/-- A row's result over its whole sequence is its own chunk's part and what the state before the chunk gives. -/
theorem row_eq {D : ℕ} {g : ℝ} {w : ℕ → ℕ → ℝ} (hw : Weight g w) (q : Fin D → ℝ) (K : Fin D → ℕ → ℝ) (V : ℕ → ℝ) (S L r : ℕ) (hr : r < 256)
    (hS : L + 256 ≤ S) :
    ∑ p ∈ Finset.range S, (∑ d, q d * K d p) * w (L + r) p * V p
      = ∑ k ∈ Finset.range 256, (∑ d, q d * K d (L + k)) * w r k * V (L + k) + (∑ d, q d * state g (K d) V L) * g ^ (r + 1) := by
  obtain ⟨R, rfl⟩ : ∃ R, S = L + 256 + R := ⟨S - (L + 256), by omega⟩
  rw [Finset.sum_range_add, Finset.sum_range_add]
  have h₀ : ∑ x ∈ Finset.range R, (∑ d, q d * K d (L + 256 + x)) * w (L + r) (L + 256 + x) * V (L + 256 + x) = 0 :=
    Finset.sum_eq_zero fun x _ => by rw [hw.later _ _ (by omega)]; ring
  have h₂ : ∑ x ∈ Finset.range L, (∑ d, q d * K d x) * w (L + r) x * V x = (∑ d, q d * state g (K d) V L) * g ^ (r + 1) := by
    rw [Finset.sum_mul]
    simp only [state, Finset.sum_mul, Finset.mul_sum]
    rw [Finset.sum_comm]
    refine Finset.sum_congr rfl fun d _ => Finset.sum_congr rfl fun x hx => ?_
    have hx := Finset.mem_range.1 hx
    rw [hw.earlier _ _ (by omega), show L + r - x = (L - 1 - x) + (r + 1) by omega, pow_add]
    ring
  rw [h₀, h₂]
  simp only [hw.shift]
  ring

/-- The decay per row, of its logarithm below the top: a real number whose powers are the exponentials of the multiples. -/
theorem exp_mul {l : EReal} (h : l < ⊤) : ∃ g : ℝ, ∀ n : ℕ, Ideal.exp (((n : ℝ) : EReal) * l) = ((g ^ n : ℝ) : EReal) := by
  induction l using EReal.rec with
  | bot =>
    refine ⟨0, fun n => ?_⟩
    rcases Nat.eq_zero_or_pos n with rfl | hn
    · rw [Nat.cast_zero, EReal.coe_zero, zero_mul, pow_zero, ← EReal.coe_zero, Ideal.exp_coe, Real.exp_zero]
    · rw [EReal.coe_mul_bot_of_pos (by exact_mod_cast hn), zero_pow hn.ne']
      rfl
  | top => exact absurd h (lt_irrefl _)
  | coe r =>
    refine ⟨Real.exp r, fun n => ?_⟩
    rw [← EReal.coe_mul, Ideal.exp_coe, Real.exp_nat_mul]

/-- The heads' decays, one real number a head. -/
theorem decays (l : Shape.Idx ⟨1, ![8]⟩ → EReal) (hl : ∀ i, l i < ⊤) :
    ∃ g : ℕ → ℝ, ∀ (h : Fin 8) (n : ℕ), Ideal.exp (((n : ℝ) : EReal) * l (ix1 h)) = ((g h.val ^ n : ℝ) : EReal) := by
  have hG : ∀ n : ℕ, ∃ G : ℝ, ∀ hn : n < 8, ∀ k : ℕ, Ideal.exp (((k : ℝ) : EReal) * l (ix1 ⟨n, hn⟩)) = ((G ^ k : ℝ) : EReal) := fun n => by
    by_cases hn : n < 8
    · obtain ⟨G, hG⟩ := exp_mul (hl (ix1 ⟨n, hn⟩))
      exact ⟨G, fun _ => hG⟩
    · exact ⟨0, fun h => absurd h hn⟩
  choose g hg using hG
  exact ⟨g, fun h n => hg h.val h.isLt n⟩

/-- A finite sum of real numbers over an initial segment, taken in the extended reals. -/
theorem coe_range (n : ℕ) (f : ℕ → ℝ) : (∑ k : Fin n, ((f k : ℝ) : EReal)) = ((∑ k ∈ Finset.range n, f k : ℝ) : EReal) := by
  rw [Cert.Attn.coe_sum fun k : Fin n => f k, Finset.sum_range]

/-- A small number read back from its word, as an integer. -/
theorem word_int {n : ℕ} (h : n < 2 ^ 31) : (BitVec.ofNat 32 n).toInt = (n : ℤ) := by
  rw [BitVec.toInt_eq_toNat_of_lt (by simp; omega), BitVec.toNat_ofNat, Nat.mod_eq_of_lt (by omega)]

/-- A small number read back from its word. -/
theorem word {n : ℕ} (h : n < 2 ^ 31) : (FloatOps.sitofp (F := Ideal) .f32 (BitVec.ofNat 32 n) : EReal) = ((n : ℝ) : EReal) := by
  change (((BitVec.ofNat 32 n).toInt : ℝ) : EReal) = _
  rw [word_int h]
  rfl

/-- The new state, from the old one and a chunk's rows taken in any order. -/
theorem chunk_state (σ : Equiv.Perm (Fin 256)) {k v kd : Fin 256 → EReal} {s cd : EReal} {g : ℝ} {K V : ℕ → ℝ} {L : ℕ}
    (hk : ∀ r, k (σ r) = (K (L + r.val) : EReal)) (hv : ∀ r, v (σ r) = (V (L + r.val) : EReal))
    (hkd : ∀ r : Fin 256, kd (σ r) = ((g ^ (255 - r.val) : ℝ) : EReal)) (hs : s = (state g K V L : EReal)) (hcd : cd = ((g ^ 256 : ℝ) : EReal)) :
    s * cd + ∑ r, k r * kd r * v r = (state g K V (L + 256) : EReal) := by
  rw [← Equiv.sum_comp σ]
  simp only [hk, hv, hs, hkd, hcd, ← EReal.coe_mul]
  rw [coe_range 256 fun r => K (L + r) * g ^ (255 - r) * V (L + r), ← EReal.coe_add, ← state_add]

/-- A row's result, from the state before its chunk and the chunk's rows taken in any order. -/
theorem chunk_out (σ : Equiv.Perm (Fin 256)) {q s : Fin 256 → EReal} {k : Fin 256 → Fin 256 → EReal} {v dm : Fin 256 → EReal} {qd : EReal} {g : ℝ}
    {w : ℕ → ℕ → ℝ} (hw : Weight g w) {Q : Fin 256 → ℝ} {K : Fin 256 → ℕ → ℝ} {V : ℕ → ℝ} {L S : ℕ} (r : Fin 256)
    (hq : ∀ d, q d = (Q d : EReal)) (hk : ∀ j d, k (σ j) d = (K d (L + j.val) : EReal)) (hv : ∀ j, v (σ j) = (V (L + j.val) : EReal))
    (hs : ∀ d, s d = (state g (K d) V L : EReal)) (hdm : ∀ j : Fin 256, dm (σ j) = (w r.val j.val : EReal))
    (hqd : qd = ((g ^ (r.val + 1) : ℝ) : EReal)) (hS : L + 256 ≤ S) :
    (∑ j, (∑ d, q d * k j d) * dm j * v j) + (∑ d, q d * s d) * qd
      = ((∑ p ∈ Finset.range S, (∑ d, Q d * K d p) * w (L + r.val) p * V p : ℝ) : EReal) := by
  rw [← Equiv.sum_comp σ]
  simp only [hq, hk, hv, hs, hdm, hqd, ← EReal.coe_mul, Cert.Attn.coe_sum]
  rw [row_eq hw Q K V S L r.val r.isLt hS, ← EReal.coe_add, Finset.sum_range]

/-- The decay between two rows, from the difference of their numbers. -/
theorem pair (l : EReal) {i j : ℕ} (hi : i < 2 ^ 31) (hj : j < 2 ^ 31) (y z : EReal) :
    (if 0 ≤ (FloatOps.sitofp (F := Ideal) .f32 (BitVec.ofNat 32 i) - FloatOps.sitofp (F := Ideal) .f32 (BitVec.ofNat 32 j) : EReal) then
      Ideal.exp ((if 0 ≤ (FloatOps.sitofp (F := Ideal) .f32 (BitVec.ofNat 32 i) - FloatOps.sitofp (F := Ideal) .f32 (BitVec.ofNat 32 j) : EReal) then
        (FloatOps.sitofp (F := Ideal) .f32 (BitVec.ofNat 32 i) - FloatOps.sitofp (F := Ideal) .f32 (BitVec.ofNat 32 j) : EReal) else y) * l)
      else z) = if j ≤ i then Ideal.exp ((((i - j : ℕ) : ℝ) : EReal) * l) else z := by
  rw [word hi, word hj, ← EReal.coe_sub]
  by_cases h : j ≤ i
  · have h' : (0 : EReal) ≤ (((i : ℝ) - (j : ℝ) : ℝ) : EReal) := EReal.coe_nonneg.mpr (sub_nonneg.mpr (Nat.cast_le.mpr h))
    rw [if_pos h', if_pos h', if_pos h, Nat.cast_sub h]
  · have h' : ¬ (0 : EReal) ≤ (((i : ℝ) - (j : ℝ) : ℝ) : EReal) := fun e => h (Nat.cast_le.mp (sub_nonneg.mp (EReal.coe_nonneg.mp e)))
    rw [if_neg h', if_neg h]

/-- The decay from a strictly earlier row, from the difference of their numbers. -/
theorem pair_strict (l : EReal) {i j : ℕ} (hi : i < 2 ^ 31) (hj : j < 2 ^ 31) (y z : EReal) :
    (if 0 < (FloatOps.sitofp (F := Ideal) .f32 (BitVec.ofNat 32 i) - FloatOps.sitofp (F := Ideal) .f32 (BitVec.ofNat 32 j) : EReal) then
      Ideal.exp ((if 0 < (FloatOps.sitofp (F := Ideal) .f32 (BitVec.ofNat 32 i) - FloatOps.sitofp (F := Ideal) .f32 (BitVec.ofNat 32 j) : EReal) then
        (FloatOps.sitofp (F := Ideal) .f32 (BitVec.ofNat 32 i) - FloatOps.sitofp (F := Ideal) .f32 (BitVec.ofNat 32 j) : EReal) else y) * l)
      else z) = if j < i then Ideal.exp ((((i - j : ℕ) : ℝ) : EReal) * l) else z := by
  rw [word hi, word hj, ← EReal.coe_sub]
  by_cases h : j < i
  · have h' : (0 : EReal) < (((i : ℝ) - (j : ℝ) : ℝ) : EReal) := EReal.coe_pos.mpr (sub_pos.mpr (Nat.cast_lt.mpr h))
    rw [if_pos h', if_pos h', if_pos h, Nat.cast_sub h.le]
  · have h' : ¬ (0 : EReal) < (((i : ℝ) - (j : ℝ) : ℝ) : EReal) := fun e => h (Nat.cast_lt.mp (sub_pos.mp (EReal.coe_pos.mp e)))
    rw [if_neg h', if_neg h]

/-- A row's weighted sum over a sequence, as the references write it. -/
theorem ref_row {S : ℕ} {w : ℕ → ℝ} {W : Fin S → EReal} (hW : ∀ k, W k = (w k.val : EReal)) (Q : Fin 256 → ℝ) (K : Fin 256 → ℕ → ℝ) (V : ℕ → ℝ) :
    (∑ k : Fin S, (V k.val : EReal) * ((∑ d, (Q d : EReal) * (K d k.val : EReal)) * W k))
      = ((∑ p ∈ Finset.range S, (∑ d, Q d * K d p) * w p * V p : ℝ) : EReal) := by
  simp only [hW, ← EReal.coe_mul, Cert.Attn.coe_sum]
  rw [Finset.sum_range]
  exact congrArg _ (Finset.sum_congr rfl fun k _ => mul_comm _ _)

/-- The decay of a pair of rows as a power. -/
theorem decay_eq {l : EReal} {g : ℝ} (hg : ∀ n : ℕ, Ideal.exp (((n : ℝ) : EReal) * l) = ((g ^ n : ℝ) : EReal)) (i j : ℕ) :
    (if j ≤ i then Ideal.exp ((((i - j : ℕ) : ℝ) : EReal) * l) else 0) = (decay g i j : EReal) := by
  by_cases h : j ≤ i
  · rw [if_pos h, hg, decay, if_pos h]
  · rw [if_neg h, decay, if_neg h, EReal.coe_zero]

/-- The decay from a strictly earlier row as a power. -/
theorem strict_eq {l : EReal} {g : ℝ} (hg : ∀ n : ℕ, Ideal.exp (((n : ℝ) : EReal) * l) = ((g ^ n : ℝ) : EReal)) (i j : ℕ) :
    (if j < i then Ideal.exp ((((i - j : ℕ) : ℝ) : EReal) * l) else 0) = (strict g i j : EReal) := by
  by_cases h : j < i
  · rw [if_pos h, hg, strict, if_pos h]
  · rw [if_neg h, strict, if_neg h, EReal.coe_zero]

end Cert.Ret

end
-- ==== Proof.RetPay.lean ====
/- The values the ninth launch computes at a grid point: a chunk's result, the state after it, and the decays within it. -/
module

public import proofs.«01_k».proof.Proof.RetSum
public import proofs.«01_k».proof.Proof.Gen.RetFwdIdeal
public import proofs.«01_k».proof.Proof.Gen.RetFwdIdeal.Skeleton
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RetFwdIdeal.Value
open Cert.RetFwdIdeal Cert.RetFwdIdeal.Gen

/-- A chunk's result: its own rows' part, and what the state before it gives. -/
theorem pay7_at (q k : Vec Ideal S256x256 .bf16) (v : Vec Ideal S256x512 .bf16) (dm : Vec Ideal S256x256 .f32) (s : Vec Ideal S256x512 .f32)
    (qd : Vec Ideal S256x1 .f32) (r : Fin 256) (e : Fin 512) :
    k0_pay7 (F := Ideal) q k v dm s qd (ix2 r e)
      = (∑ k', (∑ d, q (ix2 r d) * k (ix2 k' d)) * dm (ix2 r k') * v (ix2 k' e)) + (∑ d, q (ix2 r d) * s (ix2 d e)) * qd (ix2 r 0) := by
  pointwise [k0_pay7]

/-- The state after a chunk. -/
theorem pay1_at (k : Vec Ideal S256x256 .bf16) (v : Vec Ideal S256x512 .bf16) (s : Vec Ideal S256x512 .f32)
    (kd : Vec Ideal S256x1 .f32) (cd : Elt Ideal .f32) (d : Fin 256) (e : Fin 512) :
    k0_pay1 (F := Ideal) v s (k0_pay8 k) kd cd (ix2 d e)
      = s (ix2 d e) * cd + ∑ k', k (ix2 k' d) * kd (ix2 k' 0) * v (ix2 k' e) := by
  pointwise [k0_pay1, k0_pay8]

/-- The state a sequence starts from. -/
theorem pay6_at (d : Fin 256) (e : Fin 512) : k0_pay6 (F := Ideal) (ix2 d e) = 0 := by
  pointwise [k0_pay6]

/-- The decays between the rows of a chunk. -/
theorem pay2_at (l : Elt Ideal .f32) (i j : Fin 256) :
    k0_pay2 (F := Ideal) l (ix2 i j) = if j.val ≤ i.val then Ideal.exp ((((i.val - j.val : ℕ) : ℝ) : EReal) * l) else 0 := by
  have ec : IntOp.cmpi .sge (BitVec.ofNat 32 i.val) (BitVec.ofNat 32 j.val) = BitVec.ofBool (decide (j.val ≤ i.val)) := by
    change BitVec.ofBool (BitVec.sle (BitVec.ofNat 32 j.val) (BitVec.ofNat 32 i.val)) = _
    rw [BitVec.sle_eq_decide, Cert.Ret.word_int (n := i.val) (by omega), Cert.Ret.word_int (n := j.val) (by omega)]
    simp only [Nat.cast_le]
  pointwise [k0_pay2]
  rw [ec]
  by_cases h : j.val ≤ i.val
  · have es : IntOp.subi (BitVec.ofNat 32 i.val) (BitVec.ofNat 32 j.val) = BitVec.ofNat 32 (i.val - j.val) := by
      apply BitVec.eq_of_toNat_eq
      simp [IntOp.subi]
      omega
    simp only [h, decide_true, es, Cert.Ret.word (n := i.val - j.val) (by omega), if_true]
    rfl
  · simp only [h, decide_false, if_false]
    rfl

/-- The decay from the chunk's start to a row. -/
theorem pay4_at (l : Elt Ideal .f32) (i : Fin 256) :
    k0_pay4 (F := Ideal) l (ix2 i 0) = Ideal.exp ((((i.val + 1 : ℕ) : ℝ) : EReal) * l) := by
  pointwise [k0_pay4, k0_pay3]
  rw [Cert.Ret.word (by omega), ← EReal.coe_one, ← EReal.coe_add, Nat.cast_add, Nat.cast_one]

/-- The decay from a row to the chunk's end. -/
theorem pay5_at (l : Elt Ideal .f32) (i : Fin 256) :
    k0_pay5 (F := Ideal) l (ix2 i 0) = Ideal.exp ((((255 - i.val : ℕ) : ℝ) : EReal) * l) := by
  have ew : Ideal.ofBits .f32 1132396544#32 = ((255 : ℝ) : EReal) := by
    simp [Ideal.ofBits, Ideal.ieee]
    rw [← EReal.coe_mul]
    norm_num
  pointwise [k0_pay5, k0_pay3]
  rw [Cert.Ret.word (by omega), ew, ← EReal.coe_sub, Nat.cast_sub (by omega)]
  norm_num

end Cert.RetFwdIdeal.Value

end
-- ==== Proof.RetStep.lean ====
/- The ninth launch at a grid point: which entries of the arguments its windows hold, and what the point leaves behind. -/
module

public import proofs.«01_k».proof.Proof.RetPay
public import proofs.«01_k».proof.Proof.Gen.RetFwdIdeal
public import proofs.«01_k».proof.Proof.Gen.RetFwdIdeal.Skeleton
public import proofs.«01_k».proof.Proof.Gen.RetFwdIdeal.Launch
public import proofs.«01_k».proof.Proof.Gen.RetFwdIdeal.Frame
public import proofs.«01_k».proof.Proof.Gen.RetFwdIdeal.Value
public import Idealize.ShloMosaic.Lib.Pipeline.ValueKit
public import Idealize.ShloMosaic.Lib.Pipeline.ReadBack
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.RetFwdIdeal.Value
open Cert.RetFwdIdeal Cert.RetFwdIdeal.Gen

variable (m : (ℓ : Loc nD τ sig) → Buf (Elt Ideal) ℓ)

/-- The number of grid points. -/
theorem lt_N (t : Fin cfg0.N) : t.val < 1280 := t.isLt

/-- Where each window stands at a grid point. -/
theorem idx_val : ∀ t : Fin cfg0.N, win0_0.index t = ![0]
    ∧ win0_1.index t = ![0]
    ∧ win0_2.index t = ![t.val % 160, t.val / 160]
    ∧ win0_3.index t = ![t.val % 160, 8 + t.val / 160]
    ∧ win0_4.index t = ![t.val % 160, 8 + t.val / 160]
    ∧ win0_5.index t = ![t.val % 160, t.val / 160] :=
  (by decide +kernel : ∀ t : Fin grid0.N, _)

/-- The queries. -/
theorem q_at (c : Dev nD) (t : Fin cfg0.N) (r d : Fin 256) :
    (iblk m c 2 t : Vec Ideal S256x256 .bf16) (ix2 r d) = m ((c : Thread nD τ).loc main_arg0)
      (ix2 ⟨t.val % 160 * 256 + r, by omega⟩ ⟨t.val / 160 * 256 + d, by have := lt_N t; omega⟩ : S40960x12288.Idx) := by
  blk_point [iblk, V, idx_val t]

/-- The keys. -/
theorem k_at (c : Dev nD) (t : Fin cfg0.N) (r d : Fin 256) :
    (iblk m c 3 t : Vec Ideal S256x256 .bf16) (ix2 r d) = m ((c : Thread nD τ).loc main_arg0)
      (ix2 ⟨t.val % 160 * 256 + r, by omega⟩ ⟨2048 + (t.val / 160 * 256 + d), by have := lt_N t; omega⟩ : S40960x12288.Idx) := by
  blk_point [iblk, V, idx_val t]

/-- The values. -/
theorem v_at (c : Dev nD) (t : Fin cfg0.N) (r : Fin 256) (e : Fin 512) :
    (iblk m c 4 t : Vec Ideal S256x512 .bf16) (ix2 r e) = m ((c : Thread nD τ).loc main_arg0)
      (ix2 ⟨t.val % 160 * 256 + r, by omega⟩ ⟨4096 + (t.val / 160 * 512 + e), by have := lt_N t; omega⟩ : S40960x12288.Idx) := by
  blk_point [iblk, V, idx_val t]

/-- The head a grid point works on, as the place its two words are read at. -/
theorem off_val : ∀ t : Fin cfg0.N, k0_off1 (grid0.coords t) = ![t.val / 160] :=
  (by decide +kernel : ∀ t : Fin grid0.N, _)

/-- The word of the decay's logarithm. -/
theorem lg_word (c : Dev nD) (t : Fin cfg0.N) {o : Fin 1 → ℕ} (ho : o = ![t.val / 160]) (h) (h') :
    View.ld (iblk m c 0 t) (Rect.unit o ![1] h) (Shape.Idx.first h') = m ((c : Thread nD τ).loc main_arg1) (ix1 ⟨t.val / 160, by have := lt_N t; omega⟩ : S8.Idx) := by
  subst ho
  blk_point [iblk, V, idx_val t]

/-- The word of a whole chunk's decay. -/
theorem cd_word (c : Dev nD) (t : Fin cfg0.N) {o : Fin 1 → ℕ} (ho : o = ![t.val / 160]) (h) (h') :
    View.ld (iblk m c 1 t) (Rect.unit o ![1] h) (Shape.Idx.first h') = (V m c main_v2 : FVec Ideal S8 .f32) (ix1 ⟨t.val / 160, by have := lt_N t; omega⟩ : S8.Idx) := by
  subst ho
  blk_point [iblk, idx_val t]

/-- A whole chunk's decay, as the launch computes it. -/
theorem cd_at (c : Dev nD) (h : Fin 8) : (V m c main_v2 : FVec Ideal S8 .f32) (ix1 h)
      = Ideal.exp ((((256 : ℕ) : ℝ) : EReal) * m ((c : Thread nD τ).loc main_arg1) (ix1 h : S8.Idx)) := by
  entry_read
  pointwise []
  have ew : Ideal.ofBits .f32 1132462080#32 = (((256 : ℕ) : ℝ) : EReal) := by
    simp [Ideal.ofBits, Ideal.ieee]
    rw [← EReal.coe_mul]
    norm_num
  rw [ew]

/-- What a grid point leaves behind, of the state and the decays it works with: its result, the state after it, and the decays. -/
def step (c : Dev nD) (t : Fin cfg0.N) (s : Vec Ideal S256x512 .f32) (dm : Vec Ideal S256x256 .f32) (qd kd : Vec Ideal S256x1 .f32) :
    Vec Ideal S256x512 .f32 × Vec Ideal S256x512 .f32 × Vec Ideal S256x256 .f32 × Vec Ideal S256x1 .f32 × Vec Ideal S256x1 .f32 :=
  (k0_pay7 (iblk m c 2 t) (iblk m c 3 t) (iblk m c 4 t) dm s qd,
    k0_pay1 (iblk m c 4 t) s (k0_pay8 (iblk m c 3 t)) kd ((V m c main_v2 : FVec Ideal S8 .f32) (ix1 ⟨t.val / 160, by have := lt_N t; omega⟩ : S8.Idx)), dm, qd, kd)

/-- A head's first point computes the decays and starts from no state. -/
theorem step_A (c : Dev nD) (t : Fin cfg0.N) (h0 : t.val % 160 = 0)
    (h1 : t.val % 160 = 0 ∨ t.val % 160 = 8 ∨ t.val % 160 = 16 ∨ t.val % 160 = 24 ∨ t.val % 160 = 32 ∨ t.val % 160 = 48 ∨ t.val % 160 = 64 ∨ t.val % 160 = 80 ∨ t.val % 160 = 96 ∨ t.val % 160 = 112
      ∨ t.val % 160 = 128 ∨ t.val % 160 = 144) :
    outsAt0 m c t.val t.isLt = step m c t (k0_pay6 (F := Ideal))
      (k0_pay2 (F := Ideal) (m ((c : Thread nD τ).loc main_arg1) (ix1 ⟨t.val / 160, by have := lt_N t; omega⟩ : S8.Idx)))
      (k0_pay4 (F := Ideal) (m ((c : Thread nD τ).loc main_arg1) (ix1 ⟨t.val / 160, by have := lt_N t; omega⟩ : S8.Idx)))
      (k0_pay5 (F := Ideal) (m ((c : Thread nD τ).loc main_arg1) (ix1 ⟨t.val / 160, by have := lt_N t; omega⟩ : S8.Idx))) := by
  rw [outsAt0_A m c t h0 h1]
  unfold step out0_A_5 sout0_A_0 sout0_A_1 sout0_A_2 sout0_A_3
  frame_out
  rw [lg_word m c t (off_val t), cd_word m c t (off_val t)]

/-- The point before. -/
abbrev before (c : Dev nD) (t : Fin cfg0.N) := outsAt0 m c (t.val - 1) (Nat.lt_of_le_of_lt (Nat.sub_le _ _) t.isLt)

/-- A sequence's first point keeps the decays and starts from no state. -/
theorem step_C (c : Dev nD) (t : Fin cfg0.N) (h0 : ¬ t.val % 160 = 0)
    (h1 : t.val % 160 = 0 ∨ t.val % 160 = 8 ∨ t.val % 160 = 16 ∨ t.val % 160 = 24 ∨ t.val % 160 = 32 ∨ t.val % 160 = 48 ∨ t.val % 160 = 64 ∨ t.val % 160 = 80 ∨ t.val % 160 = 96 ∨ t.val % 160 = 112
      ∨ t.val % 160 = 128 ∨ t.val % 160 = 144) :
    outsAt0 m c t.val t.isLt = step m c t (k0_pay6 (F := Ideal)) (before m c t).2.2.1 (before m c t).2.2.2.1 (before m c t).2.2.2.2 := by
  rw [outsAt0_C m c t h0 h1]
  unfold step out0_C_5 sout0_C_0 sout0_C_1 sout0_C_2 sout0_C_3
  frame_out
  rw [cd_word m c t (off_val t)]
  simp only [read_unread_whole]

/-- Every other point goes on from the one before. -/
theorem step_B (c : Dev nD) (t : Fin cfg0.N) (h0 : ¬ t.val % 160 = 0)
    (h1 : ¬ (t.val % 160 = 0 ∨ t.val % 160 = 8 ∨ t.val % 160 = 16 ∨ t.val % 160 = 24 ∨ t.val % 160 = 32 ∨ t.val % 160 = 48 ∨ t.val % 160 = 64 ∨ t.val % 160 = 80 ∨ t.val % 160 = 96 ∨ t.val % 160 = 112
      ∨ t.val % 160 = 128 ∨ t.val % 160 = 144)) :
    outsAt0 m c t.val t.isLt = step m c t (before m c t).2.1 (before m c t).2.2.1 (before m c t).2.2.2.1 (before m c t).2.2.2.2 := by
  rw [outsAt0_B m c t h0 h1]
  unfold step out0_B_5 sout0_B_0 sout0_B_1 sout0_B_2 sout0_B_3
  frame_out
  rw [cd_word m c t (off_val t)]
  simp only [read_unread_whole]

end Cert.RetFwdIdeal.Value

end
-- ==== Proof.RetRef.lean ====
/- The ninth launch's reference, entry by entry: every earlier row of the sequence, weighed by its product with the query and by
   the decay. -/
module

public import proofs.«01_k».proof.Proof.RetSum
public import proofs.«01_k».proof.Proof.Gen.RetFwdRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RetFwdRefIdeal.Pure
open Cert.RetFwdRefIdeal Cert.RetFwdRefIdeal.Gen Cert.RetFwdRefIdeal.Read

theorem q_at (x : FVec Ideal S40960x12288 .bf16) (b : Fin 4) (n : Fin 2048) (h : Fin 8) (d : Fin 256) :
    val_main_v3 (F := Ideal) x (ix4 b n h d : S4x2048x8x256.Idx) = x (ix2 ⟨b * 2048 + n, by omega⟩ ⟨h * 256 + d, by omega⟩) := by
  unfold val_main_v3 val_main_v2 val_main_v1 val_main_v0
  pointwise []

theorem v32_at (x : FVec Ideal S40960x12288 .bf16) (l : FVec Ideal S8 .f32) (i : Fin 8192) (j : Fin 4096) :
    val_main_v32 (F := Ideal) x l (ix2 i j : S8192x4096.Idx) =
      ∑ k, val_main_v9 (F := Ideal) x (ix4 (⟨i / 2048, by omega⟩ : Fin 4) k (⟨j / 512, by omega⟩ : Fin 8) (⟨j % 512, by omega⟩ : Fin 512) : S4x2048x8x512.Idx)
        * (val_main_v26 (F := Ideal) x (ix4 (⟨i / 2048, by omega⟩ : Fin 4) (⟨j / 512, by omega⟩ : Fin 8) (⟨i % 2048, by omega⟩ : Fin 2048) k : S4x8x2048x2048.Idx)
          * val_main_v25 (F := Ideal) l (ix3 (⟨j / 512, by omega⟩ : Fin 8) (⟨i % 2048, by omega⟩ : Fin 2048) k : S8x2048x2048.Idx)) := by
  unfold val_main_v32 val_main_v31 val_main_v30 val_main_v29 val_main_v28 val_main_v27
  generalize val_main_v26 (F := Ideal) x = y
  generalize val_main_v25 (F := Ideal) l = z
  generalize val_main_v9 (F := Ideal) x = u
  pointwise []

theorem v26_at (x : FVec Ideal S40960x12288 .bf16) (b : Fin 4) (h : Fin 8) (n k : Fin 2048) :
    val_main_v26 (F := Ideal) x (ix4 b h n k : S4x8x2048x2048.Idx) = ∑ d : Fin 256, x (ix2 ⟨b * 2048 + n, by omega⟩ ⟨h * 256 + d, by omega⟩)
      * x (ix2 ⟨b * 2048 + k, by omega⟩ ⟨2048 + (h * 256 + d), by omega⟩) := by
  unfold val_main_v26 val_main_v3 val_main_v2 val_main_v1 val_main_v6 val_main_v5 val_main_v4 val_main_v0
  pointwise []

/-- The decay between two rows of a prompt. -/
theorem v25_at (l : FVec Ideal S8 .f32) (h : Fin 8) (n k : Fin 2048) :
    val_main_v25 (F := Ideal) l (ix3 h n k : S8x2048x2048.Idx) = if k.val ≤ n.val then Ideal.exp ((((n.val - k.val : ℕ) : ℝ) : EReal) * l (ix1 h)) else 0 := by
  unfold val_main_v25 val_main_call1_v1 val_main_v24 val_main_v23 val_main_v22 val_main_v21 val_main_v20 val_main_v19 val_main_v18
    val_main_v17 val_main_v16 val_main_v15 val_main_v14 val_main_v13 val_main_v12 val_main_v11 val_main_v10 val_main_cst
    val_main_call0_v1 val_main_call0_v0 val_main_cst_0 val_main_call1_v2 val_main_call1_v0 val_main_cst_1
  pointwise []
  refine (Cert.Ret.pair _ (by omega) (by omega) _ _).trans ?_
  rw [show id (constant (F := Ideal) S_ FTy.f32 0#32) ix0 = 0 from Idealize.ShloMosaic.Ideal.ofBits_zero_f32]

/-- The decay between two rows of a sample. -/
theorem v58_at (l : FVec Ideal S8 .f32) (h : Fin 8) (n k : Fin 4096) :
    val_main_v58 (F := Ideal) l (ix3 h n k : S8x4096x4096.Idx) = if k.val ≤ n.val then Ideal.exp ((((n.val - k.val : ℕ) : ℝ) : EReal) * l (ix1 h)) else 0 := by
  unfold val_main_v58 val_main_call3_v1 val_main_v57 val_main_v56 val_main_v55 val_main_v54 val_main_v53 val_main_v52 val_main_v51
    val_main_v50 val_main_v49 val_main_v48 val_main_v47 val_main_v46 val_main_v45 val_main_v44 val_main_v43 val_main_cst_2
    val_main_call2_v1 val_main_call2_v0 val_main_cst_3 val_main_call3_v2 val_main_call3_v0 val_main_cst_4
  pointwise []
  refine (Cert.Ret.pair _ (by omega) (by omega) _ _).trans ?_
  rw [show id (constant (F := Ideal) S_ FTy.f32 0#32) ix0 = 0 from Idealize.ShloMosaic.Ideal.ofBits_zero_f32]

theorem v59_at (x : FVec Ideal S40960x12288 .bf16) (b : Fin 8) (h : Fin 8) (n k : Fin 4096) :
    val_main_v59 (F := Ideal) x (ix4 b h n k : S8x8x4096x4096.Idx) = ∑ d : Fin 256, x (ix2 ⟨8192 + (b * 4096 + n), by omega⟩ ⟨h * 256 + d, by omega⟩)
      * x (ix2 ⟨8192 + (b * 4096 + k), by omega⟩ ⟨2048 + (h * 256 + d), by omega⟩) := by
  unfold val_main_v59 val_main_v36 val_main_v35 val_main_v34 val_main_v39 val_main_v38 val_main_v37 val_main_v33
  pointwise []

theorem v9_at (x : FVec Ideal S40960x12288 .bf16) (b : Fin 4) (k : Fin 2048) (h : Fin 8) (e : Fin 512) :
    val_main_v9 (F := Ideal) x (ix4 b k h e : S4x2048x8x512.Idx) = x (ix2 ⟨b * 2048 + k, by omega⟩ ⟨4096 + (h * 512 + e), by omega⟩) := by
  unfold val_main_v9 val_main_v8 val_main_v7 val_main_v0
  pointwise []

theorem v42_at (x : FVec Ideal S40960x12288 .bf16) (b : Fin 8) (k : Fin 4096) (h : Fin 8) (e : Fin 512) :
    val_main_v42 (F := Ideal) x (ix4 b k h e : S8x4096x8x512.Idx) = x (ix2 ⟨8192 + (b * 4096 + k), by omega⟩ ⟨4096 + (h * 512 + e), by omega⟩) := by
  unfold val_main_v42 val_main_v41 val_main_v40 val_main_v33
  pointwise []

theorem v65_at (x : FVec Ideal S40960x12288 .bf16) (l : FVec Ideal S8 .f32) (i : Fin 32768) (j : Fin 4096) :
    val_main_v65 (F := Ideal) x l (ix2 i j : S32768x4096.Idx) =
      ∑ k, val_main_v42 (F := Ideal) x (ix4 (⟨i / 4096, by omega⟩ : Fin 8) k (⟨j / 512, by omega⟩ : Fin 8) (⟨j % 512, by omega⟩ : Fin 512) : S8x4096x8x512.Idx)
        * (val_main_v59 (F := Ideal) x (ix4 (⟨i / 4096, by omega⟩ : Fin 8) (⟨j / 512, by omega⟩ : Fin 8) (⟨i % 4096, by omega⟩ : Fin 4096) k : S8x8x4096x4096.Idx)
          * val_main_v58 (F := Ideal) l (ix3 (⟨j / 512, by omega⟩ : Fin 8) (⟨i % 4096, by omega⟩ : Fin 4096) k : S8x4096x4096.Idx)) := by
  unfold val_main_v65 val_main_v64 val_main_v63 val_main_v62 val_main_v61 val_main_v60
  generalize val_main_v59 (F := Ideal) x = y
  generalize val_main_v58 (F := Ideal) l = z
  generalize val_main_v42 (F := Ideal) x = u
  pointwise []

theorem v66_lo (x : FVec Ideal S40960x12288 .bf16) (l : FVec Ideal S8 .f32) (i : Fin 40960) (j : Fin 4096) (h : i.val < 8192) :
    val_main_v66 (F := Ideal) x l (ix2 i j : S40960x4096.Idx) = val_main_v32 (F := Ideal) x l (ix2 ⟨i, h⟩ j : S8192x4096.Idx) := by
  unfold val_main_v66
  generalize val_main_v32 (F := Ideal) x l = y
  generalize val_main_v65 (F := Ideal) x l = z
  pointwise []
  rw [dif_pos h]

theorem v66_hi (x : FVec Ideal S40960x12288 .bf16) (l : FVec Ideal S8 .f32) (i : Fin 40960) (j : Fin 4096) (h : ¬ i.val < 8192) :
    val_main_v66 (F := Ideal) x l (ix2 i j : S40960x4096.Idx) = val_main_v65 (F := Ideal) x l (ix2 ⟨i.val - 8192, by omega⟩ j : S32768x4096.Idx) := by
  unfold val_main_v66
  generalize val_main_v32 (F := Ideal) x l = y
  generalize val_main_v65 (F := Ideal) x l = z
  pointwise []
  rw [dif_neg h]

end Cert.RetFwdRefIdeal.Pure
-- ==== Proof.RetReal.lean ====
/- The ninth launch's chunk and its reference's row, both as the same sum of real numbers. -/
module

public import proofs.«01_k».proof.Proof.RetPay
public import proofs.«01_k».proof.Proof.RetRef

@[expose] public section

set_option maxRecDepth 16384

noncomputable section

open Idealize.ShloMosaic Idealize.ShloMosaic.TcCoe Idealize.SL.Sem

namespace Cert.Ret

/-- The projections' entry at a row and a column, where both are in range. -/
def entry (x : Cert.RetFwdIdeal.S40960x12288.Idx → ℝ) (n j : ℕ) : ℝ :=
  if h : n < 40960 ∧ j < 12288 then x (ix2 ⟨n, h.1⟩ ⟨j, h.2⟩) else 0

/-- An entry of the projections is the real number it is. -/
theorem entry_at {A : FVec Ideal Cert.RetFwdIdeal.S40960x12288 .bf16} {x : Cert.RetFwdIdeal.S40960x12288.Idx → ℝ} (hx : ∀ i, A i = (x i : EReal))
    (i : Fin 40960) (j : Fin 12288) : A (ix2 i j) = (entry x i.val j.val : EReal) := by
  rw [hx, entry, dif_pos ⟨i.isLt, j.isLt⟩]

/-- What row `n` of a sequence of `S` rows from row `s` on comes to, in one head and column. -/
def out (x : Cert.RetFwdIdeal.S40960x12288.Idx → ℝ) (g : ℝ) (s S n h e : ℕ) : ℝ :=
  ∑ p ∈ Finset.range S, (∑ d : Fin 256, entry x (s + n) (h * 256 + d.val) * entry x (s + p) (2048 + (h * 256 + d.val))) * decay g n p
    * entry x (s + p) (4096 + (h * 512 + e))

/-- The state after a chunk, from the state before it. -/
theorem next_state {k : Vec Ideal Cert.RetFwdIdeal.S256x256 .bf16} {v : Vec Ideal Cert.RetFwdIdeal.S256x512 .bf16} {s : Vec Ideal Cert.RetFwdIdeal.S256x512 .f32}
    {kd : Vec Ideal Cert.RetFwdIdeal.S256x1 .f32} {cd : Elt Ideal .f32} {g : ℝ} {K : Fin 256 → ℕ → ℝ} {V : Fin 512 → ℕ → ℝ} {L : ℕ}
    (hk : ∀ r d, k (ix2 r d) = (K d (L + r.val) : EReal)) (hv : ∀ r e, v (ix2 r e) = (V e (L + r.val) : EReal))
    (hs : ∀ d e, s (ix2 d e) = (state g (K d) (V e) L : EReal)) (hkd : ∀ r : Fin 256, kd (ix2 r 0) = ((g ^ (255 - r.val) : ℝ) : EReal))
    (hcd : cd = ((g ^ 256 : ℝ) : EReal)) (d : Fin 256) (e : Fin 512) :
    Cert.RetFwdIdeal.Gen.k0_pay1 (F := Ideal) v s (Cert.RetFwdIdeal.Gen.k0_pay8 k) kd cd (ix2 d e) = (state g (K d) (V e) (L + 256) : EReal) := by
  rw [Cert.RetFwdIdeal.Value.pay1_at]
  exact chunk_state (Equiv.refl _) (fun r => hk r d) (fun r => hv r e) hkd (hs d e) hcd

/-- A chunk's result, from the state before it. -/
theorem next_out {q k : Vec Ideal Cert.RetFwdIdeal.S256x256 .bf16} {v : Vec Ideal Cert.RetFwdIdeal.S256x512 .bf16} {s : Vec Ideal Cert.RetFwdIdeal.S256x512 .f32}
    {dm : Vec Ideal Cert.RetFwdIdeal.S256x256 .f32} {qd : Vec Ideal Cert.RetFwdIdeal.S256x1 .f32} {g : ℝ} {Q : Fin 256 → ℕ → ℝ} {K : Fin 256 → ℕ → ℝ}
    {V : Fin 512 → ℕ → ℝ} {L S : ℕ}
    (hq : ∀ r d, q (ix2 r d) = (Q d (L + r.val) : EReal)) (hk : ∀ r d, k (ix2 r d) = (K d (L + r.val) : EReal))
    (hv : ∀ r e, v (ix2 r e) = (V e (L + r.val) : EReal))
    (hs : ∀ d e, s (ix2 d e) = (state g (K d) (V e) L : EReal)) (hdm : ∀ i j : Fin 256, dm (ix2 i j) = (decay g i.val j.val : EReal))
    (hqd : ∀ r : Fin 256, qd (ix2 r 0) = ((g ^ (r.val + 1) : ℝ) : EReal)) (hS : L + 256 ≤ S) (r : Fin 256) (e : Fin 512) :
    Cert.RetFwdIdeal.Gen.k0_pay7 (F := Ideal) q k v dm s qd (ix2 r e)
      = ((∑ p ∈ Finset.range S, (∑ d, Q d (L + r.val) * K d p) * decay g (L + r.val) p * V e p : ℝ) : EReal) := by
  rw [Cert.RetFwdIdeal.Value.pay7_at]
  exact chunk_out (Equiv.refl _) (decay_weight g) r (hq r) hk (fun j => hv j e) (fun d => hs d e) (hdm r) (hqd r) hS

variable {A : FVec Ideal Cert.RetFwdIdeal.S40960x12288 .bf16} {l : FVec Ideal Cert.RetFwdIdeal.S8 .f32} {x : Cert.RetFwdIdeal.S40960x12288.Idx → ℝ} {g : ℕ → ℝ}

/-- The reference's result in a prompt. -/
theorem ref_prompt (hx : ∀ i, A i = (x i : EReal)) (hg : ∀ (h : Fin 8) (n : ℕ), Ideal.exp (((n : ℝ) : EReal) * l (ix1 h)) = ((g h.val ^ n : ℝ) : EReal))
    (i : Fin 40960) (j : Fin 4096) (h : i.val < 8192) :
    Cert.RetFwdRefIdeal.Read.val_main_v66 (F := Ideal) A l (ix2 i j)
      = (out x (g (j.val / 512)) (i.val / 2048 * 2048) 2048 (i.val % 2048) (j.val / 512) (j.val % 512) : EReal) := by
  rw [Cert.RetFwdRefIdeal.Pure.v66_lo _ _ _ _ h, Cert.RetFwdRefIdeal.Pure.v32_at]
  simp only [Cert.RetFwdRefIdeal.Pure.v9_at, Cert.RetFwdRefIdeal.Pure.v26_at, Cert.RetFwdRefIdeal.Pure.v25_at, entry_at hx]
  exact ref_row (fun k => decay_eq (hg ⟨j.val / 512, by omega⟩) _ _) _ (fun d p => entry x (i.val / 2048 * 2048 + p) (2048 + (j.val / 512 * 256 + d.val)))
    (fun p => entry x (i.val / 2048 * 2048 + p) (4096 + (j.val / 512 * 512 + j.val % 512)))

/-- The reference's result in a sample. -/
theorem ref_sample (hx : ∀ i, A i = (x i : EReal)) (hg : ∀ (h : Fin 8) (n : ℕ), Ideal.exp (((n : ℝ) : EReal) * l (ix1 h)) = ((g h.val ^ n : ℝ) : EReal))
    (i : Fin 40960) (j : Fin 4096) (h : ¬ i.val < 8192) :
    Cert.RetFwdRefIdeal.Read.val_main_v66 (F := Ideal) A l (ix2 i j)
      = (out x (g (j.val / 512)) (8192 + (i.val - 8192) / 4096 * 4096) 4096 ((i.val - 8192) % 4096) (j.val / 512) (j.val % 512) : EReal) := by
  rw [Cert.RetFwdRefIdeal.Pure.v66_hi _ _ _ _ h, Cert.RetFwdRefIdeal.Pure.v65_at]
  simp only [Cert.RetFwdRefIdeal.Pure.v42_at, Cert.RetFwdRefIdeal.Pure.v59_at, Cert.RetFwdRefIdeal.Pure.v58_at, entry_at hx, ← Nat.add_assoc 8192]
  exact ref_row (fun k => decay_eq (hg ⟨j.val / 512, by omega⟩) _ _) _ (fun d p => entry x (8192 + (i.val - 8192) / 4096 * 4096 + p) (2048 + (j.val / 512 * 256 + d.val)))
    (fun p => entry x (8192 + (i.val - 8192) / 4096 * 4096 + p) (4096 + (j.val / 512 * 512 + j.val % 512)))

end Cert.Ret

end
-- ==== Proof.RetValue.lean ====
/- The ninth launch's whole result: along each sequence the carried state is the sum over the rows already passed, so that every
   point writes its tile of the reference's result. -/
module

public import proofs.«01_k».proof.Proof.RetStep
public import proofs.«01_k».proof.Proof.RetReal
public import proofs.«01_k».proof.Defs
public import proofs.«01_k».proof.Proof.Gen.Pre_finite_ret

@[expose] public section

set_option maxRecDepth 16384

noncomputable section

open Idealize.ShloMosaic Idealize.ShloMosaic.TcCoe Idealize.SL.Sem
open Idealize.ShloMosaic.Pipeline (Dat)

namespace Cert.RetFwdIdeal.Value
open Cert.RetFwdIdeal Cert.RetFwdIdeal.Gen Cert.Ret

/-- What the precondition says of the arguments: the projections hold real numbers, and no decay's logarithm is plus infinity. -/
theorem real_of_pre (A : FVec Ideal S40960x12288 .bf16) (l : FVec Ideal S8 .f32)
    (h : (Cert.Pre_finite_ret.fn (F := Ideal) A l).1 = (fun _ => 1#1) ∧ (Cert.Pre_finite_ret.fn (F := Ideal) A l).2 = (fun _ => 1#1)) :
    (∀ i, ∃ r : ℝ, A i = r) ∧ ∀ i, l i < ⊤ := by
  obtain ⟨h₀, h₁⟩ := h
  simp only [Cert.Pre_finite_ret.fn] at h₀ h₁
  refine ⟨fun i => Cert.Attn.real_of_between Cert.Attn.bf16_bounds ?_, fun i => ?_⟩
  · have := congrFun h₀ i; pointwise [] at this; exact this
  · have := congrFun h₁ i
    pointwise [] at this
    rw [← Cert.Attn.f32_bounds.2]
    by_contra hc
    rw [decide_eq_false hc] at this
    exact absurd this (by decide)

/-- The chunk's place in its sequence. -/
def place (u : ℕ) : ℕ := if u < 32 then u % 8 else u % 16

variable (m : (ℓ : Loc nD τ sig) → Buf (Elt Ideal) ℓ)

/-- What a point leaves for the next: the state over the rows its sequence has passed, and the head's decays. -/
structure Inv (x : S40960x12288.Idx → ℝ) (g : ℕ → ℝ) (n : ℕ)
    (o : Vec Ideal S256x512 .f32 × Vec Ideal S256x512 .f32 × Vec Ideal S256x256 .f32 × Vec Ideal S256x1 .f32 × Vec Ideal S256x1 .f32) : Prop where
  out : ∀ S, place (n % 160) * 256 + 256 ≤ S → ∀ (r : Fin 256) (e : Fin 512), o.1 (ix2 r e)
    = (Cert.Ret.out x (g (n / 160)) ((n % 160 - place (n % 160)) * 256) S (place (n % 160) * 256 + r.val) (n / 160) e.val : EReal)
  st : ∀ (d : Fin 256) (e : Fin 512), o.2.1 (ix2 d e) = (state (g (n / 160))
    (fun p => entry x ((n % 160 - place (n % 160)) * 256 + p) (2048 + (n / 160 * 256 + d.val)))
    (fun p => entry x ((n % 160 - place (n % 160)) * 256 + p) (4096 + (n / 160 * 512 + e.val))) (place (n % 160) * 256 + 256) : EReal)
  dm : ∀ i j : Fin 256, o.2.2.1 (ix2 i j) = (decay (g (n / 160)) i.val j.val : EReal)
  qd : ∀ r : Fin 256, o.2.2.2.1 (ix2 r 0) = ((g (n / 160) ^ (r.val + 1) : ℝ) : EReal)
  kd : ∀ r : Fin 256, o.2.2.2.2 (ix2 r 0) = ((g (n / 160) ^ (255 - r.val) : ℝ) : EReal)

variable {m} {x : S40960x12288.Idx → ℝ} {g : ℕ → ℝ} {c : Dev nD}

/-- One point, from the state and the decays it works with. -/
theorem inv_step (hx : ∀ i, (m ((c : Thread nD τ).loc main_arg0) : FVec Ideal S40960x12288 .bf16) i = (x i : EReal))
    (hg : ∀ (h : Fin 8) (n : ℕ), Ideal.exp (((n : ℝ) : EReal) * (m ((c : Thread nD τ).loc main_arg1) : FVec Ideal S8 .f32) (ix1 h)) = ((g h.val ^ n : ℝ) : EReal))
    (t : Fin cfg0.N) (s : Vec Ideal S256x512 .f32) (dm : Vec Ideal S256x256 .f32) (qd kd : Vec Ideal S256x1 .f32)
    (hs : ∀ (d : Fin 256) (e : Fin 512), s (ix2 d e) = (state (g (t.val / 160))
      (fun p => entry x ((t.val % 160 - place (t.val % 160)) * 256 + p) (2048 + (t.val / 160 * 256 + d.val)))
      (fun p => entry x ((t.val % 160 - place (t.val % 160)) * 256 + p) (4096 + (t.val / 160 * 512 + e.val))) (place (t.val % 160) * 256) : EReal))
    (hdm : ∀ i j : Fin 256, dm (ix2 i j) = (decay (g (t.val / 160)) i.val j.val : EReal))
    (hqd : ∀ r : Fin 256, qd (ix2 r 0) = ((g (t.val / 160) ^ (r.val + 1) : ℝ) : EReal))
    (hkd : ∀ r : Fin 256, kd (ix2 r 0) = ((g (t.val / 160) ^ (255 - r.val) : ℝ) : EReal)) :
    Inv x g t.val (step m c t s dm qd kd) := by
  have hp : place (t.val % 160) ≤ t.val % 160 := by unfold place; split <;> omega
  have er : ∀ r : ℕ, t.val % 160 * 256 + r = (t.val % 160 - place (t.val % 160)) * 256 + (place (t.val % 160) * 256 + r) := fun r => by omega
  have hq : ∀ (r d : Fin 256), (iblk m c 2 t : Vec Ideal S256x256 .bf16) (ix2 r d) = (entry x
      ((t.val % 160 - place (t.val % 160)) * 256 + (place (t.val % 160) * 256 + r.val)) (t.val / 160 * 256 + d.val) : EReal) := fun r d => by
    rw [q_at, entry_at hx, ← er]
  have hk : ∀ (r d : Fin 256), (iblk m c 3 t : Vec Ideal S256x256 .bf16) (ix2 r d) = (entry x
      ((t.val % 160 - place (t.val % 160)) * 256 + (place (t.val % 160) * 256 + r.val)) (2048 + (t.val / 160 * 256 + d.val)) : EReal) := fun r d => by
    rw [k_at, entry_at hx, ← er]
  have hv : ∀ (r : Fin 256) (e : Fin 512), (iblk m c 4 t : Vec Ideal S256x512 .bf16) (ix2 r e) = (entry x
      ((t.val % 160 - place (t.val % 160)) * 256 + (place (t.val % 160) * 256 + r.val)) (4096 + (t.val / 160 * 512 + e.val)) : EReal) := fun r e => by
    rw [v_at, entry_at hx, ← er]
  have hcd := (cd_at m c ⟨t.val / 160, by have := lt_N t; omega⟩).trans (hg _ 256)
  exact {
    out := fun S hS r e => next_out (g := g (t.val / 160))
      (Q := fun d p => entry x ((t.val % 160 - place (t.val % 160)) * 256 + p) (t.val / 160 * 256 + d.val))
      (K := fun d p => entry x ((t.val % 160 - place (t.val % 160)) * 256 + p) (2048 + (t.val / 160 * 256 + d.val)))
      (V := fun e p => entry x ((t.val % 160 - place (t.val % 160)) * 256 + p) (4096 + (t.val / 160 * 512 + e.val)))
      hq hk hv hs hdm hqd hS r e
    st := fun d e => next_state (g := g (t.val / 160))
      (K := fun d p => entry x ((t.val % 160 - place (t.val % 160)) * 256 + p) (2048 + (t.val / 160 * 256 + d.val)))
      (V := fun e p => entry x ((t.val % 160 - place (t.val % 160)) * 256 + p) (4096 + (t.val / 160 * 512 + e.val)))
      hk hv hs hkd hcd d e
    dm := hdm
    qd := hqd
    kd := hkd }

/-- A sequence starts from no state. -/
theorem start (G : ℝ) (K V : ℕ → ℝ) {u : ℕ} (h : place u = 0) (d : Fin 256) (e : Fin 512) :
    (k0_pay6 (F := Ideal) (ix2 d e) : EReal) = (state G K V (place u * 256) : EReal) := by
  rw [pay6_at, h, Nat.zero_mul, state, Finset.range_zero, Finset.sum_empty, EReal.coe_zero]

/-- Every point leaves the state of its sequence so far. -/
theorem inv (hx : ∀ i, (m ((c : Thread nD τ).loc main_arg0) : FVec Ideal S40960x12288 .bf16) i = (x i : EReal))
    (hg : ∀ (h : Fin 8) (n : ℕ), Ideal.exp (((n : ℝ) : EReal) * (m ((c : Thread nD τ).loc main_arg1) : FVec Ideal S8 .f32) (ix1 h)) = ((g h.val ^ n : ℝ) : EReal)) :
    ∀ (n : ℕ) (hn : n < cfg0.N), Inv x g n (outsAt0 m c n hn) := by
  intro n
  induction n using Nat.strong_induction_on with
  | _ n ih =>
    intro hn
    have hN : n < 1280 := hn
    by_cases h1 : n % 160 = 0 ∨ n % 160 = 8 ∨ n % 160 = 16 ∨ n % 160 = 24 ∨ n % 160 = 32 ∨ n % 160 = 48 ∨ n % 160 = 64 ∨ n % 160 = 80 ∨ n % 160 = 96
      ∨ n % 160 = 112 ∨ n % 160 = 128 ∨ n % 160 = 144
    · have hp : place (n % 160) = 0 := by unfold place; split <;> omega
      by_cases h0 : n % 160 = 0
      · rw [step_A m c ⟨n, hn⟩ h0 h1]
        refine inv_step hx hg ⟨n, hn⟩ _ _ _ _ (fun d e => start _ _ _ hp d e) (fun i j => ?_) (fun r => ?_) fun r => ?_
        · exact (pay2_at _ i j).trans (decay_eq (hg ⟨n / 160, by omega⟩) _ _)
        · exact (pay4_at _ r).trans (hg ⟨n / 160, by omega⟩ _)
        · exact (pay5_at _ r).trans (hg ⟨n / 160, by omega⟩ _)
      · have ib := ih (n - 1) (by omega) (by omega)
        have eh : (n - 1) / 160 = n / 160 := by omega
        rw [step_C m c ⟨n, hn⟩ h0 h1]
        refine inv_step hx hg ⟨n, hn⟩ _ _ _ _ (fun d e => start _ _ _ hp d e) (fun i j => ?_) (fun r => ?_) fun r => ?_
        · rw [← eh]; exact ib.dm i j
        · rw [← eh]; exact ib.qd r
        · rw [← eh]; exact ib.kd r
    · have ib := ih (n - 1) (by omega) (by omega)
      have eh : (n - 1) / 160 = n / 160 := by omega
      have el : place (n % 160) = place ((n - 1) % 160) + 1 := by unfold place; split <;> split <;> omega
      rw [step_B m c ⟨n, hn⟩ (fun h => h1 (Or.inl h)) h1]
      refine inv_step hx hg ⟨n, hn⟩ _ _ _ _ (fun d e => ?_) (fun i j => ?_) (fun r => ?_) fun r => ?_
      · have es : n % 160 - place (n % 160) = (n - 1) % 160 - place ((n - 1) % 160) := by omega
        change (before m c ⟨n, hn⟩).2.1 (ix2 d e) = (state (g (n / 160)) (fun p => entry x ((n % 160 - place (n % 160)) * 256 + p) (2048 + (n / 160 * 256 + d.val)))
          (fun p => entry x ((n % 160 - place (n % 160)) * 256 + p) (4096 + (n / 160 * 512 + e.val))) (place (n % 160) * 256) : EReal)
        simp only [es]
        rw [el, ← eh, Nat.add_mul, Nat.one_mul]
        exact ib.st d e
      · rw [← eh]; exact ib.dm i j
      · rw [← eh]; exact ib.qd r
      · rw [← eh]; exact ib.kd r

/-- A row's value, under two names of the same row. -/
theorem out_congr (x : S40960x12288.Idx → ℝ) (g : ℕ → ℝ) (S : ℕ) {s s' n n' h h' e e' : ℕ} (es : s = s') (en : n = n') (eh : h = h') (ee : e = e') :
    Cert.Ret.out x (g h) s S n h e = Cert.Ret.out x (g h') s' S n' h' e' := by
  rw [es, en, eh, ee]

/-- The whole result is the reference's, where the projections are real numbers and no decay's logarithm is plus infinity. -/
theorem final (m : (ℓ : Loc nD τ sig) → Buf (Elt Ideal) ℓ) (h : Cert.Pre_RetFwdIdeal_finite_ret m) (c : Dev nD) : (dats m 0 c).arrAt 5 (cfgs 0).N
    = Cert.RetFwdRefIdeal.Read.val_main_v66 (F := Ideal) (m ((c : Thread nD τ).loc main_arg0)) (m ((c : Thread nD τ).loc main_arg1)) := by
  obtain ⟨hA, hl⟩ := real_of_pre _ _ (h c)
  choose x hx using hA
  obtain ⟨g, hg'⟩ := decays (m ((c : Thread nD τ).loc main_arg1)) hl
  refine (dats m 0 c).arrAt_eq_of_covers 5 _ (by decide +kernel) fun t hf y => ?_
  blk_simp; rw [after0_5]
  have ey : y = (ix2 (y 0) (y 1) : S256x512.Idx) := by funext a; fin_cases a <;> rfl
  rw [ey]
  have hN := lt_N t
  have hr : (y 0).val < 256 := (y 0).isLt
  have he : (y 1).val < 512 := (y 1).isLt
  have point : (outsAt0 m c t.val t.isLt).1 (ix2 (y 0) (y 1)) = Cert.RetFwdRefIdeal.Read.val_main_v66 (F := Ideal) (m ((c : Thread nD τ).loc main_arg0))
      (m ((c : Thread nD τ).loc main_arg1)) (ix2 ⟨t.val % 160 * 256 + (y 0).val, by omega⟩ ⟨t.val / 160 * 512 + (y 1).val, by omega⟩ : S40960x4096.Idx) := by
    by_cases h : t.val % 160 < 32
    · rw [ref_prompt hx hg' _ _ (by simp only; omega)]
      have hp : place (t.val % 160) = t.val % 160 % 8 := if_pos h
      refine ((inv hx hg' t.val t.isLt).out 2048 (by omega) (y 0) (y 1)).trans (congrArg _ ?_)
      exact out_congr x g _ (by simp only; omega) (by simp only; omega) (by simp only; omega) (by simp only; omega)
    · rw [ref_sample hx hg' _ _ (by simp only; omega)]
      have hp : place (t.val % 160) = t.val % 160 % 16 := if_neg h
      refine ((inv hx hg' t.val t.isLt).out 4096 (by omega) (y 0) (y 1)).trans (congrArg _ ?_)
      exact out_congr x g _ (by simp only; omega) (by simp only; omega) (by simp only; omega) (by simp only; omega)
  refine point.trans ?_
  generalize Cert.RetFwdRefIdeal.Read.val_main_v66 (F := Ideal) _ _ = Z
  blk_ext [idx_val t]

end Cert.RetFwdIdeal.Value

end
-- ==== Proof.RetClaim.lean ====
/- The value claim of the forward retention, and the frame of its reference. -/
module

public import proofs.«01_k».proof.Defs
public import proofs.«01_k».proof.Proof.RetValue
public import proofs.«01_k».proof.Proof.Gen.RetFwdIdeal.Value
public import proofs.«01_k».proof.Proof.Gen.RetFwdRefIdeal.Run
public import proofs.«01_k».proof.Proof.Gen.RetFwdRefIdeal.Read
public import proofs.«01_k».proof.Proof.Gen.Pre_finite_ret
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proof

/-- The forward retention and its reference end with the same result. -/
theorem value_RetFwd : Cert.algebraic_RetFwdIdeal_RetFwdRefIdeal_pre_finite_ret := by
  pair_intro
  · run_from Cert.RetFwdIdeal.Gen.run_main m g
  · run_from Cert.RetFwdRefIdeal.Value.run m' g'
    rw [Cert.RetFwdRefIdeal.Read.val_main_v66_eq]
    exact (congr (congrArg _ (hagree c).1) (hagree c).2).trans (Cert.RetFwdIdeal.Value.final m hpre c).symm

/-- The reference of the forward retention runs and leaves its arguments unchanged. -/
theorem frame_RetFwdRef : Cert.quiescent_RetFwdRefIdeal := fun m g _ =>
  (θ_run _ _ _).mono (fun r h => ⟨fun c => (h c).2, sem_eq_zero_of_no_sems rfl r.2⟩) (Cert.RetFwdRefIdeal.Value.run m g)

end Cert.Proof

end
-- ==== Proof.RetBwdPay.lean ====
/- The values the tenth launch computes at a grid point: a chunk's result with the two directions added, normalised and gated, the
   state after it, and the decays within it. -/
module

public import proofs.«01_k».proof.Proof.RetSum
public import proofs.«01_k».proof.Proof.Gen.RetBwdIdeal
public import proofs.«01_k».proof.Proof.Gen.RetBwdIdeal.Skeleton
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Ret

/-- One entry of a head's group norm with its gate: the head's row less its mean, over the root of its variance, times the gate's
    `y * sigmoid y`. -/
def mix (T : Fin 512 → EReal) (y : EReal) (e : Fin 512) : EReal :=
  y * Ideal.div 1 (1 + Ideal.exp (-y))
    * ((T e - Ideal.div (∑ j, T j) (Ideal.ofBits .f32 0x44000000#32))
      * Ideal.rsqrt (Ideal.div (∑ i, (T i - Ideal.div (∑ j, T j) (Ideal.ofBits .f32 0x44000000#32)) * (T i - Ideal.div (∑ j, T j) (Ideal.ofBits .f32 0x44000000#32)))
        (Ideal.ofBits .f32 0x44000000#32) + Ideal.ofBits .f32 0x3727C5AC#32))

end Cert.Ret

namespace Cert.RetBwdIdeal.Value
open Cert.RetBwdIdeal Cert.RetBwdIdeal.Gen

/-- A chunk's rows' own part. -/
theorem pay7_at (q k : Vec Ideal S256x256 .bf16) (v : Vec Ideal S256x512 .bf16) (dm : Vec Ideal S256x256 .f32) (r : Fin 256) (e : Fin 512) :
    k0_pay7 (F := Ideal) q k v dm (ix2 r e) = ∑ k', (∑ d, q (ix2 r d) * k (ix2 k' d)) * dm (ix2 r k') * v (ix2 k' e) := by
  pointwise [k0_pay7]

/-- What the state before a chunk gives its rows. -/
theorem pay8_at (q : Vec Ideal S256x256 .bf16) (s : Vec Ideal S256x512 .f32) (r : Fin 256) (e : Fin 512) :
    k0_pay8 (F := Ideal) q s (ix2 r e) = ∑ d, q (ix2 r d) * s (ix2 d e) := by
  pointwise [k0_pay8]

/-- The state after a chunk. -/
theorem pay9_at (k : Vec Ideal S256x256 .bf16) (v : Vec Ideal S256x512 .bf16) (s : Vec Ideal S256x512 .f32)
    (kd : Vec Ideal S256x1 .f32) (cd : Elt Ideal .f32) (d : Fin 256) (e : Fin 512) :
    k0_pay9 (F := Ideal) k v s kd cd (ix2 d e) = s (ix2 d e) * cd + ∑ k', k (ix2 k' d) * kd (ix2 k' 0) * v (ix2 k' e) := by
  pointwise [k0_pay9]

/-- A chunk's whole result. -/
theorem pay1_at (a b : Vec Ideal S256x512 .f32) (qd : Vec Ideal S256x1 .f32) (f : Vec Ideal S256x512 .f32) (y : Vec Ideal S256x512 .bf16)
    (r : Fin 256) (e : Fin 512) :
    k0_pay1 (F := Ideal) (k0_pay10 a b qd f) (k0_pay11 y) (k0_pay12 y) (Scalar.ofBits .f32 0x3F800000#32) (ix2 r e)
      = Cert.Ret.mix (fun e' => f (ix2 r e') + (a (ix2 r e') + b (ix2 r e') * qd (ix2 r 0))) (y (ix2 r e)) e := by
  pointwise [k0_pay1, k0_pay10, k0_pay11, k0_pay12]
  rw [zero_sub]
  rfl

/-- The state a sequence starts from. -/
theorem pay6_at (d : Fin 256) (e : Fin 512) : k0_pay6 (F := Ideal) (ix2 d e) = 0 := by
  pointwise [k0_pay6]

/-- The decays between the rows of a chunk: a row sees the ones after it. -/
theorem pay2_at (l : Elt Ideal .f32) (i j : Fin 256) :
    k0_pay2 (F := Ideal) l (ix2 i j) = if i.val < j.val then Ideal.exp ((((j.val - i.val : ℕ) : ℝ) : EReal) * l) else 0 := by
  have ec : IntOp.cmpi .sgt (BitVec.ofNat 32 j.val) (BitVec.ofNat 32 i.val) = BitVec.ofBool (decide (i.val < j.val)) := by
    change BitVec.ofBool (BitVec.slt (BitVec.ofNat 32 i.val) (BitVec.ofNat 32 j.val)) = _
    rw [BitVec.slt_eq_decide, Cert.Ret.word_int (n := i.val) (by omega), Cert.Ret.word_int (n := j.val) (by omega)]
    simp only [Nat.cast_lt]
  pointwise [k0_pay2]
  rw [ec]
  by_cases h : i.val < j.val
  · have es : IntOp.subi (BitVec.ofNat 32 j.val) (BitVec.ofNat 32 i.val) = BitVec.ofNat 32 (j.val - i.val) := by
      apply BitVec.eq_of_toNat_eq
      simp [IntOp.subi]
      omega
    simp only [h, decide_true, es, Cert.Ret.word (n := j.val - i.val) (by omega), if_true]
    rfl
  · simp only [h, decide_false, if_false]
    rfl

/-- The decay from the chunk's end to a row. -/
theorem pay4_at (l : Elt Ideal .f32) (i : Fin 256) :
    k0_pay4 (F := Ideal) l (ix2 i 0) = Ideal.exp ((((256 - i.val : ℕ) : ℝ) : EReal) * l) := by
  have ew : Ideal.ofBits .f32 1132462080#32 = ((256 : ℝ) : EReal) := by
    simp [Ideal.ofBits, Ideal.ieee]
    rw [← EReal.coe_mul]
    norm_num
  pointwise [k0_pay4, k0_pay3]
  rw [Cert.Ret.word (by omega), ew, ← EReal.coe_sub, Nat.cast_sub (by omega)]
  norm_num

/-- The decay from a row to the chunk's start. -/
theorem pay5_at (l : Elt Ideal .f32) (i : Fin 256) :
    k0_pay5 (F := Ideal) l (ix2 i 0) = Ideal.exp (((i.val : ℝ) : EReal) * l) := by
  pointwise [k0_pay5, k0_pay3]
  rw [Cert.Ret.word (by omega)]

end Cert.RetBwdIdeal.Value

end
-- ==== Proof.RetBwdStep.lean ====
/- The tenth launch at a grid point: which entries of the arguments its windows hold, and what the point leaves behind. -/
module

public import proofs.«01_k».proof.Proof.RetBwdPay
public import proofs.«01_k».proof.Proof.Gen.RetBwdIdeal
public import proofs.«01_k».proof.Proof.Gen.RetBwdIdeal.Skeleton
public import proofs.«01_k».proof.Proof.Gen.RetBwdIdeal.Launch
public import proofs.«01_k».proof.Proof.Gen.RetBwdIdeal.Frame
public import proofs.«01_k».proof.Proof.Gen.RetBwdIdeal.Value
public import Idealize.ShloMosaic.Lib.Pipeline.ValueKit
public import Idealize.ShloMosaic.Lib.Pipeline.ReadBack
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.RetBwdIdeal.Value
open Cert.RetBwdIdeal Cert.RetBwdIdeal.Gen

variable (m : (ℓ : Loc nD τ sig) → Buf (Elt Ideal) ℓ)

/-- The number of grid points. -/
theorem lt_N (t : Fin cfg0.N) : t.val < 1280 := t.isLt

/-- Where each window stands at a grid point: the chunks are passed from the last to the first. -/
theorem idx_val : ∀ t : Fin cfg0.N, win0_0.index t = ![0]
    ∧ win0_1.index t = ![0]
    ∧ win0_2.index t = ![159 - t.val % 160, t.val / 160]
    ∧ win0_3.index t = ![159 - t.val % 160, 8 + t.val / 160]
    ∧ win0_4.index t = ![159 - t.val % 160, 8 + t.val / 160]
    ∧ win0_5.index t = ![159 - t.val % 160, t.val / 160]
    ∧ win0_6.index t = ![159 - t.val % 160, 16 + t.val / 160]
    ∧ win0_7.index t = ![159 - t.val % 160, t.val / 160] :=
  (by decide +kernel : ∀ t : Fin grid0.N, _)

/-- The queries. -/
theorem q_at (c : Dev nD) (t : Fin cfg0.N) (r : Fin 256) (e : Fin 256) :
    (iblk m c 2 t : Vec Ideal S256x256 .bf16) (ix2 r e) = m ((c : Thread nD τ).loc main_arg0)
      (ix2 ⟨(159 - t.val % 160) * 256 + r, by omega⟩ ⟨t.val / 160 * 256 + e, by have := lt_N t; omega⟩ : S40960x12288.Idx) := by
  blk_point [iblk, V, idx_val t]

/-- The keys. -/
theorem k_at (c : Dev nD) (t : Fin cfg0.N) (r : Fin 256) (e : Fin 256) :
    (iblk m c 3 t : Vec Ideal S256x256 .bf16) (ix2 r e) = m ((c : Thread nD τ).loc main_arg0)
      (ix2 ⟨(159 - t.val % 160) * 256 + r, by omega⟩ ⟨2048 + (t.val / 160 * 256 + e), by have := lt_N t; omega⟩ : S40960x12288.Idx) := by
  blk_point [iblk, V, idx_val t]

/-- The values. -/
theorem v_at (c : Dev nD) (t : Fin cfg0.N) (r : Fin 256) (e : Fin 512) :
    (iblk m c 4 t : Vec Ideal S256x512 .bf16) (ix2 r e) = m ((c : Thread nD τ).loc main_arg0)
      (ix2 ⟨(159 - t.val % 160) * 256 + r, by omega⟩ ⟨4096 + (t.val / 160 * 512 + e), by have := lt_N t; omega⟩ : S40960x12288.Idx) := by
  blk_point [iblk, V, idx_val t]

/-- The other direction's result. -/
theorem f_at (c : Dev nD) (t : Fin cfg0.N) (r : Fin 256) (e : Fin 512) :
    (iblk m c 5 t : Vec Ideal S256x512 .f32) (ix2 r e) = m ((c : Thread nD τ).loc main_arg2)
      (ix2 ⟨(159 - t.val % 160) * 256 + r, by omega⟩ ⟨t.val / 160 * 512 + e, by have := lt_N t; omega⟩ : S40960x4096.Idx) := by
  blk_point [iblk, V, idx_val t]

/-- The gate. -/
theorem y_at (c : Dev nD) (t : Fin cfg0.N) (r : Fin 256) (e : Fin 512) :
    (iblk m c 6 t : Vec Ideal S256x512 .bf16) (ix2 r e) = m ((c : Thread nD τ).loc main_arg0)
      (ix2 ⟨(159 - t.val % 160) * 256 + r, by omega⟩ ⟨8192 + (t.val / 160 * 512 + e), by have := lt_N t; omega⟩ : S40960x12288.Idx) := by
  blk_point [iblk, V, idx_val t]

/-- The head a grid point works on, as the place its two words are read at. -/
theorem off_val : ∀ t : Fin cfg0.N, k0_off1 (grid0.coords t) = ![t.val / 160] :=
  (by decide +kernel : ∀ t : Fin grid0.N, _)

/-- The word of the decay's logarithm. -/
theorem lg_word (c : Dev nD) (t : Fin cfg0.N) {o : Fin 1 → ℕ} (ho : o = ![t.val / 160]) (h) (h') :
    View.ld (iblk m c 0 t) (Rect.unit o ![1] h) (Shape.Idx.first h') = m ((c : Thread nD τ).loc main_arg1) (ix1 ⟨t.val / 160, by have := lt_N t; omega⟩ : S8.Idx) := by
  subst ho
  blk_point [iblk, V, idx_val t]

/-- The word of a whole chunk's decay. -/
theorem cd_word (c : Dev nD) (t : Fin cfg0.N) {o : Fin 1 → ℕ} (ho : o = ![t.val / 160]) (h) (h') :
    View.ld (iblk m c 1 t) (Rect.unit o ![1] h) (Shape.Idx.first h') = (V m c main_v2 : FVec Ideal S8 .f32) (ix1 ⟨t.val / 160, by have := lt_N t; omega⟩ : S8.Idx) := by
  subst ho
  blk_point [iblk, idx_val t]

/-- A whole chunk's decay, as the launch computes it. -/
theorem cd_at (c : Dev nD) (h : Fin 8) : (V m c main_v2 : FVec Ideal S8 .f32) (ix1 h)
      = Ideal.exp ((((256 : ℕ) : ℝ) : EReal) * m ((c : Thread nD τ).loc main_arg1) (ix1 h : S8.Idx)) := by
  entry_read
  pointwise []
  have ew : Ideal.ofBits .f32 1132462080#32 = (((256 : ℕ) : ℝ) : EReal) := by
    simp [Ideal.ofBits, Ideal.ieee]
    rw [← EReal.coe_mul]
    norm_num
  rw [ew]

/-- What a grid point leaves behind, of the state and the decays it works with: its result, the state after it, and the decays. -/
def step (c : Dev nD) (t : Fin cfg0.N) (s : Vec Ideal S256x512 .f32) (dm : Vec Ideal S256x256 .f32) (qd kd : Vec Ideal S256x1 .f32) :
    Vec Ideal S256x512 .bf16 × Vec Ideal S256x512 .f32 × Vec Ideal S256x256 .f32 × Vec Ideal S256x1 .f32 × Vec Ideal S256x1 .f32 :=
  (k0_pay1 (k0_pay10 (k0_pay7 (iblk m c 2 t) (iblk m c 3 t) (iblk m c 4 t) dm) (k0_pay8 (iblk m c 2 t) s) qd (iblk m c 5 t)) (k0_pay11 (iblk m c 6 t))
      (k0_pay12 (iblk m c 6 t)) (Scalar.ofBits .f32 0x3F800000#32),
    k0_pay9 (iblk m c 3 t) (iblk m c 4 t) s kd ((V m c main_v2 : FVec Ideal S8 .f32) (ix1 ⟨t.val / 160, by have := lt_N t; omega⟩ : S8.Idx)), dm, qd, kd)

/-- A head's first point computes the decays and starts from no state. -/
theorem step_A (c : Dev nD) (t : Fin cfg0.N) (h0 : t.val % 160 = 0)
    (h1 : t.val % 160 = 0 ∨ t.val % 160 = 16 ∨ t.val % 160 = 32 ∨ t.val % 160 = 48 ∨ t.val % 160 = 64 ∨ t.val % 160 = 80 ∨ t.val % 160 = 96 ∨ t.val % 160 = 112 ∨ t.val % 160 = 128
      ∨ t.val % 160 = 136 ∨ t.val % 160 = 144 ∨ t.val % 160 = 152) :
    outsAt0 m c t.val t.isLt = step m c t (k0_pay6 (F := Ideal))
      (k0_pay2 (F := Ideal) (m ((c : Thread nD τ).loc main_arg1) (ix1 ⟨t.val / 160, by have := lt_N t; omega⟩ : S8.Idx)))
      (k0_pay4 (F := Ideal) (m ((c : Thread nD τ).loc main_arg1) (ix1 ⟨t.val / 160, by have := lt_N t; omega⟩ : S8.Idx)))
      (k0_pay5 (F := Ideal) (m ((c : Thread nD τ).loc main_arg1) (ix1 ⟨t.val / 160, by have := lt_N t; omega⟩ : S8.Idx))) := by
  rw [outsAt0_A m c t h0 h1]
  unfold step out0_A_7 sout0_A_0 sout0_A_1 sout0_A_2 sout0_A_3
  frame_out
  rw [lg_word m c t (off_val t), cd_word m c t (off_val t)]

/-- The point before. -/
abbrev before (c : Dev nD) (t : Fin cfg0.N) := outsAt0 m c (t.val - 1) (Nat.lt_of_le_of_lt (Nat.sub_le _ _) t.isLt)

/-- A sequence's first point keeps the decays and starts from no state. -/
theorem step_C (c : Dev nD) (t : Fin cfg0.N) (h0 : ¬ t.val % 160 = 0)
    (h1 : t.val % 160 = 0 ∨ t.val % 160 = 16 ∨ t.val % 160 = 32 ∨ t.val % 160 = 48 ∨ t.val % 160 = 64 ∨ t.val % 160 = 80 ∨ t.val % 160 = 96 ∨ t.val % 160 = 112 ∨ t.val % 160 = 128
      ∨ t.val % 160 = 136 ∨ t.val % 160 = 144 ∨ t.val % 160 = 152) :
    outsAt0 m c t.val t.isLt = step m c t (k0_pay6 (F := Ideal)) (before m c t).2.2.1 (before m c t).2.2.2.1 (before m c t).2.2.2.2 := by
  rw [outsAt0_C m c t h0 h1]
  unfold step out0_C_7 sout0_C_0 sout0_C_1 sout0_C_2 sout0_C_3
  frame_out
  rw [cd_word m c t (off_val t)]
  simp only [read_unread_whole]

/-- Every other point goes on from the one before. -/
theorem step_B (c : Dev nD) (t : Fin cfg0.N) (h0 : ¬ t.val % 160 = 0)
    (h1 : ¬ (t.val % 160 = 0 ∨ t.val % 160 = 16 ∨ t.val % 160 = 32 ∨ t.val % 160 = 48 ∨ t.val % 160 = 64 ∨ t.val % 160 = 80 ∨ t.val % 160 = 96 ∨ t.val % 160 = 112 ∨ t.val % 160 = 128
      ∨ t.val % 160 = 136 ∨ t.val % 160 = 144 ∨ t.val % 160 = 152)) :
    outsAt0 m c t.val t.isLt = step m c t (before m c t).2.1 (before m c t).2.2.1 (before m c t).2.2.2.1 (before m c t).2.2.2.2 := by
  rw [outsAt0_B m c t h0 h1]
  unfold step out0_B_7 sout0_B_0 sout0_B_1 sout0_B_2 sout0_B_3
  frame_out
  rw [cd_word m c t (off_val t)]
  simp only [read_unread_whole]

end Cert.RetBwdIdeal.Value

end
-- ==== Proof.RetBwdRef.lean ====
/- The tenth launch's reference, entry by entry: every later row of the sequence, weighed by its product with the query and by the
   decay, added to the other direction's result, normalised and gated. -/
module

public import proofs.«01_k».proof.Proof.RetSum
public import proofs.«01_k».proof.Proof.RetBwdPay
public import proofs.«01_k».proof.Proof.Gen.RetBwdRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RetBwdRefIdeal.Pure
open Cert.RetBwdRefIdeal Cert.RetBwdRefIdeal.Gen Cert.RetBwdRefIdeal.Read

/-- One entry under two names. -/
theorem same {n k : ℕ} (x : Shape.Idx ⟨2, ![n, k]⟩ → EReal) {a b : Fin n} {c d : Fin k} (h : a.val = b.val) (h' : c.val = d.val) :
    x (ix2 a c) = x (ix2 b d) := by
  rw [Fin.ext h, Fin.ext h']

/-- The product of a query and a key of a prompt, both numbered from the end. -/
theorem v32_at (x : FVec Ideal S40960x12288 .bf16) (b : Fin 4) (h : Fin 8) (n k : Fin 2048) :
    val_main_v32 (F := Ideal) x (ix4 b h n k : S4x8x2048x2048.Idx) = ∑ d : Fin 256, x (ix2 ⟨b * 2048 + 2047 - n, by omega⟩ ⟨h * 256 + d, by omega⟩)
      * x (ix2 ⟨b * 2048 + 2047 - k, by omega⟩ ⟨2048 + (h * 256 + d), by omega⟩) := by
  unfold val_main_v32 val_main_v13 val_main_v14 val_main_v7 val_main_v6 val_main_v5 val_main_v4 val_main_v3 val_main_v2 val_main_v0
  pointwise []
  refine Finset.sum_congr rfl fun d _ => congrArg₂ (· * ·) (same x ?_ rfl) (same x ?_ rfl)
  · change b.val * 2048 + n.rev.val = _
    rw [Fin.val_rev]
    simp only
    omega
  · change b.val * 2048 + k.rev.val = _
    rw [Fin.val_rev]
    simp only
    omega

/-- The values of a prompt, numbered from the end. -/
theorem v15_at (x : FVec Ideal S40960x12288 .bf16) (b : Fin 4) (k : Fin 2048) (h : Fin 8) (e : Fin 512) :
    val_main_v15 (F := Ideal) x (ix4 b k h e : S4x2048x8x512.Idx) = x (ix2 ⟨b * 2048 + 2047 - k, by omega⟩ ⟨4096 + (h * 512 + e), by omega⟩) := by
  unfold val_main_v15 val_main_v10 val_main_v9 val_main_v8 val_main_v0
  pointwise []
  refine same x ?_ rfl
  change b.val * 2048 + k.rev.val = _
  rw [Fin.val_rev]
  simp only
  omega

/-- The decay between two rows of a prompt. -/
theorem v31_at (l : FVec Ideal S8 .f32) (h : Fin 8) (n k : Fin 2048) :
    val_main_v31 (F := Ideal) l (ix3 h n k : S8x2048x2048.Idx) = if k.val < n.val then Ideal.exp ((((n.val - k.val : ℕ) : ℝ) : EReal) * l (ix1 h)) else 0 := by
  unfold val_main_v31 val_main_call1_v1 val_main_v30 val_main_v29 val_main_v28 val_main_v27 val_main_v26 val_main_v25 val_main_v24
    val_main_v23 val_main_v22 val_main_v21 val_main_v20 val_main_v19 val_main_v18 val_main_v17 val_main_v16 val_main_cst
    val_main_call0_v1 val_main_call0_v0 val_main_cst_0 val_main_call1_v2 val_main_call1_v0 val_main_cst_1
  pointwise []
  refine (Cert.Ret.pair_strict _ (by omega) (by omega) _ _).trans ?_
  rw [show id (constant (F := Ideal) S_ FTy.f32 0#32) ix0 = 0 from Idealize.ShloMosaic.Ideal.ofBits_zero_f32]

/-- The two directions of a prompt added. -/
theorem v40_at (x : FVec Ideal S40960x12288 .bf16) (l : FVec Ideal S8 .f32) (f : FVec Ideal S40960x4096 .f32) (b : Fin 4) (n : Fin 2048) (h : Fin 8) (e : Fin 512) :
    val_main_v40 (F := Ideal) x l f (ix4 b n h e : S4x2048x8x512.Idx) = f (ix2 ⟨b * 2048 + n, by omega⟩ ⟨h * 512 + e, by omega⟩)
      + ∑ k, val_main_v15 (F := Ideal) x (ix4 b k h e : S4x2048x8x512.Idx)
        * (val_main_v32 (F := Ideal) x (ix4 b h n.rev k : S4x8x2048x2048.Idx) * val_main_v31 (F := Ideal) l (ix3 h n.rev k : S8x2048x2048.Idx)) := by
  unfold val_main_v40 val_main_v39 val_main_v38 val_main_v37 val_main_v36 val_main_v35 val_main_v34 val_main_v33 val_main_v1
  generalize val_main_v32 (F := Ideal) x = y
  generalize val_main_v31 (F := Ideal) l = z
  generalize val_main_v15 (F := Ideal) x = u
  pointwise []
  rfl

/-- A prompt's result: the added directions, normalised over a head and gated. -/
theorem v62_at (x : FVec Ideal S40960x12288 .bf16) (l : FVec Ideal S8 .f32) (f : FVec Ideal S40960x4096 .f32) (i : Fin 8192) (j : Fin 4096) :
    val_main_v62 (F := Ideal) x l f (ix2 i j : S8192x4096.Idx) = Cert.Ret.mix
      (fun e => val_main_v40 (F := Ideal) x l f (ix4 (⟨i / 2048, by omega⟩ : Fin 4) (⟨i % 2048, by omega⟩ : Fin 2048) (⟨j / 512, by omega⟩ : Fin 8) e : S4x2048x8x512.Idx))
      (x (ix2 ⟨i, by omega⟩ ⟨8192 + j, by omega⟩)) ⟨j % 512, by omega⟩ := by
  unfold val_main_v62 val_main_v61 val_main_v60 val_main_call2_v5 val_main_call2_v4 val_main_call2_cst_0 val_main_call2_v3 val_main_call2_v2
    val_main_call2_cst val_main_call2_v1 val_main_call2_v0 val_main_v12 val_main_v11 val_main_v0
    val_main_v59 val_main_v58 val_main_v57 val_main_v56 val_main_v55 val_main_v54 val_main_v53 val_main_v52 val_main_v51 val_main_v50 val_main_v49
    val_main_v48 val_main_v47 val_main_v46 val_main_v45 val_main_v44 val_main_v43 val_main_v42 val_main_v41 val_main_cst_2 val_main_cst_3 val_main_cst_4 val_main_cst_5 val_main_cst_6
  generalize val_main_v40 (F := Ideal) x l f = y
  pointwise []
  rfl

/-- The product of a query and a key of a sample, both numbered from the end. -/
theorem v95_at (x : FVec Ideal S40960x12288 .bf16) (b : Fin 8) (h : Fin 8) (n k : Fin 4096) :
    val_main_v95 (F := Ideal) x (ix4 b h n k : S8x8x4096x4096.Idx) = ∑ d : Fin 256, x (ix2 ⟨8192 + b * 4096 + 4095 - n, by omega⟩ ⟨h * 256 + d, by omega⟩)
      * x (ix2 ⟨8192 + b * 4096 + 4095 - k, by omega⟩ ⟨2048 + (h * 256 + d), by omega⟩) := by
  unfold val_main_v95 val_main_v76 val_main_v77 val_main_v70 val_main_v69 val_main_v68 val_main_v67 val_main_v66 val_main_v65 val_main_v63
  pointwise []
  refine Finset.sum_congr rfl fun d _ => congrArg₂ (· * ·) (same x ?_ rfl) (same x ?_ rfl)
  · change 8192 + (b.val * 4096 + n.rev.val) = _
    rw [Fin.val_rev]
    simp only
    omega
  · change 8192 + (b.val * 4096 + k.rev.val) = _
    rw [Fin.val_rev]
    simp only
    omega

/-- The values of a sample, numbered from the end. -/
theorem v78_at (x : FVec Ideal S40960x12288 .bf16) (b : Fin 8) (k : Fin 4096) (h : Fin 8) (e : Fin 512) :
    val_main_v78 (F := Ideal) x (ix4 b k h e : S8x4096x8x512.Idx) = x (ix2 ⟨8192 + b * 4096 + 4095 - k, by omega⟩ ⟨4096 + (h * 512 + e), by omega⟩) := by
  unfold val_main_v78 val_main_v73 val_main_v72 val_main_v71 val_main_v63
  pointwise []
  refine same x ?_ rfl
  change 8192 + (b.val * 4096 + k.rev.val) = _
  rw [Fin.val_rev]
  simp only
  omega

/-- The decay between two rows of a sample. -/
theorem v94_at (l : FVec Ideal S8 .f32) (h : Fin 8) (n k : Fin 4096) :
    val_main_v94 (F := Ideal) l (ix3 h n k : S8x4096x4096.Idx) = if k.val < n.val then Ideal.exp ((((n.val - k.val : ℕ) : ℝ) : EReal) * l (ix1 h)) else 0 := by
  unfold val_main_v94 val_main_call4_v1 val_main_v93 val_main_v92 val_main_v91 val_main_v90 val_main_v89 val_main_v88 val_main_v87
    val_main_v86 val_main_v85 val_main_v84 val_main_v83 val_main_v82 val_main_v81 val_main_v80 val_main_v79 val_main_cst_7
    val_main_call3_v1 val_main_call3_v0 val_main_cst_8 val_main_call4_v2 val_main_call4_v0 val_main_cst_9
  pointwise []
  refine (Cert.Ret.pair_strict _ (by omega) (by omega) _ _).trans ?_
  rw [show id (constant (F := Ideal) S_ FTy.f32 0#32) ix0 = 0 from Idealize.ShloMosaic.Ideal.ofBits_zero_f32]

/-- The two directions of a sample added. -/
theorem v103_at (x : FVec Ideal S40960x12288 .bf16) (l : FVec Ideal S8 .f32) (f : FVec Ideal S40960x4096 .f32) (b : Fin 8) (n : Fin 4096) (h : Fin 8) (e : Fin 512) :
    val_main_v103 (F := Ideal) x l f (ix4 b n h e : S8x4096x8x512.Idx) = f (ix2 ⟨8192 + (b * 4096 + n), by omega⟩ ⟨h * 512 + e, by omega⟩)
      + ∑ k, val_main_v78 (F := Ideal) x (ix4 b k h e : S8x4096x8x512.Idx)
        * (val_main_v95 (F := Ideal) x (ix4 b h n.rev k : S8x8x4096x4096.Idx) * val_main_v94 (F := Ideal) l (ix3 h n.rev k : S8x4096x4096.Idx)) := by
  unfold val_main_v103 val_main_v102 val_main_v101 val_main_v100 val_main_v99 val_main_v98 val_main_v97 val_main_v96 val_main_v64
  generalize val_main_v95 (F := Ideal) x = y
  generalize val_main_v94 (F := Ideal) l = z
  generalize val_main_v78 (F := Ideal) x = u
  pointwise []
  rfl

/-- A sample's result: the added directions, normalised over a head and gated. -/
theorem v125_at (x : FVec Ideal S40960x12288 .bf16) (l : FVec Ideal S8 .f32) (f : FVec Ideal S40960x4096 .f32) (i : Fin 32768) (j : Fin 4096) :
    val_main_v125 (F := Ideal) x l f (ix2 i j : S32768x4096.Idx) = Cert.Ret.mix
      (fun e => val_main_v103 (F := Ideal) x l f (ix4 (⟨i / 4096, by omega⟩ : Fin 8) (⟨i % 4096, by omega⟩ : Fin 4096) (⟨j / 512, by omega⟩ : Fin 8) e : S8x4096x8x512.Idx))
      (x (ix2 ⟨8192 + i, by omega⟩ ⟨8192 + j, by omega⟩)) ⟨j % 512, by omega⟩ := by
  unfold val_main_v125 val_main_v124 val_main_v123 val_main_call5_v5 val_main_call5_v4 val_main_call5_cst_0 val_main_call5_v3 val_main_call5_v2
    val_main_call5_cst val_main_call5_v1 val_main_call5_v0 val_main_v75 val_main_v74 val_main_v63
    val_main_v122 val_main_v121 val_main_v120 val_main_v119 val_main_v118 val_main_v117 val_main_v116 val_main_v115 val_main_v114 val_main_v113 val_main_v112
    val_main_v111 val_main_v110 val_main_v109 val_main_v108 val_main_v107 val_main_v106 val_main_v105 val_main_v104 val_main_cst_10 val_main_cst_11 val_main_cst_12 val_main_cst_13 val_main_cst_14
  generalize val_main_v103 (F := Ideal) x l f = y
  pointwise []
  rfl

theorem v126_lo (x : FVec Ideal S40960x12288 .bf16) (l : FVec Ideal S8 .f32) (f : FVec Ideal S40960x4096 .f32) (i : Fin 40960) (j : Fin 4096) (h : i.val < 8192) :
    val_main_v126 (F := Ideal) x l f (ix2 i j : S40960x4096.Idx) = val_main_v62 (F := Ideal) x l f (ix2 ⟨i, h⟩ j : S8192x4096.Idx) := by
  unfold val_main_v126
  generalize val_main_v62 (F := Ideal) x l f = y
  generalize val_main_v125 (F := Ideal) x l f = z
  pointwise []
  rw [dif_pos h]

theorem v126_hi (x : FVec Ideal S40960x12288 .bf16) (l : FVec Ideal S8 .f32) (f : FVec Ideal S40960x4096 .f32) (i : Fin 40960) (j : Fin 4096) (h : ¬ i.val < 8192) :
    val_main_v126 (F := Ideal) x l f (ix2 i j : S40960x4096.Idx) = val_main_v125 (F := Ideal) x l f (ix2 ⟨i.val - 8192, by omega⟩ j : S32768x4096.Idx) := by
  unfold val_main_v126
  generalize val_main_v62 (F := Ideal) x l f = y
  generalize val_main_v125 (F := Ideal) x l f = z
  pointwise []
  rw [dif_neg h]

end Cert.RetBwdRefIdeal.Pure

end
-- ==== Proof.RetBwdValue.lean ====
/- The tenth launch's whole result: along each sequence, from its last chunk to its first, the carried state is the sum over the
   rows already passed, so that every point writes its tile of the reference's result. -/
module

public import proofs.«01_k».proof.Proof.RetBwdStep
public import proofs.«01_k».proof.Proof.RetBwdRef
public import proofs.«01_k».proof.Proof.RetReal
public import proofs.«01_k».proof.Proof.RetValue
public import proofs.«01_k».proof.Defs
public import proofs.«01_k».proof.Proof.Gen.Pre_finite_ret_bwd

@[expose] public section

set_option maxRecDepth 16384

noncomputable section

open Idealize.ShloMosaic Idealize.ShloMosaic.TcCoe Idealize.SL.Sem
open Idealize.ShloMosaic.Pipeline (Dat)

namespace Cert.Ret

/-- What row `n` from the end comes to, in one head and column, of a sequence of `S` rows whose last is row `T`. -/
def back (x : Cert.RetFwdIdeal.S40960x12288.Idx → ℝ) (g : ℝ) (T S n h e : ℕ) : ℝ :=
  ∑ p ∈ Finset.range S, (∑ d : Fin 256, entry x (T - n) (h * 256 + d.val) * entry x (T - p) (2048 + (h * 256 + d.val))) * strict g n p
    * entry x (T - p) (4096 + (h * 512 + e))

/-- A row's value, under two names of the same row. -/
theorem back_congr (x : Cert.RetFwdIdeal.S40960x12288.Idx → ℝ) (g : ℕ → ℝ) (S : ℕ) {T T' n n' h h' e : ℕ} (eT : T = T') (en : n = n') (eh : h = h') :
    back x (g h) T S n h e = back x (g h') T' S n' h' e := by
  rw [eT, en, eh]

/-- A normalised entry, under two names of the same rows. -/
theorem mix_congr {T T' : Fin 512 → EReal} {y y' : EReal} {e e' : Fin 512} (h : ∀ e, T e = T' e) (hy : y = y') (he : e = e') : mix T y e = mix T' y' e' := by
  rw [funext h, hy, he]

variable {A : FVec Ideal Cert.RetBwdRefIdeal.S40960x12288 .bf16} {l : FVec Ideal Cert.RetBwdRefIdeal.S8 .f32} {x : Cert.RetFwdIdeal.S40960x12288.Idx → ℝ} {g : ℕ → ℝ}

open Cert.RetBwdRefIdeal.Pure

/-- The reference's result in a prompt. -/
theorem back_prompt (hx : ∀ i, A i = (x i : EReal)) (hg : ∀ (h : Fin 8) (n : ℕ), Ideal.exp (((n : ℝ) : EReal) * l (ix1 h)) = ((g h.val ^ n : ℝ) : EReal))
    (f : FVec Ideal Cert.RetBwdRefIdeal.S40960x4096 .f32) (i : Fin 40960) (j : Fin 4096) (h : i.val < 8192) :
    Cert.RetBwdRefIdeal.Read.val_main_v126 (F := Ideal) A l f (ix2 i j) = mix (fun e => f (ix2 i ⟨j.val / 512 * 512 + e.val, by omega⟩)
        + (back x (g (j.val / 512)) (i.val / 2048 * 2048 + 2047) 2048 (2048 - (i.val % 2048 + 1)) (j.val / 512) e.val : EReal))
      (A (ix2 i ⟨8192 + j.val, by omega⟩)) ⟨j.val % 512, by omega⟩ := by
  rw [v126_lo _ _ _ _ _ h, v62_at]
  refine mix_congr (fun e => ?_) rfl rfl
  rw [v40_at]
  refine congrArg₂ (· + ·) (same f (by simp only; omega) rfl) ?_
  simp only [v15_at, v32_at, v31_at, entry_at hx, Fin.val_rev]
  exact ref_row (fun k => strict_eq (hg ⟨j.val / 512, by omega⟩) _ _) _ (fun d p => entry x (i.val / 2048 * 2048 + 2047 - p) (2048 + (j.val / 512 * 256 + d.val)))
    (fun p => entry x (i.val / 2048 * 2048 + 2047 - p) (4096 + (j.val / 512 * 512 + e.val)))

/-- The reference's result in a sample. -/
theorem back_sample (hx : ∀ i, A i = (x i : EReal)) (hg : ∀ (h : Fin 8) (n : ℕ), Ideal.exp (((n : ℝ) : EReal) * l (ix1 h)) = ((g h.val ^ n : ℝ) : EReal))
    (f : FVec Ideal Cert.RetBwdRefIdeal.S40960x4096 .f32) (i : Fin 40960) (j : Fin 4096) (h : ¬ i.val < 8192) :
    Cert.RetBwdRefIdeal.Read.val_main_v126 (F := Ideal) A l f (ix2 i j) = mix (fun e => f (ix2 i ⟨j.val / 512 * 512 + e.val, by omega⟩)
        + (back x (g (j.val / 512)) (8192 + (i.val - 8192) / 4096 * 4096 + 4095) 4096 (4096 - ((i.val - 8192) % 4096 + 1)) (j.val / 512) e.val : EReal))
      (A (ix2 i ⟨8192 + j.val, by omega⟩)) ⟨j.val % 512, by omega⟩ := by
  rw [v126_hi _ _ _ _ _ h, v125_at]
  refine mix_congr (fun e => ?_) (same A (by simp only; omega) rfl) rfl
  rw [v103_at]
  refine congrArg₂ (· + ·) (same f (by simp only; omega) rfl) ?_
  simp only [v78_at, v95_at, v94_at, entry_at hx, Fin.val_rev]
  exact ref_row (fun k => strict_eq (hg ⟨j.val / 512, by omega⟩) _ _) _ (fun d p => entry x (8192 + (i.val - 8192) / 4096 * 4096 + 4095 - p) (2048 + (j.val / 512 * 256 + d.val)))
    (fun p => entry x (8192 + (i.val - 8192) / 4096 * 4096 + 4095 - p) (4096 + (j.val / 512 * 512 + e.val)))

end Cert.Ret

namespace Cert.RetBwdIdeal.Value
open Cert.RetBwdIdeal Cert.RetBwdIdeal.Gen Cert.Ret

/-- The chunk's place in its sequence, from the end. -/
def place (u : ℕ) : ℕ := if u < 128 then u % 16 else u % 8

/-- The last row of the chunk's sequence. -/
def top (u : ℕ) : ℕ := 40959 - (u - place u) * 256

/-- The other direction's result in a point's window. -/
abbrev other (m : (ℓ : Loc nD τ sig) → Buf (Elt Ideal) ℓ) (c : Dev nD) (t : Fin cfg0.N) : FVec Ideal S256x512 .f32 := iblk m c 5 t

/-- What a point leaves for the next: the state over the rows its sequence has passed, and the head's decays. -/
structure Inv (m : (ℓ : Loc nD τ sig) → Buf (Elt Ideal) ℓ) (c : Dev nD) (x : S40960x12288.Idx → ℝ) (g : ℕ → ℝ) (t : Fin cfg0.N)
    (o : Vec Ideal S256x512 .bf16 × Vec Ideal S256x512 .f32 × Vec Ideal S256x256 .f32 × Vec Ideal S256x1 .f32 × Vec Ideal S256x1 .f32) : Prop where
  out : ∀ S, place (t.val % 160) * 256 + 256 ≤ S → ∀ (r : Fin 256) (e : Fin 512), o.1 (ix2 r.rev e)
    = mix (fun e' => other m c t (ix2 r.rev e')
        + (back x (g (t.val / 160)) (top (t.val % 160)) S (place (t.val % 160) * 256 + r.val) (t.val / 160) e'.val : EReal))
      ((iblk m c 6 t : Vec Ideal S256x512 .bf16) (ix2 r.rev e)) e
  st : ∀ (d : Fin 256) (e : Fin 512), o.2.1 (ix2 d e) = (state (g (t.val / 160)) (fun p => entry x (top (t.val % 160) - p) (2048 + (t.val / 160 * 256 + d.val)))
    (fun p => entry x (top (t.val % 160) - p) (4096 + (t.val / 160 * 512 + e.val))) (place (t.val % 160) * 256 + 256) : EReal)
  dm : ∀ i j : Fin 256, o.2.2.1 (ix2 i.rev j.rev) = (strict (g (t.val / 160)) i.val j.val : EReal)
  qd : ∀ r : Fin 256, o.2.2.2.1 (ix2 r.rev 0) = (((g (t.val / 160)) ^ (r.val + 1) : ℝ) : EReal)
  kd : ∀ r : Fin 256, o.2.2.2.2 (ix2 r.rev 0) = (((g (t.val / 160)) ^ (255 - r.val) : ℝ) : EReal)

variable {m : (ℓ : Loc nD τ sig) → Buf (Elt Ideal) ℓ} {x : S40960x12288.Idx → ℝ} {g : ℕ → ℝ} {c : Dev nD}

/-- One point, from the state and the decays it works with. -/
theorem inv_step (hx : ∀ i, (m ((c : Thread nD τ).loc main_arg0) : FVec Ideal S40960x12288 .bf16) i = (x i : EReal))
    (hg : ∀ (h : Fin 8) (n : ℕ), Ideal.exp (((n : ℝ) : EReal) * (m ((c : Thread nD τ).loc main_arg1) : FVec Ideal S8 .f32) (ix1 h)) = ((g h.val ^ n : ℝ) : EReal))
    (t : Fin cfg0.N) (s : Vec Ideal S256x512 .f32) (dm : Vec Ideal S256x256 .f32) (qd kd : Vec Ideal S256x1 .f32)
    (hs : ∀ (d : Fin 256) (e : Fin 512), s (ix2 d e) = (state (g (t.val / 160)) (fun p => entry x (top (t.val % 160) - p) (2048 + (t.val / 160 * 256 + d.val)))
      (fun p => entry x (top (t.val % 160) - p) (4096 + (t.val / 160 * 512 + e.val))) (place (t.val % 160) * 256) : EReal))
    (hdm : ∀ i j : Fin 256, dm (ix2 i.rev j.rev) = (strict (g (t.val / 160)) i.val j.val : EReal))
    (hqd : ∀ r : Fin 256, qd (ix2 r.rev 0) = (((g (t.val / 160)) ^ (r.val + 1) : ℝ) : EReal))
    (hkd : ∀ r : Fin 256, kd (ix2 r.rev 0) = (((g (t.val / 160)) ^ (255 - r.val) : ℝ) : EReal)) :
    Inv m c x g t (step m c t s dm qd kd) := by
  have hp : place (t.val % 160) ≤ t.val % 160 := by unfold place; split <;> omega
  have er : ∀ r : Fin 256, (159 - t.val % 160) * 256 + r.rev.val = top (t.val % 160) - (place (t.val % 160) * 256 + r.val) := fun r => by
    rw [Fin.val_rev, top]; omega
  have hq : ∀ (r d : Fin 256), (iblk m c 2 t : Vec Ideal S256x256 .bf16) (ix2 r.rev d)
      = (entry x (top (t.val % 160) - (place (t.val % 160) * 256 + r.val)) (t.val / 160 * 256 + d.val) : EReal) := fun r d => by
    rw [q_at, entry_at hx, ← er]
  have hk : ∀ (r d : Fin 256), (iblk m c 3 t : Vec Ideal S256x256 .bf16) (ix2 r.rev d)
      = (entry x (top (t.val % 160) - (place (t.val % 160) * 256 + r.val)) (2048 + (t.val / 160 * 256 + d.val)) : EReal) := fun r d => by
    rw [k_at, entry_at hx, ← er]
  have hv : ∀ (r : Fin 256) (e : Fin 512), (iblk m c 4 t : Vec Ideal S256x512 .bf16) (ix2 r.rev e)
      = (entry x (top (t.val % 160) - (place (t.val % 160) * 256 + r.val)) (4096 + (t.val / 160 * 512 + e.val)) : EReal) := fun r e => by
    rw [v_at, entry_at hx, ← er]
  have hcd := (cd_at m c ⟨t.val / 160, by have := lt_N t; omega⟩).trans (hg _ 256)
  refine ⟨fun S hS r e => ?_, fun d e => ?_, hdm, hqd, hkd⟩
  · refine (pay1_at _ _ _ _ _ r.rev e).trans (mix_congr (fun e => congrArg _ ?_) rfl rfl)
    rw [pay7_at, pay8_at]
    exact chunk_out Fin.revPerm (strict_weight (g (t.val / 160))) (Q := fun d => entry x (top (t.val % 160) - (place (t.val % 160) * 256 + r.val)) (t.val / 160 * 256 + d.val))
      (K := fun d => (fun p => entry x (top (t.val % 160) - p) (2048 + (t.val / 160 * 256 + d.val)))) (V := (fun p => entry x (top (t.val % 160) - p) (4096 + (t.val / 160 * 512 + e.val)))) r (hq r) hk (fun j => hv j e) (fun d => hs d e) (hdm r) (hqd r) hS
  · refine (pay9_at _ _ _ _ _ d e).trans ?_
    exact chunk_state Fin.revPerm (K := (fun p => entry x (top (t.val % 160) - p) (2048 + (t.val / 160 * 256 + d.val)))) (V := (fun p => entry x (top (t.val % 160) - p) (4096 + (t.val / 160 * 512 + e.val)))) (fun r => hk r d) (fun r => hv r e) hkd (hs d e) hcd

/-- A sequence starts from no state. -/
theorem start (G : ℝ) (K V : ℕ → ℝ) {u : ℕ} (h : place u = 0) (d : Fin 256) (e : Fin 512) :
    (k0_pay6 (F := Ideal) (ix2 d e) : EReal) = (state G K V (place u * 256) : EReal) := by
  rw [pay6_at, h, Nat.zero_mul, state, Finset.range_zero, Finset.sum_empty, EReal.coe_zero]

/-- Every point leaves the state of its sequence so far. -/
theorem inv (hx : ∀ i, (m ((c : Thread nD τ).loc main_arg0) : FVec Ideal S40960x12288 .bf16) i = (x i : EReal))
    (hg : ∀ (h : Fin 8) (n : ℕ), Ideal.exp (((n : ℝ) : EReal) * (m ((c : Thread nD τ).loc main_arg1) : FVec Ideal S8 .f32) (ix1 h)) = ((g h.val ^ n : ℝ) : EReal)) :
    ∀ (n : ℕ) (hn : n < cfg0.N), Inv m c x g ⟨n, hn⟩ (outsAt0 m c n hn) := by
  intro n
  induction n using Nat.strong_induction_on with
  | _ n ih =>
    intro hn
    have hN : n < 1280 := hn
    by_cases h1 : n % 160 = 0 ∨ n % 160 = 16 ∨ n % 160 = 32 ∨ n % 160 = 48 ∨ n % 160 = 64 ∨ n % 160 = 80 ∨ n % 160 = 96 ∨ n % 160 = 112 ∨ n % 160 = 128
      ∨ n % 160 = 136 ∨ n % 160 = 144 ∨ n % 160 = 152
    · have hp : place (n % 160) = 0 := by unfold place; split <;> omega
      by_cases h0 : n % 160 = 0
      · rw [step_A m c ⟨n, hn⟩ h0 h1]
        refine inv_step hx hg ⟨n, hn⟩ _ _ _ _ (fun d e => start _ _ _ hp d e) (fun i j => ?_) (fun r => ?_) fun r => ?_
        · refine (pay2_at _ i.rev j.rev).trans (Eq.trans ?_ (strict_eq (hg ⟨n / 160, by omega⟩) i.val j.val))
          simp only [Fin.val_rev]
          rw [show 256 - (j.val + 1) - (256 - (i.val + 1)) = i.val - j.val by omega]
          exact if_congr (by omega) rfl rfl
        · refine (pay4_at _ r.rev).trans ?_
          rw [Fin.val_rev, show 256 - (256 - (r.val + 1)) = r.val + 1 by omega]
          exact hg ⟨n / 160, by omega⟩ _
        · refine (pay5_at _ r.rev).trans ?_
          rw [Fin.val_rev, show 256 - (r.val + 1) = 255 - r.val by omega]
          exact hg ⟨n / 160, by omega⟩ _
      · have ib := ih (n - 1) (by omega) (by omega)
        have eh : (n - 1) / 160 = n / 160 := by omega
        rw [step_C m c ⟨n, hn⟩ h0 h1]
        refine inv_step hx hg ⟨n, hn⟩ _ _ _ _ (fun d e => start _ _ _ hp d e) (fun i j => ?_) (fun r => ?_) fun r => ?_
        · rw [← eh]; exact ib.dm i j
        · rw [← eh]; exact ib.qd r
        · rw [← eh]; exact ib.kd r
    · have ib := ih (n - 1) (by omega) (by omega)
      have eh : (n - 1) / 160 = n / 160 := by omega
      have el : place (n % 160) = place ((n - 1) % 160) + 1 := by unfold place; split <;> split <;> omega
      have es : top (n % 160) = top ((n - 1) % 160) := by unfold top; omega
      rw [step_B m c ⟨n, hn⟩ (fun h => h1 (Or.inl h)) h1]
      refine inv_step hx hg ⟨n, hn⟩ _ _ _ _ (fun d e => ?_) (fun i j => ?_) (fun r => ?_) fun r => ?_
      · change (before m c ⟨n, hn⟩).2.1 (ix2 d e) = (state (g (n / 160)) (fun p => entry x (top (n % 160) - p) (2048 + (n / 160 * 256 + d.val)))
          (fun p => entry x (top (n % 160) - p) (4096 + (n / 160 * 512 + e.val))) (place (n % 160) * 256) : EReal)
        rw [es, el, ← eh, Nat.add_mul, Nat.one_mul]
        exact ib.st d e
      · rw [← eh]; exact ib.dm i j
      · rw [← eh]; exact ib.qd r
      · rw [← eh]; exact ib.kd r

/-- Every point writes its tile of the reference's result. -/
theorem tile (hx : ∀ i, (m ((c : Thread nD τ).loc main_arg0) : FVec Ideal S40960x12288 .bf16) i = (x i : EReal))
    (hg : ∀ (h : Fin 8) (n : ℕ), Ideal.exp (((n : ℝ) : EReal) * (m ((c : Thread nD τ).loc main_arg1) : FVec Ideal S8 .f32) (ix1 h)) = ((g h.val ^ n : ℝ) : EReal))
    (t : Fin cfg0.N) (r : Fin 256) (e : Fin 512) :
    (outsAt0 m c t.val t.isLt).1 (ix2 r e) = Cert.RetBwdRefIdeal.Read.val_main_v126 (F := Ideal) (m ((c : Thread nD τ).loc main_arg0))
      (m ((c : Thread nD τ).loc main_arg1)) (m ((c : Thread nD τ).loc main_arg2))
      (ix2 ⟨(159 - t.val % 160) * 256 + r.val, by have := lt_N t; omega⟩ ⟨t.val / 160 * 512 + e.val, by have := lt_N t; omega⟩ : S40960x4096.Idx) := by
  have hN := lt_N t
  by_cases h : t.val % 160 < 128
  · have := (inv hx hg t.val t.isLt).out 4096 (by simp only; unfold place; split <;> omega) r.rev e
    rw [Fin.rev_rev] at this
    rw [back_sample hx hg _ _ _ (by simp only; omega)]
    have hp : place (t.val % 160) = t.val % 160 % 16 := if_pos h
    have ht : top (t.val % 160) = 40959 - (t.val % 160 - place (t.val % 160)) * 256 := rfl
    refine this.trans (mix_congr (fun e => congrArg₂ (· + ·) ?_ (congrArg _ ?_)) ?_ (Fin.ext (by simp only; omega)))
    · exact (f_at m c t r e).trans (Cert.RetBwdRefIdeal.Pure.same _ rfl (by simp only; omega))
    · exact back_congr x g _ (by simp only; omega) (by simp only [Fin.val_rev]; omega) (by simp only; omega)
    · exact (y_at m c t r _).trans (Cert.RetBwdRefIdeal.Pure.same _ rfl (by simp only))
  · have := (inv hx hg t.val t.isLt).out 2048 (by simp only; unfold place; split <;> omega) r.rev e
    rw [Fin.rev_rev] at this
    rw [back_prompt hx hg _ _ _ (by simp only; omega)]
    have hp : place (t.val % 160) = t.val % 160 % 8 := if_neg h
    have ht : top (t.val % 160) = 40959 - (t.val % 160 - place (t.val % 160)) * 256 := rfl
    refine this.trans (mix_congr (fun e => congrArg₂ (· + ·) ?_ (congrArg _ ?_)) ?_ (Fin.ext (by simp only; omega)))
    · exact (f_at m c t r e).trans (Cert.RetBwdRefIdeal.Pure.same _ rfl (by simp only; omega))
    · exact back_congr x g _ (by simp only; omega) (by simp only [Fin.val_rev]; omega) (by simp only; omega)
    · exact (y_at m c t r _).trans (Cert.RetBwdRefIdeal.Pure.same _ rfl (by simp only))

/-- The whole result is the reference's, where the projections are real numbers and no decay's logarithm is plus infinity. -/
theorem final (m : (ℓ : Loc nD τ sig) → Buf (Elt Ideal) ℓ) (h : Cert.Pre_RetBwdIdeal_finite_ret_bwd m) (c : Dev nD) : (dats m 0 c).arrAt 7 (cfgs 0).N
    = Cert.RetBwdRefIdeal.Read.val_main_v126 (F := Ideal) (m ((c : Thread nD τ).loc main_arg0))
      (m ((c : Thread nD τ).loc main_arg1)) (m ((c : Thread nD τ).loc main_arg2)) := by
  obtain ⟨hA, hl⟩ := Cert.RetFwdIdeal.Value.real_of_pre (m ((c : Thread nD τ).loc main_arg0)) (m ((c : Thread nD τ).loc main_arg1)) (h c)
  choose x hx using hA
  obtain ⟨g, hg'⟩ := decays (m ((c : Thread nD τ).loc main_arg1)) hl
  refine (dats m 0 c).arrAt_eq_of_covers 7 _ (by decide +kernel) fun t hf y => ?_
  blk_simp; rw [after0_7]
  have ey : y = (ix2 (y 0) (y 1) : S256x512.Idx) := by funext a; fin_cases a <;> rfl
  rw [ey]
  refine (tile hx hg' t (y 0) (y 1)).trans ?_
  generalize Cert.RetBwdRefIdeal.Read.val_main_v126 (F := Ideal) _ _ _ = Z
  blk_ext [idx_val t]

end Cert.RetBwdIdeal.Value

end
-- ==== Proof.RetBwdClaim.lean ====
/- The value claim of the backward retention, and the frame of its reference. -/
module

public import proofs.«01_k».proof.Defs
public import proofs.«01_k».proof.Proof.RetBwdValue
public import proofs.«01_k».proof.Proof.Gen.RetBwdIdeal.Value
public import proofs.«01_k».proof.Proof.Gen.RetBwdRefIdeal.Run
public import proofs.«01_k».proof.Proof.Gen.RetBwdRefIdeal.Read
public import proofs.«01_k».proof.Proof.Gen.Pre_finite_ret_bwd
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proof

/-- The backward retention and its reference end with the same result. -/
theorem value_RetBwd : Cert.algebraic_RetBwdIdeal_RetBwdRefIdeal_pre_finite_ret_bwd := by
  pair_intro
  · run_from Cert.RetBwdIdeal.Gen.run_main m g
  · run_from Cert.RetBwdRefIdeal.Value.run m' g'
    rw [Cert.RetBwdRefIdeal.Read.val_main_v126_eq]
    exact (congr (congr (congrArg _ (hagree c).1) (hagree c).2.1) (hagree c).2.2).trans (Cert.RetBwdIdeal.Value.final m hpre c).symm

/-- The reference of the backward retention runs and leaves its arguments unchanged. -/
theorem frame_RetBwdRef : Cert.quiescent_RetBwdRefIdeal := fun m g _ =>
  (θ_run _ _ _).mono (fun r h => ⟨fun c => (h c).2, sem_eq_zero_of_no_sems rfl r.2⟩) (Cert.RetBwdRefIdeal.Value.run m g)

end Cert.Proof

end
-- ==== Proof.lean ====
/- The proof of the certificate's claims: of every call its frames, and that it computes what its reference does. -/
module

public import proofs.«01_k».proof.Defs
public import proofs.«01_k».proof.Proof.OutClaim
public import proofs.«01_k».proof.Proof.AttnClaim
public import proofs.«01_k».proof.Proof.ProjClaim
public import proofs.«01_k».proof.Proof.ExpertClaim
public import proofs.«01_k».proof.Proof.SharedValue
public import proofs.«01_k».proof.Proof.RetClaim
public import proofs.«01_k».proof.Proof.RetBwdClaim
public import proofs.«01_k».proof.Proof.Gen.AttnPrompt.Frame
public import proofs.«01_k».proof.Proof.Gen.AttnSample.Frame
public import proofs.«01_k».proof.Proof.Gen.ProjRet.Frame
public import proofs.«01_k».proof.Proof.Gen.ProjDiff.Frame
public import proofs.«01_k».proof.Proof.Gen.RetOut.Frame
public import proofs.«01_k».proof.Proof.Gen.DiffOut.Frame
public import proofs.«01_k».proof.Proof.Gen.RetFwd.Frame
public import proofs.«01_k».proof.Proof.Gen.RetBwd.Frame
public import Idealize.ShloMosaic.Adequacy
public import Idealize.ShloMosaic.Init

@[expose] public section

noncomputable section

namespace Cert.Proof

open Idealize.ShloMosaic Idealize.SL.Sem

theorem claim : Cert.Claim := ⟨
  Cert.AttnPrompt.Gen.facts,
  Cert.AttnPromptIdeal.Gen.facts,
  Cert.AttnPromptRefIdeal.Gen.facts,
  Cert.AttnSample.Gen.facts,
  Cert.AttnSampleIdeal.Gen.facts,
  Cert.AttnSampleRefIdeal.Gen.facts,
  Cert.ProjRet.Gen.facts,
  Cert.ProjRetIdeal.Gen.facts,
  Cert.ProjRetRefIdeal.Gen.facts,
  Cert.ProjDiff.Gen.facts,
  Cert.ProjDiffIdeal.Gen.facts,
  Cert.ProjDiffRefIdeal.Gen.facts,
  Cert.RetOut.Gen.facts,
  Cert.RetOutIdeal.Gen.facts,
  Cert.RetOutRefIdeal.Gen.facts,
  Cert.DiffOut.Gen.facts,
  Cert.DiffOutIdeal.Gen.facts,
  Cert.DiffOutRefIdeal.Gen.facts,
  Cert.ExpertFfn.Gen.facts,
  Cert.ExpertFfnIdeal.Gen.facts,
  Cert.ExpertFfnRefIdeal.Gen.facts,
  Cert.SharedFfn.Gen.facts,
  Cert.SharedFfnIdeal.Gen.facts,
  Cert.SharedFfnRefIdeal.Gen.facts,
  Cert.RetFwd.Gen.facts,
  Cert.RetFwdIdeal.Gen.facts,
  Cert.RetFwdRefIdeal.Gen.facts,
  Cert.RetBwd.Gen.facts,
  Cert.RetBwdIdeal.Gen.facts,
  Cert.RetBwdRefIdeal.Gen.facts,
  Cert.Pre_finite_attn.Gen.facts,
  Cert.Pre_tables_in_range.Gen.facts,
  Cert.Pre_finite_ret.Gen.facts,
  Cert.Pre_finite_ret_bwd.Gen.facts,
  Cert.On_rows_used.Gen.facts,
  fun m ρ _ => Cert.AttnPrompt.Gen.frame m ρ,
  fun m ρ _ => Cert.AttnPromptIdeal.Gen.frame m ρ,
  fun m ρ _ => Cert.AttnPromptIdeal.Gen.frame m ρ,
  frame_AttnPromptRef,
  fun m ρ _ => frame_AttnPromptRef m ρ trivial,
  fun m ρ _ => Cert.AttnSample.Gen.frame m ρ,
  fun m ρ _ => Cert.AttnSampleIdeal.Gen.frame m ρ,
  fun m ρ _ => Cert.AttnSampleIdeal.Gen.frame m ρ,
  frame_AttnSampleRef,
  fun m ρ _ => frame_AttnSampleRef m ρ trivial,
  fun m ρ _ => Cert.ProjRet.Gen.frame m ρ,
  fun m ρ _ => Cert.ProjRetIdeal.Gen.frame m ρ,
  frame_ProjRetRef,
  fun m ρ _ => Cert.ProjDiff.Gen.frame m ρ,
  fun m ρ _ => Cert.ProjDiffIdeal.Gen.frame m ρ,
  frame_ProjDiffRef,
  fun m ρ _ => Cert.RetOut.Gen.frame m ρ,
  fun m ρ _ => Cert.RetOutIdeal.Gen.frame m ρ,
  frame_RetOutRef,
  fun m ρ _ => Cert.DiffOut.Gen.frame m ρ,
  fun m ρ _ => Cert.DiffOutIdeal.Gen.frame m ρ,
  frame_DiffOutRef,
  frame_Expert,
  frame_ExpertIdeal,
  frame_ExpertRef,
  frame_ExpertRef_pre,
  frame_Shared,
  frame_SharedIdeal,
  frame_SharedRef,
  fun m ρ _ => Cert.RetFwd.Gen.frame m ρ,
  fun m ρ _ => Cert.RetFwdIdeal.Gen.frame m ρ,
  fun m ρ _ => Cert.RetFwdIdeal.Gen.frame m ρ,
  frame_RetFwdRef,
  fun m ρ _ => frame_RetFwdRef m ρ trivial,
  fun m ρ _ => Cert.RetBwd.Gen.frame m ρ,
  fun m ρ _ => Cert.RetBwdIdeal.Gen.frame m ρ,
  fun m ρ _ => Cert.RetBwdIdeal.Gen.frame m ρ,
  frame_RetBwdRef,
  fun m ρ _ => frame_RetBwdRef m ρ trivial,
  trivial,
  value_AttnPrompt,
  trivial,
  value_AttnSample,
  trivial,
  value_ProjRet,
  trivial,
  value_ProjDiff,
  trivial,
  value_RetOut,
  trivial,
  value_DiffOut,
  trivial,
  value_Expert,
  trivial,
  value_Shared,
  trivial,
  value_RetFwd,
  trivial,
  value_RetBwd⟩

end Cert.Proof

end
